-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_TailOdd (m : (ℓ : Loc Cert.TailOdd.nD Cert.TailOdd.τ Cert.TailOdd.sig) → Buf (Elt Bits) ℓ) : Prop :=
  True

def Pre_TailOddIdeal (m : (ℓ : Loc Cert.TailOddIdeal.nD Cert.TailOddIdeal.τ Cert.TailOddIdeal.sig) → Buf (Elt Ideal) ℓ) : Prop :=
  True

def Pre_TailOddRefIdeal (m : (ℓ : Loc Cert.TailOddRefIdeal.nD Cert.TailOddRefIdeal.τ Cert.TailOddRefIdeal.sig) → Buf (Elt Ideal) ℓ) : Prop :=
  True

def Pre_TailEven (m : (ℓ : Loc Cert.TailEven.nD Cert.TailEven.τ Cert.TailEven.sig) → Buf (Elt Bits) ℓ) : Prop :=
  True

def Pre_TailEvenIdeal (m : (ℓ : Loc Cert.TailEvenIdeal.nD Cert.TailEvenIdeal.τ Cert.TailEvenIdeal.sig) → Buf (Elt Ideal) ℓ) : Prop :=
  True

def Pre_TailEvenIdeal_merge_finite [hPre_merge_finite : Cert.Pre_merge_finite.Facts] (m : (ℓ : Loc Cert.TailEvenIdeal.nD Cert.TailEvenIdeal.τ Cert.TailEvenIdeal.sig) → Buf (Elt Ideal) ℓ) : Prop :=
  ∀ c : Dev Cert.TailEvenIdeal.nD,
    (Cert.Pre_merge_finite.fn (F := Ideal) (m ((c.tc : Thread Cert.TailEvenIdeal.nD Cert.TailEvenIdeal.τ).loc Cert.TailEvenIdeal.main_arg0)) (m ((c.tc : Thread Cert.TailEvenIdeal.nD Cert.TailEvenIdeal.τ).loc Cert.TailEvenIdeal.main_arg1)) (m ((c.tc : Thread Cert.TailEvenIdeal.nD Cert.TailEvenIdeal.τ).loc Cert.TailEvenIdeal.main_arg2)) (m ((c.tc : Thread Cert.TailEvenIdeal.nD Cert.TailEvenIdeal.τ).loc Cert.TailEvenIdeal.main_arg3)) (m ((c.tc : Thread Cert.TailEvenIdeal.nD Cert.TailEvenIdeal.τ).loc Cert.TailEvenIdeal.main_arg4)) (m ((c.tc : Thread Cert.TailEvenIdeal.nD Cert.TailEvenIdeal.τ).loc Cert.TailEvenIdeal.main_arg5)) (m ((c.tc : Thread Cert.TailEvenIdeal.nD Cert.TailEvenIdeal.τ).loc Cert.TailEvenIdeal.main_arg6)) (m ((c.tc : Thread Cert.TailEvenIdeal.nD Cert.TailEvenIdeal.τ).loc Cert.TailEvenIdeal.main_arg7)) (m ((c.tc : Thread Cert.TailEvenIdeal.nD Cert.TailEvenIdeal.τ).loc Cert.TailEvenIdeal.main_arg8)) (m ((c.tc : Thread Cert.TailEvenIdeal.nD Cert.TailEvenIdeal.τ).loc Cert.TailEvenIdeal.main_arg9)) (m ((c.tc : Thread Cert.TailEvenIdeal.nD Cert.TailEvenIdeal.τ).loc Cert.TailEvenIdeal.main_arg10)) (m ((c.tc : Thread Cert.TailEvenIdeal.nD Cert.TailEvenIdeal.τ).loc Cert.TailEvenIdeal.main_arg11)) (m ((c.tc : Thread Cert.TailEvenIdeal.nD Cert.TailEvenIdeal.τ).loc Cert.TailEvenIdeal.main_arg12)) (m ((c.tc : Thread Cert.TailEvenIdeal.nD Cert.TailEvenIdeal.τ).loc Cert.TailEvenIdeal.main_arg13)) (m ((c.tc : Thread Cert.TailEvenIdeal.nD Cert.TailEvenIdeal.τ).loc Cert.TailEvenIdeal.main_arg14)) (m ((c.tc : Thread Cert.TailEvenIdeal.nD Cert.TailEvenIdeal.τ).loc Cert.TailEvenIdeal.main_arg15)) (m ((c.tc : Thread Cert.TailEvenIdeal.nD Cert.TailEvenIdeal.τ).loc Cert.TailEvenIdeal.main_arg16)) (m ((c.tc : Thread Cert.TailEvenIdeal.nD Cert.TailEvenIdeal.τ).loc Cert.TailEvenIdeal.main_arg17)) (m ((c.tc : Thread Cert.TailEvenIdeal.nD Cert.TailEvenIdeal.τ).loc Cert.TailEvenIdeal.main_arg18)) (m ((c.tc : Thread Cert.TailEvenIdeal.nD Cert.TailEvenIdeal.τ).loc Cert.TailEvenIdeal.main_arg19)) (m ((c.tc : Thread Cert.TailEvenIdeal.nD Cert.TailEvenIdeal.τ).loc Cert.TailEvenIdeal.main_arg20)) (m ((c.tc : Thread Cert.TailEvenIdeal.nD Cert.TailEvenIdeal.τ).loc Cert.TailEvenIdeal.main_arg21))).1 = (fun _ => 1#1)
    ∧ (Cert.Pre_merge_finite.fn (F := Ideal) (m ((c.tc : Thread Cert.TailEvenIdeal.nD Cert.TailEvenIdeal.τ).loc Cert.TailEvenIdeal.main_arg0)) (m ((c.tc : Thread Cert.TailEvenIdeal.nD Cert.TailEvenIdeal.τ).loc Cert.TailEvenIdeal.main_arg1)) (m ((c.tc : Thread Cert.TailEvenIdeal.nD Cert.TailEvenIdeal.τ).loc Cert.TailEvenIdeal.main_arg2)) (m ((c.tc : Thread Cert.TailEvenIdeal.nD Cert.TailEvenIdeal.τ).loc Cert.TailEvenIdeal.main_arg3)) (m ((c.tc : Thread Cert.TailEvenIdeal.nD Cert.TailEvenIdeal.τ).loc Cert.TailEvenIdeal.main_arg4)) (m ((c.tc : Thread Cert.TailEvenIdeal.nD Cert.TailEvenIdeal.τ).loc Cert.TailEvenIdeal.main_arg5)) (m ((c.tc : Thread Cert.TailEvenIdeal.nD Cert.TailEvenIdeal.τ).loc Cert.TailEvenIdeal.main_arg6)) (m ((c.tc : Thread Cert.TailEvenIdeal.nD Cert.TailEvenIdeal.τ).loc Cert.TailEvenIdeal.main_arg7)) (m ((c.tc : Thread Cert.TailEvenIdeal.nD Cert.TailEvenIdeal.τ).loc Cert.TailEvenIdeal.main_arg8)) (m ((c.tc : Thread Cert.TailEvenIdeal.nD Cert.TailEvenIdeal.τ).loc Cert.TailEvenIdeal.main_arg9)) (m ((c.tc : Thread Cert.TailEvenIdeal.nD Cert.TailEvenIdeal.τ).loc Cert.TailEvenIdeal.main_arg10)) (m ((c.tc : Thread Cert.TailEvenIdeal.nD Cert.TailEvenIdeal.τ).loc Cert.TailEvenIdeal.main_arg11)) (m ((c.tc : Thread Cert.TailEvenIdeal.nD Cert.TailEvenIdeal.τ).loc Cert.TailEvenIdeal.main_arg12)) (m ((c.tc : Thread Cert.TailEvenIdeal.nD Cert.TailEvenIdeal.τ).loc Cert.TailEvenIdeal.main_arg13)) (m ((c.tc : Thread Cert.TailEvenIdeal.nD Cert.TailEvenIdeal.τ).loc Cert.TailEvenIdeal.main_arg14)) (m ((c.tc : Thread Cert.TailEvenIdeal.nD Cert.TailEvenIdeal.τ).loc Cert.TailEvenIdeal.main_arg15)) (m ((c.tc : Thread Cert.TailEvenIdeal.nD Cert.TailEvenIdeal.τ).loc Cert.TailEvenIdeal.main_arg16)) (m ((c.tc : Thread Cert.TailEvenIdeal.nD Cert.TailEvenIdeal.τ).loc Cert.TailEvenIdeal.main_arg17)) (m ((c.tc : Thread Cert.TailEvenIdeal.nD Cert.TailEvenIdeal.τ).loc Cert.TailEvenIdeal.main_arg18)) (m ((c.tc : Thread Cert.TailEvenIdeal.nD Cert.TailEvenIdeal.τ).loc Cert.TailEvenIdeal.main_arg19)) (m ((c.tc : Thread Cert.TailEvenIdeal.nD Cert.TailEvenIdeal.τ).loc Cert.TailEvenIdeal.main_arg20)) (m ((c.tc : Thread Cert.TailEvenIdeal.nD Cert.TailEvenIdeal.τ).loc Cert.TailEvenIdeal.main_arg21))).2 = (fun _ => 1#1)

def Pre_TailEvenRefIdeal (m : (ℓ : Loc Cert.TailEvenRefIdeal.nD Cert.TailEvenRefIdeal.τ Cert.TailEvenRefIdeal.sig) → Buf (Elt Ideal) ℓ) : Prop :=
  True

def Pre_TailEvenRefIdeal_merge_finite [hPre_merge_finite : Cert.Pre_merge_finite.Facts] (m : (ℓ : Loc Cert.TailEvenRefIdeal.nD Cert.TailEvenRefIdeal.τ Cert.TailEvenRefIdeal.sig) → Buf (Elt Ideal) ℓ) : Prop :=
  ∀ c : Dev Cert.TailEvenRefIdeal.nD,
    (Cert.Pre_merge_finite.fn (F := Ideal) (m ((c.tc : Thread Cert.TailEvenRefIdeal.nD Cert.TailEvenRefIdeal.τ).loc Cert.TailEvenRefIdeal.main_arg0)) (m ((c.tc : Thread Cert.TailEvenRefIdeal.nD Cert.TailEvenRefIdeal.τ).loc Cert.TailEvenRefIdeal.main_arg1)) (m ((c.tc : Thread Cert.TailEvenRefIdeal.nD Cert.TailEvenRefIdeal.τ).loc Cert.TailEvenRefIdeal.main_arg2)) (m ((c.tc : Thread Cert.TailEvenRefIdeal.nD Cert.TailEvenRefIdeal.τ).loc Cert.TailEvenRefIdeal.main_arg3)) (m ((c.tc : Thread Cert.TailEvenRefIdeal.nD Cert.TailEvenRefIdeal.τ).loc Cert.TailEvenRefIdeal.main_arg4)) (m ((c.tc : Thread Cert.TailEvenRefIdeal.nD Cert.TailEvenRefIdeal.τ).loc Cert.TailEvenRefIdeal.main_arg5)) (m ((c.tc : Thread Cert.TailEvenRefIdeal.nD Cert.TailEvenRefIdeal.τ).loc Cert.TailEvenRefIdeal.main_arg6)) (m ((c.tc : Thread Cert.TailEvenRefIdeal.nD Cert.TailEvenRefIdeal.τ).loc Cert.TailEvenRefIdeal.main_arg7)) (m ((c.tc : Thread Cert.TailEvenRefIdeal.nD Cert.TailEvenRefIdeal.τ).loc Cert.TailEvenRefIdeal.main_arg8)) (m ((c.tc : Thread Cert.TailEvenRefIdeal.nD Cert.TailEvenRefIdeal.τ).loc Cert.TailEvenRefIdeal.main_arg9)) (m ((c.tc : Thread Cert.TailEvenRefIdeal.nD Cert.TailEvenRefIdeal.τ).loc Cert.TailEvenRefIdeal.main_arg10)) (m ((c.tc : Thread Cert.TailEvenRefIdeal.nD Cert.TailEvenRefIdeal.τ).loc Cert.TailEvenRefIdeal.main_arg11)) (m ((c.tc : Thread Cert.TailEvenRefIdeal.nD Cert.TailEvenRefIdeal.τ).loc Cert.TailEvenRefIdeal.main_arg12)) (m ((c.tc : Thread Cert.TailEvenRefIdeal.nD Cert.TailEvenRefIdeal.τ).loc Cert.TailEvenRefIdeal.main_arg13)) (m ((c.tc : Thread Cert.TailEvenRefIdeal.nD Cert.TailEvenRefIdeal.τ).loc Cert.TailEvenRefIdeal.main_arg14)) (m ((c.tc : Thread Cert.TailEvenRefIdeal.nD Cert.TailEvenRefIdeal.τ).loc Cert.TailEvenRefIdeal.main_arg15)) (m ((c.tc : Thread Cert.TailEvenRefIdeal.nD Cert.TailEvenRefIdeal.τ).loc Cert.TailEvenRefIdeal.main_arg16)) (m ((c.tc : Thread Cert.TailEvenRefIdeal.nD Cert.TailEvenRefIdeal.τ).loc Cert.TailEvenRefIdeal.main_arg17)) (m ((c.tc : Thread Cert.TailEvenRefIdeal.nD Cert.TailEvenRefIdeal.τ).loc Cert.TailEvenRefIdeal.main_arg18)) (m ((c.tc : Thread Cert.TailEvenRefIdeal.nD Cert.TailEvenRefIdeal.τ).loc Cert.TailEvenRefIdeal.main_arg19)) (m ((c.tc : Thread Cert.TailEvenRefIdeal.nD Cert.TailEvenRefIdeal.τ).loc Cert.TailEvenRefIdeal.main_arg20)) (m ((c.tc : Thread Cert.TailEvenRefIdeal.nD Cert.TailEvenRefIdeal.τ).loc Cert.TailEvenRefIdeal.main_arg21))).1 = (fun _ => 1#1)
    ∧ (Cert.Pre_merge_finite.fn (F := Ideal) (m ((c.tc : Thread Cert.TailEvenRefIdeal.nD Cert.TailEvenRefIdeal.τ).loc Cert.TailEvenRefIdeal.main_arg0)) (m ((c.tc : Thread Cert.TailEvenRefIdeal.nD Cert.TailEvenRefIdeal.τ).loc Cert.TailEvenRefIdeal.main_arg1)) (m ((c.tc : Thread Cert.TailEvenRefIdeal.nD Cert.TailEvenRefIdeal.τ).loc Cert.TailEvenRefIdeal.main_arg2)) (m ((c.tc : Thread Cert.TailEvenRefIdeal.nD Cert.TailEvenRefIdeal.τ).loc Cert.TailEvenRefIdeal.main_arg3)) (m ((c.tc : Thread Cert.TailEvenRefIdeal.nD Cert.TailEvenRefIdeal.τ).loc Cert.TailEvenRefIdeal.main_arg4)) (m ((c.tc : Thread Cert.TailEvenRefIdeal.nD Cert.TailEvenRefIdeal.τ).loc Cert.TailEvenRefIdeal.main_arg5)) (m ((c.tc : Thread Cert.TailEvenRefIdeal.nD Cert.TailEvenRefIdeal.τ).loc Cert.TailEvenRefIdeal.main_arg6)) (m ((c.tc : Thread Cert.TailEvenRefIdeal.nD Cert.TailEvenRefIdeal.τ).loc Cert.TailEvenRefIdeal.main_arg7)) (m ((c.tc : Thread Cert.TailEvenRefIdeal.nD Cert.TailEvenRefIdeal.τ).loc Cert.TailEvenRefIdeal.main_arg8)) (m ((c.tc : Thread Cert.TailEvenRefIdeal.nD Cert.TailEvenRefIdeal.τ).loc Cert.TailEvenRefIdeal.main_arg9)) (m ((c.tc : Thread Cert.TailEvenRefIdeal.nD Cert.TailEvenRefIdeal.τ).loc Cert.TailEvenRefIdeal.main_arg10)) (m ((c.tc : Thread Cert.TailEvenRefIdeal.nD Cert.TailEvenRefIdeal.τ).loc Cert.TailEvenRefIdeal.main_arg11)) (m ((c.tc : Thread Cert.TailEvenRefIdeal.nD Cert.TailEvenRefIdeal.τ).loc Cert.TailEvenRefIdeal.main_arg12)) (m ((c.tc : Thread Cert.TailEvenRefIdeal.nD Cert.TailEvenRefIdeal.τ).loc Cert.TailEvenRefIdeal.main_arg13)) (m ((c.tc : Thread Cert.TailEvenRefIdeal.nD Cert.TailEvenRefIdeal.τ).loc Cert.TailEvenRefIdeal.main_arg14)) (m ((c.tc : Thread Cert.TailEvenRefIdeal.nD Cert.TailEvenRefIdeal.τ).loc Cert.TailEvenRefIdeal.main_arg15)) (m ((c.tc : Thread Cert.TailEvenRefIdeal.nD Cert.TailEvenRefIdeal.τ).loc Cert.TailEvenRefIdeal.main_arg16)) (m ((c.tc : Thread Cert.TailEvenRefIdeal.nD Cert.TailEvenRefIdeal.τ).loc Cert.TailEvenRefIdeal.main_arg17)) (m ((c.tc : Thread Cert.TailEvenRefIdeal.nD Cert.TailEvenRefIdeal.τ).loc Cert.TailEvenRefIdeal.main_arg18)) (m ((c.tc : Thread Cert.TailEvenRefIdeal.nD Cert.TailEvenRefIdeal.τ).loc Cert.TailEvenRefIdeal.main_arg19)) (m ((c.tc : Thread Cert.TailEvenRefIdeal.nD Cert.TailEvenRefIdeal.τ).loc Cert.TailEvenRefIdeal.main_arg20)) (m ((c.tc : Thread Cert.TailEvenRefIdeal.nD Cert.TailEvenRefIdeal.τ).loc Cert.TailEvenRefIdeal.main_arg21))).2 = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0))
      ∧ r.2.sem = fun _ => 0)

def quiescent_TailOdd [hTailOdd : Cert.TailOdd.Facts] : Prop :=
  ∀ (m : (ℓ : Loc Cert.TailOdd.nD Cert.TailOdd.τ Cert.TailOdd.sig) → Buf (Elt Bits) ℓ) (g : Dev Cert.TailOdd.nD → PrngReg), Pre_TailOdd m →
    θ_run (Cert.TailOdd.defs (F := Bits)) (onTc (τ := Cert.TailOdd.τ) (Cert.TailOdd.main (F := Bits))) ⟨m, fun _ => 0, g⟩ (fun r => (∀ c : Dev Cert.TailOdd.nD,
      r.2.mem ((c.tc : Thread Cert.TailOdd.nD Cert.TailOdd.τ).loc Cert.TailOdd.main_arg0) = m ((c.tc : Thread Cert.TailOdd.nD Cert.TailOdd.τ).loc Cert.TailOdd.main_arg0)
      ∧ r.2.mem ((c.tc : Thread Cert.TailOdd.nD Cert.TailOdd.τ).loc Cert.TailOdd.main_arg1) = m ((c.tc : Thread Cert.TailOdd.nD Cert.TailOdd.τ).loc Cert.TailOdd.main_arg1)
      ∧ r.2.mem ((c.tc : Thread Cert.TailOdd.nD Cert.TailOdd.τ).loc Cert.TailOdd.main_arg2) = m ((c.tc : Thread Cert.TailOdd.nD Cert.TailOdd.τ).loc Cert.TailOdd.main_arg2)
      ∧ r.2.mem ((c.tc : Thread Cert.TailOdd.nD Cert.TailOdd.τ).loc Cert.TailOdd.main_arg3) = m ((c.tc : Thread Cert.TailOdd.nD Cert.TailOdd.τ).loc Cert.TailOdd.main_arg3)
      ∧ r.2.mem ((c.tc : Thread Cert.TailOdd.nD Cert.TailOdd.τ).loc Cert.TailOdd.main_arg4) = m ((c.tc : Thread Cert.TailOdd.nD Cert.TailOdd.τ).loc Cert.TailOdd.main_arg4)
      ∧ r.2.mem ((c.tc : Thread Cert.TailOdd.nD Cert.TailOdd.τ).loc Cert.TailOdd.main_arg5) = m ((c.tc : Thread Cert.TailOdd.nD Cert.TailOdd.τ).loc Cert.TailOdd.main_arg5)
      ∧ r.2.mem ((c.tc : Thread Cert.TailOdd.nD Cert.TailOdd.τ).loc Cert.TailOdd.main_arg6) = m ((c.tc : Thread Cert.TailOdd.nD Cert.TailOdd.τ).loc Cert.TailOdd.main_arg6)
      ∧ r.2.mem ((c.tc : Thread Cert.TailOdd.nD Cert.TailOdd.τ).loc Cert.TailOdd.main_arg7) = m ((c.tc : Thread Cert.TailOdd.nD Cert.TailOdd.τ).loc Cert.TailOdd.main_arg7)
      ∧ r.2.mem ((c.tc : Thread Cert.TailOdd.nD Cert.TailOdd.τ).loc Cert.TailOdd.main_arg8) = m ((c.tc : Thread Cert.TailOdd.nD Cert.TailOdd.τ).loc Cert.TailOdd.main_arg8)
      ∧ r.2.mem ((c.tc : Thread Cert.TailOdd.nD Cert.TailOdd.τ).loc Cert.TailOdd.main_arg9) = m ((c.tc : Thread Cert.TailOdd.nD Cert.TailOdd.τ).loc Cert.TailOdd.main_arg9)
      ∧ r.2.mem ((c.tc : Thread Cert.TailOdd.nD Cert.TailOdd.τ).loc Cert.TailOdd.main_arg10) = m ((c.tc : Thread Cert.TailOdd.nD Cert.TailOdd.τ).loc Cert.TailOdd.main_arg10))
      ∧ r.2.sem = fun _ => 0)

def quiescent_TailOddIdeal [hTailOddIdeal : Cert.TailOddIdeal.Facts] : Prop :=
  ∀ (m : (ℓ : Loc Cert.TailOddIdeal.nD Cert.TailOddIdeal.τ Cert.TailOddIdeal.sig) → Buf (Elt Ideal) ℓ) (g : Dev Cert.TailOddIdeal.nD → PrngReg), Pre_TailOddIdeal m →
    θ_run (Cert.TailOddIdeal.defs (F := Ideal)) (onTc (τ := Cert.TailOddIdeal.τ) (Cert.TailOddIdeal.main (F := Ideal))) ⟨m, fun _ => 0, g⟩ (fun r => (∀ c : Dev Cert.TailOddIdeal.nD,
      r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
      ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
      ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
      ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
      ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
      ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
      ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
      ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
      ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8)
      ∧ r.2.mem ((c.tc : Thread Cert.TailOddIdeal.nD Cert.TailOddIdeal.τ).loc Cert.TailOddIdeal.main_arg9) = m ((c.tc : Thread Cert.TailOddIdeal.nD Cert.TailOddIdeal.τ).loc Cert.TailOddIdeal.main_arg9)
      ∧ r.2.mem ((c.tc : Thread Cert.TailOddIdeal.nD Cert.TailOddIdeal.τ).loc Cert.TailOddIdeal.main_arg10) = m ((c.tc : Thread Cert.TailOddIdeal.nD Cert.TailOddIdeal.τ).loc Cert.TailOddIdeal.main_arg10))
      ∧ r.2.sem = fun _ => 0)

def quiescent_TailOddRefIdeal [hTailOddRefIdeal : Cert.TailOddRefIdeal.Facts] : Prop :=
  ∀ (m : (ℓ : Loc Cert.TailOddRefIdeal.nD Cert.TailOddRefIdeal.τ Cert.TailOddRefIdeal.sig) → Buf (Elt Ideal) ℓ) (g : Dev Cert.TailOddRefIdeal.nD → PrngReg), Pre_TailOddRefIdeal m →
    θ_run (Cert.TailOddRefIdeal.defs (F := Ideal)) (onTc (τ := Cert.TailOddRefIdeal.τ) (Cert.TailOddRefIdeal.main (F := Ideal))) ⟨m, fun _ => 0, g⟩ (fun r => (∀ c : Dev Cert.TailOddRefIdeal.nD,
      r.2.mem ((c.tc : Thread Cert.TailOddRefIdeal.nD Cert.TailOddRefIdeal.τ).loc Cert.TailOddRefIdeal.main_arg0) = m ((c.tc : Thread Cert.TailOddRefIdeal.nD Cert.TailOddRefIdeal.τ).loc Cert.TailOddRefIdeal.main_arg0)
      ∧ r.2.mem ((c.tc : Thread Cert.TailOddRefIdeal.nD Cert.TailOddRefIdeal.τ).loc Cert.TailOddRefIdeal.main_arg1) = m ((c.tc : Thread Cert.TailOddRefIdeal.nD Cert.TailOddRefIdeal.τ).loc Cert.TailOddRefIdeal.main_arg1)
      ∧ r.2.mem ((c.tc : Thread Cert.TailOddRefIdeal.nD Cert.TailOddRefIdeal.τ).loc Cert.TailOddRefIdeal.main_arg2) = m ((c.tc : Thread Cert.TailOddRefIdeal.nD Cert.TailOddRefIdeal.τ).loc Cert.TailOddRefIdeal.main_arg2)
      ∧ r.2.mem ((c.tc : Thread Cert.TailOddRefIdeal.nD Cert.TailOddRefIdeal.τ).loc Cert.TailOddRefIdeal.main_arg3) = m ((c.tc : Thread Cert.TailOddRefIdeal.nD Cert.TailOddRefIdeal.τ).loc Cert.TailOddRefIdeal.main_arg3)
      ∧ r.2.mem ((c.tc : Thread Cert.TailOddRefIdeal.nD Cert.TailOddRefIdeal.τ).loc Cert.TailOddRefIdeal.main_arg4) = m ((c.tc : Thread Cert.TailOddRefIdeal.nD Cert.TailOddRefIdeal.τ).loc Cert.TailOddRefIdeal.main_arg4)
      ∧ r.2.mem ((c.tc : Thread Cert.TailOddRefIdeal.nD Cert.TailOddRefIdeal.τ).loc Cert.TailOddRefIdeal.main_arg5) = m ((c.tc : Thread Cert.TailOddRefIdeal.nD Cert.TailOddRefIdeal.τ).loc Cert.TailOddRefIdeal.main_arg5)
      ∧ r.2.mem ((c.tc : Thread Cert.TailOddRefIdeal.nD Cert.TailOddRefIdeal.τ).loc Cert.TailOddRefIdeal.main_arg6) = m ((c.tc : Thread Cert.TailOddRefIdeal.nD Cert.TailOddRefIdeal.τ).loc Cert.TailOddRefIdeal.main_arg6)
      ∧ r.2.mem ((c.tc : Thread Cert.TailOddRefIdeal.nD Cert.TailOddRefIdeal.τ).loc Cert.TailOddRefIdeal.main_arg7) = m ((c.tc : Thread Cert.TailOddRefIdeal.nD Cert.TailOddRefIdeal.τ).loc Cert.TailOddRefIdeal.main_arg7)
      ∧ r.2.mem ((c.tc : Thread Cert.TailOddRefIdeal.nD Cert.TailOddRefIdeal.τ).loc Cert.TailOddRefIdeal.main_arg8) = m ((c.tc : Thread Cert.TailOddRefIdeal.nD Cert.TailOddRefIdeal.τ).loc Cert.TailOddRefIdeal.main_arg8)
      ∧ r.2.mem ((c.tc : Thread Cert.TailOddRefIdeal.nD Cert.TailOddRefIdeal.τ).loc Cert.TailOddRefIdeal.main_arg9) = m ((c.tc : Thread Cert.TailOddRefIdeal.nD Cert.TailOddRefIdeal.τ).loc Cert.TailOddRefIdeal.main_arg9)
      ∧ r.2.mem ((c.tc : Thread Cert.TailOddRefIdeal.nD Cert.TailOddRefIdeal.τ).loc Cert.TailOddRefIdeal.main_arg10) = m ((c.tc : Thread Cert.TailOddRefIdeal.nD Cert.TailOddRefIdeal.τ).loc Cert.TailOddRefIdeal.main_arg10))
      ∧ r.2.sem = fun _ => 0)

def quiescent_TailEven [hTailEven : Cert.TailEven.Facts] : Prop :=
  ∀ (m : (ℓ : Loc Cert.TailEven.nD Cert.TailEven.τ Cert.TailEven.sig) → Buf (Elt Bits) ℓ) (g : Dev Cert.TailEven.nD → PrngReg), Pre_TailEven m →
    θ_run (Cert.TailEven.defs (F := Bits)) (onTc (τ := Cert.TailEven.τ) (Cert.TailEven.main (F := Bits))) ⟨m, fun _ => 0, g⟩ (fun r => (∀ c : Dev Cert.TailEven.nD,
      r.2.mem ((c.tc : Thread Cert.TailEven.nD Cert.TailEven.τ).loc Cert.TailEven.main_arg0) = m ((c.tc : Thread Cert.TailEven.nD Cert.TailEven.τ).loc Cert.TailEven.main_arg0)
      ∧ r.2.mem ((c.tc : Thread Cert.TailEven.nD Cert.TailEven.τ).loc Cert.TailEven.main_arg1) = m ((c.tc : Thread Cert.TailEven.nD Cert.TailEven.τ).loc Cert.TailEven.main_arg1)
      ∧ r.2.mem ((c.tc : Thread Cert.TailEven.nD Cert.TailEven.τ).loc Cert.TailEven.main_arg2) = m ((c.tc : Thread Cert.TailEven.nD Cert.TailEven.τ).loc Cert.TailEven.main_arg2)
      ∧ r.2.mem ((c.tc : Thread Cert.TailEven.nD Cert.TailEven.τ).loc Cert.TailEven.main_arg3) = m ((c.tc : Thread Cert.TailEven.nD Cert.TailEven.τ).loc Cert.TailEven.main_arg3)
      ∧ r.2.mem ((c.tc : Thread Cert.TailEven.nD Cert.TailEven.τ).loc Cert.TailEven.main_arg4) = m ((c.tc : Thread Cert.TailEven.nD Cert.TailEven.τ).loc Cert.TailEven.main_arg4)
      ∧ r.2.mem ((c.tc : Thread Cert.TailEven.nD Cert.TailEven.τ).loc Cert.TailEven.main_arg5) = m ((c.tc : Thread Cert.TailEven.nD Cert.TailEven.τ).loc Cert.TailEven.main_arg5)
      ∧ r.2.mem ((c.tc : Thread Cert.TailEven.nD Cert.TailEven.τ).loc Cert.TailEven.main_arg6) = m ((c.tc : Thread Cert.TailEven.nD Cert.TailEven.τ).loc Cert.TailEven.main_arg6)
      ∧ r.2.mem ((c.tc : Thread Cert.TailEven.nD Cert.TailEven.τ).loc Cert.TailEven.main_arg7) = m ((c.tc : Thread Cert.TailEven.nD Cert.TailEven.τ).loc Cert.TailEven.main_arg7)
      ∧ r.2.mem ((c.tc : Thread Cert.TailEven.nD Cert.TailEven.τ).loc Cert.TailEven.main_arg8) = m ((c.tc : Thread Cert.TailEven.nD Cert.TailEven.τ).loc Cert.TailEven.main_arg8)
      ∧ r.2.mem ((c.tc : Thread Cert.TailEven.nD Cert.TailEven.τ).loc Cert.TailEven.main_arg9) = m ((c.tc : Thread Cert.TailEven.nD Cert.TailEven.τ).loc Cert.TailEven.main_arg9)
      ∧ r.2.mem ((c.tc : Thread Cert.TailEven.nD Cert.TailEven.τ).loc Cert.TailEven.main_arg10) = m ((c.tc : Thread Cert.TailEven.nD Cert.TailEven.τ).loc Cert.TailEven.main_arg10)
      ∧ r.2.mem ((c.tc : Thread Cert.TailEven.nD Cert.TailEven.τ).loc Cert.TailEven.main_arg11) = m ((c.tc : Thread Cert.TailEven.nD Cert.TailEven.τ).loc Cert.TailEven.main_arg11)
      ∧ r.2.mem ((c.tc : Thread Cert.TailEven.nD Cert.TailEven.τ).loc Cert.TailEven.main_arg12) = m ((c.tc : Thread Cert.TailEven.nD Cert.TailEven.τ).loc Cert.TailEven.main_arg12)
      ∧ r.2.mem ((c.tc : Thread Cert.TailEven.nD Cert.TailEven.τ).loc Cert.TailEven.main_arg13) = m ((c.tc : Thread Cert.TailEven.nD Cert.TailEven.τ).loc Cert.TailEven.main_arg13)
      ∧ r.2.mem ((c.tc : Thread Cert.TailEven.nD Cert.TailEven.τ).loc Cert.TailEven.main_arg14) = m ((c.tc : Thread Cert.TailEven.nD Cert.TailEven.τ).loc Cert.TailEven.main_arg14)
      ∧ r.2.mem ((c.tc : Thread Cert.TailEven.nD Cert.TailEven.τ).loc Cert.TailEven.main_arg15) = m ((c.tc : Thread Cert.TailEven.nD Cert.TailEven.τ).loc Cert.TailEven.main_arg15)
      ∧ r.2.mem ((c.tc : Thread Cert.TailEven.nD Cert.TailEven.τ).loc Cert.TailEven.main_arg16) = m ((c.tc : Thread Cert.TailEven.nD Cert.TailEven.τ).loc Cert.TailEven.main_arg16)
      ∧ r.2.mem ((c.tc : Thread Cert.TailEven.nD Cert.TailEven.τ).loc Cert.TailEven.main_arg17) = m ((c.tc : Thread Cert.TailEven.nD Cert.TailEven.τ).loc Cert.TailEven.main_arg17)
      ∧ r.2.mem ((c.tc : Thread Cert.TailEven.nD Cert.TailEven.τ).loc Cert.TailEven.main_arg18) = m ((c.tc : Thread Cert.TailEven.nD Cert.TailEven.τ).loc Cert.TailEven.main_arg18)
      ∧ r.2.mem ((c.tc : Thread Cert.TailEven.nD Cert.TailEven.τ).loc Cert.TailEven.main_arg19) = m ((c.tc : Thread Cert.TailEven.nD Cert.TailEven.τ).loc Cert.TailEven.main_arg19)
      ∧ r.2.mem ((c.tc : Thread Cert.TailEven.nD Cert.TailEven.τ).loc Cert.TailEven.main_arg20) = m ((c.tc : Thread Cert.TailEven.nD Cert.TailEven.τ).loc Cert.TailEven.main_arg20)
      ∧ r.2.mem ((c.tc : Thread Cert.TailEven.nD Cert.TailEven.τ).loc Cert.TailEven.main_arg21) = m ((c.tc : Thread Cert.TailEven.nD Cert.TailEven.τ).loc Cert.TailEven.main_arg21))
      ∧ r.2.sem = fun _ => 0)

def quiescent_TailEvenIdeal [hTailEvenIdeal : Cert.TailEvenIdeal.Facts] : Prop :=
  ∀ (m : (ℓ : Loc Cert.TailEvenIdeal.nD Cert.TailEvenIdeal.τ Cert.TailEvenIdeal.sig) → Buf (Elt Ideal) ℓ) (g : Dev Cert.TailEvenIdeal.nD → PrngReg), Pre_TailEvenIdeal m →
    θ_run (Cert.TailEvenIdeal.defs (F := Ideal)) (onTc (τ := Cert.TailEvenIdeal.τ) (Cert.TailEvenIdeal.main (F := Ideal))) ⟨m, fun _ => 0, g⟩ (fun r => (∀ c : Dev Cert.TailEvenIdeal.nD,
      r.2.mem ((c.tc : Thread Cert.TailEvenIdeal.nD Cert.TailEvenIdeal.τ).loc Cert.TailEvenIdeal.main_arg0) = m ((c.tc : Thread Cert.TailEvenIdeal.nD Cert.TailEvenIdeal.τ).loc Cert.TailEvenIdeal.main_arg0)
      ∧ r.2.mem ((c.tc : Thread Cert.TailEvenIdeal.nD Cert.TailEvenIdeal.τ).loc Cert.TailEvenIdeal.main_arg1) = m ((c.tc : Thread Cert.TailEvenIdeal.nD Cert.TailEvenIdeal.τ).loc Cert.TailEvenIdeal.main_arg1)
      ∧ r.2.mem ((c.tc : Thread Cert.TailEvenIdeal.nD Cert.TailEvenIdeal.τ).loc Cert.TailEvenIdeal.main_arg2) = m ((c.tc : Thread Cert.TailEvenIdeal.nD Cert.TailEvenIdeal.τ).loc Cert.TailEvenIdeal.main_arg2)
      ∧ r.2.mem ((c.tc : Thread Cert.TailEvenIdeal.nD Cert.TailEvenIdeal.τ).loc Cert.TailEvenIdeal.main_arg3) = m ((c.tc : Thread Cert.TailEvenIdeal.nD Cert.TailEvenIdeal.τ).loc Cert.TailEvenIdeal.main_arg3)
      ∧ r.2.mem ((c.tc : Thread Cert.TailEvenIdeal.nD Cert.TailEvenIdeal.τ).loc Cert.TailEvenIdeal.main_arg4) = m ((c.tc : Thread Cert.TailEvenIdeal.nD Cert.TailEvenIdeal.τ).loc Cert.TailEvenIdeal.main_arg4)
      ∧ r.2.mem ((c.tc : Thread Cert.TailEvenIdeal.nD Cert.TailEvenIdeal.τ).loc Cert.TailEvenIdeal.main_arg5) = m ((c.tc : Thread Cert.TailEvenIdeal.nD Cert.TailEvenIdeal.τ).loc Cert.TailEvenIdeal.main_arg5)
      ∧ r.2.mem ((c.tc : Thread Cert.TailEvenIdeal.nD Cert.TailEvenIdeal.τ).loc Cert.TailEvenIdeal.main_arg6) = m ((c.tc : Thread Cert.TailEvenIdeal.nD Cert.TailEvenIdeal.τ).loc Cert.TailEvenIdeal.main_arg6)
      ∧ r.2.mem ((c.tc : Thread Cert.TailEvenIdeal.nD Cert.TailEvenIdeal.τ).loc Cert.TailEvenIdeal.main_arg7) = m ((c.tc : Thread Cert.TailEvenIdeal.nD Cert.TailEvenIdeal.τ).loc Cert.TailEvenIdeal.main_arg7)
      ∧ r.2.mem ((c.tc : Thread Cert.TailEvenIdeal.nD Cert.TailEvenIdeal.τ).loc Cert.TailEvenIdeal.main_arg8) = m ((c.tc : Thread Cert.TailEvenIdeal.nD Cert.TailEvenIdeal.τ).loc Cert.TailEvenIdeal.main_arg8)
      ∧ r.2.mem ((c.tc : Thread Cert.TailEvenIdeal.nD Cert.TailEvenIdeal.τ).loc Cert.TailEvenIdeal.main_arg9) = m ((c.tc : Thread Cert.TailEvenIdeal.nD Cert.TailEvenIdeal.τ).loc Cert.TailEvenIdeal.main_arg9)
      ∧ r.2.mem ((c.tc : Thread Cert.TailEvenIdeal.nD Cert.TailEvenIdeal.τ).loc Cert.TailEvenIdeal.main_arg10) = m ((c.tc : Thread Cert.TailEvenIdeal.nD Cert.TailEvenIdeal.τ).loc Cert.TailEvenIdeal.main_arg10)
      ∧ r.2.mem ((c.tc : Thread Cert.TailEvenIdeal.nD Cert.TailEvenIdeal.τ).loc Cert.TailEvenIdeal.main_arg11) = m ((c.tc : Thread Cert.TailEvenIdeal.nD Cert.TailEvenIdeal.τ).loc Cert.TailEvenIdeal.main_arg11)
      ∧ r.2.mem ((c.tc : Thread Cert.TailEvenIdeal.nD Cert.TailEvenIdeal.τ).loc Cert.TailEvenIdeal.main_arg12) = m ((c.tc : Thread Cert.TailEvenIdeal.nD Cert.TailEvenIdeal.τ).loc Cert.TailEvenIdeal.main_arg12)
      ∧ r.2.mem ((c.tc : Thread Cert.TailEvenIdeal.nD Cert.TailEvenIdeal.τ).loc Cert.TailEvenIdeal.main_arg13) = m ((c.tc : Thread Cert.TailEvenIdeal.nD Cert.TailEvenIdeal.τ).loc Cert.TailEvenIdeal.main_arg13)
      ∧ r.2.mem ((c.tc : Thread Cert.TailEvenIdeal.nD Cert.TailEvenIdeal.τ).loc Cert.TailEvenIdeal.main_arg14) = m ((c.tc : Thread Cert.TailEvenIdeal.nD Cert.TailEvenIdeal.τ).loc Cert.TailEvenIdeal.main_arg14)
      ∧ r.2.mem ((c.tc : Thread Cert.TailEvenIdeal.nD Cert.TailEvenIdeal.τ).loc Cert.TailEvenIdeal.main_arg15) = m ((c.tc : Thread Cert.TailEvenIdeal.nD Cert.TailEvenIdeal.τ).loc Cert.TailEvenIdeal.main_arg15)
      ∧ r.2.mem ((c.tc : Thread Cert.TailEvenIdeal.nD Cert.TailEvenIdeal.τ).loc Cert.TailEvenIdeal.main_arg16) = m ((c.tc : Thread Cert.TailEvenIdeal.nD Cert.TailEvenIdeal.τ).loc Cert.TailEvenIdeal.main_arg16)
      ∧ r.2.mem ((c.tc : Thread Cert.TailEvenIdeal.nD Cert.TailEvenIdeal.τ).loc Cert.TailEvenIdeal.main_arg17) = m ((c.tc : Thread Cert.TailEvenIdeal.nD Cert.TailEvenIdeal.τ).loc Cert.TailEvenIdeal.main_arg17)
      ∧ r.2.mem ((c.tc : Thread Cert.TailEvenIdeal.nD Cert.TailEvenIdeal.τ).loc Cert.TailEvenIdeal.main_arg18) = m ((c.tc : Thread Cert.TailEvenIdeal.nD Cert.TailEvenIdeal.τ).loc Cert.TailEvenIdeal.main_arg18)
      ∧ r.2.mem ((c.tc : Thread Cert.TailEvenIdeal.nD Cert.TailEvenIdeal.τ).loc Cert.TailEvenIdeal.main_arg19) = m ((c.tc : Thread Cert.TailEvenIdeal.nD Cert.TailEvenIdeal.τ).loc Cert.TailEvenIdeal.main_arg19)
      ∧ r.2.mem ((c.tc : Thread Cert.TailEvenIdeal.nD Cert.TailEvenIdeal.τ).loc Cert.TailEvenIdeal.main_arg20) = m ((c.tc : Thread Cert.TailEvenIdeal.nD Cert.TailEvenIdeal.τ).loc Cert.TailEvenIdeal.main_arg20)
      ∧ r.2.mem ((c.tc : Thread Cert.TailEvenIdeal.nD Cert.TailEvenIdeal.τ).loc Cert.TailEvenIdeal.main_arg21) = m ((c.tc : Thread Cert.TailEvenIdeal.nD Cert.TailEvenIdeal.τ).loc Cert.TailEvenIdeal.main_arg21))
      ∧ r.2.sem = fun _ => 0)

def quiescent_TailEvenIdeal_pre_merge_finite [hTailEvenIdeal : Cert.TailEvenIdeal.Facts] [hPre_merge_finite : Cert.Pre_merge_finite.Facts] : Prop :=
  ∀ (m : (ℓ : Loc Cert.TailEvenIdeal.nD Cert.TailEvenIdeal.τ Cert.TailEvenIdeal.sig) → Buf (Elt Ideal) ℓ) (g : Dev Cert.TailEvenIdeal.nD → PrngReg), Pre_TailEvenIdeal_merge_finite m →
    θ_run (Cert.TailEvenIdeal.defs (F := Ideal)) (onTc (τ := Cert.TailEvenIdeal.τ) (Cert.TailEvenIdeal.main (F := Ideal))) ⟨m, fun _ => 0, g⟩ (fun r => (∀ c : Dev Cert.TailEvenIdeal.nD,
      r.2.mem ((c.tc : Thread Cert.TailEvenIdeal.nD Cert.TailEvenIdeal.τ).loc Cert.TailEvenIdeal.main_arg0) = m ((c.tc : Thread Cert.TailEvenIdeal.nD Cert.TailEvenIdeal.τ).loc Cert.TailEvenIdeal.main_arg0)
      ∧ r.2.mem ((c.tc : Thread Cert.TailEvenIdeal.nD Cert.TailEvenIdeal.τ).loc Cert.TailEvenIdeal.main_arg1) = m ((c.tc : Thread Cert.TailEvenIdeal.nD Cert.TailEvenIdeal.τ).loc Cert.TailEvenIdeal.main_arg1)
      ∧ r.2.mem ((c.tc : Thread Cert.TailEvenIdeal.nD Cert.TailEvenIdeal.τ).loc Cert.TailEvenIdeal.main_arg2) = m ((c.tc : Thread Cert.TailEvenIdeal.nD Cert.TailEvenIdeal.τ).loc Cert.TailEvenIdeal.main_arg2)
      ∧ r.2.mem ((c.tc : Thread Cert.TailEvenIdeal.nD Cert.TailEvenIdeal.τ).loc Cert.TailEvenIdeal.main_arg3) = m ((c.tc : Thread Cert.TailEvenIdeal.nD Cert.TailEvenIdeal.τ).loc Cert.TailEvenIdeal.main_arg3)
      ∧ r.2.mem ((c.tc : Thread Cert.TailEvenIdeal.nD Cert.TailEvenIdeal.τ).loc Cert.TailEvenIdeal.main_arg4) = m ((c.tc : Thread Cert.TailEvenIdeal.nD Cert.TailEvenIdeal.τ).loc Cert.TailEvenIdeal.main_arg4)
      ∧ r.2.mem ((c.tc : Thread Cert.TailEvenIdeal.nD Cert.TailEvenIdeal.τ).loc Cert.TailEvenIdeal.main_arg5) = m ((c.tc : Thread Cert.TailEvenIdeal.nD Cert.TailEvenIdeal.τ).loc Cert.TailEvenIdeal.main_arg5)
      ∧ r.2.mem ((c.tc : Thread Cert.TailEvenIdeal.nD Cert.TailEvenIdeal.τ).loc Cert.TailEvenIdeal.main_arg6) = m ((c.tc : Thread Cert.TailEvenIdeal.nD Cert.TailEvenIdeal.τ).loc Cert.TailEvenIdeal.main_arg6)
      ∧ r.2.mem ((c.tc : Thread Cert.TailEvenIdeal.nD Cert.TailEvenIdeal.τ).loc Cert.TailEvenIdeal.main_arg7) = m ((c.tc : Thread Cert.TailEvenIdeal.nD Cert.TailEvenIdeal.τ).loc Cert.TailEvenIdeal.main_arg7)
      ∧ r.2.mem ((c.tc : Thread Cert.TailEvenIdeal.nD Cert.TailEvenIdeal.τ).loc Cert.TailEvenIdeal.main_arg8) = m ((c.tc : Thread Cert.TailEvenIdeal.nD Cert.TailEvenIdeal.τ).loc Cert.TailEvenIdeal.main_arg8)
      ∧ r.2.mem ((c.tc : Thread Cert.TailEvenIdeal.nD Cert.TailEvenIdeal.τ).loc Cert.TailEvenIdeal.main_arg9) = m ((c.tc : Thread Cert.TailEvenIdeal.nD Cert.TailEvenIdeal.τ).loc Cert.TailEvenIdeal.main_arg9)
      ∧ r.2.mem ((c.tc : Thread Cert.TailEvenIdeal.nD Cert.TailEvenIdeal.τ).loc Cert.TailEvenIdeal.main_arg10) = m ((c.tc : Thread Cert.TailEvenIdeal.nD Cert.TailEvenIdeal.τ).loc Cert.TailEvenIdeal.main_arg10)
      ∧ r.2.mem ((c.tc : Thread Cert.TailEvenIdeal.nD Cert.TailEvenIdeal.τ).loc Cert.TailEvenIdeal.main_arg11) = m ((c.tc : Thread Cert.TailEvenIdeal.nD Cert.TailEvenIdeal.τ).loc Cert.TailEvenIdeal.main_arg11)
      ∧ r.2.mem ((c.tc : Thread Cert.TailEvenIdeal.nD Cert.TailEvenIdeal.τ).loc Cert.TailEvenIdeal.main_arg12) = m ((c.tc : Thread Cert.TailEvenIdeal.nD Cert.TailEvenIdeal.τ).loc Cert.TailEvenIdeal.main_arg12)
      ∧ r.2.mem ((c.tc : Thread Cert.TailEvenIdeal.nD Cert.TailEvenIdeal.τ).loc Cert.TailEvenIdeal.main_arg13) = m ((c.tc : Thread Cert.TailEvenIdeal.nD Cert.TailEvenIdeal.τ).loc Cert.TailEvenIdeal.main_arg13)
      ∧ r.2.mem ((c.tc : Thread Cert.TailEvenIdeal.nD Cert.TailEvenIdeal.τ).loc Cert.TailEvenIdeal.main_arg14) = m ((c.tc : Thread Cert.TailEvenIdeal.nD Cert.TailEvenIdeal.τ).loc Cert.TailEvenIdeal.main_arg14)
      ∧ r.2.mem ((c.tc : Thread Cert.TailEvenIdeal.nD Cert.TailEvenIdeal.τ).loc Cert.TailEvenIdeal.main_arg15) = m ((c.tc : Thread Cert.TailEvenIdeal.nD Cert.TailEvenIdeal.τ).loc Cert.TailEvenIdeal.main_arg15)
      ∧ r.2.mem ((c.tc : Thread Cert.TailEvenIdeal.nD Cert.TailEvenIdeal.τ).loc Cert.TailEvenIdeal.main_arg16) = m ((c.tc : Thread Cert.TailEvenIdeal.nD Cert.TailEvenIdeal.τ).loc Cert.TailEvenIdeal.main_arg16)
      ∧ r.2.mem ((c.tc : Thread Cert.TailEvenIdeal.nD Cert.TailEvenIdeal.τ).loc Cert.TailEvenIdeal.main_arg17) = m ((c.tc : Thread Cert.TailEvenIdeal.nD Cert.TailEvenIdeal.τ).loc Cert.TailEvenIdeal.main_arg17)
      ∧ r.2.mem ((c.tc : Thread Cert.TailEvenIdeal.nD Cert.TailEvenIdeal.τ).loc Cert.TailEvenIdeal.main_arg18) = m ((c.tc : Thread Cert.TailEvenIdeal.nD Cert.TailEvenIdeal.τ).loc Cert.TailEvenIdeal.main_arg18)
      ∧ r.2.mem ((c.tc : Thread Cert.TailEvenIdeal.nD Cert.TailEvenIdeal.τ).loc Cert.TailEvenIdeal.main_arg19) = m ((c.tc : Thread Cert.TailEvenIdeal.nD Cert.TailEvenIdeal.τ).loc Cert.TailEvenIdeal.main_arg19)
      ∧ r.2.mem ((c.tc : Thread Cert.TailEvenIdeal.nD Cert.TailEvenIdeal.τ).loc Cert.TailEvenIdeal.main_arg20) = m ((c.tc : Thread Cert.TailEvenIdeal.nD Cert.TailEvenIdeal.τ).loc Cert.TailEvenIdeal.main_arg20)
      ∧ r.2.mem ((c.tc : Thread Cert.TailEvenIdeal.nD Cert.TailEvenIdeal.τ).loc Cert.TailEvenIdeal.main_arg21) = m ((c.tc : Thread Cert.TailEvenIdeal.nD Cert.TailEvenIdeal.τ).loc Cert.TailEvenIdeal.main_arg21))
      ∧ r.2.sem = fun _ => 0)

def quiescent_TailEvenRefIdeal [hTailEvenRefIdeal : Cert.TailEvenRefIdeal.Facts] : Prop :=
  ∀ (m : (ℓ : Loc Cert.TailEvenRefIdeal.nD Cert.TailEvenRefIdeal.τ Cert.TailEvenRefIdeal.sig) → Buf (Elt Ideal) ℓ) (g : Dev Cert.TailEvenRefIdeal.nD → PrngReg), Pre_TailEvenRefIdeal m →
    θ_run (Cert.TailEvenRefIdeal.defs (F := Ideal)) (onTc (τ := Cert.TailEvenRefIdeal.τ) (Cert.TailEvenRefIdeal.main (F := Ideal))) ⟨m, fun _ => 0, g⟩ (fun r => (∀ c : Dev Cert.TailEvenRefIdeal.nD,
      r.2.mem ((c.tc : Thread Cert.TailEvenRefIdeal.nD Cert.TailEvenRefIdeal.τ).loc Cert.TailEvenRefIdeal.main_arg0) = m ((c.tc : Thread Cert.TailEvenRefIdeal.nD Cert.TailEvenRefIdeal.τ).loc Cert.TailEvenRefIdeal.main_arg0)
      ∧ r.2.mem ((c.tc : Thread Cert.TailEvenRefIdeal.nD Cert.TailEvenRefIdeal.τ).loc Cert.TailEvenRefIdeal.main_arg1) = m ((c.tc : Thread Cert.TailEvenRefIdeal.nD Cert.TailEvenRefIdeal.τ).loc Cert.TailEvenRefIdeal.main_arg1)
      ∧ r.2.mem ((c.tc : Thread Cert.TailEvenRefIdeal.nD Cert.TailEvenRefIdeal.τ).loc Cert.TailEvenRefIdeal.main_arg2) = m ((c.tc : Thread Cert.TailEvenRefIdeal.nD Cert.TailEvenRefIdeal.τ).loc Cert.TailEvenRefIdeal.main_arg2)
      ∧ r.2.mem ((c.tc : Thread Cert.TailEvenRefIdeal.nD Cert.TailEvenRefIdeal.τ).loc Cert.TailEvenRefIdeal.main_arg3) = m ((c.tc : Thread Cert.TailEvenRefIdeal.nD Cert.TailEvenRefIdeal.τ).loc Cert.TailEvenRefIdeal.main_arg3)
      ∧ r.2.mem ((c.tc : Thread Cert.TailEvenRefIdeal.nD Cert.TailEvenRefIdeal.τ).loc Cert.TailEvenRefIdeal.main_arg4) = m ((c.tc : Thread Cert.TailEvenRefIdeal.nD Cert.TailEvenRefIdeal.τ).loc Cert.TailEvenRefIdeal.main_arg4)
      ∧ r.2.mem ((c.tc : Thread Cert.TailEvenRefIdeal.nD Cert.TailEvenRefIdeal.τ).loc Cert.TailEvenRefIdeal.main_arg5) = m ((c.tc : Thread Cert.TailEvenRefIdeal.nD Cert.TailEvenRefIdeal.τ).loc Cert.TailEvenRefIdeal.main_arg5)
      ∧ r.2.mem ((c.tc : Thread Cert.TailEvenRefIdeal.nD Cert.TailEvenRefIdeal.τ).loc Cert.TailEvenRefIdeal.main_arg6) = m ((c.tc : Thread Cert.TailEvenRefIdeal.nD Cert.TailEvenRefIdeal.τ).loc Cert.TailEvenRefIdeal.main_arg6)
      ∧ r.2.mem ((c.tc : Thread Cert.TailEvenRefIdeal.nD Cert.TailEvenRefIdeal.τ).loc Cert.TailEvenRefIdeal.main_arg7) = m ((c.tc : Thread Cert.TailEvenRefIdeal.nD Cert.TailEvenRefIdeal.τ).loc Cert.TailEvenRefIdeal.main_arg7)
      ∧ r.2.mem ((c.tc : Thread Cert.TailEvenRefIdeal.nD Cert.TailEvenRefIdeal.τ).loc Cert.TailEvenRefIdeal.main_arg8) = m ((c.tc : Thread Cert.TailEvenRefIdeal.nD Cert.TailEvenRefIdeal.τ).loc Cert.TailEvenRefIdeal.main_arg8)
      ∧ r.2.mem ((c.tc : Thread Cert.TailEvenRefIdeal.nD Cert.TailEvenRefIdeal.τ).loc Cert.TailEvenRefIdeal.main_arg9) = m ((c.tc : Thread Cert.TailEvenRefIdeal.nD Cert.TailEvenRefIdeal.τ).loc Cert.TailEvenRefIdeal.main_arg9)
      ∧ r.2.mem ((c.tc : Thread Cert.TailEvenRefIdeal.nD Cert.TailEvenRefIdeal.τ).loc Cert.TailEvenRefIdeal.main_arg10) = m ((c.tc : Thread Cert.TailEvenRefIdeal.nD Cert.TailEvenRefIdeal.τ).loc Cert.TailEvenRefIdeal.main_arg10)
      ∧ r.2.mem ((c.tc : Thread Cert.TailEvenRefIdeal.nD Cert.TailEvenRefIdeal.τ).loc Cert.TailEvenRefIdeal.main_arg11) = m ((c.tc : Thread Cert.TailEvenRefIdeal.nD Cert.TailEvenRefIdeal.τ).loc Cert.TailEvenRefIdeal.main_arg11)
      ∧ r.2.mem ((c.tc : Thread Cert.TailEvenRefIdeal.nD Cert.TailEvenRefIdeal.τ).loc Cert.TailEvenRefIdeal.main_arg12) = m ((c.tc : Thread Cert.TailEvenRefIdeal.nD Cert.TailEvenRefIdeal.τ).loc Cert.TailEvenRefIdeal.main_arg12)
      ∧ r.2.mem ((c.tc : Thread Cert.TailEvenRefIdeal.nD Cert.TailEvenRefIdeal.τ).loc Cert.TailEvenRefIdeal.main_arg13) = m ((c.tc : Thread Cert.TailEvenRefIdeal.nD Cert.TailEvenRefIdeal.τ).loc Cert.TailEvenRefIdeal.main_arg13)
      ∧ r.2.mem ((c.tc : Thread Cert.TailEvenRefIdeal.nD Cert.TailEvenRefIdeal.τ).loc Cert.TailEvenRefIdeal.main_arg14) = m ((c.tc : Thread Cert.TailEvenRefIdeal.nD Cert.TailEvenRefIdeal.τ).loc Cert.TailEvenRefIdeal.main_arg14)
      ∧ r.2.mem ((c.tc : Thread Cert.TailEvenRefIdeal.nD Cert.TailEvenRefIdeal.τ).loc Cert.TailEvenRefIdeal.main_arg15) = m ((c.tc : Thread Cert.TailEvenRefIdeal.nD Cert.TailEvenRefIdeal.τ).loc Cert.TailEvenRefIdeal.main_arg15)
      ∧ r.2.mem ((c.tc : Thread Cert.TailEvenRefIdeal.nD Cert.TailEvenRefIdeal.τ).loc Cert.TailEvenRefIdeal.main_arg16) = m ((c.tc : Thread Cert.TailEvenRefIdeal.nD Cert.TailEvenRefIdeal.τ).loc Cert.TailEvenRefIdeal.main_arg16)
      ∧ r.2.mem ((c.tc : Thread Cert.TailEvenRefIdeal.nD Cert.TailEvenRefIdeal.τ).loc Cert.TailEvenRefIdeal.main_arg17) = m ((c.tc : Thread Cert.TailEvenRefIdeal.nD Cert.TailEvenRefIdeal.τ).loc Cert.TailEvenRefIdeal.main_arg17)
      ∧ r.2.mem ((c.tc : Thread Cert.TailEvenRefIdeal.nD Cert.TailEvenRefIdeal.τ).loc Cert.TailEvenRefIdeal.main_arg18) = m ((c.tc : Thread Cert.TailEvenRefIdeal.nD Cert.TailEvenRefIdeal.τ).loc Cert.TailEvenRefIdeal.main_arg18)
      ∧ r.2.mem ((c.tc : Thread Cert.TailEvenRefIdeal.nD Cert.TailEvenRefIdeal.τ).loc Cert.TailEvenRefIdeal.main_arg19) = m ((c.tc : Thread Cert.TailEvenRefIdeal.nD Cert.TailEvenRefIdeal.τ).loc Cert.TailEvenRefIdeal.main_arg19)
      ∧ r.2.mem ((c.tc : Thread Cert.TailEvenRefIdeal.nD Cert.TailEvenRefIdeal.τ).loc Cert.TailEvenRefIdeal.main_arg20) = m ((c.tc : Thread Cert.TailEvenRefIdeal.nD Cert.TailEvenRefIdeal.τ).loc Cert.TailEvenRefIdeal.main_arg20)
      ∧ r.2.mem ((c.tc : Thread Cert.TailEvenRefIdeal.nD Cert.TailEvenRefIdeal.τ).loc Cert.TailEvenRefIdeal.main_arg21) = m ((c.tc : Thread Cert.TailEvenRefIdeal.nD Cert.TailEvenRefIdeal.τ).loc Cert.TailEvenRefIdeal.main_arg21))
      ∧ r.2.sem = fun _ => 0)

def quiescent_TailEvenRefIdeal_pre_merge_finite [hTailEvenRefIdeal : Cert.TailEvenRefIdeal.Facts] [hPre_merge_finite : Cert.Pre_merge_finite.Facts] : Prop :=
  ∀ (m : (ℓ : Loc Cert.TailEvenRefIdeal.nD Cert.TailEvenRefIdeal.τ Cert.TailEvenRefIdeal.sig) → Buf (Elt Ideal) ℓ) (g : Dev Cert.TailEvenRefIdeal.nD → PrngReg), Pre_TailEvenRefIdeal_merge_finite m →
    θ_run (Cert.TailEvenRefIdeal.defs (F := Ideal)) (onTc (τ := Cert.TailEvenRefIdeal.τ) (Cert.TailEvenRefIdeal.main (F := Ideal))) ⟨m, fun _ => 0, g⟩ (fun r => (∀ c : Dev Cert.TailEvenRefIdeal.nD,
      r.2.mem ((c.tc : Thread Cert.TailEvenRefIdeal.nD Cert.TailEvenRefIdeal.τ).loc Cert.TailEvenRefIdeal.main_arg0) = m ((c.tc : Thread Cert.TailEvenRefIdeal.nD Cert.TailEvenRefIdeal.τ).loc Cert.TailEvenRefIdeal.main_arg0)
      ∧ r.2.mem ((c.tc : Thread Cert.TailEvenRefIdeal.nD Cert.TailEvenRefIdeal.τ).loc Cert.TailEvenRefIdeal.main_arg1) = m ((c.tc : Thread Cert.TailEvenRefIdeal.nD Cert.TailEvenRefIdeal.τ).loc Cert.TailEvenRefIdeal.main_arg1)
      ∧ r.2.mem ((c.tc : Thread Cert.TailEvenRefIdeal.nD Cert.TailEvenRefIdeal.τ).loc Cert.TailEvenRefIdeal.main_arg2) = m ((c.tc : Thread Cert.TailEvenRefIdeal.nD Cert.TailEvenRefIdeal.τ).loc Cert.TailEvenRefIdeal.main_arg2)
      ∧ r.2.mem ((c.tc : Thread Cert.TailEvenRefIdeal.nD Cert.TailEvenRefIdeal.τ).loc Cert.TailEvenRefIdeal.main_arg3) = m ((c.tc : Thread Cert.TailEvenRefIdeal.nD Cert.TailEvenRefIdeal.τ).loc Cert.TailEvenRefIdeal.main_arg3)
      ∧ r.2.mem ((c.tc : Thread Cert.TailEvenRefIdeal.nD Cert.TailEvenRefIdeal.τ).loc Cert.TailEvenRefIdeal.main_arg4) = m ((c.tc : Thread Cert.TailEvenRefIdeal.nD Cert.TailEvenRefIdeal.τ).loc Cert.TailEvenRefIdeal.main_arg4)
      ∧ r.2.mem ((c.tc : Thread Cert.TailEvenRefIdeal.nD Cert.TailEvenRefIdeal.τ).loc Cert.TailEvenRefIdeal.main_arg5) = m ((c.tc : Thread Cert.TailEvenRefIdeal.nD Cert.TailEvenRefIdeal.τ).loc Cert.TailEvenRefIdeal.main_arg5)
      ∧ r.2.mem ((c.tc : Thread Cert.TailEvenRefIdeal.nD Cert.TailEvenRefIdeal.τ).loc Cert.TailEvenRefIdeal.main_arg6) = m ((c.tc : Thread Cert.TailEvenRefIdeal.nD Cert.TailEvenRefIdeal.τ).loc Cert.TailEvenRefIdeal.main_arg6)
      ∧ r.2.mem ((c.tc : Thread Cert.TailEvenRefIdeal.nD Cert.TailEvenRefIdeal.τ).loc Cert.TailEvenRefIdeal.main_arg7) = m ((c.tc : Thread Cert.TailEvenRefIdeal.nD Cert.TailEvenRefIdeal.τ).loc Cert.TailEvenRefIdeal.main_arg7)
      ∧ r.2.mem ((c.tc : Thread Cert.TailEvenRefIdeal.nD Cert.TailEvenRefIdeal.τ).loc Cert.TailEvenRefIdeal.main_arg8) = m ((c.tc : Thread Cert.TailEvenRefIdeal.nD Cert.TailEvenRefIdeal.τ).loc Cert.TailEvenRefIdeal.main_arg8)
      ∧ r.2.mem ((c.tc : Thread Cert.TailEvenRefIdeal.nD Cert.TailEvenRefIdeal.τ).loc Cert.TailEvenRefIdeal.main_arg9) = m ((c.tc : Thread Cert.TailEvenRefIdeal.nD Cert.TailEvenRefIdeal.τ).loc Cert.TailEvenRefIdeal.main_arg9)
      ∧ r.2.mem ((c.tc : Thread Cert.TailEvenRefIdeal.nD Cert.TailEvenRefIdeal.τ).loc Cert.TailEvenRefIdeal.main_arg10) = m ((c.tc : Thread Cert.TailEvenRefIdeal.nD Cert.TailEvenRefIdeal.τ).loc Cert.TailEvenRefIdeal.main_arg10)
      ∧ r.2.mem ((c.tc : Thread Cert.TailEvenRefIdeal.nD Cert.TailEvenRefIdeal.τ).loc Cert.TailEvenRefIdeal.main_arg11) = m ((c.tc : Thread Cert.TailEvenRefIdeal.nD Cert.TailEvenRefIdeal.τ).loc Cert.TailEvenRefIdeal.main_arg11)
      ∧ r.2.mem ((c.tc : Thread Cert.TailEvenRefIdeal.nD Cert.TailEvenRefIdeal.τ).loc Cert.TailEvenRefIdeal.main_arg12) = m ((c.tc : Thread Cert.TailEvenRefIdeal.nD Cert.TailEvenRefIdeal.τ).loc Cert.TailEvenRefIdeal.main_arg12)
      ∧ r.2.mem ((c.tc : Thread Cert.TailEvenRefIdeal.nD Cert.TailEvenRefIdeal.τ).loc Cert.TailEvenRefIdeal.main_arg13) = m ((c.tc : Thread Cert.TailEvenRefIdeal.nD Cert.TailEvenRefIdeal.τ).loc Cert.TailEvenRefIdeal.main_arg13)
      ∧ r.2.mem ((c.tc : Thread Cert.TailEvenRefIdeal.nD Cert.TailEvenRefIdeal.τ).loc Cert.TailEvenRefIdeal.main_arg14) = m ((c.tc : Thread Cert.TailEvenRefIdeal.nD Cert.TailEvenRefIdeal.τ).loc Cert.TailEvenRefIdeal.main_arg14)
      ∧ r.2.mem ((c.tc : Thread Cert.TailEvenRefIdeal.nD Cert.TailEvenRefIdeal.τ).loc Cert.TailEvenRefIdeal.main_arg15) = m ((c.tc : Thread Cert.TailEvenRefIdeal.nD Cert.TailEvenRefIdeal.τ).loc Cert.TailEvenRefIdeal.main_arg15)
      ∧ r.2.mem ((c.tc : Thread Cert.TailEvenRefIdeal.nD Cert.TailEvenRefIdeal.τ).loc Cert.TailEvenRefIdeal.main_arg16) = m ((c.tc : Thread Cert.TailEvenRefIdeal.nD Cert.TailEvenRefIdeal.τ).loc Cert.TailEvenRefIdeal.main_arg16)
      ∧ r.2.mem ((c.tc : Thread Cert.TailEvenRefIdeal.nD Cert.TailEvenRefIdeal.τ).loc Cert.TailEvenRefIdeal.main_arg17) = m ((c.tc : Thread Cert.TailEvenRefIdeal.nD Cert.TailEvenRefIdeal.τ).loc Cert.TailEvenRefIdeal.main_arg17)
      ∧ r.2.mem ((c.tc : Thread Cert.TailEvenRefIdeal.nD Cert.TailEvenRefIdeal.τ).loc Cert.TailEvenRefIdeal.main_arg18) = m ((c.tc : Thread Cert.TailEvenRefIdeal.nD Cert.TailEvenRefIdeal.τ).loc Cert.TailEvenRefIdeal.main_arg18)
      ∧ r.2.mem ((c.tc : Thread Cert.TailEvenRefIdeal.nD Cert.TailEvenRefIdeal.τ).loc Cert.TailEvenRefIdeal.main_arg19) = m ((c.tc : Thread Cert.TailEvenRefIdeal.nD Cert.TailEvenRefIdeal.τ).loc Cert.TailEvenRefIdeal.main_arg19)
      ∧ r.2.mem ((c.tc : Thread Cert.TailEvenRefIdeal.nD Cert.TailEvenRefIdeal.τ).loc Cert.TailEvenRefIdeal.main_arg20) = m ((c.tc : Thread Cert.TailEvenRefIdeal.nD Cert.TailEvenRefIdeal.τ).loc Cert.TailEvenRefIdeal.main_arg20)
      ∧ r.2.mem ((c.tc : Thread Cert.TailEvenRefIdeal.nD Cert.TailEvenRefIdeal.τ).loc Cert.TailEvenRefIdeal.main_arg21) = m ((c.tc : Thread Cert.TailEvenRefIdeal.nD Cert.TailEvenRefIdeal.τ).loc Cert.TailEvenRefIdeal.main_arg21))
      ∧ r.2.sem = fun _ => 0)

def preserves_Swa_SwaIdeal : Prop :=
  IdealRules.named_const.Statement Cert.SwaIdeal.κ "neg" .f32 0xF149F2CA#32 ⊥

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)) →
    ∃ (v0 : (c : Dev Cert.SwaIdeal.nD) → Buf (Elt Ideal) ((c.tc : Thread Cert.SwaIdeal.nD Cert.SwaIdeal.τ).loc Cert.SwaIdeal.main_v0_0)) (v1 : (c : Dev Cert.SwaIdeal.nD) → Buf (Elt Ideal) ((c.tc : Thread Cert.SwaIdeal.nD Cert.SwaIdeal.τ).loc Cert.SwaIdeal.main_v0_1)) (v2 : (c : Dev Cert.SwaIdeal.nD) → Buf (Elt Ideal) ((c.tc : Thread Cert.SwaIdeal.nD Cert.SwaIdeal.τ).loc Cert.SwaIdeal.main_v0_2)) (v3 : (c : Dev Cert.SwaIdeal.nD) → Buf (Elt Ideal) ((c.tc : Thread Cert.SwaIdeal.nD Cert.SwaIdeal.τ).loc Cert.SwaIdeal.main_v0_3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0_0) = v0 c
          ∧ r.2.mem ((c.tc : Thread Cert.SwaIdeal.nD Cert.SwaIdeal.τ).loc Cert.SwaIdeal.main_v0_1) = v1 c
          ∧ r.2.mem ((c.tc : Thread Cert.SwaIdeal.nD Cert.SwaIdeal.τ).loc Cert.SwaIdeal.main_v0_2) = v2 c
          ∧ r.2.mem ((c.tc : Thread Cert.SwaIdeal.nD Cert.SwaIdeal.τ).loc Cert.SwaIdeal.main_v0_3) = v3 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v88) = v0 c
          ∧ r.2.mem ((c.tc : Thread Cert.SwaRefIdeal.nD Cert.SwaRefIdeal.τ).loc Cert.SwaRefIdeal.main_v90) = v1 c
          ∧ r.2.mem ((c.tc : Thread Cert.SwaRefIdeal.nD Cert.SwaRefIdeal.τ).loc Cert.SwaRefIdeal.main_v92) = v2 c
          ∧ r.2.mem ((c.tc : Thread Cert.SwaRefIdeal.nD Cert.SwaRefIdeal.τ).loc Cert.SwaRefIdeal.main_v94) = v3 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0))

def preserves_TailOdd_TailOddIdeal : Prop :=
  True

def algebraic_TailOddIdeal_TailOddRefIdeal [hTailOddIdeal : Cert.TailOddIdeal.Facts] [hTailOddRefIdeal : Cert.TailOddRefIdeal.Facts] : Prop :=
  ∀ (m : (ℓ : Loc Cert.TailOddIdeal.nD Cert.TailOddIdeal.τ Cert.TailOddIdeal.sig) → Buf (Elt Ideal) ℓ) (g : Dev Cert.TailOddIdeal.nD → PrngReg)
    (m' : (ℓ : Loc Cert.TailOddRefIdeal.nD Cert.TailOddRefIdeal.τ Cert.TailOddRefIdeal.sig) → Buf (Elt Ideal) ℓ) (g' : Dev Cert.TailOddRefIdeal.nD → PrngReg), Pre_TailOddIdeal m →
    (∀ c : Dev Cert.TailOddIdeal.nD,
      m' ((c.tc : Thread Cert.TailOddRefIdeal.nD Cert.TailOddRefIdeal.τ).loc Cert.TailOddRefIdeal.main_arg0) = m ((c.tc : Thread Cert.TailOddIdeal.nD Cert.TailOddIdeal.τ).loc Cert.TailOddIdeal.main_arg0)
      ∧ m' ((c.tc : Thread Cert.TailOddRefIdeal.nD Cert.TailOddRefIdeal.τ).loc Cert.TailOddRefIdeal.main_arg1) = m ((c.tc : Thread Cert.TailOddIdeal.nD Cert.TailOddIdeal.τ).loc Cert.TailOddIdeal.main_arg1)
      ∧ m' ((c.tc : Thread Cert.TailOddRefIdeal.nD Cert.TailOddRefIdeal.τ).loc Cert.TailOddRefIdeal.main_arg2) = m ((c.tc : Thread Cert.TailOddIdeal.nD Cert.TailOddIdeal.τ).loc Cert.TailOddIdeal.main_arg2)
      ∧ m' ((c.tc : Thread Cert.TailOddRefIdeal.nD Cert.TailOddRefIdeal.τ).loc Cert.TailOddRefIdeal.main_arg3) = m ((c.tc : Thread Cert.TailOddIdeal.nD Cert.TailOddIdeal.τ).loc Cert.TailOddIdeal.main_arg3)
      ∧ m' ((c.tc : Thread Cert.TailOddRefIdeal.nD Cert.TailOddRefIdeal.τ).loc Cert.TailOddRefIdeal.main_arg4) = m ((c.tc : Thread Cert.TailOddIdeal.nD Cert.TailOddIdeal.τ).loc Cert.TailOddIdeal.main_arg4)
      ∧ m' ((c.tc : Thread Cert.TailOddRefIdeal.nD Cert.TailOddRefIdeal.τ).loc Cert.TailOddRefIdeal.main_arg5) = m ((c.tc : Thread Cert.TailOddIdeal.nD Cert.TailOddIdeal.τ).loc Cert.TailOddIdeal.main_arg5)
      ∧ m' ((c.tc : Thread Cert.TailOddRefIdeal.nD Cert.TailOddRefIdeal.τ).loc Cert.TailOddRefIdeal.main_arg6) = m ((c.tc : Thread Cert.TailOddIdeal.nD Cert.TailOddIdeal.τ).loc Cert.TailOddIdeal.main_arg6)
      ∧ m' ((c.tc : Thread Cert.TailOddRefIdeal.nD Cert.TailOddRefIdeal.τ).loc Cert.TailOddRefIdeal.main_arg7) = m ((c.tc : Thread Cert.TailOddIdeal.nD Cert.TailOddIdeal.τ).loc Cert.TailOddIdeal.main_arg7)
      ∧ m' ((c.tc : Thread Cert.TailOddRefIdeal.nD Cert.TailOddRefIdeal.τ).loc Cert.TailOddRefIdeal.main_arg8) = m ((c.tc : Thread Cert.TailOddIdeal.nD Cert.TailOddIdeal.τ).loc Cert.TailOddIdeal.main_arg8)
      ∧ m' ((c.tc : Thread Cert.TailOddRefIdeal.nD Cert.TailOddRefIdeal.τ).loc Cert.TailOddRefIdeal.main_arg9) = m ((c.tc : Thread Cert.TailOddIdeal.nD Cert.TailOddIdeal.τ).loc Cert.TailOddIdeal.main_arg9)
      ∧ m' ((c.tc : Thread Cert.TailOddRefIdeal.nD Cert.TailOddRefIdeal.τ).loc Cert.TailOddRefIdeal.main_arg10) = m ((c.tc : Thread Cert.TailOddIdeal.nD Cert.TailOddIdeal.τ).loc Cert.TailOddIdeal.main_arg10)) →
    ∃ (v0 : (c : Dev Cert.TailOddIdeal.nD) → Buf (Elt Ideal) ((c.tc : Thread Cert.TailOddIdeal.nD Cert.TailOddIdeal.τ).loc Cert.TailOddIdeal.main_v19)),
      θ_run (Cert.TailOddIdeal.defs (F := Ideal)) (onTc (τ := Cert.TailOddIdeal.τ) (Cert.TailOddIdeal.main (F := Ideal))) ⟨m, fun _ => 0, g⟩ (fun r => ∀ c : Dev Cert.TailOddIdeal.nD,
          r.2.mem ((c.tc : Thread Cert.TailOddIdeal.nD Cert.TailOddIdeal.τ).loc Cert.TailOddIdeal.main_v19) = v0 c
          ∧ r.2.mem ((c.tc : Thread Cert.TailOddIdeal.nD Cert.TailOddIdeal.τ).loc Cert.TailOddIdeal.main_arg0) = m ((c.tc : Thread Cert.TailOddIdeal.nD Cert.TailOddIdeal.τ).loc Cert.TailOddIdeal.main_arg0)
          ∧ r.2.mem ((c.tc : Thread Cert.TailOddIdeal.nD Cert.TailOddIdeal.τ).loc Cert.TailOddIdeal.main_arg1) = m ((c.tc : Thread Cert.TailOddIdeal.nD Cert.TailOddIdeal.τ).loc Cert.TailOddIdeal.main_arg1)
          ∧ r.2.mem ((c.tc : Thread Cert.TailOddIdeal.nD Cert.TailOddIdeal.τ).loc Cert.TailOddIdeal.main_arg2) = m ((c.tc : Thread Cert.TailOddIdeal.nD Cert.TailOddIdeal.τ).loc Cert.TailOddIdeal.main_arg2)
          ∧ r.2.mem ((c.tc : Thread Cert.TailOddIdeal.nD Cert.TailOddIdeal.τ).loc Cert.TailOddIdeal.main_arg3) = m ((c.tc : Thread Cert.TailOddIdeal.nD Cert.TailOddIdeal.τ).loc Cert.TailOddIdeal.main_arg3)
          ∧ r.2.mem ((c.tc : Thread Cert.TailOddIdeal.nD Cert.TailOddIdeal.τ).loc Cert.TailOddIdeal.main_arg4) = m ((c.tc : Thread Cert.TailOddIdeal.nD Cert.TailOddIdeal.τ).loc Cert.TailOddIdeal.main_arg4)
          ∧ r.2.mem ((c.tc : Thread Cert.TailOddIdeal.nD Cert.TailOddIdeal.τ).loc Cert.TailOddIdeal.main_arg5) = m ((c.tc : Thread Cert.TailOddIdeal.nD Cert.TailOddIdeal.τ).loc Cert.TailOddIdeal.main_arg5)
          ∧ r.2.mem ((c.tc : Thread Cert.TailOddIdeal.nD Cert.TailOddIdeal.τ).loc Cert.TailOddIdeal.main_arg6) = m ((c.tc : Thread Cert.TailOddIdeal.nD Cert.TailOddIdeal.τ).loc Cert.TailOddIdeal.main_arg6)
          ∧ r.2.mem ((c.tc : Thread Cert.TailOddIdeal.nD Cert.TailOddIdeal.τ).loc Cert.TailOddIdeal.main_arg7) = m ((c.tc : Thread Cert.TailOddIdeal.nD Cert.TailOddIdeal.τ).loc Cert.TailOddIdeal.main_arg7)
          ∧ r.2.mem ((c.tc : Thread Cert.TailOddIdeal.nD Cert.TailOddIdeal.τ).loc Cert.TailOddIdeal.main_arg8) = m ((c.tc : Thread Cert.TailOddIdeal.nD Cert.TailOddIdeal.τ).loc Cert.TailOddIdeal.main_arg8)
          ∧ r.2.mem ((c.tc : Thread Cert.TailOddIdeal.nD Cert.TailOddIdeal.τ).loc Cert.TailOddIdeal.main_arg9) = m ((c.tc : Thread Cert.TailOddIdeal.nD Cert.TailOddIdeal.τ).loc Cert.TailOddIdeal.main_arg9)
          ∧ r.2.mem ((c.tc : Thread Cert.TailOddIdeal.nD Cert.TailOddIdeal.τ).loc Cert.TailOddIdeal.main_arg10) = m ((c.tc : Thread Cert.TailOddIdeal.nD Cert.TailOddIdeal.τ).loc Cert.TailOddIdeal.main_arg10))
      ∧ θ_run (Cert.TailOddRefIdeal.defs (F := Ideal)) (onTc (τ := Cert.TailOddRefIdeal.τ) (Cert.TailOddRefIdeal.main (F := Ideal))) ⟨m', fun _ => 0, g'⟩ (fun r => ∀ c : Dev Cert.TailOddRefIdeal.nD,
          r.2.mem ((c.tc : Thread Cert.TailOddRefIdeal.nD Cert.TailOddRefIdeal.τ).loc Cert.TailOddRefIdeal.main_v77) = v0 c
          ∧ r.2.mem ((c.tc : Thread Cert.TailOddRefIdeal.nD Cert.TailOddRefIdeal.τ).loc Cert.TailOddRefIdeal.main_arg0) = m' ((c.tc : Thread Cert.TailOddRefIdeal.nD Cert.TailOddRefIdeal.τ).loc Cert.TailOddRefIdeal.main_arg0)
          ∧ r.2.mem ((c.tc : Thread Cert.TailOddRefIdeal.nD Cert.TailOddRefIdeal.τ).loc Cert.TailOddRefIdeal.main_arg1) = m' ((c.tc : Thread Cert.TailOddRefIdeal.nD Cert.TailOddRefIdeal.τ).loc Cert.TailOddRefIdeal.main_arg1)
          ∧ r.2.mem ((c.tc : Thread Cert.TailOddRefIdeal.nD Cert.TailOddRefIdeal.τ).loc Cert.TailOddRefIdeal.main_arg2) = m' ((c.tc : Thread Cert.TailOddRefIdeal.nD Cert.TailOddRefIdeal.τ).loc Cert.TailOddRefIdeal.main_arg2)
          ∧ r.2.mem ((c.tc : Thread Cert.TailOddRefIdeal.nD Cert.TailOddRefIdeal.τ).loc Cert.TailOddRefIdeal.main_arg3) = m' ((c.tc : Thread Cert.TailOddRefIdeal.nD Cert.TailOddRefIdeal.τ).loc Cert.TailOddRefIdeal.main_arg3)
          ∧ r.2.mem ((c.tc : Thread Cert.TailOddRefIdeal.nD Cert.TailOddRefIdeal.τ).loc Cert.TailOddRefIdeal.main_arg4) = m' ((c.tc : Thread Cert.TailOddRefIdeal.nD Cert.TailOddRefIdeal.τ).loc Cert.TailOddRefIdeal.main_arg4)
          ∧ r.2.mem ((c.tc : Thread Cert.TailOddRefIdeal.nD Cert.TailOddRefIdeal.τ).loc Cert.TailOddRefIdeal.main_arg5) = m' ((c.tc : Thread Cert.TailOddRefIdeal.nD Cert.TailOddRefIdeal.τ).loc Cert.TailOddRefIdeal.main_arg5)
          ∧ r.2.mem ((c.tc : Thread Cert.TailOddRefIdeal.nD Cert.TailOddRefIdeal.τ).loc Cert.TailOddRefIdeal.main_arg6) = m' ((c.tc : Thread Cert.TailOddRefIdeal.nD Cert.TailOddRefIdeal.τ).loc Cert.TailOddRefIdeal.main_arg6)
          ∧ r.2.mem ((c.tc : Thread Cert.TailOddRefIdeal.nD Cert.TailOddRefIdeal.τ).loc Cert.TailOddRefIdeal.main_arg7) = m' ((c.tc : Thread Cert.TailOddRefIdeal.nD Cert.TailOddRefIdeal.τ).loc Cert.TailOddRefIdeal.main_arg7)
          ∧ r.2.mem ((c.tc : Thread Cert.TailOddRefIdeal.nD Cert.TailOddRefIdeal.τ).loc Cert.TailOddRefIdeal.main_arg8) = m' ((c.tc : Thread Cert.TailOddRefIdeal.nD Cert.TailOddRefIdeal.τ).loc Cert.TailOddRefIdeal.main_arg8)
          ∧ r.2.mem ((c.tc : Thread Cert.TailOddRefIdeal.nD Cert.TailOddRefIdeal.τ).loc Cert.TailOddRefIdeal.main_arg9) = m' ((c.tc : Thread Cert.TailOddRefIdeal.nD Cert.TailOddRefIdeal.τ).loc Cert.TailOddRefIdeal.main_arg9)
          ∧ r.2.mem ((c.tc : Thread Cert.TailOddRefIdeal.nD Cert.TailOddRefIdeal.τ).loc Cert.TailOddRefIdeal.main_arg10) = m' ((c.tc : Thread Cert.TailOddRefIdeal.nD Cert.TailOddRefIdeal.τ).loc Cert.TailOddRefIdeal.main_arg10))

def preserves_TailEven_TailEvenIdeal : Prop :=
  True

def algebraic_TailEvenIdeal_TailEvenRefIdeal_pre_merge_finite [hTailEvenIdeal : Cert.TailEvenIdeal.Facts] [hTailEvenRefIdeal : Cert.TailEvenRefIdeal.Facts] [hPre_merge_finite : Cert.Pre_merge_finite.Facts] : Prop :=
  ∀ (m : (ℓ : Loc Cert.TailEvenIdeal.nD Cert.TailEvenIdeal.τ Cert.TailEvenIdeal.sig) → Buf (Elt Ideal) ℓ) (g : Dev Cert.TailEvenIdeal.nD → PrngReg)
    (m' : (ℓ : Loc Cert.TailEvenRefIdeal.nD Cert.TailEvenRefIdeal.τ Cert.TailEvenRefIdeal.sig) → Buf (Elt Ideal) ℓ) (g' : Dev Cert.TailEvenRefIdeal.nD → PrngReg), Pre_TailEvenIdeal_merge_finite m →
    (∀ c : Dev Cert.TailEvenIdeal.nD,
      m' ((c.tc : Thread Cert.TailEvenRefIdeal.nD Cert.TailEvenRefIdeal.τ).loc Cert.TailEvenRefIdeal.main_arg0) = m ((c.tc : Thread Cert.TailEvenIdeal.nD Cert.TailEvenIdeal.τ).loc Cert.TailEvenIdeal.main_arg0)
      ∧ m' ((c.tc : Thread Cert.TailEvenRefIdeal.nD Cert.TailEvenRefIdeal.τ).loc Cert.TailEvenRefIdeal.main_arg1) = m ((c.tc : Thread Cert.TailEvenIdeal.nD Cert.TailEvenIdeal.τ).loc Cert.TailEvenIdeal.main_arg1)
      ∧ m' ((c.tc : Thread Cert.TailEvenRefIdeal.nD Cert.TailEvenRefIdeal.τ).loc Cert.TailEvenRefIdeal.main_arg2) = m ((c.tc : Thread Cert.TailEvenIdeal.nD Cert.TailEvenIdeal.τ).loc Cert.TailEvenIdeal.main_arg2)
      ∧ m' ((c.tc : Thread Cert.TailEvenRefIdeal.nD Cert.TailEvenRefIdeal.τ).loc Cert.TailEvenRefIdeal.main_arg3) = m ((c.tc : Thread Cert.TailEvenIdeal.nD Cert.TailEvenIdeal.τ).loc Cert.TailEvenIdeal.main_arg3)
      ∧ m' ((c.tc : Thread Cert.TailEvenRefIdeal.nD Cert.TailEvenRefIdeal.τ).loc Cert.TailEvenRefIdeal.main_arg4) = m ((c.tc : Thread Cert.TailEvenIdeal.nD Cert.TailEvenIdeal.τ).loc Cert.TailEvenIdeal.main_arg4)
      ∧ m' ((c.tc : Thread Cert.TailEvenRefIdeal.nD Cert.TailEvenRefIdeal.τ).loc Cert.TailEvenRefIdeal.main_arg5) = m ((c.tc : Thread Cert.TailEvenIdeal.nD Cert.TailEvenIdeal.τ).loc Cert.TailEvenIdeal.main_arg5)
      ∧ m' ((c.tc : Thread Cert.TailEvenRefIdeal.nD Cert.TailEvenRefIdeal.τ).loc Cert.TailEvenRefIdeal.main_arg6) = m ((c.tc : Thread Cert.TailEvenIdeal.nD Cert.TailEvenIdeal.τ).loc Cert.TailEvenIdeal.main_arg6)
      ∧ m' ((c.tc : Thread Cert.TailEvenRefIdeal.nD Cert.TailEvenRefIdeal.τ).loc Cert.TailEvenRefIdeal.main_arg7) = m ((c.tc : Thread Cert.TailEvenIdeal.nD Cert.TailEvenIdeal.τ).loc Cert.TailEvenIdeal.main_arg7)
      ∧ m' ((c.tc : Thread Cert.TailEvenRefIdeal.nD Cert.TailEvenRefIdeal.τ).loc Cert.TailEvenRefIdeal.main_arg8) = m ((c.tc : Thread Cert.TailEvenIdeal.nD Cert.TailEvenIdeal.τ).loc Cert.TailEvenIdeal.main_arg8)
      ∧ m' ((c.tc : Thread Cert.TailEvenRefIdeal.nD Cert.TailEvenRefIdeal.τ).loc Cert.TailEvenRefIdeal.main_arg9) = m ((c.tc : Thread Cert.TailEvenIdeal.nD Cert.TailEvenIdeal.τ).loc Cert.TailEvenIdeal.main_arg9)
      ∧ m' ((c.tc : Thread Cert.TailEvenRefIdeal.nD Cert.TailEvenRefIdeal.τ).loc Cert.TailEvenRefIdeal.main_arg10) = m ((c.tc : Thread Cert.TailEvenIdeal.nD Cert.TailEvenIdeal.τ).loc Cert.TailEvenIdeal.main_arg10)
      ∧ m' ((c.tc : Thread Cert.TailEvenRefIdeal.nD Cert.TailEvenRefIdeal.τ).loc Cert.TailEvenRefIdeal.main_arg11) = m ((c.tc : Thread Cert.TailEvenIdeal.nD Cert.TailEvenIdeal.τ).loc Cert.TailEvenIdeal.main_arg11)
      ∧ m' ((c.tc : Thread Cert.TailEvenRefIdeal.nD Cert.TailEvenRefIdeal.τ).loc Cert.TailEvenRefIdeal.main_arg12) = m ((c.tc : Thread Cert.TailEvenIdeal.nD Cert.TailEvenIdeal.τ).loc Cert.TailEvenIdeal.main_arg12)
      ∧ m' ((c.tc : Thread Cert.TailEvenRefIdeal.nD Cert.TailEvenRefIdeal.τ).loc Cert.TailEvenRefIdeal.main_arg13) = m ((c.tc : Thread Cert.TailEvenIdeal.nD Cert.TailEvenIdeal.τ).loc Cert.TailEvenIdeal.main_arg13)
      ∧ m' ((c.tc : Thread Cert.TailEvenRefIdeal.nD Cert.TailEvenRefIdeal.τ).loc Cert.TailEvenRefIdeal.main_arg14) = m ((c.tc : Thread Cert.TailEvenIdeal.nD Cert.TailEvenIdeal.τ).loc Cert.TailEvenIdeal.main_arg14)
      ∧ m' ((c.tc : Thread Cert.TailEvenRefIdeal.nD Cert.TailEvenRefIdeal.τ).loc Cert.TailEvenRefIdeal.main_arg15) = m ((c.tc : Thread Cert.TailEvenIdeal.nD Cert.TailEvenIdeal.τ).loc Cert.TailEvenIdeal.main_arg15)
      ∧ m' ((c.tc : Thread Cert.TailEvenRefIdeal.nD Cert.TailEvenRefIdeal.τ).loc Cert.TailEvenRefIdeal.main_arg16) = m ((c.tc : Thread Cert.TailEvenIdeal.nD Cert.TailEvenIdeal.τ).loc Cert.TailEvenIdeal.main_arg16)
      ∧ m' ((c.tc : Thread Cert.TailEvenRefIdeal.nD Cert.TailEvenRefIdeal.τ).loc Cert.TailEvenRefIdeal.main_arg17) = m ((c.tc : Thread Cert.TailEvenIdeal.nD Cert.TailEvenIdeal.τ).loc Cert.TailEvenIdeal.main_arg17)
      ∧ m' ((c.tc : Thread Cert.TailEvenRefIdeal.nD Cert.TailEvenRefIdeal.τ).loc Cert.TailEvenRefIdeal.main_arg18) = m ((c.tc : Thread Cert.TailEvenIdeal.nD Cert.TailEvenIdeal.τ).loc Cert.TailEvenIdeal.main_arg18)
      ∧ m' ((c.tc : Thread Cert.TailEvenRefIdeal.nD Cert.TailEvenRefIdeal.τ).loc Cert.TailEvenRefIdeal.main_arg19) = m ((c.tc : Thread Cert.TailEvenIdeal.nD Cert.TailEvenIdeal.τ).loc Cert.TailEvenIdeal.main_arg19)
      ∧ m' ((c.tc : Thread Cert.TailEvenRefIdeal.nD Cert.TailEvenRefIdeal.τ).loc Cert.TailEvenRefIdeal.main_arg20) = m ((c.tc : Thread Cert.TailEvenIdeal.nD Cert.TailEvenIdeal.τ).loc Cert.TailEvenIdeal.main_arg20)
      ∧ m' ((c.tc : Thread Cert.TailEvenRefIdeal.nD Cert.TailEvenRefIdeal.τ).loc Cert.TailEvenRefIdeal.main_arg21) = m ((c.tc : Thread Cert.TailEvenIdeal.nD Cert.TailEvenIdeal.τ).loc Cert.TailEvenIdeal.main_arg21)) →
    ∃ (v0 : (c : Dev Cert.TailEvenIdeal.nD) → Buf (Elt Ideal) ((c.tc : Thread Cert.TailEvenIdeal.nD Cert.TailEvenIdeal.τ).loc Cert.TailEvenIdeal.main_v19)),
      θ_run (Cert.TailEvenIdeal.defs (F := Ideal)) (onTc (τ := Cert.TailEvenIdeal.τ) (Cert.TailEvenIdeal.main (F := Ideal))) ⟨m, fun _ => 0, g⟩ (fun r => ∀ c : Dev Cert.TailEvenIdeal.nD,
          r.2.mem ((c.tc : Thread Cert.TailEvenIdeal.nD Cert.TailEvenIdeal.τ).loc Cert.TailEvenIdeal.main_v19) = v0 c
          ∧ r.2.mem ((c.tc : Thread Cert.TailEvenIdeal.nD Cert.TailEvenIdeal.τ).loc Cert.TailEvenIdeal.main_arg0) = m ((c.tc : Thread Cert.TailEvenIdeal.nD Cert.TailEvenIdeal.τ).loc Cert.TailEvenIdeal.main_arg0)
          ∧ r.2.mem ((c.tc : Thread Cert.TailEvenIdeal.nD Cert.TailEvenIdeal.τ).loc Cert.TailEvenIdeal.main_arg1) = m ((c.tc : Thread Cert.TailEvenIdeal.nD Cert.TailEvenIdeal.τ).loc Cert.TailEvenIdeal.main_arg1)
          ∧ r.2.mem ((c.tc : Thread Cert.TailEvenIdeal.nD Cert.TailEvenIdeal.τ).loc Cert.TailEvenIdeal.main_arg2) = m ((c.tc : Thread Cert.TailEvenIdeal.nD Cert.TailEvenIdeal.τ).loc Cert.TailEvenIdeal.main_arg2)
          ∧ r.2.mem ((c.tc : Thread Cert.TailEvenIdeal.nD Cert.TailEvenIdeal.τ).loc Cert.TailEvenIdeal.main_arg3) = m ((c.tc : Thread Cert.TailEvenIdeal.nD Cert.TailEvenIdeal.τ).loc Cert.TailEvenIdeal.main_arg3)
          ∧ r.2.mem ((c.tc : Thread Cert.TailEvenIdeal.nD Cert.TailEvenIdeal.τ).loc Cert.TailEvenIdeal.main_arg4) = m ((c.tc : Thread Cert.TailEvenIdeal.nD Cert.TailEvenIdeal.τ).loc Cert.TailEvenIdeal.main_arg4)
          ∧ r.2.mem ((c.tc : Thread Cert.TailEvenIdeal.nD Cert.TailEvenIdeal.τ).loc Cert.TailEvenIdeal.main_arg5) = m ((c.tc : Thread Cert.TailEvenIdeal.nD Cert.TailEvenIdeal.τ).loc Cert.TailEvenIdeal.main_arg5)
          ∧ r.2.mem ((c.tc : Thread Cert.TailEvenIdeal.nD Cert.TailEvenIdeal.τ).loc Cert.TailEvenIdeal.main_arg6) = m ((c.tc : Thread Cert.TailEvenIdeal.nD Cert.TailEvenIdeal.τ).loc Cert.TailEvenIdeal.main_arg6)
          ∧ r.2.mem ((c.tc : Thread Cert.TailEvenIdeal.nD Cert.TailEvenIdeal.τ).loc Cert.TailEvenIdeal.main_arg7) = m ((c.tc : Thread Cert.TailEvenIdeal.nD Cert.TailEvenIdeal.τ).loc Cert.TailEvenIdeal.main_arg7)
          ∧ r.2.mem ((c.tc : Thread Cert.TailEvenIdeal.nD Cert.TailEvenIdeal.τ).loc Cert.TailEvenIdeal.main_arg8) = m ((c.tc : Thread Cert.TailEvenIdeal.nD Cert.TailEvenIdeal.τ).loc Cert.TailEvenIdeal.main_arg8)
          ∧ r.2.mem ((c.tc : Thread Cert.TailEvenIdeal.nD Cert.TailEvenIdeal.τ).loc Cert.TailEvenIdeal.main_arg9) = m ((c.tc : Thread Cert.TailEvenIdeal.nD Cert.TailEvenIdeal.τ).loc Cert.TailEvenIdeal.main_arg9)
          ∧ r.2.mem ((c.tc : Thread Cert.TailEvenIdeal.nD Cert.TailEvenIdeal.τ).loc Cert.TailEvenIdeal.main_arg10) = m ((c.tc : Thread Cert.TailEvenIdeal.nD Cert.TailEvenIdeal.τ).loc Cert.TailEvenIdeal.main_arg10)
          ∧ r.2.mem ((c.tc : Thread Cert.TailEvenIdeal.nD Cert.TailEvenIdeal.τ).loc Cert.TailEvenIdeal.main_arg11) = m ((c.tc : Thread Cert.TailEvenIdeal.nD Cert.TailEvenIdeal.τ).loc Cert.TailEvenIdeal.main_arg11)
          ∧ r.2.mem ((c.tc : Thread Cert.TailEvenIdeal.nD Cert.TailEvenIdeal.τ).loc Cert.TailEvenIdeal.main_arg12) = m ((c.tc : Thread Cert.TailEvenIdeal.nD Cert.TailEvenIdeal.τ).loc Cert.TailEvenIdeal.main_arg12)
          ∧ r.2.mem ((c.tc : Thread Cert.TailEvenIdeal.nD Cert.TailEvenIdeal.τ).loc Cert.TailEvenIdeal.main_arg13) = m ((c.tc : Thread Cert.TailEvenIdeal.nD Cert.TailEvenIdeal.τ).loc Cert.TailEvenIdeal.main_arg13)
          ∧ r.2.mem ((c.tc : Thread Cert.TailEvenIdeal.nD Cert.TailEvenIdeal.τ).loc Cert.TailEvenIdeal.main_arg14) = m ((c.tc : Thread Cert.TailEvenIdeal.nD Cert.TailEvenIdeal.τ).loc Cert.TailEvenIdeal.main_arg14)
          ∧ r.2.mem ((c.tc : Thread Cert.TailEvenIdeal.nD Cert.TailEvenIdeal.τ).loc Cert.TailEvenIdeal.main_arg15) = m ((c.tc : Thread Cert.TailEvenIdeal.nD Cert.TailEvenIdeal.τ).loc Cert.TailEvenIdeal.main_arg15)
          ∧ r.2.mem ((c.tc : Thread Cert.TailEvenIdeal.nD Cert.TailEvenIdeal.τ).loc Cert.TailEvenIdeal.main_arg16) = m ((c.tc : Thread Cert.TailEvenIdeal.nD Cert.TailEvenIdeal.τ).loc Cert.TailEvenIdeal.main_arg16)
          ∧ r.2.mem ((c.tc : Thread Cert.TailEvenIdeal.nD Cert.TailEvenIdeal.τ).loc Cert.TailEvenIdeal.main_arg17) = m ((c.tc : Thread Cert.TailEvenIdeal.nD Cert.TailEvenIdeal.τ).loc Cert.TailEvenIdeal.main_arg17)
          ∧ r.2.mem ((c.tc : Thread Cert.TailEvenIdeal.nD Cert.TailEvenIdeal.τ).loc Cert.TailEvenIdeal.main_arg18) = m ((c.tc : Thread Cert.TailEvenIdeal.nD Cert.TailEvenIdeal.τ).loc Cert.TailEvenIdeal.main_arg18)
          ∧ r.2.mem ((c.tc : Thread Cert.TailEvenIdeal.nD Cert.TailEvenIdeal.τ).loc Cert.TailEvenIdeal.main_arg19) = m ((c.tc : Thread Cert.TailEvenIdeal.nD Cert.TailEvenIdeal.τ).loc Cert.TailEvenIdeal.main_arg19)
          ∧ r.2.mem ((c.tc : Thread Cert.TailEvenIdeal.nD Cert.TailEvenIdeal.τ).loc Cert.TailEvenIdeal.main_arg20) = m ((c.tc : Thread Cert.TailEvenIdeal.nD Cert.TailEvenIdeal.τ).loc Cert.TailEvenIdeal.main_arg20)
          ∧ r.2.mem ((c.tc : Thread Cert.TailEvenIdeal.nD Cert.TailEvenIdeal.τ).loc Cert.TailEvenIdeal.main_arg21) = m ((c.tc : Thread Cert.TailEvenIdeal.nD Cert.TailEvenIdeal.τ).loc Cert.TailEvenIdeal.main_arg21))
      ∧ θ_run (Cert.TailEvenRefIdeal.defs (F := Ideal)) (onTc (τ := Cert.TailEvenRefIdeal.τ) (Cert.TailEvenRefIdeal.main (F := Ideal))) ⟨m', fun _ => 0, g'⟩ (fun r => ∀ c : Dev Cert.TailEvenRefIdeal.nD,
          r.2.mem ((c.tc : Thread Cert.TailEvenRefIdeal.nD Cert.TailEvenRefIdeal.τ).loc Cert.TailEvenRefIdeal.main_v103) = v0 c
          ∧ r.2.mem ((c.tc : Thread Cert.TailEvenRefIdeal.nD Cert.TailEvenRefIdeal.τ).loc Cert.TailEvenRefIdeal.main_arg0) = m' ((c.tc : Thread Cert.TailEvenRefIdeal.nD Cert.TailEvenRefIdeal.τ).loc Cert.TailEvenRefIdeal.main_arg0)
          ∧ r.2.mem ((c.tc : Thread Cert.TailEvenRefIdeal.nD Cert.TailEvenRefIdeal.τ).loc Cert.TailEvenRefIdeal.main_arg1) = m' ((c.tc : Thread Cert.TailEvenRefIdeal.nD Cert.TailEvenRefIdeal.τ).loc Cert.TailEvenRefIdeal.main_arg1)
          ∧ r.2.mem ((c.tc : Thread Cert.TailEvenRefIdeal.nD Cert.TailEvenRefIdeal.τ).loc Cert.TailEvenRefIdeal.main_arg2) = m' ((c.tc : Thread Cert.TailEvenRefIdeal.nD Cert.TailEvenRefIdeal.τ).loc Cert.TailEvenRefIdeal.main_arg2)
          ∧ r.2.mem ((c.tc : Thread Cert.TailEvenRefIdeal.nD Cert.TailEvenRefIdeal.τ).loc Cert.TailEvenRefIdeal.main_arg3) = m' ((c.tc : Thread Cert.TailEvenRefIdeal.nD Cert.TailEvenRefIdeal.τ).loc Cert.TailEvenRefIdeal.main_arg3)
          ∧ r.2.mem ((c.tc : Thread Cert.TailEvenRefIdeal.nD Cert.TailEvenRefIdeal.τ).loc Cert.TailEvenRefIdeal.main_arg4) = m' ((c.tc : Thread Cert.TailEvenRefIdeal.nD Cert.TailEvenRefIdeal.τ).loc Cert.TailEvenRefIdeal.main_arg4)
          ∧ r.2.mem ((c.tc : Thread Cert.TailEvenRefIdeal.nD Cert.TailEvenRefIdeal.τ).loc Cert.TailEvenRefIdeal.main_arg5) = m' ((c.tc : Thread Cert.TailEvenRefIdeal.nD Cert.TailEvenRefIdeal.τ).loc Cert.TailEvenRefIdeal.main_arg5)
          ∧ r.2.mem ((c.tc : Thread Cert.TailEvenRefIdeal.nD Cert.TailEvenRefIdeal.τ).loc Cert.TailEvenRefIdeal.main_arg6) = m' ((c.tc : Thread Cert.TailEvenRefIdeal.nD Cert.TailEvenRefIdeal.τ).loc Cert.TailEvenRefIdeal.main_arg6)
          ∧ r.2.mem ((c.tc : Thread Cert.TailEvenRefIdeal.nD Cert.TailEvenRefIdeal.τ).loc Cert.TailEvenRefIdeal.main_arg7) = m' ((c.tc : Thread Cert.TailEvenRefIdeal.nD Cert.TailEvenRefIdeal.τ).loc Cert.TailEvenRefIdeal.main_arg7)
          ∧ r.2.mem ((c.tc : Thread Cert.TailEvenRefIdeal.nD Cert.TailEvenRefIdeal.τ).loc Cert.TailEvenRefIdeal.main_arg8) = m' ((c.tc : Thread Cert.TailEvenRefIdeal.nD Cert.TailEvenRefIdeal.τ).loc Cert.TailEvenRefIdeal.main_arg8)
          ∧ r.2.mem ((c.tc : Thread Cert.TailEvenRefIdeal.nD Cert.TailEvenRefIdeal.τ).loc Cert.TailEvenRefIdeal.main_arg9) = m' ((c.tc : Thread Cert.TailEvenRefIdeal.nD Cert.TailEvenRefIdeal.τ).loc Cert.TailEvenRefIdeal.main_arg9)
          ∧ r.2.mem ((c.tc : Thread Cert.TailEvenRefIdeal.nD Cert.TailEvenRefIdeal.τ).loc Cert.TailEvenRefIdeal.main_arg10) = m' ((c.tc : Thread Cert.TailEvenRefIdeal.nD Cert.TailEvenRefIdeal.τ).loc Cert.TailEvenRefIdeal.main_arg10)
          ∧ r.2.mem ((c.tc : Thread Cert.TailEvenRefIdeal.nD Cert.TailEvenRefIdeal.τ).loc Cert.TailEvenRefIdeal.main_arg11) = m' ((c.tc : Thread Cert.TailEvenRefIdeal.nD Cert.TailEvenRefIdeal.τ).loc Cert.TailEvenRefIdeal.main_arg11)
          ∧ r.2.mem ((c.tc : Thread Cert.TailEvenRefIdeal.nD Cert.TailEvenRefIdeal.τ).loc Cert.TailEvenRefIdeal.main_arg12) = m' ((c.tc : Thread Cert.TailEvenRefIdeal.nD Cert.TailEvenRefIdeal.τ).loc Cert.TailEvenRefIdeal.main_arg12)
          ∧ r.2.mem ((c.tc : Thread Cert.TailEvenRefIdeal.nD Cert.TailEvenRefIdeal.τ).loc Cert.TailEvenRefIdeal.main_arg13) = m' ((c.tc : Thread Cert.TailEvenRefIdeal.nD Cert.TailEvenRefIdeal.τ).loc Cert.TailEvenRefIdeal.main_arg13)
          ∧ r.2.mem ((c.tc : Thread Cert.TailEvenRefIdeal.nD Cert.TailEvenRefIdeal.τ).loc Cert.TailEvenRefIdeal.main_arg14) = m' ((c.tc : Thread Cert.TailEvenRefIdeal.nD Cert.TailEvenRefIdeal.τ).loc Cert.TailEvenRefIdeal.main_arg14)
          ∧ r.2.mem ((c.tc : Thread Cert.TailEvenRefIdeal.nD Cert.TailEvenRefIdeal.τ).loc Cert.TailEvenRefIdeal.main_arg15) = m' ((c.tc : Thread Cert.TailEvenRefIdeal.nD Cert.TailEvenRefIdeal.τ).loc Cert.TailEvenRefIdeal.main_arg15)
          ∧ r.2.mem ((c.tc : Thread Cert.TailEvenRefIdeal.nD Cert.TailEvenRefIdeal.τ).loc Cert.TailEvenRefIdeal.main_arg16) = m' ((c.tc : Thread Cert.TailEvenRefIdeal.nD Cert.TailEvenRefIdeal.τ).loc Cert.TailEvenRefIdeal.main_arg16)
          ∧ r.2.mem ((c.tc : Thread Cert.TailEvenRefIdeal.nD Cert.TailEvenRefIdeal.τ).loc Cert.TailEvenRefIdeal.main_arg17) = m' ((c.tc : Thread Cert.TailEvenRefIdeal.nD Cert.TailEvenRefIdeal.τ).loc Cert.TailEvenRefIdeal.main_arg17)
          ∧ r.2.mem ((c.tc : Thread Cert.TailEvenRefIdeal.nD Cert.TailEvenRefIdeal.τ).loc Cert.TailEvenRefIdeal.main_arg18) = m' ((c.tc : Thread Cert.TailEvenRefIdeal.nD Cert.TailEvenRefIdeal.τ).loc Cert.TailEvenRefIdeal.main_arg18)
          ∧ r.2.mem ((c.tc : Thread Cert.TailEvenRefIdeal.nD Cert.TailEvenRefIdeal.τ).loc Cert.TailEvenRefIdeal.main_arg19) = m' ((c.tc : Thread Cert.TailEvenRefIdeal.nD Cert.TailEvenRefIdeal.τ).loc Cert.TailEvenRefIdeal.main_arg19)
          ∧ r.2.mem ((c.tc : Thread Cert.TailEvenRefIdeal.nD Cert.TailEvenRefIdeal.τ).loc Cert.TailEvenRefIdeal.main_arg20) = m' ((c.tc : Thread Cert.TailEvenRefIdeal.nD Cert.TailEvenRefIdeal.τ).loc Cert.TailEvenRefIdeal.main_arg20)
          ∧ r.2.mem ((c.tc : Thread Cert.TailEvenRefIdeal.nD Cert.TailEvenRefIdeal.τ).loc Cert.TailEvenRefIdeal.main_arg21) = m' ((c.tc : Thread Cert.TailEvenRefIdeal.nD Cert.TailEvenRefIdeal.τ).loc Cert.TailEvenRefIdeal.main_arg21))

def Claim : Prop :=
  ∃ (hSwa : Cert.Swa.Facts) (hSwaIdeal : Cert.SwaIdeal.Facts) (hSwaRefIdeal : Cert.SwaRefIdeal.Facts) (hTailOdd : Cert.TailOdd.Facts) (hTailOddIdeal : Cert.TailOddIdeal.Facts) (hTailOddRefIdeal : Cert.TailOddRefIdeal.Facts) (hTailEven : Cert.TailEven.Facts) (hTailEvenIdeal : Cert.TailEvenIdeal.Facts) (hTailEvenRefIdeal : Cert.TailEvenRefIdeal.Facts) (hPre_merge_finite : Cert.Pre_merge_finite.Facts),
    quiescent_Swa (hSwa := hSwa)
    ∧ quiescent_SwaIdeal (hSwaIdeal := hSwaIdeal)
    ∧ quiescent_SwaRefIdeal (hSwaRefIdeal := hSwaRefIdeal)
    ∧ quiescent_TailOdd (hTailOdd := hTailOdd)
    ∧ quiescent_TailOddIdeal (hTailOddIdeal := hTailOddIdeal)
    ∧ quiescent_TailOddRefIdeal (hTailOddRefIdeal := hTailOddRefIdeal)
    ∧ quiescent_TailEven (hTailEven := hTailEven)
    ∧ quiescent_TailEvenIdeal (hTailEvenIdeal := hTailEvenIdeal)
    ∧ quiescent_TailEvenIdeal_pre_merge_finite (hTailEvenIdeal := hTailEvenIdeal) (hPre_merge_finite := hPre_merge_finite)
    ∧ quiescent_TailEvenRefIdeal (hTailEvenRefIdeal := hTailEvenRefIdeal)
    ∧ quiescent_TailEvenRefIdeal_pre_merge_finite (hTailEvenRefIdeal := hTailEvenRefIdeal) (hPre_merge_finite := hPre_merge_finite)
    ∧ preserves_Swa_SwaIdeal
    ∧ algebraic_SwaIdeal_SwaRefIdeal (hSwaIdeal := hSwaIdeal) (hSwaRefIdeal := hSwaRefIdeal)
    ∧ preserves_TailOdd_TailOddIdeal
    ∧ algebraic_TailOddIdeal_TailOddRefIdeal (hTailOddIdeal := hTailOddIdeal) (hTailOddRefIdeal := hTailOddRefIdeal)
    ∧ preserves_TailEven_TailEvenIdeal
    ∧ algebraic_TailEvenIdeal_TailEvenRefIdeal_pre_merge_finite (hTailEvenIdeal := hTailEvenIdeal) (hTailEvenRefIdeal := hTailEvenRefIdeal) (hPre_merge_finite := hPre_merge_finite)
-- ==== Pre_merge_finite.lean ====
abbrev S4x8192x1024 : Shape := ⟨3, ![4, 8192, 1024]⟩
abbrev S4x1x6144 : Shape := ⟨3, ![4, 1, 6144]⟩
abbrev S4x8192x512 : Shape := ⟨3, ![4, 8192, 512]⟩
abbrev S4x8192x128 : Shape := ⟨3, ![4, 8192, 128]⟩
abbrev S2x1024 : Shape := ⟨2, ![2, 1024]⟩
abbrev S768x1024 : Shape := ⟨2, ![768, 1024]⟩
abbrev S2x1024x2816 : Shape := ⟨3, ![2, 1024, 2816]⟩
abbrev S2x2816x1024 : Shape := ⟨3, ![2, 2816, 1024]⟩
abbrev S_ : Shape := ⟨0, ![]⟩

class Facts : Prop where
  bcast_S_S4x8192x128 : S_.BroadcastsInDim S4x8192x128 (![] : Fin 0 → Fin S4x8192x128.rank)

variable [Facts]

def fn {F : FTy → Type} [FloatOps F] (main_arg0 : FVec F S4x8192x1024 .f32) (main_arg1 : FVec F S4x1x6144 .f32) (main_arg2 : FVec F S4x8192x512 .bf16) (main_arg3 : FVec F S4x8192x128 .f32) (main_arg4 : FVec F S4x8192x128 .f32) (main_arg5 : FVec F S4x8192x128 .f32) (main_arg6 : FVec F S4x8192x128 .f32) (main_arg7 : FVec F S4x8192x128 .f32) (main_arg8 : FVec F S4x8192x128 .f32) (main_arg9 : FVec F S4x8192x128 .f32) (main_arg10 : FVec F S4x8192x128 .f32) (main_arg11 : FVec F S4x8192x128 .f32) (main_arg12 : FVec F S4x8192x128 .f32) (main_arg13 : FVec F S4x8192x128 .f32) (main_arg14 : FVec F S4x8192x128 .f32) (main_arg15 : FVec F S2x1024 .f32) (main_arg16 : FVec F S768x1024 .f32) (main_arg17 : FVec F S2x1024 .f32) (main_arg18 : FVec F S2x1024 .f32) (main_arg19 : FVec F S2x1024x2816 .f32) (main_arg20 : FVec F S2x1024x2816 .f32) (main_arg21 : FVec F S2x2816x1024 .f32) : IVec S4x8192x128 1 × IVec S4x8192x128 1 :=
  let main_v0 : FVec F S4x8192x128 .f32 := maximumf main_arg9 main_arg11
  let main_v1 : FVec F S4x8192x128 .f32 := maximumf main_v0 main_arg13
  let main_v2 : FVec F S4x8192x128 .f32 := Host.absf main_v1
  let main_cst : FVec F S_ .f32 := constant S_ .f32 0x7F800000#32
  let main_v3 : FVec F S4x8192x128 .f32 := broadcastInDim S4x8192x128 ![] bcast_S_S4x8192x128 main_cst
  let main_v4 : IVec S4x8192x128 1 := cmpf .olt main_v2 main_v3
  let main_v5 : FVec F S4x8192x128 .f32 := maximumf main_arg10 main_arg12
  let main_v6 : FVec F S4x8192x128 .f32 := maximumf main_v5 main_arg14
  let main_v7 : FVec F S4x8192x128 .f32 := Host.absf main_v6
  let main_cst_0 : FVec F S_ .f32 := constant S_ .f32 0x7F800000#32
  let main_v8 : FVec F S4x8192x128 .f32 := broadcastInDim S4x8192x128 ![] bcast_S_S4x8192x128 main_cst_0
  let main_v9 : IVec S4x8192x128 1 := cmpf .olt main_v7 main_v8
  (main_v4, main_v9)
-- ==== Swa.lean ====
abbrev S4x8192x2304 : Shape := ⟨3, ![4, 8192, 2304]⟩
abbrev S4x8192x128 : Shape := ⟨3, ![4, 8192, 128]⟩
abbrev S1x1024x128 : Shape := ⟨3, ![1, 1024, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 5
  | .vmem => 28
  | .smem => 0
  | _ => 0

abbrev bufTy : (tb : Table) → Fin (tcTables nBuf tb) → BufTy
  | .hbm, ⟨0, _⟩ => ⟨S4x8192x2304, .f32⟩
  | .hbm, ⟨1, _⟩ => ⟨S4x8192x128, .f32⟩
  | .hbm, ⟨2, _⟩ => ⟨S4x8192x128, .f32⟩
  | .hbm, ⟨3, _⟩ => ⟨S4x8192x128, .f32⟩
  | .hbm, ⟨4, _⟩ => ⟨S4x8192x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x1024x128, .f32⟩
  | .local _ .vmem, ⟨27, _⟩ => ⟨S1x1024x128, .f32⟩
  | _, _ => ⟨S4x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let c0_i32_0 : BitVec 32 := 0#32
  ![arg0.toNat, v1.toNat, c6_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c7_i32 : BitVec 32 := 7#32
  let c0_i32_0 : BitVec 32 := 0#32
  ![arg0.toNat, v1.toNat, c7_i32.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_7 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c12_i32 : BitVec 32 := 12#32
  let c0_i32_0 : BitVec 32 := 0#32
  ![arg0.toNat, v1.toNat, c12_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c13_i32 : BitVec 32 := 13#32
  let c0_i32_0 : BitVec 32 := 0#32
  ![arg0.toNat, v1.toNat, c13_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SwaIdeal.lean ====
variable {F : FTy → Type} [FloatOps F] [Named F]
def κ : String → Option EReal := fun
  | "neg" => some ⊥
  | _ => none
-- ==== SwaRefIdeal.lean ====
abbrev S4x8192x2304 : Shape := ⟨3, ![4, 8192, 2304]⟩
abbrev S4x8192x768 : Shape := ⟨3, ![4, 8192, 768]⟩
abbrev S4x8192x3x4x64 : Shape := ⟨5, ![4, 8192, 3, 4, 64]⟩
abbrev S4x8192x1x4x64 : Shape := ⟨5, ![4, 8192, 1, 4, 64]⟩
abbrev S4x8192x4x64 : Shape := ⟨4, ![4, 8192, 4, 64]⟩
abbrev S_ : Shape := ⟨0, ![]⟩
abbrev S4x1x8192x4x64 : Shape := ⟨5, ![4, 1, 8192, 4, 64]⟩
abbrev S4x1x64x128x4x64 : Shape := ⟨6, ![4, 1, 64, 128, 4, 64]⟩
abbrev S4x1x63x128x4x64 : Shape := ⟨6, ![4, 1, 63, 128, 4, 64]⟩
abbrev S4x1x64x256x4x64 : Shape := ⟨6, ![4, 1, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x1x64x4x128x256 : Shape := ⟨6, ![4, 1, 64, 4, 128, 256]⟩
abbrev S1x1x64x1x128x256 : Shape := ⟨6, ![1, 1, 64, 1, 128, 256]⟩
abbrev S4x1x64x4x128 : Shape := ⟨5, ![4, 1, 64, 4, 128]⟩
abbrev S4x1x64x4x128x1 : Shape := ⟨6, ![4, 1, 64, 4, 128, 1]⟩
abbrev S4x1x64x4x64x128 : Shape := ⟨6, ![4, 1, 64, 4, 64, 128]⟩
abbrev S4x1x64x128x4 : Shape := ⟨5, ![4, 1, 64, 128, 4]⟩
abbrev S4x1x64x128x4x1 : Shape := ⟨6, ![4, 1, 64, 128, 4, 1]⟩
abbrev S4x1x8192x4 : Shape := ⟨4, ![4, 1, 8192, 4]⟩
abbrev S4x8192x1x4 : Shape := ⟨4, ![4, 8192, 1, 4]⟩
abbrev S4x8192x4 : Shape := ⟨3, ![4, 8192, 4]⟩
abbrev S4x8192x4x1 : Shape := ⟨4, ![4, 8192, 4, 1]⟩
abbrev S4x8192x2x64 : Shape := ⟨4, ![4, 8192, 2, 64]⟩
abbrev S4x8192x128 : Shape := ⟨3, ![4, 8192, 128]⟩

abbrev nBuf : Space → Nat
  | .hbm => 118
  | .vmem => 0
  | .smem => 0
  | _ => 0

abbrev bufTy : (tb : Table) → Fin (tcTables nBuf tb) → BufTy
  | .hbm, ⟨0, _⟩ => ⟨S4x8192x2304, .f32⟩
  | .hbm, ⟨1, _⟩ => ⟨S4x8192x768, .f32⟩
  | .hbm, ⟨2, _⟩ => ⟨S4x8192x768, .f32⟩
  | .hbm, ⟨3, _⟩ => ⟨S4x8192x768, .f32⟩
  | .hbm, ⟨4, _⟩ => ⟨S4x8192x3x4x64, .f32⟩
  | .hbm, ⟨5, _⟩ => ⟨S4x8192x3x4x64, .f32⟩
  | .hbm, ⟨6, _⟩ => ⟨S4x8192x3x4x64, .f32⟩
  | .hbm, ⟨7, _⟩ => ⟨S4x8192x1x4x64, .f32⟩
  | .hbm, ⟨8, _⟩ => ⟨S4x8192x4x64, .f32⟩
  | .hbm, ⟨9, _⟩ => ⟨S4x8192x1x4x64, .f32⟩
  | .hbm, ⟨10, _⟩ => ⟨S4x8192x4x64, .f32⟩
  | .hbm, ⟨11, _⟩ => ⟨S4x8192x1x4x64, .f32⟩
  | .hbm, ⟨12, _⟩ => ⟨S4x8192x4x64, .f32⟩
  | .hbm, ⟨13, _⟩ => ⟨S_, .i32⟩
  | .hbm, ⟨14, _⟩ => ⟨S_, .f32⟩
  | .hbm, ⟨15, _⟩ => ⟨S4x8192x4x64, .f32⟩
  | .hbm, ⟨16, _⟩ => ⟨S4x8192x1x4x64, .f32⟩
  | .hbm, ⟨17, _⟩ => ⟨S4x1x8192x4x64, .f32⟩
  | .hbm, ⟨18, _⟩ => ⟨S4x1x64x128x4x64, .f32⟩
  | .hbm, ⟨19, _⟩ => ⟨S_, .i32⟩
  | .hbm, ⟨20, _⟩ => ⟨S_, .f32⟩
  | .hbm, ⟨21, _⟩ => ⟨S4x8192x4x64, .f32⟩
  | .hbm, ⟨22, _⟩ => ⟨S4x8192x1x4x64, .f32⟩
  | .hbm, ⟨23, _⟩ => ⟨S4x1x8192x4x64, .f32⟩
  | .hbm, ⟨24, _⟩ => ⟨S4x1x64x128x4x64, .f32⟩
  | .hbm, ⟨25, _⟩ => ⟨S4x1x63x128x4x64, .f32⟩
  | .hbm, ⟨26, _⟩ => ⟨S_, .i32⟩
  | .hbm, ⟨27, _⟩ => ⟨S_, .f32⟩
  | .hbm, ⟨28, _⟩ => ⟨S4x1x64x128x4x64, .f32⟩
  | .hbm, ⟨29, _⟩ => ⟨S4x1x64x256x4x64, .f32⟩
  | .hbm, ⟨30, _⟩ => ⟨S_, .i32⟩
  | .hbm, ⟨31, _⟩ => ⟨S_, .f32⟩
  | .hbm, ⟨32, _⟩ => ⟨S4x8192x4x64, .f32⟩
  | .hbm, ⟨33, _⟩ => ⟨S4x8192x1x4x64, .f32⟩
  | .hbm, ⟨34, _⟩ => ⟨S4x1x8192x4x64, .f32⟩
  | .hbm, ⟨35, _⟩ => ⟨S4x1x64x128x4x64, .f32⟩
  | .hbm, ⟨36, _⟩ => ⟨S4x1x63x128x4x64, .f32⟩
  | .hbm, ⟨37, _⟩ => ⟨S_, .i32⟩
  | .hbm, ⟨38, _⟩ => ⟨S_, .f32⟩
  | .hbm, ⟨39, _⟩ => ⟨S4x1x64x128x4x64, .f32⟩
  | .hbm, ⟨40, _⟩ => ⟨S4x1x64x256x4x64, .f32⟩
  | .hbm, ⟨41, _⟩ => ⟨S128, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S64, .i32⟩
  | .hbm, ⟨59, _⟩ => ⟨S64x1x1, .i32⟩
  | .hbm, ⟨60, _⟩ => ⟨S_, .i32⟩
  | .hbm, ⟨61, _⟩ => ⟨S64x1x1, .i32⟩
  | .hbm, ⟨62, _⟩ => ⟨S64x1x1, .i1⟩
  | .hbm, ⟨63, _⟩ => ⟨S1x1x256, .i32⟩
  | .hbm, ⟨64, _⟩ => ⟨S_, .i32⟩
  | .hbm, ⟨65, _⟩ => ⟨S1x1x256, .i32⟩
  | .hbm, ⟨66, _⟩ => ⟨S1x1x256, .i1⟩
  | .hbm, ⟨67, _⟩ => ⟨S64x1x256, .i1⟩
  | .hbm, ⟨68, _⟩ => ⟨S64x1x256, .i1⟩
  | .hbm, ⟨69, _⟩ => ⟨S64x1x256, .i1⟩
  | .hbm, ⟨70, _⟩ => ⟨S1x128x256, .i1⟩
  | .hbm, ⟨71, _⟩ => ⟨S64x128x256, .i1⟩
  | .hbm, ⟨72, _⟩ => ⟨S64x128x256, .i1⟩
  | .hbm, ⟨73, _⟩ => ⟨S64x128x256, .i1⟩
  | .hbm, ⟨74, _⟩ => ⟨S4x1x64x4x128x256, .f32⟩
  | .hbm, ⟨75, _⟩ => ⟨S_, .f32⟩
  | .hbm, ⟨76, _⟩ => ⟨S4x1x64x4x128x256, .f32⟩
  | .hbm, ⟨77, _⟩ => ⟨S4x1x64x4x128x256, .f32⟩
  | .hbm, ⟨78, _⟩ => ⟨S1x1x64x1x128x256, .i1⟩
  | .hbm, ⟨79, _⟩ => ⟨S_, .f32⟩
  | .hbm, ⟨80, _⟩ => ⟨S_, .f32⟩
  | .hbm, ⟨81, _⟩ => ⟨S4x1x64x4x128x256, .i1⟩
  | .hbm, ⟨82, _⟩ => ⟨S4x1x64x4x128x256, .f32⟩
  | .hbm, ⟨83, _⟩ => ⟨S4x1x64x4x128x256, .f32⟩
  | .hbm, ⟨84, _⟩ => ⟨S_, .f32⟩
  | .hbm, ⟨85, _⟩ => ⟨S4x1x64x4x128, .f32⟩
  | .hbm, ⟨86, _⟩ => ⟨S4x1x64x4x128x1, .f32⟩
  | .hbm, ⟨87, _⟩ => ⟨S4x1x64x4x128x256, .f32⟩
  | .hbm, ⟨88, _⟩ => ⟨S4x1x64x4x128x256, .f32⟩
  | .hbm, ⟨89, _⟩ => ⟨S4x1x64x4x128x256, .f32⟩
  | .hbm, ⟨90, _⟩ => ⟨S_, .f32⟩
  | .hbm, ⟨91, _⟩ => ⟨S4x1x64x4x128, .f32⟩
  | .hbm, ⟨92, _⟩ => ⟨S4x1x64x4x64x128, .f32⟩
  | .hbm, ⟨93, _⟩ => ⟨S4x1x64x128x4x64, .f32⟩
  | .hbm, ⟨94, _⟩ => ⟨S4x1x64x128x4, .f32⟩
  | .hbm, ⟨95, _⟩ => ⟨S4x1x64x128x4x1, .f32⟩
  | .hbm, ⟨96, _⟩ => ⟨S4x1x64x128x4x64, .f32⟩
  | .hbm, ⟨97, _⟩ => ⟨S4x1x64x128x4x64, .f32⟩
  | .hbm, ⟨98, _⟩ => ⟨S4x1x64x4x128, .f32⟩
  | .hbm, ⟨99, _⟩ => ⟨S4x1x64x4x128, .f32⟩
  | .hbm, ⟨100, _⟩ => ⟨S4x1x64x4x128, .f32⟩
  | .hbm, ⟨101, _⟩ => ⟨S4x1x64x128x4, .f32⟩
  | .hbm, ⟨102, _⟩ => ⟨S4x1x8192x4x64, .f32⟩
  | .hbm, ⟨103, _⟩ => ⟨S4x8192x1x4x64, .f32⟩
  | .hbm, ⟨104, _⟩ => ⟨S4x8192x4x64, .f32⟩
  | .hbm, ⟨105, _⟩ => ⟨S4x1x8192x4, .f32⟩
  | .hbm, ⟨106, _⟩ => ⟨S4x8192x1x4, .f32⟩
  | .hbm, ⟨107, _⟩ => ⟨S4x8192x4, .f32⟩
  | .hbm, ⟨108, _⟩ => ⟨S4x8192x4x1, .f32⟩
  | .hbm, ⟨109, _⟩ => ⟨S4x8192x4x64, .f32⟩
  | .hbm, ⟨110, _⟩ => ⟨S4x8192x2x64, .f32⟩
  | .hbm, ⟨111, _⟩ => ⟨S4x8192x128, .f32⟩
  | .hbm, ⟨112, _⟩ => ⟨S4x8192x2x64, .f32⟩
  | .hbm, ⟨113, _⟩ => ⟨S4x8192x128, .f32⟩
  | .hbm, ⟨114, _⟩ => ⟨S4x8192x2x64, .f32⟩
  | .hbm, ⟨115, _⟩ => ⟨S4x8192x128, .f32⟩
  | .hbm, ⟨116, _⟩ => ⟨S4x8192x2x64, .f32⟩
  | .hbm, ⟨117, _⟩ => ⟨S4x8192x128, .f32⟩
  | _, _ => ⟨S4x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_call1_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_call2_v0 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_call3_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_call4_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== TailOdd.lean ====
abbrev S4x8192x1024 : Shape := ⟨3, ![4, 8192, 1024]⟩
abbrev S4x1x6144 : Shape := ⟨3, ![4, 1, 6144]⟩
abbrev S4x8192x512 : Shape := ⟨3, ![4, 8192, 512]⟩
abbrev S2x1024 : Shape := ⟨2, ![2, 1024]⟩
abbrev S1024x1024 : Shape := ⟨2, ![1024, 1024]⟩
abbrev S2x1024x2816 : Shape := ⟨3, ![2, 1024, 2816]⟩
abbrev S2x2816x1024 : Shape := ⟨3, ![2, 2816, 1024]⟩
abbrev S4x1x1024 : Shape := ⟨3, ![4, 1, 1024]⟩
abbrev S1x1024 : Shape := ⟨2, ![1, 1024]⟩
abbrev S1024 : Shape := ⟨1, ![1024]⟩
abbrev S1x512x1024 : Shape := ⟨3, ![1, 512, 1024]⟩
abbrev S1x1x1024 : Shape := ⟨3, ![1, 1, 1024]⟩
abbrev S1x512x512 : Shape := ⟨3, ![1, 512, 512]⟩
abbrev S1x1024x2816 : Shape := ⟨3, ![1, 1024, 2816]⟩
abbrev S1x2816x1024 : Shape := ⟨3, ![1, 2816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 31
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S4x8192x512, .bf16⟩
  | .hbm, ⟨3, _⟩ => ⟨S4x8192x512, .bf16⟩
  | .hbm, ⟨4, _⟩ => ⟨S2x1024, .f32⟩
  | .hbm, ⟨5, _⟩ => ⟨S1024x1024, .f32⟩
  | .hbm, ⟨6, _⟩ => ⟨S2x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1x1024, .f32⟩
  | .hbm, ⟨18, _⟩ => ⟨S1024, .f32⟩
  | .hbm, ⟨19, _⟩ => ⟨S1024x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S2x1024x2816, .bf16⟩
  | .hbm, ⟨25, _⟩ => ⟨S2x1024x2816, .bf16⟩
  | .hbm, ⟨26, _⟩ => ⟨S2x2816x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1024x1024, .bf16⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1024x2816, .bf16⟩
  | .local _ .vmem, ⟨19, _⟩ => ⟨S1x1024x2816, .bf16⟩
  | .local _ .vmem, ⟨20, _⟩ => ⟨S1x2816x1024, .bf16⟩
  | .local _ .vmem, ⟨21, _⟩ => ⟨S1x512x1024, .f32⟩
  | .local _ .vmem, ⟨22, _⟩ => ⟨S1x512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_90 : BitVec 32 := 0#32
  let v128 : BitVec 1 := Scalar.cmpi .eq arg2 c0_i32_90
  let v129 : BitVec 32 := Scalar.extui v128
  let c0_i32_91 : BitVec 32 := 0#32
  let v130 : BitVec 1 := Scalar.cmpi .ne v129 c0_i32_91
  v130

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, true]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, true]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== TailOddRefIdeal.lean ====
abbrev S4x8192x1024 : Shape := ⟨3, ![4, 8192, 1024]⟩
abbrev S4x1x6144 : Shape := ⟨3, ![4, 1, 6144]⟩
abbrev S4x8192x512 : Shape := ⟨3, ![4, 8192, 512]⟩
abbrev S2x1024 : Shape := ⟨2, ![2, 1024]⟩
abbrev S1024x1024 : Shape := ⟨2, ![1024, 1024]⟩
abbrev S2x1024x2816 : Shape := ⟨3, ![2, 1024, 2816]⟩
abbrev S2x2816x1024 : Shape := ⟨3, ![2, 2816, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816x1024 : Shape := ⟨3, ![1, 2816, 1024]⟩
abbrev S2816x1024 : Shape := ⟨2, ![2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S4x8192x512, .bf16⟩
  | .hbm, ⟨3, _⟩ => ⟨S4x8192x512, .bf16⟩
  | .hbm, ⟨4, _⟩ => ⟨S2x1024, .f32⟩
  | .hbm, ⟨5, _⟩ => ⟨S1024x1024, .f32⟩
  | .hbm, ⟨6, _⟩ => ⟨S2x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S4x8192x512, .f32⟩
  | .hbm, ⟨12, _⟩ => ⟨S4x8192x512, .f32⟩
  | .hbm, ⟨13, _⟩ => ⟨S4x8192x1024, .f32⟩
  | .hbm, ⟨14, _⟩ => ⟨S4x8192x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S1x1024, .f32⟩
  | .hbm, ⟨22, _⟩ => ⟨S1024, .f32⟩
  | .hbm, ⟨23, _⟩ => ⟨S4x8192x1024, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1024, .f32⟩
  | .hbm, ⟨35, _⟩ => ⟨S4x8192x1024, .f32⟩
  | .hbm, ⟨36, _⟩ => ⟨S1x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S1x1024, .f32⟩
  | .hbm, ⟨43, _⟩ => ⟨S1024, .f32⟩
  | .hbm, ⟨44, _⟩ => ⟨S4x8192x1024, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S_, .f32⟩
  | .hbm, ⟨61, _⟩ => ⟨S4x1x1024, .f32⟩
  | .hbm, ⟨62, _⟩ => ⟨S4x1x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S1x1024x2816, .f32⟩
  | .hbm, ⟨68, _⟩ => ⟨S1024x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S1x1024x2816, .f32⟩
  | .hbm, ⟨80, _⟩ => ⟨S1024x2816, .f32⟩
  | .hbm, ⟨81, _⟩ => ⟨S4x8192x2816, .f32⟩
  | .hbm, ⟨82, _⟩ => ⟨S4x8192x2816, .f32⟩
  | .hbm, ⟨83, _⟩ => ⟨S1x2816x1024, .f32⟩
  | .hbm, ⟨84, _⟩ => ⟨S2816x1024, .f32⟩
  | .hbm, ⟨85, _⟩ => ⟨S4x8192x1024, .f32⟩
  | .hbm, ⟨86, _⟩ => ⟨S1x1024, .f32⟩
  | .hbm, ⟨87, _⟩ => ⟨S1024, .f32⟩
  | .hbm, ⟨88, _⟩ => ⟨S4x8192x1024, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1024, .f32⟩
  | .hbm, ⟨100, _⟩ => ⟨S4x8192x1024, .f32⟩
  | .hbm, ⟨101, _⟩ => ⟨S1x1x1024, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== TailEven.lean ====
abbrev S4x8192x1024 : Shape := ⟨3, ![4, 8192, 1024]⟩
abbrev S4x1x6144 : Shape := ⟨3, ![4, 1, 6144]⟩
abbrev S4x8192x512 : Shape := ⟨3, ![4, 8192, 512]⟩
abbrev S4x8192x128 : Shape := ⟨3, ![4, 8192, 128]⟩
abbrev S2x1024 : Shape := ⟨2, ![2, 1024]⟩
abbrev S768x1024 : Shape := ⟨2, ![768, 1024]⟩
abbrev S2x1024x2816 : Shape := ⟨3, ![2, 1024, 2816]⟩
abbrev S2x2816x1024 : Shape := ⟨3, ![2, 2816, 1024]⟩
abbrev S4x1x1024 : Shape := ⟨3, ![4, 1, 1024]⟩
abbrev S1x1024 : Shape := ⟨2, ![1, 1024]⟩
abbrev S1024 : Shape := ⟨1, ![1024]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x128 : Shape := ⟨3, ![1, 512, 128]⟩
abbrev S1x1024x2816 : Shape := ⟨3, ![1, 1024, 2816]⟩
abbrev S1x2816x1024 : Shape := ⟨3, ![1, 2816, 1024]⟩
abbrev S512x1024 : Shape := ⟨2, ![512, 1024]⟩
abbrev S512x512 : Shape := ⟨2, ![512, 512]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 42
  | .vmem => 48
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S4x8192x512, .bf16⟩
  | .hbm, ⟨3, _⟩ => ⟨S4x8192x128, .f32⟩
  | .hbm, ⟨4, _⟩ => ⟨S4x8192x128, .f32⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S4x8192x128, .f32⟩
  | .hbm, ⟨9, _⟩ => ⟨S4x8192x128, .f32⟩
  | .hbm, ⟨10, _⟩ => ⟨S4x8192x128, .f32⟩
  | .hbm, ⟨11, _⟩ => ⟨S4x8192x128, .f32⟩
  | .hbm, ⟨12, _⟩ => ⟨S4x8192x128, .f32⟩
  | .hbm, ⟨13, _⟩ => ⟨S4x8192x128, .f32⟩
  | .hbm, ⟨14, _⟩ => ⟨S4x8192x128, .f32⟩
  | .hbm, ⟨15, _⟩ => ⟨S2x1024, .f32⟩
  | .hbm, ⟨16, _⟩ => ⟨S768x1024, .f32⟩
  | .hbm, ⟨17, _⟩ => ⟨S2x1024, .f32⟩
  | .hbm, ⟨18, _⟩ => ⟨S2x1024, .f32⟩
  | .hbm, ⟨19, _⟩ => ⟨S2x1024x2816, .f32⟩
  | .hbm, ⟨20, _⟩ => ⟨S2x1024x2816, .f32⟩
  | .hbm, ⟨21, _⟩ => ⟨S2x2816x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S1x1024, .f32⟩
  | .hbm, ⟨29, _⟩ => ⟨S1024, .f32⟩
  | .hbm, ⟨30, _⟩ => ⟨S768x1024, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S2x1024x2816, .bf16⟩
  | .hbm, ⟨36, _⟩ => ⟨S2x1024x2816, .bf16⟩
  | .hbm, ⟨37, _⟩ => ⟨S2x2816x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x512x512, .bf16⟩
  | .local _ .vmem, ⟨6, _⟩ => ⟨S1x512x512, .bf16⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S1x512x128, .f32⟩
  | .local _ .vmem, ⟨29, _⟩ => ⟨S1x512x128, .f32⟩
  | .local _ .vmem, ⟨30, _⟩ => ⟨S1x512x128, .f32⟩
  | .local _ .vmem, ⟨31, _⟩ => ⟨S768x1024, .bf16⟩
  | .local _ .vmem, ⟨32, _⟩ => ⟨S1x1024, .f32⟩
  | .local _ .vmem, ⟨33, _⟩ => ⟨S1x1x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x1x1024, .f32⟩
  | .local _ .vmem, ⟨38, _⟩ => ⟨S1x1x1024, .f32⟩
  | .local _ .vmem, ⟨39, _⟩ => ⟨S1x1024, .f32⟩
  | .local _ .vmem, ⟨40, _⟩ => ⟨S1x1024x2816, .bf16⟩
  | .local _ .vmem, ⟨41, _⟩ => ⟨S1x1024x2816, .bf16⟩
  | .local _ .vmem, ⟨42, _⟩ => ⟨S1x2816x1024, .bf16⟩
  | .local _ .vmem, ⟨43, _⟩ => ⟨S1x512x1024, .f32⟩
  | .local _ .vmem, ⟨44, _⟩ => ⟨S1x512x1024, .f32⟩
  | .local _ .vmem, ⟨45, _⟩ => ⟨S512x1024, .f32⟩
  | .local _ .vmem, ⟨46, _⟩ => ⟨S512x1024, .bf16⟩
  | .local _ .vmem, ⟨47, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg25_1 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_90 : BitVec 32 := 0#32
  let v128 : BitVec 1 := Scalar.cmpi .eq arg2 c0_i32_90
  let v129 : BitVec 32 := Scalar.extui v128
  let c0_i32_91 : BitVec 32 := 0#32
  let v130 : BitVec 1 := Scalar.cmpi .ne v129 c0_i32_91
  v130

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_23 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_24 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_25 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 1 → Memref sig .tc .vmem S768x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false, false]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, false]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]

abbrev stage0_22 : Fin 1 → Memref sig .tc .vmem S1x1024x2816 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false, true]

abbrev stage0_23 : Fin 1 → Memref sig .tc .vmem S1x1024x2816 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false, true]

abbrev stage0_24 : Fin 1 → Memref sig .tc .vmem S1x2816x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false, true]

abbrev stage0_25 : Fin 2 → Memref sig .tc .vmem S1x512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, false]
-- ==== TailEvenRefIdeal.lean ====
abbrev S4x8192x1024 : Shape := ⟨3, ![4, 8192, 1024]⟩
abbrev S4x1x6144 : Shape := ⟨3, ![4, 1, 6144]⟩
abbrev S4x8192x512 : Shape := ⟨3, ![4, 8192, 512]⟩
abbrev S4x8192x128 : Shape := ⟨3, ![4, 8192, 128]⟩
abbrev S2x1024 : Shape := ⟨2, ![2, 1024]⟩
abbrev S768x1024 : Shape := ⟨2, ![768, 1024]⟩
abbrev S2x1024x2816 : Shape := ⟨3, ![2, 1024, 2816]⟩
abbrev S2x2816x1024 : Shape := ⟨3, ![2, 2816, 1024]⟩
abbrev S4x8192x256 : Shape := ⟨3, ![4, 8192, 256]⟩
abbrev S1x4x8192x256 : Shape := ⟨4, ![1, 4, 8192, 256]⟩
abbrev S3x4x8192x256 : Shape := ⟨4, ![3, 4, 8192, 256]⟩
abbrev S_ : Shape := ⟨0, ![]⟩
abbrev S4x8192x768 : Shape := ⟨3, ![4, 8192, 768]⟩
abbrev S4x1x1024 : Shape := ⟨3, ![4, 1, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816x1024 : Shape := ⟨3, ![1, 2816, 1024]⟩
abbrev S2816x1024 : Shape := ⟨2, ![2816, 1024]⟩

abbrev nBuf : Space → Nat
  | .hbm => 148
  | .vmem => 0
  | .smem => 0
  | _ => 0

abbrev hbmTy0_0 (i : Nat) : BufTy := match i % 128 with
  | 0 => ⟨S4x8192x1024, .f32⟩
  | 1 => ⟨S4x1x6144, .f32⟩
  | 2 => ⟨S4x8192x512, .bf16⟩
  | 3 => ⟨S4x8192x128, .f32⟩
  | 4 => ⟨S4x8192x128, .f32⟩
  | 5 => ⟨S4x8192x128, .f32⟩
  | 6 => ⟨S4x8192x128, .f32⟩
  | 7 => ⟨S4x8192x128, .f32⟩
  | 8 => ⟨S4x8192x128, .f32⟩
  | 9 => ⟨S4x8192x128, .f32⟩
  | 10 => ⟨S4x8192x128, .f32⟩
  | 11 => ⟨S4x8192x128, .f32⟩
  | 12 => ⟨S4x8192x128, .f32⟩
  | 13 => ⟨S4x8192x128, .f32⟩
  | 14 => ⟨S4x8192x128, .f32⟩
  | 15 => ⟨S2x1024, .f32⟩
  | 16 => ⟨S768x1024, .f32⟩
  | 17 => ⟨S2x1024, .f32⟩
  | 18 => ⟨S2x1024, .f32⟩
  | 19 => ⟨S2x1024x2816, .f32⟩
  | 20 => ⟨S2x1024x2816, .f32⟩
  | 21 => ⟨S2x2816x1024, .f32⟩
  | 22 => ⟨S4x8192x256, .f32⟩
  | 23 => ⟨S4x8192x256, .f32⟩
  | 24 => ⟨S4x8192x256, .f32⟩
  | 25 => ⟨S4x8192x256, .f32⟩
  | 26 => ⟨S4x8192x256, .f32⟩
  | 27 => ⟨S4x8192x256, .f32⟩
  | 28 => ⟨S1x4x8192x256, .f32⟩
  | 29 => ⟨S1x4x8192x256, .f32⟩
  | 30 => ⟨S1x4x8192x256, .f32⟩
  | 31 => ⟨S3x4x8192x256, .f32⟩
  | 32 => ⟨S_, .f32⟩
  | 33 => ⟨S4x8192x256, .f32⟩
  | 34 => ⟨S_, .f32⟩
  | 35 => ⟨S4x8192x256, .f32⟩
  | 36 => ⟨S4x8192x256, .f32⟩
  | 37 => ⟨S1x4x8192x256, .f32⟩
  | 38 => ⟨S3x4x8192x256, .f32⟩
  | 39 => ⟨S3x4x8192x256, .f32⟩
  | 40 => ⟨S3x4x8192x256, .f32⟩
  | 41 => ⟨S_, .f32⟩
  | 42 => ⟨S4x8192x256, .f32⟩
  | 43 => ⟨S1x4x8192x256, .f32⟩
  | 44 => ⟨S3x4x8192x256, .f32⟩
  | 45 => ⟨S3x4x8192x256, .f32⟩
  | 46 => ⟨S1x4x8192x256, .f32⟩
  | 47 => ⟨S1x4x8192x256, .f32⟩
  | 48 => ⟨S1x4x8192x256, .f32⟩
  | 49 => ⟨S3x4x8192x256, .f32⟩
  | 50 => ⟨S3x4x8192x256, .f32⟩
  | 51 => ⟨S_, .f32⟩
  | 52 => ⟨S4x8192x256, .f32⟩
  | 53 => ⟨S4x8192x512, .f32⟩
  | 54 => ⟨S4x8192x768, .f32⟩
  | 55 => ⟨S4x8192x1024, .f32⟩
  | 56 => ⟨S4x1x1024, .f32⟩
  | 57 => ⟨S4x1x1024, .f32⟩
  | 58 => ⟨S4x1x1024, .f32⟩
  | 59 => ⟨S4x1x1024, .f32⟩
  | 60 => ⟨S4x1x1024, .f32⟩
  | 61 => ⟨S4x1x1024, .f32⟩
  | 62 => ⟨S1x1024, .f32⟩
  | 63 => ⟨S1024, .f32⟩
  | 64 => ⟨S4x8192x1024, .f32⟩
  | 65 => ⟨S_, .f32⟩
  | 66 => ⟨S4x8192, .f32⟩
  | 67 => ⟨S4x8192x1, .f32⟩
  | 68 => ⟨S_, .f32⟩
  | 69 => ⟨S4x8192x1, .f32⟩
  | 70 => ⟨S4x8192x1, .f32⟩
  | 71 => ⟨S_, .f32⟩
  | 72 => ⟨S4x8192x1, .f32⟩
  | 73 => ⟨S4x8192x1, .f32⟩
  | 74 => ⟨S4x8192x1, .f32⟩
  | 75 => ⟨S4x8192x1024, .f32⟩
  | 76 => ⟨S4x8192x1024, .f32⟩
  | 77 => ⟨S1x1x1024, .f32⟩
  | 78 => ⟨S4x8192x1024, .f32⟩
  | 79 => ⟨S4x8192x1024, .f32⟩
  | 80 => ⟨S4x8192x1024, .f32⟩
  | 81 => ⟨S4x8192x1024, .f32⟩
  | 82 => ⟨S4x8192x1024, .f32⟩
  | 83 => ⟨S1x1024, .f32⟩
  | 84 => ⟨S1024, .f32⟩
  | 85 => ⟨S4x8192x1024, .f32⟩
  | 86 => ⟨S_, .f32⟩
  | 87 => ⟨S4x8192, .f32⟩
  | 88 => ⟨S4x8192x1, .f32⟩
  | 89 => ⟨S_, .f32⟩
  | 90 => ⟨S4x8192x1, .f32⟩
  | 91 => ⟨S4x8192x1, .f32⟩
  | 92 => ⟨S_, .f32⟩
  | 93 => ⟨S4x8192x1, .f32⟩
  | 94 => ⟨S4x8192x1, .f32⟩
  | 95 => ⟨S4x8192x1, .f32⟩
  | 96 => ⟨S4x8192x1024, .f32⟩
  | 97 => ⟨S4x8192x1024, .f32⟩
  | 98 => ⟨S1x1x1024, .f32⟩
  | 99 => ⟨S4x8192x1024, .f32⟩
  | 100 => ⟨S4x8192x1024, .f32⟩
  | 101 => ⟨S_, .f32⟩
  | 102 => ⟨S4x1x1024, .f32⟩
  | 103 => ⟨S4x1x1024, .f32⟩
  | 104 => ⟨S4x8192x1024, .f32⟩
  | 105 => ⟨S4x8192x1024, .f32⟩
  | 106 => ⟨S4x8192x1024, .f32⟩
  | 107 => ⟨S4x8192x1024, .f32⟩
  | 108 => ⟨S1x1024x2816, .f32⟩
  | 109 => ⟨S1024x2816, .f32⟩
  | 110 => ⟨S4x8192x2816, .f32⟩
  | 111 => ⟨S4x8192x2816, .f32⟩
  | 112 => ⟨S4x8192x2816, .f32⟩
  | 113 => ⟨S_, .f32⟩
  | 114 => ⟨S4x8192x2816, .f32⟩
  | 115 => ⟨S4x8192x2816, .f32⟩
  | 116 => ⟨S_, .f32⟩
  | 117 => ⟨S4x8192x2816, .f32⟩
  | 118 => ⟨S4x8192x2816, .f32⟩
  | 119 => ⟨S4x8192x2816, .f32⟩
  | 120 => ⟨S1x1024x2816, .f32⟩
  | 121 => ⟨S1024x2816, .f32⟩
  | 122 => ⟨S4x8192x2816, .f32⟩
  | 123 => ⟨S4x8192x2816, .f32⟩
  | 124 => ⟨S1x2816x1024, .f32⟩
  | 125 => ⟨S2816x1024, .f32⟩
  | 126 => ⟨S4x8192x1024, .f32⟩
  | 127 => ⟨S1x1024, .f32⟩
  | _ => ⟨S4x8192x1024, .f32⟩

abbrev hbmTy0_1 (i : Nat) : BufTy := match i % 128 with
  | 0 => ⟨S1024, .f32⟩
  | 1 => ⟨S4x8192x1024, .f32⟩
  | 2 => ⟨S_, .f32⟩
  | 3 => ⟨S4x8192, .f32⟩
  | 4 => ⟨S4x8192x1, .f32⟩
  | 5 => ⟨S_, .f32⟩
  | 6 => ⟨S4x8192x1, .f32⟩
  | 7 => ⟨S4x8192x1, .f32⟩
  | 8 => ⟨S_, .f32⟩
  | 9 => ⟨S4x8192x1, .f32⟩
  | 10 => ⟨S4x8192x1, .f32⟩
  | 11 => ⟨S4x8192x1, .f32⟩
  | 12 => ⟨S4x8192x1024, .f32⟩
  | 13 => ⟨S4x8192x1024, .f32⟩
  | 14 => ⟨S1x1x1024, .f32⟩
  | 15 => ⟨S4x8192x1024, .f32⟩
  | 16 => ⟨S4x8192x1024, .f32⟩
  | 17 => ⟨S4x8192x1024, .f32⟩
  | 18 => ⟨S4x8192x1024, .f32⟩
  | 19 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_cst_4 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_10 : Ref sig .tc := ⟨.hbm, 130, rfl⟩
abbrev main_v89 : Ref sig .tc := ⟨.hbm, 131, rfl⟩
abbrev main_v90 : Ref sig .tc := ⟨.hbm, 132, rfl⟩
abbrev main_cst_11 : Ref sig .tc := ⟨.hbm, 133, rfl⟩
abbrev main_v91 : Ref sig .tc := ⟨.hbm, 134, rfl⟩
abbrev main_v92 : Ref sig .tc := ⟨.hbm, 135, rfl⟩
abbrev main_cst_12 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩

abbrev nD : Nat := 1
abbrev τ : Topo := Topo.v7x

variable {F : FTy → Type} [FloatOps F]
-- ==== Proof.SwaTile.lean ====
module

public import proofs.«01_k».proof.Proof.Gen.SwaIdeal.Frame

@[expose] public section

set_option maxRecDepth 16384

noncomputable section

namespace Cert.SwaTile

open Idealize.ShloMosaic Idealize.SL.Sem Cert.SwaIdeal Cert.SwaIdeal.Gen

variable {F : FTy → Type} [FloatOps F] [Named F]

/-- The first head of a pair: its query lanes scaled, the other head's lanes zero. -/
def qFst (q : Vec F S1x128x128 .f32) : FVec F S128x128 .bf16 :=
  truncf .bf16 (select k0_pay5 (mulf (shapeCast S128x128 q shapeCasts_S1x128x128_S128x128) (broadcast S128x128 (Scalar.ofBits .f32 0x3E000000#32))) (broadcast S128x128 (Scalar.ofBits .f32 0x00000000#32))) bitsLt_bf16_f32

/-- The second head of a pair: its query lanes scaled, the other head's lanes zero. -/
def qSnd (q : Vec F S1x128x128 .f32) : FVec F S128x128 .bf16 :=
  truncf .bf16 (select (xori k0_pay5 (constantI S128x128 1 1#1)) (mulf (shapeCast S128x128 q shapeCasts_S1x128x128_S128x128) (broadcast S128x128 (Scalar.ofBits .f32 0x3E000000#32))) (broadcast S128x128 (Scalar.ofBits .f32 0x00000000#32))) bitsLt_bf16_f32

/-- A block of keys or of values, as a matrix in the short format. -/
def mat (k : Vec F S1x128x128 .f32) : FVec F S128x128 .bf16 :=
  truncf .bf16 (shapeCast S128x128 k shapeCasts_S1x128x128_S128x128) bitsLt_bf16_f32

/-- The scores of a block of queries against a block of keys, masked. -/
def score (m : IVec S128x128 1) (q : FVec F S128x128 .bf16) (k : Vec F S1x128x128 .f32) : FVec F S128x128 .f32 :=
  select m (matmul dot_S128x128_S128x128_S128x128_1_1_0_0_n_n none q (mat k) (constant S128x128 .f32 0x00000000#32)) (broadcast S128x128 (Named.named κ "neg" 0xF149F2CA#32))

/-- A row's greatest score over the two blocks. -/
def rowMax (a b : FVec F S128x128 .f32) : FVec F S128x1 .f32 :=
  maximumf (shapeCast S128x1 (multiReduction .maximumf [1] S128 a 0xFF800000#32 reduces_S128x128_S128 (.inl rfl) rfl) shapeCasts_S128_S128x1) (shapeCast S128x1 (multiReduction .maximumf [1] S128 b 0xFF800000#32 reduces_S128x128_S128 (.inl rfl) rfl) shapeCasts_S128_S128x1)

/-- The exponentials of a block's scores less the row's greatest. -/
def expo (s : FVec F S128x128 .f32) (mx : FVec F S128x1 .f32) : FVec F S128x128 .f32 :=
  exp (subf s (broadcastTo S128x128 mx broadcasts_S128x1_S128x128))

/-- A row's sum of exponentials over the two blocks. -/
def den (a b : FVec F S128x128 .f32) : FVec F S128x1 .f32 :=
  addf (shapeCast S128x1 (multiReduction .add [1] S128 (expo a (rowMax a b)) 0x00000000#32 reduces_S128x128_S128 (.inl rfl) rfl) shapeCasts_S128_S128x1) (shapeCast S128x1 (multiReduction .add [1] S128 (expo b (rowMax a b)) 0x00000000#32 reduces_S128x128_S128 (.inl rfl) rfl) shapeCasts_S128_S128x1)

/-- One head's weighted mean of the values. -/
def att (a b : FVec F S128x128 .f32) (vc vp : Vec F S1x128x128 .f32) : FVec F S128x128 .f32 :=
  divf (addf (matmul dot_S128x128_S128x128_S128x128_1_0_0_1_n_n none (truncf .bf16 (expo a (rowMax a b)) bitsLt_bf16_f32) (mat vc) (constant S128x128 .f32 0x00000000#32)) (matmul dot_S128x128_S128x128_S128x128_1_0_0_1_n_n none (truncf .bf16 (expo b (rowMax a b)) bitsLt_bf16_f32) (mat vp) (constant S128x128 .f32 0x00000000#32))) (broadcastTo S128x128 (den a b) broadcasts_S128x1_S128x128)

/-- One head's logarithm of the sum of exponentials. -/
def lse (a b : FVec F S128x128 .f32) : FVec F S128x1 .f32 := addf (rowMax a b) (log (den a b))

/-- A block of 128 queries of one pair of heads: the attention, each head in its own lanes. -/
def oTile (m : IVec S128x128 1) (q kc kp vc vp : Vec F S1x128x128 .f32) : FVec F S1x128x128 .f32 :=
  shapeCast S1x128x128 (select k0_pay5 (att (score k0_pay2 (qFst q) kc) (score m (qFst q) kp) vc vp) (att (score k0_pay2 (qSnd q) kc) (score m (qSnd q) kp) vc vp)) shapeCasts_S128x128_S1x128x128

/-- A block of 128 queries of one pair of heads: the logarithms, each head's over its own lanes. -/
def lTile (m : IVec S128x128 1) (q kc kp : Vec F S1x128x128 .f32) : FVec F S1x128x128 .f32 :=
  shapeCast S1x128x128 (select k0_pay5 (broadcastTo S128x128 (shapeCast S128x1 (lse (score k0_pay2 (qFst q) kc) (score m (qFst q) kp)) shapeCasts_S128x1_S128x1) broadcasts_S128x1_S128x128) (broadcastTo S128x128 (shapeCast S128x1 (lse (score k0_pay2 (qSnd q) kc) (score m (qSnd q) kp)) shapeCasts_S128x1_S128x1) broadcasts_S128x1_S128x128)) shapeCasts_S128x128_S1x128x128

/-- What a grid point stores to window 10: its eight blocks of rows, last first. -/
theorem out10_eq (i : grid0.Coords) (x0 x1 x2 x3 x4 x5 x6 x7 x8 x9 : Vec F S1x1024x128 .f32) :
    out0_10 i x0 x1 x2 x3 x4 x5 x6 x7 x8 x9 = View.canon [⟨r0_1, oTile k0_pay3 (View.ld x0 r0_1) (View.ld x2 r0_1) (View.ld x2 r0_7) (View.ld x6 r0_1) (View.ld x6 r0_7)⟩,
    ⟨r0_7, oTile k0_pay3 (View.ld x0 r0_7) (View.ld x2 r0_7) (View.ld x2 r0_6) (View.ld x6 r0_7) (View.ld x6 r0_6)⟩,
    ⟨r0_6, oTile k0_pay3 (View.ld x0 r0_6) (View.ld x2 r0_6) (View.ld x2 r0_5) (View.ld x6 r0_6) (View.ld x6 r0_5)⟩,
    ⟨r0_5, oTile k0_pay3 (View.ld x0 r0_5) (View.ld x2 r0_5) (View.ld x2 r0_4) (View.ld x6 r0_5) (View.ld x6 r0_4)⟩,
    ⟨r0_4, oTile k0_pay3 (View.ld x0 r0_4) (View.ld x2 r0_4) (View.ld x2 r0_3) (View.ld x6 r0_4) (View.ld x6 r0_3)⟩,
    ⟨r0_3, oTile k0_pay3 (View.ld x0 r0_3) (View.ld x2 r0_3) (View.ld x2 r0_2) (View.ld x6 r0_3) (View.ld x6 r0_2)⟩,
    ⟨r0_2, oTile k0_pay3 (View.ld x0 r0_2) (View.ld x2 r0_2) (View.ld x2 r0_0) (View.ld x6 r0_2) (View.ld x6 r0_0)⟩,
    ⟨r0_0, oTile (k0_pay4 i) (View.ld x0 r0_0) (View.ld x2 r0_0) (View.ld x4 r0_1) (View.ld x6 r0_0) (View.ld x8 r0_1)⟩] := by
  rfl

/-- What a grid point stores to window 11: its eight blocks of rows, last first. -/
theorem out11_eq (i : grid0.Coords) (x0 x1 x2 x3 x4 x5 x6 x7 x8 x9 : Vec F S1x1024x128 .f32) :
    out0_11 i x0 x1 x2 x3 x4 x5 x6 x7 x8 x9 = View.canon [⟨r0_1, oTile k0_pay3 (View.ld x1 r0_1) (View.ld x3 r0_1) (View.ld x3 r0_7) (View.ld x7 r0_1) (View.ld x7 r0_7)⟩,
    ⟨r0_7, oTile k0_pay3 (View.ld x1 r0_7) (View.ld x3 r0_7) (View.ld x3 r0_6) (View.ld x7 r0_7) (View.ld x7 r0_6)⟩,
    ⟨r0_6, oTile k0_pay3 (View.ld x1 r0_6) (View.ld x3 r0_6) (View.ld x3 r0_5) (View.ld x7 r0_6) (View.ld x7 r0_5)⟩,
    ⟨r0_5, oTile k0_pay3 (View.ld x1 r0_5) (View.ld x3 r0_5) (View.ld x3 r0_4) (View.ld x7 r0_5) (View.ld x7 r0_4)⟩,
    ⟨r0_4, oTile k0_pay3 (View.ld x1 r0_4) (View.ld x3 r0_4) (View.ld x3 r0_3) (View.ld x7 r0_4) (View.ld x7 r0_3)⟩,
    ⟨r0_3, oTile k0_pay3 (View.ld x1 r0_3) (View.ld x3 r0_3) (View.ld x3 r0_2) (View.ld x7 r0_3) (View.ld x7 r0_2)⟩,
    ⟨r0_2, oTile k0_pay3 (View.ld x1 r0_2) (View.ld x3 r0_2) (View.ld x3 r0_0) (View.ld x7 r0_2) (View.ld x7 r0_0)⟩,
    ⟨r0_0, oTile (k0_pay4 i) (View.ld x1 r0_0) (View.ld x3 r0_0) (View.ld x5 r0_1) (View.ld x7 r0_0) (View.ld x9 r0_1)⟩] := by
  rfl

/-- What a grid point stores to window 12: its eight blocks of rows, last first. -/
theorem out12_eq (i : grid0.Coords) (x0 x1 x2 x3 x4 x5 x6 x7 x8 x9 : Vec F S1x1024x128 .f32) :
    out0_12 i x0 x1 x2 x3 x4 x5 x6 x7 x8 x9 = View.canon [⟨r0_1, lTile k0_pay3 (View.ld x0 r0_1) (View.ld x2 r0_1) (View.ld x2 r0_7)⟩,
    ⟨r0_7, lTile k0_pay3 (View.ld x0 r0_7) (View.ld x2 r0_7) (View.ld x2 r0_6)⟩,
    ⟨r0_6, lTile k0_pay3 (View.ld x0 r0_6) (View.ld x2 r0_6) (View.ld x2 r0_5)⟩,
    ⟨r0_5, lTile k0_pay3 (View.ld x0 r0_5) (View.ld x2 r0_5) (View.ld x2 r0_4)⟩,
    ⟨r0_4, lTile k0_pay3 (View.ld x0 r0_4) (View.ld x2 r0_4) (View.ld x2 r0_3)⟩,
    ⟨r0_3, lTile k0_pay3 (View.ld x0 r0_3) (View.ld x2 r0_3) (View.ld x2 r0_2)⟩,
    ⟨r0_2, lTile k0_pay3 (View.ld x0 r0_2) (View.ld x2 r0_2) (View.ld x2 r0_0)⟩,
    ⟨r0_0, lTile (k0_pay4 i) (View.ld x0 r0_0) (View.ld x2 r0_0) (View.ld x4 r0_1)⟩] := by
  rfl

/-- What a grid point stores to window 13: its eight blocks of rows, last first. -/
theorem out13_eq (i : grid0.Coords) (x0 x1 x2 x3 x4 x5 x6 x7 x8 x9 : Vec F S1x1024x128 .f32) :
    out0_13 i x0 x1 x2 x3 x4 x5 x6 x7 x8 x9 = View.canon [⟨r0_1, lTile k0_pay3 (View.ld x1 r0_1) (View.ld x3 r0_1) (View.ld x3 r0_7)⟩,
    ⟨r0_7, lTile k0_pay3 (View.ld x1 r0_7) (View.ld x3 r0_7) (View.ld x3 r0_6)⟩,
    ⟨r0_6, lTile k0_pay3 (View.ld x1 r0_6) (View.ld x3 r0_6) (View.ld x3 r0_5)⟩,
    ⟨r0_5, lTile k0_pay3 (View.ld x1 r0_5) (View.ld x3 r0_5) (View.ld x3 r0_4)⟩,
    ⟨r0_4, lTile k0_pay3 (View.ld x1 r0_4) (View.ld x3 r0_4) (View.ld x3 r0_3)⟩,
    ⟨r0_3, lTile k0_pay3 (View.ld x1 r0_3) (View.ld x3 r0_3) (View.ld x3 r0_2)⟩,
    ⟨r0_2, lTile k0_pay3 (View.ld x1 r0_2) (View.ld x3 r0_2) (View.ld x3 r0_0)⟩,
    ⟨r0_0, lTile (k0_pay4 i) (View.ld x1 r0_0) (View.ld x3 r0_0) (View.ld x5 r0_1)⟩] := by
  rfl

end Cert.SwaTile

end
-- ==== Proof.SwaBlk.lean ====
module

public import proofs.«01_k».proof.Proof.SwaTile
public import Idealize.ShloMosaic.Lib.Pointwise

@[expose] public section

set_option maxRecDepth 16384

noncomputable section

namespace Cert.SwaTile

open Idealize.ShloMosaic Idealize.ShloMosaic.TcCoe Idealize.SL.Sem Cert.SwaIdeal Cert.SwaIdeal.Gen

variable {F : FTy → Type} [FloatOps F] [Named F]
variable (m : (ℓ : Loc nD τ sig) → Buf (Elt F) ℓ)

/-- The batch of a grid point. -/
abbrev bt (t : Fin grid0.N) : Fin 4 := grid0.coords t 0
/-- The block of 1024 rows of a grid point. -/
abbrev gt (t : Fin grid0.N) : Fin 8 := grid0.coords t 1

/-- The array of projected columns. -/
abbrev X (c : Dev nD) : Vec F S4x8192x2304 .f32 := m ((c : Thread nD τ).loc main_arg0)

theorem wix0 : ∀ t : Fin grid0.N, win0_0.index t 0 * win0_0.size 0 = (bt t).val ∧ win0_0.index t 1 * win0_0.size 1 = ((gt t).val) * 1024 ∧ win0_0.index t 2 * win0_0.size 2 = 0 := by decide +kernel

/-- Input window 0's block, element by element. -/
theorem in0 (c : Dev nD) (t : Fin cfg0.N) (r : Fin 1024) (l : Fin 128) :
    (iblk m c 0 t : Vec F S1x1024x128 .f32) (ix3 0 r l) = X m c (ix3 (bt t) ⟨((gt t).val) * 1024 + r.val, by have := (gt t).isLt; omega⟩ ⟨0 + l.val, by omega⟩) := by
  obtain ⟨h0, h1, h2⟩ := wix0 t
  refine congrArg (X m c) (funext fun a => Fin.ext ?_)
  match a with
  | ⟨0, _⟩ => show win0_0.index t 0 * win0_0.size 0 + 1 * 0 = (bt t).val; omega
  | ⟨1, _⟩ => show win0_0.index t 1 * win0_0.size 1 + 1 * r.val = ((gt t).val) * 1024 + r.val; omega
  | ⟨2, _⟩ => show win0_0.index t 2 * win0_0.size 2 + 1 * l.val = 0 + l.val; omega

theorem wix1 : ∀ t : Fin grid0.N, win0_1.index t 0 * win0_1.size 0 = (bt t).val ∧ win0_1.index t 1 * win0_1.size 1 = ((gt t).val) * 1024 ∧ win0_1.index t 2 * win0_1.size 2 = 128 := by decide +kernel

/-- Input window 1's block, element by element. -/
theorem in1 (c : Dev nD) (t : Fin cfg0.N) (r : Fin 1024) (l : Fin 128) :
    (iblk m c 1 t : Vec F S1x1024x128 .f32) (ix3 0 r l) = X m c (ix3 (bt t) ⟨((gt t).val) * 1024 + r.val, by have := (gt t).isLt; omega⟩ ⟨128 + l.val, by omega⟩) := by
  obtain ⟨h0, h1, h2⟩ := wix1 t
  refine congrArg (X m c) (funext fun a => Fin.ext ?_)
  match a with
  | ⟨0, _⟩ => show win0_1.index t 0 * win0_1.size 0 + 1 * 0 = (bt t).val; omega
  | ⟨1, _⟩ => show win0_1.index t 1 * win0_1.size 1 + 1 * r.val = ((gt t).val) * 1024 + r.val; omega
  | ⟨2, _⟩ => show win0_1.index t 2 * win0_1.size 2 + 1 * l.val = 128 + l.val; omega

theorem wix2 : ∀ t : Fin grid0.N, win0_2.index t 0 * win0_2.size 0 = (bt t).val ∧ win0_2.index t 1 * win0_2.size 1 = ((gt t).val) * 1024 ∧ win0_2.index t 2 * win0_2.size 2 = 768 := by decide +kernel

/-- Input window 2's block, element by element. -/
theorem in2 (c : Dev nD) (t : Fin cfg0.N) (r : Fin 1024) (l : Fin 128) :
    (iblk m c 2 t : Vec F S1x1024x128 .f32) (ix3 0 r l) = X m c (ix3 (bt t) ⟨((gt t).val) * 1024 + r.val, by have := (gt t).isLt; omega⟩ ⟨768 + l.val, by omega⟩) := by
  obtain ⟨h0, h1, h2⟩ := wix2 t
  refine congrArg (X m c) (funext fun a => Fin.ext ?_)
  match a with
  | ⟨0, _⟩ => show win0_2.index t 0 * win0_2.size 0 + 1 * 0 = (bt t).val; omega
  | ⟨1, _⟩ => show win0_2.index t 1 * win0_2.size 1 + 1 * r.val = ((gt t).val) * 1024 + r.val; omega
  | ⟨2, _⟩ => show win0_2.index t 2 * win0_2.size 2 + 1 * l.val = 768 + l.val; omega

theorem wix3 : ∀ t : Fin grid0.N, win0_3.index t 0 * win0_3.size 0 = (bt t).val ∧ win0_3.index t 1 * win0_3.size 1 = ((gt t).val) * 1024 ∧ win0_3.index t 2 * win0_3.size 2 = 896 := by decide +kernel

/-- Input window 3's block, element by element. -/
theorem in3 (c : Dev nD) (t : Fin cfg0.N) (r : Fin 1024) (l : Fin 128) :
    (iblk m c 3 t : Vec F S1x1024x128 .f32) (ix3 0 r l) = X m c (ix3 (bt t) ⟨((gt t).val) * 1024 + r.val, by have := (gt t).isLt; omega⟩ ⟨896 + l.val, by omega⟩) := by
  obtain ⟨h0, h1, h2⟩ := wix3 t
  refine congrArg (X m c) (funext fun a => Fin.ext ?_)
  match a with
  | ⟨0, _⟩ => show win0_3.index t 0 * win0_3.size 0 + 1 * 0 = (bt t).val; omega
  | ⟨1, _⟩ => show win0_3.index t 1 * win0_3.size 1 + 1 * r.val = ((gt t).val) * 1024 + r.val; omega
  | ⟨2, _⟩ => show win0_3.index t 2 * win0_3.size 2 + 1 * l.val = 896 + l.val; omega

theorem wix4 : ∀ t : Fin grid0.N, win0_4.index t 0 * win0_4.size 0 = (bt t).val ∧ win0_4.index t 1 * win0_4.size 1 = ((gt t).val - 1) * 1024 ∧ win0_4.index t 2 * win0_4.size 2 = 768 := by decide +kernel

/-- Input window 4's block, element by element. -/
theorem in4 (c : Dev nD) (t : Fin cfg0.N) (r : Fin 1024) (l : Fin 128) :
    (iblk m c 4 t : Vec F S1x1024x128 .f32) (ix3 0 r l) = X m c (ix3 (bt t) ⟨((gt t).val - 1) * 1024 + r.val, by have := (gt t).isLt; omega⟩ ⟨768 + l.val, by omega⟩) := by
  obtain ⟨h0, h1, h2⟩ := wix4 t
  refine congrArg (X m c) (funext fun a => Fin.ext ?_)
  match a with
  | ⟨0, _⟩ => show win0_4.index t 0 * win0_4.size 0 + 1 * 0 = (bt t).val; omega
  | ⟨1, _⟩ => show win0_4.index t 1 * win0_4.size 1 + 1 * r.val = ((gt t).val - 1) * 1024 + r.val; omega
  | ⟨2, _⟩ => show win0_4.index t 2 * win0_4.size 2 + 1 * l.val = 768 + l.val; omega

theorem wix5 : ∀ t : Fin grid0.N, win0_5.index t 0 * win0_5.size 0 = (bt t).val ∧ win0_5.index t 1 * win0_5.size 1 = ((gt t).val - 1) * 1024 ∧ win0_5.index t 2 * win0_5.size 2 = 896 := by decide +kernel

/-- Input window 5's block, element by element. -/
theorem in5 (c : Dev nD) (t : Fin cfg0.N) (r : Fin 1024) (l : Fin 128) :
    (iblk m c 5 t : Vec F S1x1024x128 .f32) (ix3 0 r l) = X m c (ix3 (bt t) ⟨((gt t).val - 1) * 1024 + r.val, by have := (gt t).isLt; omega⟩ ⟨896 + l.val, by omega⟩) := by
  obtain ⟨h0, h1, h2⟩ := wix5 t
  refine congrArg (X m c) (funext fun a => Fin.ext ?_)
  match a with
  | ⟨0, _⟩ => show win0_5.index t 0 * win0_5.size 0 + 1 * 0 = (bt t).val; omega
  | ⟨1, _⟩ => show win0_5.index t 1 * win0_5.size 1 + 1 * r.val = ((gt t).val - 1) * 1024 + r.val; omega
  | ⟨2, _⟩ => show win0_5.index t 2 * win0_5.size 2 + 1 * l.val = 896 + l.val; omega

theorem wix6 : ∀ t : Fin grid0.N, win0_6.index t 0 * win0_6.size 0 = (bt t).val ∧ win0_6.index t 1 * win0_6.size 1 = ((gt t).val) * 1024 ∧ win0_6.index t 2 * win0_6.size 2 = 1536 := by decide +kernel

/-- Input window 6's block, element by element. -/
theorem in6 (c : Dev nD) (t : Fin cfg0.N) (r : Fin 1024) (l : Fin 128) :
    (iblk m c 6 t : Vec F S1x1024x128 .f32) (ix3 0 r l) = X m c (ix3 (bt t) ⟨((gt t).val) * 1024 + r.val, by have := (gt t).isLt; omega⟩ ⟨1536 + l.val, by omega⟩) := by
  obtain ⟨h0, h1, h2⟩ := wix6 t
  refine congrArg (X m c) (funext fun a => Fin.ext ?_)
  match a with
  | ⟨0, _⟩ => show win0_6.index t 0 * win0_6.size 0 + 1 * 0 = (bt t).val; omega
  | ⟨1, _⟩ => show win0_6.index t 1 * win0_6.size 1 + 1 * r.val = ((gt t).val) * 1024 + r.val; omega
  | ⟨2, _⟩ => show win0_6.index t 2 * win0_6.size 2 + 1 * l.val = 1536 + l.val; omega

theorem wix7 : ∀ t : Fin grid0.N, win0_7.index t 0 * win0_7.size 0 = (bt t).val ∧ win0_7.index t 1 * win0_7.size 1 = ((gt t).val) * 1024 ∧ win0_7.index t 2 * win0_7.size 2 = 1664 := by decide +kernel

/-- Input window 7's block, element by element. -/
theorem in7 (c : Dev nD) (t : Fin cfg0.N) (r : Fin 1024) (l : Fin 128) :
    (iblk m c 7 t : Vec F S1x1024x128 .f32) (ix3 0 r l) = X m c (ix3 (bt t) ⟨((gt t).val) * 1024 + r.val, by have := (gt t).isLt; omega⟩ ⟨1664 + l.val, by omega⟩) := by
  obtain ⟨h0, h1, h2⟩ := wix7 t
  refine congrArg (X m c) (funext fun a => Fin.ext ?_)
  match a with
  | ⟨0, _⟩ => show win0_7.index t 0 * win0_7.size 0 + 1 * 0 = (bt t).val; omega
  | ⟨1, _⟩ => show win0_7.index t 1 * win0_7.size 1 + 1 * r.val = ((gt t).val) * 1024 + r.val; omega
  | ⟨2, _⟩ => show win0_7.index t 2 * win0_7.size 2 + 1 * l.val = 1664 + l.val; omega

theorem wix8 : ∀ t : Fin grid0.N, win0_8.index t 0 * win0_8.size 0 = (bt t).val ∧ win0_8.index t 1 * win0_8.size 1 = ((gt t).val - 1) * 1024 ∧ win0_8.index t 2 * win0_8.size 2 = 1536 := by decide +kernel

/-- Input window 8's block, element by element. -/
theorem in8 (c : Dev nD) (t : Fin cfg0.N) (r : Fin 1024) (l : Fin 128) :
    (iblk m c 8 t : Vec F S1x1024x128 .f32) (ix3 0 r l) = X m c (ix3 (bt t) ⟨((gt t).val - 1) * 1024 + r.val, by have := (gt t).isLt; omega⟩ ⟨1536 + l.val, by omega⟩) := by
  obtain ⟨h0, h1, h2⟩ := wix8 t
  refine congrArg (X m c) (funext fun a => Fin.ext ?_)
  match a with
  | ⟨0, _⟩ => show win0_8.index t 0 * win0_8.size 0 + 1 * 0 = (bt t).val; omega
  | ⟨1, _⟩ => show win0_8.index t 1 * win0_8.size 1 + 1 * r.val = ((gt t).val - 1) * 1024 + r.val; omega
  | ⟨2, _⟩ => show win0_8.index t 2 * win0_8.size 2 + 1 * l.val = 1536 + l.val; omega

theorem wix9 : ∀ t : Fin grid0.N, win0_9.index t 0 * win0_9.size 0 = (bt t).val ∧ win0_9.index t 1 * win0_9.size 1 = ((gt t).val - 1) * 1024 ∧ win0_9.index t 2 * win0_9.size 2 = 1664 := by decide +kernel

/-- Input window 9's block, element by element. -/
theorem in9 (c : Dev nD) (t : Fin cfg0.N) (r : Fin 1024) (l : Fin 128) :
    (iblk m c 9 t : Vec F S1x1024x128 .f32) (ix3 0 r l) = X m c (ix3 (bt t) ⟨((gt t).val - 1) * 1024 + r.val, by have := (gt t).isLt; omega⟩ ⟨1664 + l.val, by omega⟩) := by
  obtain ⟨h0, h1, h2⟩ := wix9 t
  refine congrArg (X m c) (funext fun a => Fin.ext ?_)
  match a with
  | ⟨0, _⟩ => show win0_9.index t 0 * win0_9.size 0 + 1 * 0 = (bt t).val; omega
  | ⟨1, _⟩ => show win0_9.index t 1 * win0_9.size 1 + 1 * r.val = ((gt t).val - 1) * 1024 + r.val; omega
  | ⟨2, _⟩ => show win0_9.index t 2 * win0_9.size 2 + 1 * l.val = 1664 + l.val; omega

theorem wix10 : ∀ t : Fin grid0.N, win0_10.index t 0 * win0_10.size 0 = (bt t).val ∧ win0_10.index t 1 * win0_10.size 1 = (gt t).val * 1024 ∧ win0_10.index t 2 * win0_10.size 2 = 0 := by decide +kernel

/-- Result window 10's block as a part of its array, element by element. -/
theorem out10 (G : Vec F S4x8192x128 .f32) (t : Fin cfg0.N) (r : Fin 1024) (l : Fin 128) :
    (((cfg0.win 10).blk t).view.read (Elt F) G : Vec F S1x1024x128 .f32) (ix3 0 r l) = G (ix3 (bt t) ⟨(gt t).val * 1024 + r.val, by have := (gt t).isLt; omega⟩ l) := by
  obtain ⟨h0, h1, h2⟩ := wix10 t
  refine congrArg G (funext fun a => Fin.ext ?_)
  match a with
  | ⟨0, _⟩ => show win0_10.index t 0 * win0_10.size 0 + 1 * 0 = (bt t).val; omega
  | ⟨1, _⟩ => show win0_10.index t 1 * win0_10.size 1 + 1 * r.val = (gt t).val * 1024 + r.val; omega
  | ⟨2, _⟩ => show win0_10.index t 2 * win0_10.size 2 + 1 * l.val = l.val; omega

theorem mem10 (t : Fin cfg0.N) (i : S4x8192x128.Idx) (hb : (bt t).val = (i 0 : Nat)) (hg : (gt t).val = (i 1 : Nat) / 1024) :
    i ∈ ((cfg0.win 10).blk t).view.set := by
  obtain ⟨h0, h1, h2⟩ := wix10 t
  show i ∈ ((View.whole main_v0_0).slice (win0_10.rect t)).set
  rw [View.set_slice_whole, Rect.mem_set_unit]
  have l2 : (i 2 : Nat) < 128 := (i 2).isLt
  intro a
  match a with
  | ⟨0, _⟩ => show win0_10.index t 0 * win0_10.size 0 ≤ (i 0 : Nat) ∧ (i 0 : Nat) < win0_10.index t 0 * win0_10.size 0 + 1; omega
  | ⟨1, _⟩ => show win0_10.index t 1 * win0_10.size 1 ≤ (i 1 : Nat) ∧ (i 1 : Nat) < win0_10.index t 1 * win0_10.size 1 + 1024; omega
  | ⟨2, _⟩ => show win0_10.index t 2 * win0_10.size 2 ≤ (i 2 : Nat) ∧ (i 2 : Nat) < win0_10.index t 2 * win0_10.size 2 + 128; omega

theorem wix11 : ∀ t : Fin grid0.N, win0_11.index t 0 * win0_11.size 0 = (bt t).val ∧ win0_11.index t 1 * win0_11.size 1 = (gt t).val * 1024 ∧ win0_11.index t 2 * win0_11.size 2 = 0 := by decide +kernel

/-- Result window 11's block as a part of its array, element by element. -/
theorem out11 (G : Vec F S4x8192x128 .f32) (t : Fin cfg0.N) (r : Fin 1024) (l : Fin 128) :
    (((cfg0.win 11).blk t).view.read (Elt F) G : Vec F S1x1024x128 .f32) (ix3 0 r l) = G (ix3 (bt t) ⟨(gt t).val * 1024 + r.val, by have := (gt t).isLt; omega⟩ l) := by
  obtain ⟨h0, h1, h2⟩ := wix11 t
  refine congrArg G (funext fun a => Fin.ext ?_)
  match a with
  | ⟨0, _⟩ => show win0_11.index t 0 * win0_11.size 0 + 1 * 0 = (bt t).val; omega
  | ⟨1, _⟩ => show win0_11.index t 1 * win0_11.size 1 + 1 * r.val = (gt t).val * 1024 + r.val; omega
  | ⟨2, _⟩ => show win0_11.index t 2 * win0_11.size 2 + 1 * l.val = l.val; omega

theorem mem11 (t : Fin cfg0.N) (i : S4x8192x128.Idx) (hb : (bt t).val = (i 0 : Nat)) (hg : (gt t).val = (i 1 : Nat) / 1024) :
    i ∈ ((cfg0.win 11).blk t).view.set := by
  obtain ⟨h0, h1, h2⟩ := wix11 t
  show i ∈ ((View.whole main_v0_1).slice (win0_11.rect t)).set
  rw [View.set_slice_whole, Rect.mem_set_unit]
  have l2 : (i 2 : Nat) < 128 := (i 2).isLt
  intro a
  match a with
  | ⟨0, _⟩ => show win0_11.index t 0 * win0_11.size 0 ≤ (i 0 : Nat) ∧ (i 0 : Nat) < win0_11.index t 0 * win0_11.size 0 + 1; omega
  | ⟨1, _⟩ => show win0_11.index t 1 * win0_11.size 1 ≤ (i 1 : Nat) ∧ (i 1 : Nat) < win0_11.index t 1 * win0_11.size 1 + 1024; omega
  | ⟨2, _⟩ => show win0_11.index t 2 * win0_11.size 2 ≤ (i 2 : Nat) ∧ (i 2 : Nat) < win0_11.index t 2 * win0_11.size 2 + 128; omega

theorem wix12 : ∀ t : Fin grid0.N, win0_12.index t 0 * win0_12.size 0 = (bt t).val ∧ win0_12.index t 1 * win0_12.size 1 = (gt t).val * 1024 ∧ win0_12.index t 2 * win0_12.size 2 = 0 := by decide +kernel

/-- Result window 12's block as a part of its array, element by element. -/
theorem out12 (G : Vec F S4x8192x128 .f32) (t : Fin cfg0.N) (r : Fin 1024) (l : Fin 128) :
    (((cfg0.win 12).blk t).view.read (Elt F) G : Vec F S1x1024x128 .f32) (ix3 0 r l) = G (ix3 (bt t) ⟨(gt t).val * 1024 + r.val, by have := (gt t).isLt; omega⟩ l) := by
  obtain ⟨h0, h1, h2⟩ := wix12 t
  refine congrArg G (funext fun a => Fin.ext ?_)
  match a with
  | ⟨0, _⟩ => show win0_12.index t 0 * win0_12.size 0 + 1 * 0 = (bt t).val; omega
  | ⟨1, _⟩ => show win0_12.index t 1 * win0_12.size 1 + 1 * r.val = (gt t).val * 1024 + r.val; omega
  | ⟨2, _⟩ => show win0_12.index t 2 * win0_12.size 2 + 1 * l.val = l.val; omega

theorem mem12 (t : Fin cfg0.N) (i : S4x8192x128.Idx) (hb : (bt t).val = (i 0 : Nat)) (hg : (gt t).val = (i 1 : Nat) / 1024) :
    i ∈ ((cfg0.win 12).blk t).view.set := by
  obtain ⟨h0, h1, h2⟩ := wix12 t
  show i ∈ ((View.whole main_v0_2).slice (win0_12.rect t)).set
  rw [View.set_slice_whole, Rect.mem_set_unit]
  have l2 : (i 2 : Nat) < 128 := (i 2).isLt
  intro a
  match a with
  | ⟨0, _⟩ => show win0_12.index t 0 * win0_12.size 0 ≤ (i 0 : Nat) ∧ (i 0 : Nat) < win0_12.index t 0 * win0_12.size 0 + 1; omega
  | ⟨1, _⟩ => show win0_12.index t 1 * win0_12.size 1 ≤ (i 1 : Nat) ∧ (i 1 : Nat) < win0_12.index t 1 * win0_12.size 1 + 1024; omega
  | ⟨2, _⟩ => show win0_12.index t 2 * win0_12.size 2 ≤ (i 2 : Nat) ∧ (i 2 : Nat) < win0_12.index t 2 * win0_12.size 2 + 128; omega

theorem wix13 : ∀ t : Fin grid0.N, win0_13.index t 0 * win0_13.size 0 = (bt t).val ∧ win0_13.index t 1 * win0_13.size 1 = (gt t).val * 1024 ∧ win0_13.index t 2 * win0_13.size 2 = 0 := by decide +kernel

/-- Result window 13's block as a part of its array, element by element. -/
theorem out13 (G : Vec F S4x8192x128 .f32) (t : Fin cfg0.N) (r : Fin 1024) (l : Fin 128) :
    (((cfg0.win 13).blk t).view.read (Elt F) G : Vec F S1x1024x128 .f32) (ix3 0 r l) = G (ix3 (bt t) ⟨(gt t).val * 1024 + r.val, by have := (gt t).isLt; omega⟩ l) := by
  obtain ⟨h0, h1, h2⟩ := wix13 t
  refine congrArg G (funext fun a => Fin.ext ?_)
  match a with
  | ⟨0, _⟩ => show win0_13.index t 0 * win0_13.size 0 + 1 * 0 = (bt t).val; omega
  | ⟨1, _⟩ => show win0_13.index t 1 * win0_13.size 1 + 1 * r.val = (gt t).val * 1024 + r.val; omega
  | ⟨2, _⟩ => show win0_13.index t 2 * win0_13.size 2 + 1 * l.val = l.val; omega

theorem mem13 (t : Fin cfg0.N) (i : S4x8192x128.Idx) (hb : (bt t).val = (i 0 : Nat)) (hg : (gt t).val = (i 1 : Nat) / 1024) :
    i ∈ ((cfg0.win 13).blk t).view.set := by
  obtain ⟨h0, h1, h2⟩ := wix13 t
  show i ∈ ((View.whole main_v0_3).slice (win0_13.rect t)).set
  rw [View.set_slice_whole, Rect.mem_set_unit]
  have l2 : (i 2 : Nat) < 128 := (i 2).isLt
  intro a
  match a with
  | ⟨0, _⟩ => show win0_13.index t 0 * win0_13.size 0 ≤ (i 0 : Nat) ∧ (i 0 : Nat) < win0_13.index t 0 * win0_13.size 0 + 1; omega
  | ⟨1, _⟩ => show win0_13.index t 1 * win0_13.size 1 ≤ (i 1 : Nat) ∧ (i 1 : Nat) < win0_13.index t 1 * win0_13.size 1 + 1024; omega
  | ⟨2, _⟩ => show win0_13.index t 2 * win0_13.size 2 ≤ (i 2 : Nat) ∧ (i 2 : Nat) < win0_13.index t 2 * win0_13.size 2 + 128; omega

/-- Every batch and block of rows has its grid point. -/
theorem point : ∀ (b : Fin 4) (g : Fin 8), ∃ t : Fin grid0.N, bt t = b ∧ gt t = g := by decide +kernel

/-- Every element of result 1's array lies in a block that is written back. -/
theorem cover10 (i : S4x8192x128.Idx) : ∃ t : Fin cfg0.N, (cfg0.win 10).flush t = true ∧ i ∈ ((cfg0.win 10).blk t).view.set := by
  have l1 : (i 1 : Nat) < 8192 := (i 1).isLt
  obtain ⟨t, h0, h1⟩ := point (i 0) ⟨(i 1 : Nat) / 1024, by omega⟩
  exact ⟨t, flush0_10 t, mem10 t i (congrArg Fin.val h0) (congrArg Fin.val h1)⟩

/-- Every element of result 2's array lies in a block that is written back. -/
theorem cover11 (i : S4x8192x128.Idx) : ∃ t : Fin cfg0.N, (cfg0.win 11).flush t = true ∧ i ∈ ((cfg0.win 11).blk t).view.set := by
  have l1 : (i 1 : Nat) < 8192 := (i 1).isLt
  obtain ⟨t, h0, h1⟩ := point (i 0) ⟨(i 1 : Nat) / 1024, by omega⟩
  exact ⟨t, flush0_11 t, mem11 t i (congrArg Fin.val h0) (congrArg Fin.val h1)⟩

/-- Every element of result 3's array lies in a block that is written back. -/
theorem cover12 (i : S4x8192x128.Idx) : ∃ t : Fin cfg0.N, (cfg0.win 12).flush t = true ∧ i ∈ ((cfg0.win 12).blk t).view.set := by
  have l1 : (i 1 : Nat) < 8192 := (i 1).isLt
  obtain ⟨t, h0, h1⟩ := point (i 0) ⟨(i 1 : Nat) / 1024, by omega⟩
  exact ⟨t, flush0_12 t, mem12 t i (congrArg Fin.val h0) (congrArg Fin.val h1)⟩

/-- Every element of result 4's array lies in a block that is written back. -/
theorem cover13 (i : S4x8192x128.Idx) : ∃ t : Fin cfg0.N, (cfg0.win 13).flush t = true ∧ i ∈ ((cfg0.win 13).blk t).view.set := by
  have l1 : (i 1 : Nat) < 8192 := (i 1).isLt
  obtain ⟨t, h0, h1⟩ := point (i 0) ⟨(i 1 : Nat) / 1024, by omega⟩
  exact ⟨t, flush0_13 t, mem13 t i (congrArg Fin.val h0) (congrArg Fin.val h1)⟩

end Cert.SwaTile

end
-- ==== Proof.SwaSpec.lean ====
module

public import Idealize.ShloMosaic.Lib.Pointwise

@[expose] public section

set_option maxRecDepth 16384

noncomputable section

namespace Cert.SwaSpec

open Idealize.ShloMosaic

/-- The greatest of two rows of 128 scores. -/
def smax (A B : Fin 128 → EReal) : EReal := max (Finset.univ.fold max ⊥ A) (Finset.univ.fold max ⊥ B)
/-- The sum of the exponentials of two rows of scores, less their greatest. -/
def sden (A B : Fin 128 → EReal) : EReal := (∑ k, Ideal.exp (A k - smax A B)) + ∑ k, Ideal.exp (B k - smax A B)
/-- The values weighted by those exponentials, over their sum. -/
def satt (A B v w : Fin 128 → EReal) : EReal :=
  Ideal.div ((∑ k, Ideal.exp (A k - smax A B) * v k) + ∑ k, Ideal.exp (B k - smax A B) * w k) (sden A B)
/-- The logarithm of the sum of exponentials. -/
def slse (A B : Fin 128 → EReal) : EReal := smax A B + Ideal.log (sden A B)

/-- The array of projected columns: queries, keys and values, each of three groups of four heads of 64. -/
abbrev Arr := (⟨3, ![4, 8192, 2304]⟩ : Shape).Idx → EReal

/-- The column of lane `d` of head `h` of the first group, in the queries, the keys or the values. -/
def col (p : Fin 3) (h : Fin 4) (d : Fin 64) : Fin 2304 := ⟨p.val * 768 + h.val * 64 + d.val, by omega⟩
/-- Row `r` of the band's block `n`. -/
def row (n : Fin 64) (r : Fin 128) : Fin 8192 := ⟨n.val * 128 + r.val, by omega⟩
/-- Row `r` of the block before block `n` (of the first block, where there is none). -/
def prow (n : Fin 64) (r : Fin 128) : Fin 8192 := ⟨(n.val - 1) * 128 + r.val, by omega⟩
/-- One eighth, the scale of the scores. -/
def c8 : EReal := Ideal.ofBits .f32 0x3E000000#32

/-- The product of a query with a key. -/
def qk (X : Arr) (b : Fin 4) (h : Fin 4) (t s : Fin 8192) : EReal :=
  ∑ d : Fin 64, X (ix3 b t (col 0 h d)) * X (ix3 b s (col 1 h d))
/-- The scores of a query against its own block: the keys not after it. -/
def cur (X : Arr) (b h : Fin 4) (n : Fin 64) (r k : Fin 128) : EReal :=
  if k.val ≤ r.val then qk X b h (row n r) (row n k) * c8 else ⊥
/-- The scores of a query against the block before: the keys at most 128 back. -/
def prev (X : Arr) (b h : Fin 4) (n : Fin 64) (r k : Fin 128) : EReal :=
  if r.val ≤ k.val ∧ 0 < n.val then qk X b h (row n r) (prow n k) * c8 else ⊥
/-- The attention of row `r` of block `n`, head `h`, lane `d`. -/
def att (X : Arr) (b h : Fin 4) (n : Fin 64) (r : Fin 128) (d : Fin 64) : EReal :=
  satt (cur X b h n r) (prev X b h n r) (fun k => X (ix3 b (row n k) (col 2 h d))) (fun k => X (ix3 b (prow n k) (col 2 h d)))
/-- The logarithm of the attention's sum of exponentials. -/
def lse (X : Arr) (b h : Fin 4) (n : Fin 64) (r : Fin 128) : EReal := slse (cur X b h n r) (prev X b h n r)

/-- The head of lane `l` of pair `p`. -/
def hd (p : Fin 2) (l : Fin 128) : Fin 4 := ⟨2 * p.val + l.val / 64, by omega⟩
/-- The attention of a pair of heads, as an array of 128 columns. -/
def resO (p : Fin 2) (X : Arr) (b : Fin 4) (t : Fin 8192) (l : Fin 128) : EReal :=
  att X b (hd p l) ⟨t.val / 128, by omega⟩ ⟨t.val % 128, by omega⟩ ⟨l.val % 64, by omega⟩
/-- The logarithms of a pair of heads, each repeated over its head's columns. -/
def resL (p : Fin 2) (X : Arr) (b : Fin 4) (t : Fin 8192) (l : Fin 128) : EReal :=
  lse X b (hd p l) ⟨t.val / 128, by omega⟩ ⟨t.val % 128, by omega⟩

theorem ninf : Ideal.ofBits .f32 0xFF800000#32 = ⊥ := by
  simp [Ideal.ofBits, Ideal.ieee]

theorem c8_eq : c8 = ((1 / 8 : ℝ) : EReal) := by
  unfold c8
  simp [Ideal.ofBits, Ideal.ieee]
  rw [← EReal.coe_mul]
  norm_num

/-- A finite positive factor goes through a sum of any extended reals. -/
theorem sum_mul_c8 {n : ℕ} (f : Fin n → EReal) : (∑ d, f d) * c8 = ∑ d, f d * c8 := by
  have h0 : (0 : EReal) ≤ c8 := by rw [c8_eq]; exact_mod_cast (by norm_num : (0 : ℝ) ≤ 1 / 8)
  have ht : c8 ≠ ⊤ := by rw [c8_eq]; exact EReal.coe_ne_top _
  induction (Finset.univ : Finset (Fin n)) using Finset.induction_on with
  | empty => simp
  | insert a s ha ih => rw [Finset.sum_insert ha, Finset.sum_insert ha, ← ih, EReal.right_distrib_of_nonneg_of_ne_top h0 ht]

theorem exp_bot_sub (x : EReal) : Ideal.exp (⊥ - x) = 0 := by
  rw [EReal.bot_sub]; rfl

/-- The values against which nothing is scored do not matter. -/
theorem satt_bot (A v w w' : Fin 128 → EReal) : satt A (fun _ => ⊥) v w = satt A (fun _ => ⊥) v w' := by
  simp only [satt, exp_bot_sub, zero_mul]

/-- The greatest of 256 is the greatest of the two halves' greatest. -/
theorem fold_max_halves (f : Fin 256 → EReal) :
    Finset.univ.fold max ⊥ f = max (Finset.univ.fold max ⊥ fun k : Fin 128 => f ⟨128 + k.val, by omega⟩) (Finset.univ.fold max ⊥ fun k : Fin 128 => f ⟨k.val, by omega⟩) := by
  apply le_antisymm
  · rw [Finset.fold_max_le]
    refine ⟨bot_le, fun x _ => ?_⟩
    by_cases h : x.val < 128
    · refine le_max_of_le_right ?_
      rw [Finset.le_fold_max]
      exact .inr ⟨⟨x.val, h⟩, Finset.mem_univ _, le_rfl⟩
    · refine le_max_of_le_left ?_
      rw [Finset.le_fold_max]
      refine .inr ⟨⟨x.val - 128, by omega⟩, Finset.mem_univ _, le_of_eq (congrArg f (Fin.ext ?_))⟩
      show x.val = 128 + (x.val - 128)
      omega
  · rw [max_le_iff, Finset.fold_max_le, Finset.fold_max_le]
    refine ⟨⟨bot_le, fun x _ => ?_⟩, bot_le, fun x _ => ?_⟩ <;> rw [Finset.le_fold_max]
    · exact .inr ⟨⟨128 + x.val, by omega⟩, Finset.mem_univ _, le_rfl⟩
    · exact .inr ⟨⟨x.val, by omega⟩, Finset.mem_univ _, le_rfl⟩

/-- A sum of 256 is the second half's sum and the first's. -/
theorem sum_halves (f : Fin 256 → EReal) :
    ∑ k, f k = (∑ k : Fin 128, f ⟨128 + k.val, by omega⟩) + ∑ k : Fin 128, f ⟨k.val, by omega⟩ := by
  rw [add_comm]
  exact Fin.sum_univ_two_halves 128 128 rfl f

end Cert.SwaSpec

end
-- ==== Proof.SwaRow.lean ====
module

public import proofs.«01_k».proof.Proof.SwaTile
public import proofs.«01_k».proof.Proof.SwaSpec

@[expose] public section

set_option maxRecDepth 16384

noncomputable section

namespace Cert.SwaTile

open Idealize.ShloMosaic Idealize.SL.Sem Cert.SwaIdeal Cert.SwaIdeal.Gen Cert.SwaSpec

theorem neg_val : (Named.named κ "neg" 0xF149F2CA#32 : Ideal .f32) = (⊥ : EReal) :=
  IdealRules.named_const.ideal_named_scalar _ _ _ _ rfl

theorem slt64 (l : Fin 128) : IntOp.cmpi .slt (BitVec.ofNat 32 l.val) 64#32 = BitVec.ofBool (decide (l.val < 64)) := by
  revert l; decide +kernel

theorem slt64' (l : Fin 128) : IntOp.xori (IntOp.cmpi .slt (BitVec.ofNat 32 l.val) 64#32) 1#1 = BitVec.ofBool (decide (¬ l.val < 64)) := by
  revert l; decide +kernel

theorem sle_iff (r c : Fin 128) : IntOp.cmpi .sle (BitVec.ofNat 32 c.val) (BitVec.ofNat 32 r.val) = 1#1 ↔ c.val ≤ r.val := by
  revert r c; decide +kernel

theorem sge_iff (r c : Fin 128) : IntOp.cmpi .sge (BitVec.ofNat 32 c.val) (BitVec.ofNat 32 r.val) = 1#1 ↔ r.val ≤ c.val := by
  revert r c; decide +kernel

theorem sgt_iff (g : Fin 8) : Scalar.cmpi .sgt (BitVec.ofNat 32 g.val) 0#32 = 1#1 ↔ 0 < g.val := by
  revert g; decide +kernel

theorem andi_iff (a b : BitVec 1) : IntOp.andi a b = 1#1 ↔ a = 1#1 ∧ b = 1#1 := by
  revert a b; decide

/-- The mask of a block against itself. -/
theorem mask_cur (r c : Fin 128) : k0_pay2 (ix2 r c) = 1#1 ↔ c.val ≤ r.val := by
  pointwise [k0_pay2]
  exact sle_iff r c

/-- The mask of a block against the block before. -/
theorem mask_prev (r c : Fin 128) : k0_pay3 (ix2 r c) = 1#1 ↔ r.val ≤ c.val := by
  pointwise [k0_pay3]
  exact sge_iff r c

/-- The same at a point's first block, whose block before is in another point's rows. -/
theorem mask_first (i : grid0.Coords) (r c : Fin 128) : k0_pay4 i (ix2 r c) = 1#1 ↔ r.val ≤ c.val ∧ 0 < (i 1).val := by
  pointwise [k0_pay4, k0_pay3]
  exact (andi_iff _ _).trans (and_congr (sge_iff r c) (sgt_iff (i 1)))

theorem score_apply (m : IVec S128x128 1) (q : FVec Ideal S128x128 .bf16) (k : Vec Ideal S1x128x128 .f32) (r c : Fin 128) :
    score (F := Ideal) m q k (ix2 r c) = if m (ix2 r c) = 1#1 then ∑ l : Fin 128, q (ix2 r l) * k (ix3 0 c l) else ⊥ := by
  pointwise [score, mat, neg_val]
  rfl

theorem qFst_apply (q : Vec Ideal S1x128x128 .f32) (r l : Fin 128) :
    qFst (F := Ideal) q (ix2 r l) = if l.val < 64 then q (ix3 0 r l) * c8 else 0 := by
  pointwise [qFst, k0_pay5, slt64]
  rfl

theorem qSnd_apply (q : Vec Ideal S1x128x128 .f32) (r l : Fin 128) :
    qSnd (F := Ideal) q (ix2 r l) = if ¬ l.val < 64 then q (ix3 0 r l) * c8 else 0 := by
  pointwise [qSnd, k0_pay5, slt64']
  rfl

/-- A masked query meets only its own head's lanes. -/
theorem dot_fst (q k : Vec Ideal S1x128x128 .f32) (r c : Fin 128) :
    ∑ l : Fin 128, qFst (F := Ideal) q (ix2 r l) * k (ix3 0 c l) = (∑ d : Fin 64, q (ix3 0 r ⟨d.val, by omega⟩) * k (ix3 0 c ⟨d.val, by omega⟩)) * c8 := by
  rw [Fin.sum_univ_two_halves 64 64 rfl, sum_mul_c8]
  simp only [qFst_apply]
  rw [Finset.sum_eq_zero (s := Finset.univ) (f := fun k_1 : Fin 64 => (if 64 + k_1.val < 64 then _ else (0 : EReal)) * _), add_zero]
  · refine Finset.sum_congr rfl fun d _ => ?_
    rw [if_pos d.isLt, mul_right_comm]
  · intro d _
    rw [if_neg (by omega), zero_mul]

theorem dot_snd (q k : Vec Ideal S1x128x128 .f32) (r c : Fin 128) :
    ∑ l : Fin 128, qSnd (F := Ideal) q (ix2 r l) * k (ix3 0 c l) = (∑ d : Fin 64, q (ix3 0 r ⟨64 + d.val, by omega⟩) * k (ix3 0 c ⟨64 + d.val, by omega⟩)) * c8 := by
  rw [Fin.sum_univ_two_halves 64 64 rfl, sum_mul_c8]
  simp only [qSnd_apply]
  rw [Finset.sum_eq_zero (s := Finset.univ) (f := fun k_1 : Fin 64 => (if ¬ k_1.val < 64 then _ else (0 : EReal)) * _), zero_add]
  · refine Finset.sum_congr rfl fun d _ => ?_
    rw [if_pos (by omega), mul_right_comm]
  · intro d _
    rw [if_neg (by omega), zero_mul]

theorem rowMax_apply (a b : FVec Ideal S128x128 .f32) (r : Fin 128) :
    rowMax a b (ix2 r 0) = smax (fun k => a (ix2 r k)) fun k => b (ix2 r k) := by
  pointwise [rowMax, ninf]
  rfl

theorem den_apply (a b : FVec Ideal S128x128 .f32) (r : Fin 128) :
    den a b (ix2 r 0) = sden (fun k => a (ix2 r k)) fun k => b (ix2 r k) := by
  pointwise [den, expo, rowMax_apply]
  rfl

theorem att_apply (a b : FVec Ideal S128x128 .f32) (vc vp : Vec Ideal S1x128x128 .f32) (r l : Fin 128) :
    att a b vc vp (ix2 r l) = satt (fun k => a (ix2 r k)) (fun k => b (ix2 r k)) (fun k => vc (ix3 0 k l)) fun k => vp (ix3 0 k l) := by
  pointwise [att, expo, mat, rowMax_apply, den_apply]
  rfl

theorem lse_apply (a b : FVec Ideal S128x128 .f32)  (r  : Fin 128) :
    lse a b (ix2 r 0) = slse (fun k => a (ix2 r k)) fun k => b (ix2 r k) := by
  pointwise [lse, rowMax_apply, den_apply]
  rfl

/-- The lane of a pair of heads that holds lane `d` of the head of lane `l`. -/
def hl (l : Fin 128) (d : Fin 64) : Fin 128 := ⟨l.val / 64 * 64 + d.val, by omega⟩

/-- One block of keys' scores of a query row of the head of lane `l`. -/
def sc (mask : IVec S128x128 1) (q k : Vec Ideal S1x128x128 .f32) (r l c : Fin 128) : EReal :=
  if mask (ix2 r c) = 1#1 then (∑ d : Fin 64, q (ix3 0 r (hl l d)) * k (ix3 0 c (hl l d))) * c8 else ⊥

theorem sc_fst (mask : IVec S128x128 1) (q k : Vec Ideal S1x128x128 .f32) (r l c : Fin 128) (h : l.val < 64) :
    score mask (qFst q) k (ix2 r c) = sc mask q k r l c := by
  have e : ∀ d, hl l d = ⟨d.val, by omega⟩ := fun d => Fin.ext (by show l.val / 64 * 64 + d.val = d.val; omega)
  simp only [score_apply, dot_fst, sc, e]

theorem sc_snd (mask : IVec S128x128 1) (q k : Vec Ideal S1x128x128 .f32) (r l c : Fin 128) (h : ¬ l.val < 64) :
    score mask (qSnd q) k (ix2 r c) = sc mask q k r l c := by
  have e : ∀ d, hl l d = ⟨64 + d.val, by omega⟩ := fun d => Fin.ext (by show l.val / 64 * 64 + d.val = 64 + d.val; omega)
  simp only [score_apply, dot_snd, sc, e]

/-- A block of attention, element by element. -/
theorem oTile_apply (mask : IVec S128x128 1) (q kc kp vc vp : Vec Ideal S1x128x128 .f32) (r l : Fin 128) :
    oTile mask q kc kp vc vp (ix3 0 r l) = satt (sc k0_pay2 q kc r l) (sc mask q kp r l) (fun k => vc (ix3 0 k l)) fun k => vp (ix3 0 k l) := by
  pointwise [oTile, att_apply]
  rw [show k0_pay5 (ix2 r l) = BitVec.ofBool (decide (l.val < 64)) from by pointwise [k0_pay5]; exact slt64 l]
  by_cases h : l.val < 64
  · simp only [h, decide_true, BitVec.ofBool_true, Scalar.select, if_pos, sc_fst _ _ _ _ _ _ h]
  · simp only [h, decide_false, BitVec.ofBool_false, Scalar.select, sc_snd _ _ _ _ _ _ h]
    rfl

/-- A block of the logarithms, element by element. -/
theorem lTile_apply (mask : IVec S128x128 1) (q kc kp : Vec Ideal S1x128x128 .f32) (r l : Fin 128) :
    lTile mask q kc kp (ix3 0 r l) = slse (sc k0_pay2 q kc r l) (sc mask q kp r l) := by
  pointwise [lTile, lse_apply]
  rw [show k0_pay5 (ix2 r l) = BitVec.ofBool (decide (l.val < 64)) from by pointwise [k0_pay5]; exact slt64 l]
  by_cases h : l.val < 64
  · simp only [h, decide_true, BitVec.ofBool_true, Scalar.select, if_pos, sc_fst _ _ _ _ _ _ h]
  · simp only [h, decide_false, BitVec.ofBool_false, Scalar.select, sc_snd _ _ _ _ _ _ h]
    rfl

end Cert.SwaTile

end
-- ==== Proof.SwaFinal.lean ====
module

public import proofs.«01_k».proof.Proof.Gen.SwaIdeal.Value
public import proofs.«01_k».proof.Proof.SwaBlk
public import proofs.«01_k».proof.Proof.SwaRow

/-!
What the banded attention's kernel leaves in its four result arrays: the attention of each pair of heads and its
logarithms, as arrays of the projected columns alone.
-/

@[expose] public section

set_option maxRecDepth 16384

noncomputable section

namespace Cert.SwaFinal

open Idealize.ShloMosaic Idealize.ShloMosaic.TcCoe Idealize.SL.Sem Cert.SwaIdeal Cert.SwaIdeal.Gen Cert.SwaIdeal.Value Cert.SwaTile Cert.SwaSpec

/-- The column of lane `l` of pair `p`, in the queries, the keys or the values. -/
def pc (g : Fin 3) (p : Fin 2) (l : Fin 128) : Fin 2304 := ⟨g.val * 768 + p.val * 128 + l.val, by omega⟩

theorem pc_hl (g : Fin 3) (p : Fin 2) (l : Fin 128) (d : Fin 64) : pc g p (hl l d) = col g (hd p l) d :=
  Fin.ext (by show g.val * 768 + p.val * 128 + (l.val / 64 * 64 + d.val) = g.val * 768 + (2 * p.val + l.val / 64) * 64 + d.val; omega)

theorem pc_lane (g : Fin 3) (p : Fin 2) (l : Fin 128) : pc g p l = col g (hd p l) ⟨l.val % 64, by omega⟩ :=
  Fin.ext (by show g.val * 768 + p.val * 128 + l.val = g.val * 768 + (2 * p.val + l.val / 64) * 64 + l.val % 64; omega)

section
variable (A : Arr) (p : Fin 2) (b : Fin 4) (n : Fin 64) (mask : IVec S128x128 1) (q kc kp vc vp : Vec Ideal S1x128x128 .f32)
  (hm : ∀ r c, mask (ix2 r c) = 1#1 ↔ r.val ≤ c.val ∧ 0 < n.val)
  (hq : ∀ r l, q (ix3 0 r l) = A (ix3 b (row n r) (pc 0 p l)))
  (hkc : ∀ r l, kc (ix3 0 r l) = A (ix3 b (row n r) (pc 1 p l)))
  (hkp : 0 < n.val → ∀ r l, kp (ix3 0 r l) = A (ix3 b (prow n r) (pc 1 p l)))
include hq

include hkc in
theorem sc_cur (r l : Fin 128) : sc k0_pay2 q kc r l = cur A b (hd p l) n r := by
  funext c
  unfold sc cur qk
  simp only [hq, hkc, pc_hl]
  exact if_congr (mask_cur r c) rfl rfl

include hm hkp in
theorem sc_prev (r l : Fin 128) : sc mask q kp r l = prev A b (hd p l) n r := by
  funext c
  unfold sc prev qk
  by_cases hn : 0 < n.val
  · simp only [hq, hkp hn, pc_hl]
    exact if_congr (hm r c) rfl rfl
  · exact (if_neg fun e => hn ((hm r c).1 e).2).trans (if_neg fun e => hn e.2).symm

include hm hkc hkp in
/-- A block of 128 queries: the attention of the pair's heads. -/
theorem oTile_eq (hvc : ∀ r l, vc (ix3 0 r l) = A (ix3 b (row n r) (pc 2 p l)))
    (hvp : 0 < n.val → ∀ r l, vp (ix3 0 r l) = A (ix3 b (prow n r) (pc 2 p l))) (r l : Fin 128) :
    oTile mask q kc kp vc vp (ix3 0 r l) = resO p A b (row n r) l := by
  have e0 : (⟨(row n r).val / 128, by omega⟩ : Fin 64) = n := Fin.ext (by show (n.val * 128 + r.val) / 128 = n.val; omega)
  have e1 : (⟨(row n r).val % 128, by omega⟩ : Fin 128) = r := Fin.ext (by show (n.val * 128 + r.val) % 128 = r.val; omega)
  unfold resO
  rw [oTile_apply, sc_cur A p b n q kc hq hkc, sc_prev A p b n mask q kp hm hq hkp, e0, e1]
  unfold SwaSpec.att
  by_cases hn : 0 < n.val
  · simp only [hvc, hvp hn, pc_lane]
  · have e : prev A b (hd p l) n r = fun _ => ⊥ := funext fun c => if_neg fun e => hn e.2
    rw [e]
    simp only [hvc, pc_lane]
    exact satt_bot _ _ _ _

include hm hkc hkp in
/-- A block of 128 queries: the logarithms of the pair's heads. -/
theorem lTile_eq (r l : Fin 128) : lTile mask q kc kp (ix3 0 r l) = resL p A b (row n r) l := by
  have e0 : (⟨(row n r).val / 128, by omega⟩ : Fin 64) = n := Fin.ext (by show (n.val * 128 + r.val) / 128 = n.val; omega)
  have e1 : (⟨(row n r).val % 128, by omega⟩ : Fin 128) = r := Fin.ext (by show (n.val * 128 + r.val) % 128 = r.val; omega)
  unfold resL
  rw [lTile_apply, sc_cur A p b n q kc hq hkc, sc_prev A p b n mask q kp hm hq hkp, e0, e1]
  rfl
end

/-- Contents written rectangle by rectangle, when every piece is read off one function. -/
theorem canon_eq {s : Shape} {α : EltTy → Type} {e : EltTy} [∀ e, Nonempty (α e)] (G : s.Idx → α e) :
    ∀ L : List (View.Piece α s e), (∀ p ∈ L, ∀ x, p.2 x = G (p.1.emb x)) → ∀ y, (∃ p ∈ L, y ∈ p.1.set) → View.canon L y = G y
  | [], _, y, h => by obtain ⟨p, hp, _⟩ := h; cases hp
  | p :: L, hL, y, h => by
    by_cases hy : y ∈ p.1.set
    · choose f hf he using p.1.mem_set.1 hy
      have e : y = p.1.emb fun a => ⟨f a, hf a⟩ := funext fun a => Fin.ext (he a)
      rw [e, show (p :: L) = ⟨p.1, p.2⟩ :: L from rfl, View.canon_cons_emb]
      exact hL p List.mem_cons_self _
    · rw [View.canon_cons_of_not_mem _ _ hy]
      refine canon_eq G L (fun q hq => hL q (List.mem_cons_of_mem _ hq)) y ?_
      obtain ⟨q, hq, hqy⟩ := h
      rcases List.mem_cons.1 hq with rfl | hq
      · exact absurd hqy hy
      · exact ⟨q, hq, hqy⟩

/-- Rows `o` to `o + 127` of a loaded block of 1024. -/
theorem ld_in {A : Arr} {b : Fin 4} {x : Vec Ideal S1x1024x128 .f32} {o : ℕ} {inb} (i : Fin 8192) (j : Fin 2304) (r l : Fin 128)
    {f : Fin 1024 → Fin 8192} {g : Fin 128 → Fin 2304} (hx : ∀ r l, x (ix3 0 r l) = A (ix3 b (f r) (g l)))
    (ho : o + r.val < 1024) (hi : (f ⟨o + r.val, ho⟩).val = i.val) (hj : (g l).val = j.val) :
    View.ld x (Rect.unit (s := S1x1024x128) ![0, o, 0] S1x128x128.size inb) (ix3 0 r l) = A (ix3 b i j) := by
  have e : View.ld x (Rect.unit (s := S1x1024x128) ![0, o, 0] S1x128x128.size inb) (ix3 0 r l) = x (ix3 0 ⟨o + r.val, ho⟩ l) := by
    refine congrArg x (funext fun a => Fin.ext ?_)
    match a with
    | ⟨0, _⟩ => rfl
    | ⟨1, _⟩ => show o + 1 * r.val = o + r.val; omega
    | ⟨2, _⟩ => show 0 + 1 * l.val = l.val; omega
  rw [e, hx, Fin.ext hi, Fin.ext hj]

theorem mem_rect {o : ℕ} {inb} (y : S1x1024x128.Idx) (h0 : o ≤ (y 1).val) (h1 : (y 1).val < o + 128) :
    y ∈ (Rect.unit (s := S1x1024x128) ![0, o, 0] S1x128x128.size inb).set := by
  rw [Rect.mem_set_unit]
  intro a
  match a with
  | ⟨0, _⟩ => exact ⟨Nat.zero_le _, by show (y 0).val < 0 + 1; have : (y 0).val < 1 := (y 0).isLt; omega⟩
  | ⟨1, _⟩ => exact ⟨h0, h1⟩
  | ⟨2, _⟩ => exact ⟨Nat.zero_le _, by show (y 2).val < 0 + 128; have : (y 2).val < 128 := (y 2).isLt; omega⟩

variable (m : (ℓ : Loc nD τ sig) → Buf (Elt Ideal) ℓ)

/-- What grid point `t`'s block of a result holds. -/
def blkOf (res : Arr → Fin 4 → Fin 8192 → Fin 128 → EReal) (c : Dev nD) (t : Fin cfg0.N) (y : S1x1024x128.Idx) : EReal :=
  res (X m c) (bt t) ⟨(gt t).val * 1024 + (y 1).val, by have := (gt t).isLt; have : (y 1).val < 1024 := (y 1).isLt; omega⟩ (y 2)

/-- A piece of a block, row by row. -/
theorem piece {res : Arr → Fin 4 → Fin 8192 → Fin 128 → EReal} {c : Dev nD} {t : Fin cfg0.N} {o : ℕ} {inb} {n : Fin 64} {w : S1x128x128.Idx → EReal}
    (hn : n.val * 128 = (gt t).val * 1024 + o) (h : ∀ r l, w (ix3 0 r l) = res (X m c) (bt t) (row n r) l) (x : S1x128x128.Idx) :
    w x = blkOf m res c t ((Rect.unit (s := S1x1024x128) ![0, o, 0] S1x128x128.size inb).emb x) := by
  obtain ⟨r, l, rfl⟩ : ∃ (r : Fin 128) (l : Fin 128), x = ix3 0 r l := ⟨x 1, x 2, funext fun a => by
    match a with
    | ⟨0, _⟩ => exact Subsingleton.elim (α := Fin 1) _ _
    | ⟨1, _⟩ => rfl
    | ⟨2, _⟩ => rfl⟩
  refine (h r l).trans (congrArg₂ (res (X m c) (bt t)) (Fin.ext ?_) (Fin.ext ?_))
  · show n.val * 128 + r.val = (gt t).val * 1024 + (o + 1 * r.val); omega
  · show l.val = 0 + 1 * l.val; omega

/-- Result 1: what a grid point leaves in its block. -/
theorem blk10 (c : Dev nD) (t : Fin cfg0.N) (y : S1x1024x128.Idx) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) y = blkOf m (resO 0) c t y := by
  have hg : (gt t).val < 8 := (gt t).isLt
  have hy : (y 1).val < 1024 := (y 1).isLt
  rw [out10_eq]
  refine canon_eq (α := Elt Ideal) (e := .f32) (blkOf m (resO 0) c t) _ ?_ y ?_
  · simp only [List.forall_mem_cons]
    refine ⟨?_, ?_, ?_, ?_, ?_, ?_, ?_, ?_, fun _ h => absurd h List.not_mem_nil⟩
    · refine piece m (n := ⟨(gt t).val * 8 + 7, by omega⟩) (by show ((gt t).val * 8 + 7) * 128 = (gt t).val * 1024 + 896; omega) (oTile_eq (X m c) 0 (bt t) ⟨(gt t).val * 8 + 7, by omega⟩ _ _ _ _ _ _
        (fun r c => (mask_prev r c).trans ⟨fun e => ⟨e, by show 0 < (gt t).val * 8 + 7; omega⟩, fun e => e.1⟩)
        (fun r l => ld_in (row ⟨(gt t).val * 8 + 7, by omega⟩ r) (pc 0 0 l) r l (in0 m c t) (by omega) (by show (gt t).val * 1024 + (896 + r.val) = ((gt t).val * 8 + 7) * 128 + r.val; omega) (by show 0 + l.val = 0 * 768 + 0 * 128 + l.val; omega))
        (fun r l => ld_in (row ⟨(gt t).val * 8 + 7, by omega⟩ r) (pc 1 0 l) r l (in2 m c t) (by omega) (by show (gt t).val * 1024 + (896 + r.val) = ((gt t).val * 8 + 7) * 128 + r.val; omega) (by show 768 + l.val = 1 * 768 + 0 * 128 + l.val; omega))
        (fun hn r l => ld_in (prow ⟨(gt t).val * 8 + 7, by omega⟩ r) (pc 1 0 l) r l (in2 m c t) (by omega) (by show (gt t).val * 1024 + (768 + r.val) = ((gt t).val * 8 + 7 - 1) * 128 + r.val; omega) (by show 768 + l.val = 1 * 768 + 0 * 128 + l.val; omega))
        (fun r l => ld_in (row ⟨(gt t).val * 8 + 7, by omega⟩ r) (pc 2 0 l) r l (in6 m c t) (by omega) (by show (gt t).val * 1024 + (896 + r.val) = ((gt t).val * 8 + 7) * 128 + r.val; omega) (by show 1536 + l.val = 2 * 768 + 0 * 128 + l.val; omega))
        (fun hn r l => ld_in (prow ⟨(gt t).val * 8 + 7, by omega⟩ r) (pc 2 0 l) r l (in6 m c t) (by omega) (by show (gt t).val * 1024 + (768 + r.val) = ((gt t).val * 8 + 7 - 1) * 128 + r.val; omega) (by show 1536 + l.val = 2 * 768 + 0 * 128 + l.val; omega)))
    · refine piece m (n := ⟨(gt t).val * 8 + 6, by omega⟩) (by show ((gt t).val * 8 + 6) * 128 = (gt t).val * 1024 + 768; omega) (oTile_eq (X m c) 0 (bt t) ⟨(gt t).val * 8 + 6, by omega⟩ _ _ _ _ _ _
        (fun r c => (mask_prev r c).trans ⟨fun e => ⟨e, by show 0 < (gt t).val * 8 + 6; omega⟩, fun e => e.1⟩)
        (fun r l => ld_in (row ⟨(gt t).val * 8 + 6, by omega⟩ r) (pc 0 0 l) r l (in0 m c t) (by omega) (by show (gt t).val * 1024 + (768 + r.val) = ((gt t).val * 8 + 6) * 128 + r.val; omega) (by show 0 + l.val = 0 * 768 + 0 * 128 + l.val; omega))
        (fun r l => ld_in (row ⟨(gt t).val * 8 + 6, by omega⟩ r) (pc 1 0 l) r l (in2 m c t) (by omega) (by show (gt t).val * 1024 + (768 + r.val) = ((gt t).val * 8 + 6) * 128 + r.val; omega) (by show 768 + l.val = 1 * 768 + 0 * 128 + l.val; omega))
        (fun hn r l => ld_in (prow ⟨(gt t).val * 8 + 6, by omega⟩ r) (pc 1 0 l) r l (in2 m c t) (by omega) (by show (gt t).val * 1024 + (640 + r.val) = ((gt t).val * 8 + 6 - 1) * 128 + r.val; omega) (by show 768 + l.val = 1 * 768 + 0 * 128 + l.val; omega))
        (fun r l => ld_in (row ⟨(gt t).val * 8 + 6, by omega⟩ r) (pc 2 0 l) r l (in6 m c t) (by omega) (by show (gt t).val * 1024 + (768 + r.val) = ((gt t).val * 8 + 6) * 128 + r.val; omega) (by show 1536 + l.val = 2 * 768 + 0 * 128 + l.val; omega))
        (fun hn r l => ld_in (prow ⟨(gt t).val * 8 + 6, by omega⟩ r) (pc 2 0 l) r l (in6 m c t) (by omega) (by show (gt t).val * 1024 + (640 + r.val) = ((gt t).val * 8 + 6 - 1) * 128 + r.val; omega) (by show 1536 + l.val = 2 * 768 + 0 * 128 + l.val; omega)))
    · refine piece m (n := ⟨(gt t).val * 8 + 5, by omega⟩) (by show ((gt t).val * 8 + 5) * 128 = (gt t).val * 1024 + 640; omega) (oTile_eq (X m c) 0 (bt t) ⟨(gt t).val * 8 + 5, by omega⟩ _ _ _ _ _ _
        (fun r c => (mask_prev r c).trans ⟨fun e => ⟨e, by show 0 < (gt t).val * 8 + 5; omega⟩, fun e => e.1⟩)
        (fun r l => ld_in (row ⟨(gt t).val * 8 + 5, by omega⟩ r) (pc 0 0 l) r l (in0 m c t) (by omega) (by show (gt t).val * 1024 + (640 + r.val) = ((gt t).val * 8 + 5) * 128 + r.val; omega) (by show 0 + l.val = 0 * 768 + 0 * 128 + l.val; omega))
        (fun r l => ld_in (row ⟨(gt t).val * 8 + 5, by omega⟩ r) (pc 1 0 l) r l (in2 m c t) (by omega) (by show (gt t).val * 1024 + (640 + r.val) = ((gt t).val * 8 + 5) * 128 + r.val; omega) (by show 768 + l.val = 1 * 768 + 0 * 128 + l.val; omega))
        (fun hn r l => ld_in (prow ⟨(gt t).val * 8 + 5, by omega⟩ r) (pc 1 0 l) r l (in2 m c t) (by omega) (by show (gt t).val * 1024 + (512 + r.val) = ((gt t).val * 8 + 5 - 1) * 128 + r.val; omega) (by show 768 + l.val = 1 * 768 + 0 * 128 + l.val; omega))
        (fun r l => ld_in (row ⟨(gt t).val * 8 + 5, by omega⟩ r) (pc 2 0 l) r l (in6 m c t) (by omega) (by show (gt t).val * 1024 + (640 + r.val) = ((gt t).val * 8 + 5) * 128 + r.val; omega) (by show 1536 + l.val = 2 * 768 + 0 * 128 + l.val; omega))
        (fun hn r l => ld_in (prow ⟨(gt t).val * 8 + 5, by omega⟩ r) (pc 2 0 l) r l (in6 m c t) (by omega) (by show (gt t).val * 1024 + (512 + r.val) = ((gt t).val * 8 + 5 - 1) * 128 + r.val; omega) (by show 1536 + l.val = 2 * 768 + 0 * 128 + l.val; omega)))
    · refine piece m (n := ⟨(gt t).val * 8 + 4, by omega⟩) (by show ((gt t).val * 8 + 4) * 128 = (gt t).val * 1024 + 512; omega) (oTile_eq (X m c) 0 (bt t) ⟨(gt t).val * 8 + 4, by omega⟩ _ _ _ _ _ _
        (fun r c => (mask_prev r c).trans ⟨fun e => ⟨e, by show 0 < (gt t).val * 8 + 4; omega⟩, fun e => e.1⟩)
        (fun r l => ld_in (row ⟨(gt t).val * 8 + 4, by omega⟩ r) (pc 0 0 l) r l (in0 m c t) (by omega) (by show (gt t).val * 1024 + (512 + r.val) = ((gt t).val * 8 + 4) * 128 + r.val; omega) (by show 0 + l.val = 0 * 768 + 0 * 128 + l.val; omega))
        (fun r l => ld_in (row ⟨(gt t).val * 8 + 4, by omega⟩ r) (pc 1 0 l) r l (in2 m c t) (by omega) (by show (gt t).val * 1024 + (512 + r.val) = ((gt t).val * 8 + 4) * 128 + r.val; omega) (by show 768 + l.val = 1 * 768 + 0 * 128 + l.val; omega))
        (fun hn r l => ld_in (prow ⟨(gt t).val * 8 + 4, by omega⟩ r) (pc 1 0 l) r l (in2 m c t) (by omega) (by show (gt t).val * 1024 + (384 + r.val) = ((gt t).val * 8 + 4 - 1) * 128 + r.val; omega) (by show 768 + l.val = 1 * 768 + 0 * 128 + l.val; omega))
        (fun r l => ld_in (row ⟨(gt t).val * 8 + 4, by omega⟩ r) (pc 2 0 l) r l (in6 m c t) (by omega) (by show (gt t).val * 1024 + (512 + r.val) = ((gt t).val * 8 + 4) * 128 + r.val; omega) (by show 1536 + l.val = 2 * 768 + 0 * 128 + l.val; omega))
        (fun hn r l => ld_in (prow ⟨(gt t).val * 8 + 4, by omega⟩ r) (pc 2 0 l) r l (in6 m c t) (by omega) (by show (gt t).val * 1024 + (384 + r.val) = ((gt t).val * 8 + 4 - 1) * 128 + r.val; omega) (by show 1536 + l.val = 2 * 768 + 0 * 128 + l.val; omega)))
    · refine piece m (n := ⟨(gt t).val * 8 + 3, by omega⟩) (by show ((gt t).val * 8 + 3) * 128 = (gt t).val * 1024 + 384; omega) (oTile_eq (X m c) 0 (bt t) ⟨(gt t).val * 8 + 3, by omega⟩ _ _ _ _ _ _
        (fun r c => (mask_prev r c).trans ⟨fun e => ⟨e, by show 0 < (gt t).val * 8 + 3; omega⟩, fun e => e.1⟩)
        (fun r l => ld_in (row ⟨(gt t).val * 8 + 3, by omega⟩ r) (pc 0 0 l) r l (in0 m c t) (by omega) (by show (gt t).val * 1024 + (384 + r.val) = ((gt t).val * 8 + 3) * 128 + r.val; omega) (by show 0 + l.val = 0 * 768 + 0 * 128 + l.val; omega))
        (fun r l => ld_in (row ⟨(gt t).val * 8 + 3, by omega⟩ r) (pc 1 0 l) r l (in2 m c t) (by omega) (by show (gt t).val * 1024 + (384 + r.val) = ((gt t).val * 8 + 3) * 128 + r.val; omega) (by show 768 + l.val = 1 * 768 + 0 * 128 + l.val; omega))
        (fun hn r l => ld_in (prow ⟨(gt t).val * 8 + 3, by omega⟩ r) (pc 1 0 l) r l (in2 m c t) (by omega) (by show (gt t).val * 1024 + (256 + r.val) = ((gt t).val * 8 + 3 - 1) * 128 + r.val; omega) (by show 768 + l.val = 1 * 768 + 0 * 128 + l.val; omega))
        (fun r l => ld_in (row ⟨(gt t).val * 8 + 3, by omega⟩ r) (pc 2 0 l) r l (in6 m c t) (by omega) (by show (gt t).val * 1024 + (384 + r.val) = ((gt t).val * 8 + 3) * 128 + r.val; omega) (by show 1536 + l.val = 2 * 768 + 0 * 128 + l.val; omega))
        (fun hn r l => ld_in (prow ⟨(gt t).val * 8 + 3, by omega⟩ r) (pc 2 0 l) r l (in6 m c t) (by omega) (by show (gt t).val * 1024 + (256 + r.val) = ((gt t).val * 8 + 3 - 1) * 128 + r.val; omega) (by show 1536 + l.val = 2 * 768 + 0 * 128 + l.val; omega)))
    · refine piece m (n := ⟨(gt t).val * 8 + 2, by omega⟩) (by show ((gt t).val * 8 + 2) * 128 = (gt t).val * 1024 + 256; omega) (oTile_eq (X m c) 0 (bt t) ⟨(gt t).val * 8 + 2, by omega⟩ _ _ _ _ _ _
        (fun r c => (mask_prev r c).trans ⟨fun e => ⟨e, by show 0 < (gt t).val * 8 + 2; omega⟩, fun e => e.1⟩)
        (fun r l => ld_in (row ⟨(gt t).val * 8 + 2, by omega⟩ r) (pc 0 0 l) r l (in0 m c t) (by omega) (by show (gt t).val * 1024 + (256 + r.val) = ((gt t).val * 8 + 2) * 128 + r.val; omega) (by show 0 + l.val = 0 * 768 + 0 * 128 + l.val; omega))
        (fun r l => ld_in (row ⟨(gt t).val * 8 + 2, by omega⟩ r) (pc 1 0 l) r l (in2 m c t) (by omega) (by show (gt t).val * 1024 + (256 + r.val) = ((gt t).val * 8 + 2) * 128 + r.val; omega) (by show 768 + l.val = 1 * 768 + 0 * 128 + l.val; omega))
        (fun hn r l => ld_in (prow ⟨(gt t).val * 8 + 2, by omega⟩ r) (pc 1 0 l) r l (in2 m c t) (by omega) (by show (gt t).val * 1024 + (128 + r.val) = ((gt t).val * 8 + 2 - 1) * 128 + r.val; omega) (by show 768 + l.val = 1 * 768 + 0 * 128 + l.val; omega))
        (fun r l => ld_in (row ⟨(gt t).val * 8 + 2, by omega⟩ r) (pc 2 0 l) r l (in6 m c t) (by omega) (by show (gt t).val * 1024 + (256 + r.val) = ((gt t).val * 8 + 2) * 128 + r.val; omega) (by show 1536 + l.val = 2 * 768 + 0 * 128 + l.val; omega))
        (fun hn r l => ld_in (prow ⟨(gt t).val * 8 + 2, by omega⟩ r) (pc 2 0 l) r l (in6 m c t) (by omega) (by show (gt t).val * 1024 + (128 + r.val) = ((gt t).val * 8 + 2 - 1) * 128 + r.val; omega) (by show 1536 + l.val = 2 * 768 + 0 * 128 + l.val; omega)))
    · refine piece m (n := ⟨(gt t).val * 8 + 1, by omega⟩) (by show ((gt t).val * 8 + 1) * 128 = (gt t).val * 1024 + 128; omega) (oTile_eq (X m c) 0 (bt t) ⟨(gt t).val * 8 + 1, by omega⟩ _ _ _ _ _ _
        (fun r c => (mask_prev r c).trans ⟨fun e => ⟨e, by show 0 < (gt t).val * 8 + 1; omega⟩, fun e => e.1⟩)
        (fun r l => ld_in (row ⟨(gt t).val * 8 + 1, by omega⟩ r) (pc 0 0 l) r l (in0 m c t) (by omega) (by show (gt t).val * 1024 + (128 + r.val) = ((gt t).val * 8 + 1) * 128 + r.val; omega) (by show 0 + l.val = 0 * 768 + 0 * 128 + l.val; omega))
        (fun r l => ld_in (row ⟨(gt t).val * 8 + 1, by omega⟩ r) (pc 1 0 l) r l (in2 m c t) (by omega) (by show (gt t).val * 1024 + (128 + r.val) = ((gt t).val * 8 + 1) * 128 + r.val; omega) (by show 768 + l.val = 1 * 768 + 0 * 128 + l.val; omega))
        (fun hn r l => ld_in (prow ⟨(gt t).val * 8 + 1, by omega⟩ r) (pc 1 0 l) r l (in2 m c t) (by omega) (by show (gt t).val * 1024 + (0 + r.val) = ((gt t).val * 8 + 1 - 1) * 128 + r.val; omega) (by show 768 + l.val = 1 * 768 + 0 * 128 + l.val; omega))
        (fun r l => ld_in (row ⟨(gt t).val * 8 + 1, by omega⟩ r) (pc 2 0 l) r l (in6 m c t) (by omega) (by show (gt t).val * 1024 + (128 + r.val) = ((gt t).val * 8 + 1) * 128 + r.val; omega) (by show 1536 + l.val = 2 * 768 + 0 * 128 + l.val; omega))
        (fun hn r l => ld_in (prow ⟨(gt t).val * 8 + 1, by omega⟩ r) (pc 2 0 l) r l (in6 m c t) (by omega) (by show (gt t).val * 1024 + (0 + r.val) = ((gt t).val * 8 + 1 - 1) * 128 + r.val; omega) (by show 1536 + l.val = 2 * 768 + 0 * 128 + l.val; omega)))
    · refine piece m (n := ⟨(gt t).val * 8 + 0, by omega⟩) (by show ((gt t).val * 8 + 0) * 128 = (gt t).val * 1024 + 0; omega) (oTile_eq (X m c) 0 (bt t) ⟨(gt t).val * 8 + 0, by omega⟩ _ _ _ _ _ _
        (fun r c => (mask_first (grid0.coords t) r c).trans ⟨fun e => ⟨e.1, by show 0 < (gt t).val * 8 + 0; have : 0 < (gt t).val := e.2; omega⟩, fun e => ⟨e.1, by have : 0 < (gt t).val * 8 + 0 := e.2; show 0 < (gt t).val; omega⟩⟩)
        (fun r l => ld_in (row ⟨(gt t).val * 8 + 0, by omega⟩ r) (pc 0 0 l) r l (in0 m c t) (by omega) (by show (gt t).val * 1024 + (0 + r.val) = ((gt t).val * 8 + 0) * 128 + r.val; omega) (by show 0 + l.val = 0 * 768 + 0 * 128 + l.val; omega))
        (fun r l => ld_in (row ⟨(gt t).val * 8 + 0, by omega⟩ r) (pc 1 0 l) r l (in2 m c t) (by omega) (by show (gt t).val * 1024 + (0 + r.val) = ((gt t).val * 8 + 0) * 128 + r.val; omega) (by show 768 + l.val = 1 * 768 + 0 * 128 + l.val; omega))
        (fun hn r l => ld_in (prow ⟨(gt t).val * 8 + 0, by omega⟩ r) (pc 1 0 l) r l (in4 m c t) (by omega) (by show ((gt t).val - 1) * 1024 + (896 + r.val) = ((gt t).val * 8 + 0 - 1) * 128 + r.val; have hn : 0 < (gt t).val * 8 + 0 := hn; omega) (by show 768 + l.val = 1 * 768 + 0 * 128 + l.val; omega))
        (fun r l => ld_in (row ⟨(gt t).val * 8 + 0, by omega⟩ r) (pc 2 0 l) r l (in6 m c t) (by omega) (by show (gt t).val * 1024 + (0 + r.val) = ((gt t).val * 8 + 0) * 128 + r.val; omega) (by show 1536 + l.val = 2 * 768 + 0 * 128 + l.val; omega))
        (fun hn r l => ld_in (prow ⟨(gt t).val * 8 + 0, by omega⟩ r) (pc 2 0 l) r l (in8 m c t) (by omega) (by show ((gt t).val - 1) * 1024 + (896 + r.val) = ((gt t).val * 8 + 0 - 1) * 128 + r.val; have hn : 0 < (gt t).val * 8 + 0 := hn; omega) (by show 1536 + l.val = 2 * 768 + 0 * 128 + l.val; omega)))
  · obtain h | h | h | h | h | h | h | h : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
    · exact ⟨_, .head _, mem_rect (inb := inb_S1x1024x128_S1x128x128_0_896_0) y h.1 h.2⟩
    · exact ⟨_, .tail _ (.head _), mem_rect (inb := inb_S1x1024x128_S1x128x128_0_768_0) y h.1 h.2⟩
    · exact ⟨_, .tail _ (.tail _ (.head _)), mem_rect (inb := inb_S1x1024x128_S1x128x128_0_640_0) y h.1 h.2⟩
    · exact ⟨_, .tail _ (.tail _ (.tail _ (.head _))), mem_rect (inb := inb_S1x1024x128_S1x128x128_0_512_0) y h.1 h.2⟩
    · exact ⟨_, .tail _ (.tail _ (.tail _ (.tail _ (.head _)))), mem_rect (inb := inb_S1x1024x128_S1x128x128_0_384_0) y h.1 h.2⟩
    · exact ⟨_, .tail _ (.tail _ (.tail _ (.tail _ (.tail _ (.head _))))), mem_rect (inb := inb_S1x1024x128_S1x128x128_0_256_0) y h.1 h.2⟩
    · exact ⟨_, .tail _ (.tail _ (.tail _ (.tail _ (.tail _ (.tail _ (.head _)))))), mem_rect (inb := inb_S1x1024x128_S1x128x128_0_128_0) y h.1 h.2⟩
    · exact ⟨_, .tail _ (.tail _ (.tail _ (.tail _ (.tail _ (.tail _ (.tail _ (.head _))))))), mem_rect (inb := inb_S1x1024x128_S1x128x128_0_0_0) y h.1 h.2⟩

/-- Result 1's array after the run. -/
theorem arr10 (c : Dev nD) :
    (dats m 0 c).arrAt 10 cfg0.N = fun i : S4x8192x128.Idx => resO 0 (X m c) (i 0) (i 1) (i 2) := by
  refine (dats m 0 c).arrAt_eq_of_cover 10 _ (fun t _ => ?_) cover10
  rw [flushed10]
  funext y
  obtain ⟨r, l, rfl⟩ : ∃ (r : Fin 1024) (l : Fin 128), y = ix3 0 r l := ⟨y 1, y 2, funext fun a => by
    match a with
    | ⟨0, _⟩ => exact Subsingleton.elim (α := Fin 1) _ _
    | ⟨1, _⟩ => rfl
    | ⟨2, _⟩ => rfl⟩
  refine (blk10 m c t (ix3 0 r l)).trans ?_
  exact (out10 (F := Ideal) (fun i : S4x8192x128.Idx => resO 0 (X m c) (i 0) (i 1) (i 2)) t r l).symm

/-- Result 2: what a grid point leaves in its block. -/
theorem blk11 (c : Dev nD) (t : Fin cfg0.N) (y : S1x1024x128.Idx) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) y = blkOf m (resO 1) c t y := by
  have hg : (gt t).val < 8 := (gt t).isLt
  have hy : (y 1).val < 1024 := (y 1).isLt
  rw [out11_eq]
  refine canon_eq (α := Elt Ideal) (e := .f32) (blkOf m (resO 1) c t) _ ?_ y ?_
  · simp only [List.forall_mem_cons]
    refine ⟨?_, ?_, ?_, ?_, ?_, ?_, ?_, ?_, fun _ h => absurd h List.not_mem_nil⟩
    · refine piece m (n := ⟨(gt t).val * 8 + 7, by omega⟩) (by show ((gt t).val * 8 + 7) * 128 = (gt t).val * 1024 + 896; omega) (oTile_eq (X m c) 1 (bt t) ⟨(gt t).val * 8 + 7, by omega⟩ _ _ _ _ _ _
        (fun r c => (mask_prev r c).trans ⟨fun e => ⟨e, by show 0 < (gt t).val * 8 + 7; omega⟩, fun e => e.1⟩)
        (fun r l => ld_in (row ⟨(gt t).val * 8 + 7, by omega⟩ r) (pc 0 1 l) r l (in1 m c t) (by omega) (by show (gt t).val * 1024 + (896 + r.val) = ((gt t).val * 8 + 7) * 128 + r.val; omega) (by show 128 + l.val = 0 * 768 + 1 * 128 + l.val; omega))
        (fun r l => ld_in (row ⟨(gt t).val * 8 + 7, by omega⟩ r) (pc 1 1 l) r l (in3 m c t) (by omega) (by show (gt t).val * 1024 + (896 + r.val) = ((gt t).val * 8 + 7) * 128 + r.val; omega) (by show 896 + l.val = 1 * 768 + 1 * 128 + l.val; omega))
        (fun hn r l => ld_in (prow ⟨(gt t).val * 8 + 7, by omega⟩ r) (pc 1 1 l) r l (in3 m c t) (by omega) (by show (gt t).val * 1024 + (768 + r.val) = ((gt t).val * 8 + 7 - 1) * 128 + r.val; omega) (by show 896 + l.val = 1 * 768 + 1 * 128 + l.val; omega))
        (fun r l => ld_in (row ⟨(gt t).val * 8 + 7, by omega⟩ r) (pc 2 1 l) r l (in7 m c t) (by omega) (by show (gt t).val * 1024 + (896 + r.val) = ((gt t).val * 8 + 7) * 128 + r.val; omega) (by show 1664 + l.val = 2 * 768 + 1 * 128 + l.val; omega))
        (fun hn r l => ld_in (prow ⟨(gt t).val * 8 + 7, by omega⟩ r) (pc 2 1 l) r l (in7 m c t) (by omega) (by show (gt t).val * 1024 + (768 + r.val) = ((gt t).val * 8 + 7 - 1) * 128 + r.val; omega) (by show 1664 + l.val = 2 * 768 + 1 * 128 + l.val; omega)))
    · refine piece m (n := ⟨(gt t).val * 8 + 6, by omega⟩) (by show ((gt t).val * 8 + 6) * 128 = (gt t).val * 1024 + 768; omega) (oTile_eq (X m c) 1 (bt t) ⟨(gt t).val * 8 + 6, by omega⟩ _ _ _ _ _ _
        (fun r c => (mask_prev r c).trans ⟨fun e => ⟨e, by show 0 < (gt t).val * 8 + 6; omega⟩, fun e => e.1⟩)
        (fun r l => ld_in (row ⟨(gt t).val * 8 + 6, by omega⟩ r) (pc 0 1 l) r l (in1 m c t) (by omega) (by show (gt t).val * 1024 + (768 + r.val) = ((gt t).val * 8 + 6) * 128 + r.val; omega) (by show 128 + l.val = 0 * 768 + 1 * 128 + l.val; omega))
        (fun r l => ld_in (row ⟨(gt t).val * 8 + 6, by omega⟩ r) (pc 1 1 l) r l (in3 m c t) (by omega) (by show (gt t).val * 1024 + (768 + r.val) = ((gt t).val * 8 + 6) * 128 + r.val; omega) (by show 896 + l.val = 1 * 768 + 1 * 128 + l.val; omega))
        (fun hn r l => ld_in (prow ⟨(gt t).val * 8 + 6, by omega⟩ r) (pc 1 1 l) r l (in3 m c t) (by omega) (by show (gt t).val * 1024 + (640 + r.val) = ((gt t).val * 8 + 6 - 1) * 128 + r.val; omega) (by show 896 + l.val = 1 * 768 + 1 * 128 + l.val; omega))
        (fun r l => ld_in (row ⟨(gt t).val * 8 + 6, by omega⟩ r) (pc 2 1 l) r l (in7 m c t) (by omega) (by show (gt t).val * 1024 + (768 + r.val) = ((gt t).val * 8 + 6) * 128 + r.val; omega) (by show 1664 + l.val = 2 * 768 + 1 * 128 + l.val; omega))
        (fun hn r l => ld_in (prow ⟨(gt t).val * 8 + 6, by omega⟩ r) (pc 2 1 l) r l (in7 m c t) (by omega) (by show (gt t).val * 1024 + (640 + r.val) = ((gt t).val * 8 + 6 - 1) * 128 + r.val; omega) (by show 1664 + l.val = 2 * 768 + 1 * 128 + l.val; omega)))
    · refine piece m (n := ⟨(gt t).val * 8 + 5, by omega⟩) (by show ((gt t).val * 8 + 5) * 128 = (gt t).val * 1024 + 640; omega) (oTile_eq (X m c) 1 (bt t) ⟨(gt t).val * 8 + 5, by omega⟩ _ _ _ _ _ _
        (fun r c => (mask_prev r c).trans ⟨fun e => ⟨e, by show 0 < (gt t).val * 8 + 5; omega⟩, fun e => e.1⟩)
        (fun r l => ld_in (row ⟨(gt t).val * 8 + 5, by omega⟩ r) (pc 0 1 l) r l (in1 m c t) (by omega) (by show (gt t).val * 1024 + (640 + r.val) = ((gt t).val * 8 + 5) * 128 + r.val; omega) (by show 128 + l.val = 0 * 768 + 1 * 128 + l.val; omega))
        (fun r l => ld_in (row ⟨(gt t).val * 8 + 5, by omega⟩ r) (pc 1 1 l) r l (in3 m c t) (by omega) (by show (gt t).val * 1024 + (640 + r.val) = ((gt t).val * 8 + 5) * 128 + r.val; omega) (by show 896 + l.val = 1 * 768 + 1 * 128 + l.val; omega))
        (fun hn r l => ld_in (prow ⟨(gt t).val * 8 + 5, by omega⟩ r) (pc 1 1 l) r l (in3 m c t) (by omega) (by show (gt t).val * 1024 + (512 + r.val) = ((gt t).val * 8 + 5 - 1) * 128 + r.val; omega) (by show 896 + l.val = 1 * 768 + 1 * 128 + l.val; omega))
        (fun r l => ld_in (row ⟨(gt t).val * 8 + 5, by omega⟩ r) (pc 2 1 l) r l (in7 m c t) (by omega) (by show (gt t).val * 1024 + (640 + r.val) = ((gt t).val * 8 + 5) * 128 + r.val; omega) (by show 1664 + l.val = 2 * 768 + 1 * 128 + l.val; omega))
        (fun hn r l => ld_in (prow ⟨(gt t).val * 8 + 5, by omega⟩ r) (pc 2 1 l) r l (in7 m c t) (by omega) (by show (gt t).val * 1024 + (512 + r.val) = ((gt t).val * 8 + 5 - 1) * 128 + r.val; omega) (by show 1664 + l.val = 2 * 768 + 1 * 128 + l.val; omega)))
    · refine piece m (n := ⟨(gt t).val * 8 + 4, by omega⟩) (by show ((gt t).val * 8 + 4) * 128 = (gt t).val * 1024 + 512; omega) (oTile_eq (X m c) 1 (bt t) ⟨(gt t).val * 8 + 4, by omega⟩ _ _ _ _ _ _
        (fun r c => (mask_prev r c).trans ⟨fun e => ⟨e, by show 0 < (gt t).val * 8 + 4; omega⟩, fun e => e.1⟩)
        (fun r l => ld_in (row ⟨(gt t).val * 8 + 4, by omega⟩ r) (pc 0 1 l) r l (in1 m c t) (by omega) (by show (gt t).val * 1024 + (512 + r.val) = ((gt t).val * 8 + 4) * 128 + r.val; omega) (by show 128 + l.val = 0 * 768 + 1 * 128 + l.val; omega))
        (fun r l => ld_in (row ⟨(gt t).val * 8 + 4, by omega⟩ r) (pc 1 1 l) r l (in3 m c t) (by omega) (by show (gt t).val * 1024 + (512 + r.val) = ((gt t).val * 8 + 4) * 128 + r.val; omega) (by show 896 + l.val = 1 * 768 + 1 * 128 + l.val; omega))
        (fun hn r l => ld_in (prow ⟨(gt t).val * 8 + 4, by omega⟩ r) (pc 1 1 l) r l (in3 m c t) (by omega) (by show (gt t).val * 1024 + (384 + r.val) = ((gt t).val * 8 + 4 - 1) * 128 + r.val; omega) (by show 896 + l.val = 1 * 768 + 1 * 128 + l.val; omega))
        (fun r l => ld_in (row ⟨(gt t).val * 8 + 4, by omega⟩ r) (pc 2 1 l) r l (in7 m c t) (by omega) (by show (gt t).val * 1024 + (512 + r.val) = ((gt t).val * 8 + 4) * 128 + r.val; omega) (by show 1664 + l.val = 2 * 768 + 1 * 128 + l.val; omega))
        (fun hn r l => ld_in (prow ⟨(gt t).val * 8 + 4, by omega⟩ r) (pc 2 1 l) r l (in7 m c t) (by omega) (by show (gt t).val * 1024 + (384 + r.val) = ((gt t).val * 8 + 4 - 1) * 128 + r.val; omega) (by show 1664 + l.val = 2 * 768 + 1 * 128 + l.val; omega)))
    · refine piece m (n := ⟨(gt t).val * 8 + 3, by omega⟩) (by show ((gt t).val * 8 + 3) * 128 = (gt t).val * 1024 + 384; omega) (oTile_eq (X m c) 1 (bt t) ⟨(gt t).val * 8 + 3, by omega⟩ _ _ _ _ _ _
        (fun r c => (mask_prev r c).trans ⟨fun e => ⟨e, by show 0 < (gt t).val * 8 + 3; omega⟩, fun e => e.1⟩)
        (fun r l => ld_in (row ⟨(gt t).val * 8 + 3, by omega⟩ r) (pc 0 1 l) r l (in1 m c t) (by omega) (by show (gt t).val * 1024 + (384 + r.val) = ((gt t).val * 8 + 3) * 128 + r.val; omega) (by show 128 + l.val = 0 * 768 + 1 * 128 + l.val; omega))
        (fun r l => ld_in (row ⟨(gt t).val * 8 + 3, by omega⟩ r) (pc 1 1 l) r l (in3 m c t) (by omega) (by show (gt t).val * 1024 + (384 + r.val) = ((gt t).val * 8 + 3) * 128 + r.val; omega) (by show 896 + l.val = 1 * 768 + 1 * 128 + l.val; omega))
        (fun hn r l => ld_in (prow ⟨(gt t).val * 8 + 3, by omega⟩ r) (pc 1 1 l) r l (in3 m c t) (by omega) (by show (gt t).val * 1024 + (256 + r.val) = ((gt t).val * 8 + 3 - 1) * 128 + r.val; omega) (by show 896 + l.val = 1 * 768 + 1 * 128 + l.val; omega))
        (fun r l => ld_in (row ⟨(gt t).val * 8 + 3, by omega⟩ r) (pc 2 1 l) r l (in7 m c t) (by omega) (by show (gt t).val * 1024 + (384 + r.val) = ((gt t).val * 8 + 3) * 128 + r.val; omega) (by show 1664 + l.val = 2 * 768 + 1 * 128 + l.val; omega))
        (fun hn r l => ld_in (prow ⟨(gt t).val * 8 + 3, by omega⟩ r) (pc 2 1 l) r l (in7 m c t) (by omega) (by show (gt t).val * 1024 + (256 + r.val) = ((gt t).val * 8 + 3 - 1) * 128 + r.val; omega) (by show 1664 + l.val = 2 * 768 + 1 * 128 + l.val; omega)))
    · refine piece m (n := ⟨(gt t).val * 8 + 2, by omega⟩) (by show ((gt t).val * 8 + 2) * 128 = (gt t).val * 1024 + 256; omega) (oTile_eq (X m c) 1 (bt t) ⟨(gt t).val * 8 + 2, by omega⟩ _ _ _ _ _ _
        (fun r c => (mask_prev r c).trans ⟨fun e => ⟨e, by show 0 < (gt t).val * 8 + 2; omega⟩, fun e => e.1⟩)
        (fun r l => ld_in (row ⟨(gt t).val * 8 + 2, by omega⟩ r) (pc 0 1 l) r l (in1 m c t) (by omega) (by show (gt t).val * 1024 + (256 + r.val) = ((gt t).val * 8 + 2) * 128 + r.val; omega) (by show 128 + l.val = 0 * 768 + 1 * 128 + l.val; omega))
        (fun r l => ld_in (row ⟨(gt t).val * 8 + 2, by omega⟩ r) (pc 1 1 l) r l (in3 m c t) (by omega) (by show (gt t).val * 1024 + (256 + r.val) = ((gt t).val * 8 + 2) * 128 + r.val; omega) (by show 896 + l.val = 1 * 768 + 1 * 128 + l.val; omega))
        (fun hn r l => ld_in (prow ⟨(gt t).val * 8 + 2, by omega⟩ r) (pc 1 1 l) r l (in3 m c t) (by omega) (by show (gt t).val * 1024 + (128 + r.val) = ((gt t).val * 8 + 2 - 1) * 128 + r.val; omega) (by show 896 + l.val = 1 * 768 + 1 * 128 + l.val; omega))
        (fun r l => ld_in (row ⟨(gt t).val * 8 + 2, by omega⟩ r) (pc 2 1 l) r l (in7 m c t) (by omega) (by show (gt t).val * 1024 + (256 + r.val) = ((gt t).val * 8 + 2) * 128 + r.val; omega) (by show 1664 + l.val = 2 * 768 + 1 * 128 + l.val; omega))
        (fun hn r l => ld_in (prow ⟨(gt t).val * 8 + 2, by omega⟩ r) (pc 2 1 l) r l (in7 m c t) (by omega) (by show (gt t).val * 1024 + (128 + r.val) = ((gt t).val * 8 + 2 - 1) * 128 + r.val; omega) (by show 1664 + l.val = 2 * 768 + 1 * 128 + l.val; omega)))
    · refine piece m (n := ⟨(gt t).val * 8 + 1, by omega⟩) (by show ((gt t).val * 8 + 1) * 128 = (gt t).val * 1024 + 128; omega) (oTile_eq (X m c) 1 (bt t) ⟨(gt t).val * 8 + 1, by omega⟩ _ _ _ _ _ _
        (fun r c => (mask_prev r c).trans ⟨fun e => ⟨e, by show 0 < (gt t).val * 8 + 1; omega⟩, fun e => e.1⟩)
        (fun r l => ld_in (row ⟨(gt t).val * 8 + 1, by omega⟩ r) (pc 0 1 l) r l (in1 m c t) (by omega) (by show (gt t).val * 1024 + (128 + r.val) = ((gt t).val * 8 + 1) * 128 + r.val; omega) (by show 128 + l.val = 0 * 768 + 1 * 128 + l.val; omega))
        (fun r l => ld_in (row ⟨(gt t).val * 8 + 1, by omega⟩ r) (pc 1 1 l) r l (in3 m c t) (by omega) (by show (gt t).val * 1024 + (128 + r.val) = ((gt t).val * 8 + 1) * 128 + r.val; omega) (by show 896 + l.val = 1 * 768 + 1 * 128 + l.val; omega))
        (fun hn r l => ld_in (prow ⟨(gt t).val * 8 + 1, by omega⟩ r) (pc 1 1 l) r l (in3 m c t) (by omega) (by show (gt t).val * 1024 + (0 + r.val) = ((gt t).val * 8 + 1 - 1) * 128 + r.val; omega) (by show 896 + l.val = 1 * 768 + 1 * 128 + l.val; omega))
        (fun r l => ld_in (row ⟨(gt t).val * 8 + 1, by omega⟩ r) (pc 2 1 l) r l (in7 m c t) (by omega) (by show (gt t).val * 1024 + (128 + r.val) = ((gt t).val * 8 + 1) * 128 + r.val; omega) (by show 1664 + l.val = 2 * 768 + 1 * 128 + l.val; omega))
        (fun hn r l => ld_in (prow ⟨(gt t).val * 8 + 1, by omega⟩ r) (pc 2 1 l) r l (in7 m c t) (by omega) (by show (gt t).val * 1024 + (0 + r.val) = ((gt t).val * 8 + 1 - 1) * 128 + r.val; omega) (by show 1664 + l.val = 2 * 768 + 1 * 128 + l.val; omega)))
    · refine piece m (n := ⟨(gt t).val * 8 + 0, by omega⟩) (by show ((gt t).val * 8 + 0) * 128 = (gt t).val * 1024 + 0; omega) (oTile_eq (X m c) 1 (bt t) ⟨(gt t).val * 8 + 0, by omega⟩ _ _ _ _ _ _
        (fun r c => (mask_first (grid0.coords t) r c).trans ⟨fun e => ⟨e.1, by show 0 < (gt t).val * 8 + 0; have : 0 < (gt t).val := e.2; omega⟩, fun e => ⟨e.1, by have : 0 < (gt t).val * 8 + 0 := e.2; show 0 < (gt t).val; omega⟩⟩)
        (fun r l => ld_in (row ⟨(gt t).val * 8 + 0, by omega⟩ r) (pc 0 1 l) r l (in1 m c t) (by omega) (by show (gt t).val * 1024 + (0 + r.val) = ((gt t).val * 8 + 0) * 128 + r.val; omega) (by show 128 + l.val = 0 * 768 + 1 * 128 + l.val; omega))
        (fun r l => ld_in (row ⟨(gt t).val * 8 + 0, by omega⟩ r) (pc 1 1 l) r l (in3 m c t) (by omega) (by show (gt t).val * 1024 + (0 + r.val) = ((gt t).val * 8 + 0) * 128 + r.val; omega) (by show 896 + l.val = 1 * 768 + 1 * 128 + l.val; omega))
        (fun hn r l => ld_in (prow ⟨(gt t).val * 8 + 0, by omega⟩ r) (pc 1 1 l) r l (in5 m c t) (by omega) (by show ((gt t).val - 1) * 1024 + (896 + r.val) = ((gt t).val * 8 + 0 - 1) * 128 + r.val; have hn : 0 < (gt t).val * 8 + 0 := hn; omega) (by show 896 + l.val = 1 * 768 + 1 * 128 + l.val; omega))
        (fun r l => ld_in (row ⟨(gt t).val * 8 + 0, by omega⟩ r) (pc 2 1 l) r l (in7 m c t) (by omega) (by show (gt t).val * 1024 + (0 + r.val) = ((gt t).val * 8 + 0) * 128 + r.val; omega) (by show 1664 + l.val = 2 * 768 + 1 * 128 + l.val; omega))
        (fun hn r l => ld_in (prow ⟨(gt t).val * 8 + 0, by omega⟩ r) (pc 2 1 l) r l (in9 m c t) (by omega) (by show ((gt t).val - 1) * 1024 + (896 + r.val) = ((gt t).val * 8 + 0 - 1) * 128 + r.val; have hn : 0 < (gt t).val * 8 + 0 := hn; omega) (by show 1664 + l.val = 2 * 768 + 1 * 128 + l.val; omega)))
  · obtain h | h | h | h | h | h | h | h : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
    · exact ⟨_, .head _, mem_rect (inb := inb_S1x1024x128_S1x128x128_0_896_0) y h.1 h.2⟩
    · exact ⟨_, .tail _ (.head _), mem_rect (inb := inb_S1x1024x128_S1x128x128_0_768_0) y h.1 h.2⟩
    · exact ⟨_, .tail _ (.tail _ (.head _)), mem_rect (inb := inb_S1x1024x128_S1x128x128_0_640_0) y h.1 h.2⟩
    · exact ⟨_, .tail _ (.tail _ (.tail _ (.head _))), mem_rect (inb := inb_S1x1024x128_S1x128x128_0_512_0) y h.1 h.2⟩
    · exact ⟨_, .tail _ (.tail _ (.tail _ (.tail _ (.head _)))), mem_rect (inb := inb_S1x1024x128_S1x128x128_0_384_0) y h.1 h.2⟩
    · exact ⟨_, .tail _ (.tail _ (.tail _ (.tail _ (.tail _ (.head _))))), mem_rect (inb := inb_S1x1024x128_S1x128x128_0_256_0) y h.1 h.2⟩
    · exact ⟨_, .tail _ (.tail _ (.tail _ (.tail _ (.tail _ (.tail _ (.head _)))))), mem_rect (inb := inb_S1x1024x128_S1x128x128_0_128_0) y h.1 h.2⟩
    · exact ⟨_, .tail _ (.tail _ (.tail _ (.tail _ (.tail _ (.tail _ (.tail _ (.head _))))))), mem_rect (inb := inb_S1x1024x128_S1x128x128_0_0_0) y h.1 h.2⟩

/-- Result 2's array after the run. -/
theorem arr11 (c : Dev nD) :
    (dats m 0 c).arrAt 11 cfg0.N = fun i : S4x8192x128.Idx => resO 1 (X m c) (i 0) (i 1) (i 2) := by
  refine (dats m 0 c).arrAt_eq_of_cover 11 _ (fun t _ => ?_) cover11
  rw [flushed11]
  funext y
  obtain ⟨r, l, rfl⟩ : ∃ (r : Fin 1024) (l : Fin 128), y = ix3 0 r l := ⟨y 1, y 2, funext fun a => by
    match a with
    | ⟨0, _⟩ => exact Subsingleton.elim (α := Fin 1) _ _
    | ⟨1, _⟩ => rfl
    | ⟨2, _⟩ => rfl⟩
  refine (blk11 m c t (ix3 0 r l)).trans ?_
  exact (out11 (F := Ideal) (fun i : S4x8192x128.Idx => resO 1 (X m c) (i 0) (i 1) (i 2)) t r l).symm

/-- Result 3: what a grid point leaves in its block. -/
theorem blk12 (c : Dev nD) (t : Fin cfg0.N) (y : S1x1024x128.Idx) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) y = blkOf m (resL 0) c t y := by
  have hg : (gt t).val < 8 := (gt t).isLt
  have hy : (y 1).val < 1024 := (y 1).isLt
  rw [out12_eq]
  refine canon_eq (α := Elt Ideal) (e := .f32) (blkOf m (resL 0) c t) _ ?_ y ?_
  · simp only [List.forall_mem_cons]
    refine ⟨?_, ?_, ?_, ?_, ?_, ?_, ?_, ?_, fun _ h => absurd h List.not_mem_nil⟩
    · refine piece m (n := ⟨(gt t).val * 8 + 7, by omega⟩) (by show ((gt t).val * 8 + 7) * 128 = (gt t).val * 1024 + 896; omega) (lTile_eq (X m c) 0 (bt t) ⟨(gt t).val * 8 + 7, by omega⟩ _ _ _ _
        (fun r c => (mask_prev r c).trans ⟨fun e => ⟨e, by show 0 < (gt t).val * 8 + 7; omega⟩, fun e => e.1⟩)
        (fun r l => ld_in (row ⟨(gt t).val * 8 + 7, by omega⟩ r) (pc 0 0 l) r l (in0 m c t) (by omega) (by show (gt t).val * 1024 + (896 + r.val) = ((gt t).val * 8 + 7) * 128 + r.val; omega) (by show 0 + l.val = 0 * 768 + 0 * 128 + l.val; omega))
        (fun r l => ld_in (row ⟨(gt t).val * 8 + 7, by omega⟩ r) (pc 1 0 l) r l (in2 m c t) (by omega) (by show (gt t).val * 1024 + (896 + r.val) = ((gt t).val * 8 + 7) * 128 + r.val; omega) (by show 768 + l.val = 1 * 768 + 0 * 128 + l.val; omega))
        (fun hn r l => ld_in (prow ⟨(gt t).val * 8 + 7, by omega⟩ r) (pc 1 0 l) r l (in2 m c t) (by omega) (by show (gt t).val * 1024 + (768 + r.val) = ((gt t).val * 8 + 7 - 1) * 128 + r.val; omega) (by show 768 + l.val = 1 * 768 + 0 * 128 + l.val; omega)))
    · refine piece m (n := ⟨(gt t).val * 8 + 6, by omega⟩) (by show ((gt t).val * 8 + 6) * 128 = (gt t).val * 1024 + 768; omega) (lTile_eq (X m c) 0 (bt t) ⟨(gt t).val * 8 + 6, by omega⟩ _ _ _ _
        (fun r c => (mask_prev r c).trans ⟨fun e => ⟨e, by show 0 < (gt t).val * 8 + 6; omega⟩, fun e => e.1⟩)
        (fun r l => ld_in (row ⟨(gt t).val * 8 + 6, by omega⟩ r) (pc 0 0 l) r l (in0 m c t) (by omega) (by show (gt t).val * 1024 + (768 + r.val) = ((gt t).val * 8 + 6) * 128 + r.val; omega) (by show 0 + l.val = 0 * 768 + 0 * 128 + l.val; omega))
        (fun r l => ld_in (row ⟨(gt t).val * 8 + 6, by omega⟩ r) (pc 1 0 l) r l (in2 m c t) (by omega) (by show (gt t).val * 1024 + (768 + r.val) = ((gt t).val * 8 + 6) * 128 + r.val; omega) (by show 768 + l.val = 1 * 768 + 0 * 128 + l.val; omega))
        (fun hn r l => ld_in (prow ⟨(gt t).val * 8 + 6, by omega⟩ r) (pc 1 0 l) r l (in2 m c t) (by omega) (by show (gt t).val * 1024 + (640 + r.val) = ((gt t).val * 8 + 6 - 1) * 128 + r.val; omega) (by show 768 + l.val = 1 * 768 + 0 * 128 + l.val; omega)))
    · refine piece m (n := ⟨(gt t).val * 8 + 5, by omega⟩) (by show ((gt t).val * 8 + 5) * 128 = (gt t).val * 1024 + 640; omega) (lTile_eq (X m c) 0 (bt t) ⟨(gt t).val * 8 + 5, by omega⟩ _ _ _ _
        (fun r c => (mask_prev r c).trans ⟨fun e => ⟨e, by show 0 < (gt t).val * 8 + 5; omega⟩, fun e => e.1⟩)
        (fun r l => ld_in (row ⟨(gt t).val * 8 + 5, by omega⟩ r) (pc 0 0 l) r l (in0 m c t) (by omega) (by show (gt t).val * 1024 + (640 + r.val) = ((gt t).val * 8 + 5) * 128 + r.val; omega) (by show 0 + l.val = 0 * 768 + 0 * 128 + l.val; omega))
        (fun r l => ld_in (row ⟨(gt t).val * 8 + 5, by omega⟩ r) (pc 1 0 l) r l (in2 m c t) (by omega) (by show (gt t).val * 1024 + (640 + r.val) = ((gt t).val * 8 + 5) * 128 + r.val; omega) (by show 768 + l.val = 1 * 768 + 0 * 128 + l.val; omega))
        (fun hn r l => ld_in (prow ⟨(gt t).val * 8 + 5, by omega⟩ r) (pc 1 0 l) r l (in2 m c t) (by omega) (by show (gt t).val * 1024 + (512 + r.val) = ((gt t).val * 8 + 5 - 1) * 128 + r.val; omega) (by show 768 + l.val = 1 * 768 + 0 * 128 + l.val; omega)))
    · refine piece m (n := ⟨(gt t).val * 8 + 4, by omega⟩) (by show ((gt t).val * 8 + 4) * 128 = (gt t).val * 1024 + 512; omega) (lTile_eq (X m c) 0 (bt t) ⟨(gt t).val * 8 + 4, by omega⟩ _ _ _ _
        (fun r c => (mask_prev r c).trans ⟨fun e => ⟨e, by show 0 < (gt t).val * 8 + 4; omega⟩, fun e => e.1⟩)
        (fun r l => ld_in (row ⟨(gt t).val * 8 + 4, by omega⟩ r) (pc 0 0 l) r l (in0 m c t) (by omega) (by show (gt t).val * 1024 + (512 + r.val) = ((gt t).val * 8 + 4) * 128 + r.val; omega) (by show 0 + l.val = 0 * 768 + 0 * 128 + l.val; omega))
        (fun r l => ld_in (row ⟨(gt t).val * 8 + 4, by omega⟩ r) (pc 1 0 l) r l (in2 m c t) (by omega) (by show (gt t).val * 1024 + (512 + r.val) = ((gt t).val * 8 + 4) * 128 + r.val; omega) (by show 768 + l.val = 1 * 768 + 0 * 128 + l.val; omega))
        (fun hn r l => ld_in (prow ⟨(gt t).val * 8 + 4, by omega⟩ r) (pc 1 0 l) r l (in2 m c t) (by omega) (by show (gt t).val * 1024 + (384 + r.val) = ((gt t).val * 8 + 4 - 1) * 128 + r.val; omega) (by show 768 + l.val = 1 * 768 + 0 * 128 + l.val; omega)))
    · refine piece m (n := ⟨(gt t).val * 8 + 3, by omega⟩) (by show ((gt t).val * 8 + 3) * 128 = (gt t).val * 1024 + 384; omega) (lTile_eq (X m c) 0 (bt t) ⟨(gt t).val * 8 + 3, by omega⟩ _ _ _ _
        (fun r c => (mask_prev r c).trans ⟨fun e => ⟨e, by show 0 < (gt t).val * 8 + 3; omega⟩, fun e => e.1⟩)
        (fun r l => ld_in (row ⟨(gt t).val * 8 + 3, by omega⟩ r) (pc 0 0 l) r l (in0 m c t) (by omega) (by show (gt t).val * 1024 + (384 + r.val) = ((gt t).val * 8 + 3) * 128 + r.val; omega) (by show 0 + l.val = 0 * 768 + 0 * 128 + l.val; omega))
        (fun r l => ld_in (row ⟨(gt t).val * 8 + 3, by omega⟩ r) (pc 1 0 l) r l (in2 m c t) (by omega) (by show (gt t).val * 1024 + (384 + r.val) = ((gt t).val * 8 + 3) * 128 + r.val; omega) (by show 768 + l.val = 1 * 768 + 0 * 128 + l.val; omega))
        (fun hn r l => ld_in (prow ⟨(gt t).val * 8 + 3, by omega⟩ r) (pc 1 0 l) r l (in2 m c t) (by omega) (by show (gt t).val * 1024 + (256 + r.val) = ((gt t).val * 8 + 3 - 1) * 128 + r.val; omega) (by show 768 + l.val = 1 * 768 + 0 * 128 + l.val; omega)))
    · refine piece m (n := ⟨(gt t).val * 8 + 2, by omega⟩) (by show ((gt t).val * 8 + 2) * 128 = (gt t).val * 1024 + 256; omega) (lTile_eq (X m c) 0 (bt t) ⟨(gt t).val * 8 + 2, by omega⟩ _ _ _ _
        (fun r c => (mask_prev r c).trans ⟨fun e => ⟨e, by show 0 < (gt t).val * 8 + 2; omega⟩, fun e => e.1⟩)
        (fun r l => ld_in (row ⟨(gt t).val * 8 + 2, by omega⟩ r) (pc 0 0 l) r l (in0 m c t) (by omega) (by show (gt t).val * 1024 + (256 + r.val) = ((gt t).val * 8 + 2) * 128 + r.val; omega) (by show 0 + l.val = 0 * 768 + 0 * 128 + l.val; omega))
        (fun r l => ld_in (row ⟨(gt t).val * 8 + 2, by omega⟩ r) (pc 1 0 l) r l (in2 m c t) (by omega) (by show (gt t).val * 1024 + (256 + r.val) = ((gt t).val * 8 + 2) * 128 + r.val; omega) (by show 768 + l.val = 1 * 768 + 0 * 128 + l.val; omega))
        (fun hn r l => ld_in (prow ⟨(gt t).val * 8 + 2, by omega⟩ r) (pc 1 0 l) r l (in2 m c t) (by omega) (by show (gt t).val * 1024 + (128 + r.val) = ((gt t).val * 8 + 2 - 1) * 128 + r.val; omega) (by show 768 + l.val = 1 * 768 + 0 * 128 + l.val; omega)))
    · refine piece m (n := ⟨(gt t).val * 8 + 1, by omega⟩) (by show ((gt t).val * 8 + 1) * 128 = (gt t).val * 1024 + 128; omega) (lTile_eq (X m c) 0 (bt t) ⟨(gt t).val * 8 + 1, by omega⟩ _ _ _ _
        (fun r c => (mask_prev r c).trans ⟨fun e => ⟨e, by show 0 < (gt t).val * 8 + 1; omega⟩, fun e => e.1⟩)
        (fun r l => ld_in (row ⟨(gt t).val * 8 + 1, by omega⟩ r) (pc 0 0 l) r l (in0 m c t) (by omega) (by show (gt t).val * 1024 + (128 + r.val) = ((gt t).val * 8 + 1) * 128 + r.val; omega) (by show 0 + l.val = 0 * 768 + 0 * 128 + l.val; omega))
        (fun r l => ld_in (row ⟨(gt t).val * 8 + 1, by omega⟩ r) (pc 1 0 l) r l (in2 m c t) (by omega) (by show (gt t).val * 1024 + (128 + r.val) = ((gt t).val * 8 + 1) * 128 + r.val; omega) (by show 768 + l.val = 1 * 768 + 0 * 128 + l.val; omega))
        (fun hn r l => ld_in (prow ⟨(gt t).val * 8 + 1, by omega⟩ r) (pc 1 0 l) r l (in2 m c t) (by omega) (by show (gt t).val * 1024 + (0 + r.val) = ((gt t).val * 8 + 1 - 1) * 128 + r.val; omega) (by show 768 + l.val = 1 * 768 + 0 * 128 + l.val; omega)))
    · refine piece m (n := ⟨(gt t).val * 8 + 0, by omega⟩) (by show ((gt t).val * 8 + 0) * 128 = (gt t).val * 1024 + 0; omega) (lTile_eq (X m c) 0 (bt t) ⟨(gt t).val * 8 + 0, by omega⟩ _ _ _ _
        (fun r c => (mask_first (grid0.coords t) r c).trans ⟨fun e => ⟨e.1, by show 0 < (gt t).val * 8 + 0; have : 0 < (gt t).val := e.2; omega⟩, fun e => ⟨e.1, by have : 0 < (gt t).val * 8 + 0 := e.2; show 0 < (gt t).val; omega⟩⟩)
        (fun r l => ld_in (row ⟨(gt t).val * 8 + 0, by omega⟩ r) (pc 0 0 l) r l (in0 m c t) (by omega) (by show (gt t).val * 1024 + (0 + r.val) = ((gt t).val * 8 + 0) * 128 + r.val; omega) (by show 0 + l.val = 0 * 768 + 0 * 128 + l.val; omega))
        (fun r l => ld_in (row ⟨(gt t).val * 8 + 0, by omega⟩ r) (pc 1 0 l) r l (in2 m c t) (by omega) (by show (gt t).val * 1024 + (0 + r.val) = ((gt t).val * 8 + 0) * 128 + r.val; omega) (by show 768 + l.val = 1 * 768 + 0 * 128 + l.val; omega))
        (fun hn r l => ld_in (prow ⟨(gt t).val * 8 + 0, by omega⟩ r) (pc 1 0 l) r l (in4 m c t) (by omega) (by show ((gt t).val - 1) * 1024 + (896 + r.val) = ((gt t).val * 8 + 0 - 1) * 128 + r.val; have hn : 0 < (gt t).val * 8 + 0 := hn; omega) (by show 768 + l.val = 1 * 768 + 0 * 128 + l.val; omega)))
  · obtain h | h | h | h | h | h | h | h : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
    · exact ⟨_, .head _, mem_rect (inb := inb_S1x1024x128_S1x128x128_0_896_0) y h.1 h.2⟩
    · exact ⟨_, .tail _ (.head _), mem_rect (inb := inb_S1x1024x128_S1x128x128_0_768_0) y h.1 h.2⟩
    · exact ⟨_, .tail _ (.tail _ (.head _)), mem_rect (inb := inb_S1x1024x128_S1x128x128_0_640_0) y h.1 h.2⟩
    · exact ⟨_, .tail _ (.tail _ (.tail _ (.head _))), mem_rect (inb := inb_S1x1024x128_S1x128x128_0_512_0) y h.1 h.2⟩
    · exact ⟨_, .tail _ (.tail _ (.tail _ (.tail _ (.head _)))), mem_rect (inb := inb_S1x1024x128_S1x128x128_0_384_0) y h.1 h.2⟩
    · exact ⟨_, .tail _ (.tail _ (.tail _ (.tail _ (.tail _ (.head _))))), mem_rect (inb := inb_S1x1024x128_S1x128x128_0_256_0) y h.1 h.2⟩
    · exact ⟨_, .tail _ (.tail _ (.tail _ (.tail _ (.tail _ (.tail _ (.head _)))))), mem_rect (inb := inb_S1x1024x128_S1x128x128_0_128_0) y h.1 h.2⟩
    · exact ⟨_, .tail _ (.tail _ (.tail _ (.tail _ (.tail _ (.tail _ (.tail _ (.head _))))))), mem_rect (inb := inb_S1x1024x128_S1x128x128_0_0_0) y h.1 h.2⟩

/-- Result 3's array after the run. -/
theorem arr12 (c : Dev nD) :
    (dats m 0 c).arrAt 12 cfg0.N = fun i : S4x8192x128.Idx => resL 0 (X m c) (i 0) (i 1) (i 2) := by
  refine (dats m 0 c).arrAt_eq_of_cover 12 _ (fun t _ => ?_) cover12
  rw [flushed12]
  funext y
  obtain ⟨r, l, rfl⟩ : ∃ (r : Fin 1024) (l : Fin 128), y = ix3 0 r l := ⟨y 1, y 2, funext fun a => by
    match a with
    | ⟨0, _⟩ => exact Subsingleton.elim (α := Fin 1) _ _
    | ⟨1, _⟩ => rfl
    | ⟨2, _⟩ => rfl⟩
  refine (blk12 m c t (ix3 0 r l)).trans ?_
  exact (out12 (F := Ideal) (fun i : S4x8192x128.Idx => resL 0 (X m c) (i 0) (i 1) (i 2)) t r l).symm

/-- Result 4: what a grid point leaves in its block. -/
theorem blk13 (c : Dev nD) (t : Fin cfg0.N) (y : S1x1024x128.Idx) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) y = blkOf m (resL 1) c t y := by
  have hg : (gt t).val < 8 := (gt t).isLt
  have hy : (y 1).val < 1024 := (y 1).isLt
  rw [out13_eq]
  refine canon_eq (α := Elt Ideal) (e := .f32) (blkOf m (resL 1) c t) _ ?_ y ?_
  · simp only [List.forall_mem_cons]
    refine ⟨?_, ?_, ?_, ?_, ?_, ?_, ?_, ?_, fun _ h => absurd h List.not_mem_nil⟩
    · refine piece m (n := ⟨(gt t).val * 8 + 7, by omega⟩) (by show ((gt t).val * 8 + 7) * 128 = (gt t).val * 1024 + 896; omega) (lTile_eq (X m c) 1 (bt t) ⟨(gt t).val * 8 + 7, by omega⟩ _ _ _ _
        (fun r c => (mask_prev r c).trans ⟨fun e => ⟨e, by show 0 < (gt t).val * 8 + 7; omega⟩, fun e => e.1⟩)
        (fun r l => ld_in (row ⟨(gt t).val * 8 + 7, by omega⟩ r) (pc 0 1 l) r l (in1 m c t) (by omega) (by show (gt t).val * 1024 + (896 + r.val) = ((gt t).val * 8 + 7) * 128 + r.val; omega) (by show 128 + l.val = 0 * 768 + 1 * 128 + l.val; omega))
        (fun r l => ld_in (row ⟨(gt t).val * 8 + 7, by omega⟩ r) (pc 1 1 l) r l (in3 m c t) (by omega) (by show (gt t).val * 1024 + (896 + r.val) = ((gt t).val * 8 + 7) * 128 + r.val; omega) (by show 896 + l.val = 1 * 768 + 1 * 128 + l.val; omega))
        (fun hn r l => ld_in (prow ⟨(gt t).val * 8 + 7, by omega⟩ r) (pc 1 1 l) r l (in3 m c t) (by omega) (by show (gt t).val * 1024 + (768 + r.val) = ((gt t).val * 8 + 7 - 1) * 128 + r.val; omega) (by show 896 + l.val = 1 * 768 + 1 * 128 + l.val; omega)))
    · refine piece m (n := ⟨(gt t).val * 8 + 6, by omega⟩) (by show ((gt t).val * 8 + 6) * 128 = (gt t).val * 1024 + 768; omega) (lTile_eq (X m c) 1 (bt t) ⟨(gt t).val * 8 + 6, by omega⟩ _ _ _ _
        (fun r c => (mask_prev r c).trans ⟨fun e => ⟨e, by show 0 < (gt t).val * 8 + 6; omega⟩, fun e => e.1⟩)
        (fun r l => ld_in (row ⟨(gt t).val * 8 + 6, by omega⟩ r) (pc 0 1 l) r l (in1 m c t) (by omega) (by show (gt t).val * 1024 + (768 + r.val) = ((gt t).val * 8 + 6) * 128 + r.val; omega) (by show 128 + l.val = 0 * 768 + 1 * 128 + l.val; omega))
        (fun r l => ld_in (row ⟨(gt t).val * 8 + 6, by omega⟩ r) (pc 1 1 l) r l (in3 m c t) (by omega) (by show (gt t).val * 1024 + (768 + r.val) = ((gt t).val * 8 + 6) * 128 + r.val; omega) (by show 896 + l.val = 1 * 768 + 1 * 128 + l.val; omega))
        (fun hn r l => ld_in (prow ⟨(gt t).val * 8 + 6, by omega⟩ r) (pc 1 1 l) r l (in3 m c t) (by omega) (by show (gt t).val * 1024 + (640 + r.val) = ((gt t).val * 8 + 6 - 1) * 128 + r.val; omega) (by show 896 + l.val = 1 * 768 + 1 * 128 + l.val; omega)))
    · refine piece m (n := ⟨(gt t).val * 8 + 5, by omega⟩) (by show ((gt t).val * 8 + 5) * 128 = (gt t).val * 1024 + 640; omega) (lTile_eq (X m c) 1 (bt t) ⟨(gt t).val * 8 + 5, by omega⟩ _ _ _ _
        (fun r c => (mask_prev r c).trans ⟨fun e => ⟨e, by show 0 < (gt t).val * 8 + 5; omega⟩, fun e => e.1⟩)
        (fun r l => ld_in (row ⟨(gt t).val * 8 + 5, by omega⟩ r) (pc 0 1 l) r l (in1 m c t) (by omega) (by show (gt t).val * 1024 + (640 + r.val) = ((gt t).val * 8 + 5) * 128 + r.val; omega) (by show 128 + l.val = 0 * 768 + 1 * 128 + l.val; omega))
        (fun r l => ld_in (row ⟨(gt t).val * 8 + 5, by omega⟩ r) (pc 1 1 l) r l (in3 m c t) (by omega) (by show (gt t).val * 1024 + (640 + r.val) = ((gt t).val * 8 + 5) * 128 + r.val; omega) (by show 896 + l.val = 1 * 768 + 1 * 128 + l.val; omega))
        (fun hn r l => ld_in (prow ⟨(gt t).val * 8 + 5, by omega⟩ r) (pc 1 1 l) r l (in3 m c t) (by omega) (by show (gt t).val * 1024 + (512 + r.val) = ((gt t).val * 8 + 5 - 1) * 128 + r.val; omega) (by show 896 + l.val = 1 * 768 + 1 * 128 + l.val; omega)))
    · refine piece m (n := ⟨(gt t).val * 8 + 4, by omega⟩) (by show ((gt t).val * 8 + 4) * 128 = (gt t).val * 1024 + 512; omega) (lTile_eq (X m c) 1 (bt t) ⟨(gt t).val * 8 + 4, by omega⟩ _ _ _ _
        (fun r c => (mask_prev r c).trans ⟨fun e => ⟨e, by show 0 < (gt t).val * 8 + 4; omega⟩, fun e => e.1⟩)
        (fun r l => ld_in (row ⟨(gt t).val * 8 + 4, by omega⟩ r) (pc 0 1 l) r l (in1 m c t) (by omega) (by show (gt t).val * 1024 + (512 + r.val) = ((gt t).val * 8 + 4) * 128 + r.val; omega) (by show 128 + l.val = 0 * 768 + 1 * 128 + l.val; omega))
        (fun r l => ld_in (row ⟨(gt t).val * 8 + 4, by omega⟩ r) (pc 1 1 l) r l (in3 m c t) (by omega) (by show (gt t).val * 1024 + (512 + r.val) = ((gt t).val * 8 + 4) * 128 + r.val; omega) (by show 896 + l.val = 1 * 768 + 1 * 128 + l.val; omega))
        (fun hn r l => ld_in (prow ⟨(gt t).val * 8 + 4, by omega⟩ r) (pc 1 1 l) r l (in3 m c t) (by omega) (by show (gt t).val * 1024 + (384 + r.val) = ((gt t).val * 8 + 4 - 1) * 128 + r.val; omega) (by show 896 + l.val = 1 * 768 + 1 * 128 + l.val; omega)))
    · refine piece m (n := ⟨(gt t).val * 8 + 3, by omega⟩) (by show ((gt t).val * 8 + 3) * 128 = (gt t).val * 1024 + 384; omega) (lTile_eq (X m c) 1 (bt t) ⟨(gt t).val * 8 + 3, by omega⟩ _ _ _ _
        (fun r c => (mask_prev r c).trans ⟨fun e => ⟨e, by show 0 < (gt t).val * 8 + 3; omega⟩, fun e => e.1⟩)
        (fun r l => ld_in (row ⟨(gt t).val * 8 + 3, by omega⟩ r) (pc 0 1 l) r l (in1 m c t) (by omega) (by show (gt t).val * 1024 + (384 + r.val) = ((gt t).val * 8 + 3) * 128 + r.val; omega) (by show 128 + l.val = 0 * 768 + 1 * 128 + l.val; omega))
        (fun r l => ld_in (row ⟨(gt t).val * 8 + 3, by omega⟩ r) (pc 1 1 l) r l (in3 m c t) (by omega) (by show (gt t).val * 1024 + (384 + r.val) = ((gt t).val * 8 + 3) * 128 + r.val; omega) (by show 896 + l.val = 1 * 768 + 1 * 128 + l.val; omega))
        (fun hn r l => ld_in (prow ⟨(gt t).val * 8 + 3, by omega⟩ r) (pc 1 1 l) r l (in3 m c t) (by omega) (by show (gt t).val * 1024 + (256 + r.val) = ((gt t).val * 8 + 3 - 1) * 128 + r.val; omega) (by show 896 + l.val = 1 * 768 + 1 * 128 + l.val; omega)))
    · refine piece m (n := ⟨(gt t).val * 8 + 2, by omega⟩) (by show ((gt t).val * 8 + 2) * 128 = (gt t).val * 1024 + 256; omega) (lTile_eq (X m c) 1 (bt t) ⟨(gt t).val * 8 + 2, by omega⟩ _ _ _ _
        (fun r c => (mask_prev r c).trans ⟨fun e => ⟨e, by show 0 < (gt t).val * 8 + 2; omega⟩, fun e => e.1⟩)
        (fun r l => ld_in (row ⟨(gt t).val * 8 + 2, by omega⟩ r) (pc 0 1 l) r l (in1 m c t) (by omega) (by show (gt t).val * 1024 + (256 + r.val) = ((gt t).val * 8 + 2) * 128 + r.val; omega) (by show 128 + l.val = 0 * 768 + 1 * 128 + l.val; omega))
        (fun r l => ld_in (row ⟨(gt t).val * 8 + 2, by omega⟩ r) (pc 1 1 l) r l (in3 m c t) (by omega) (by show (gt t).val * 1024 + (256 + r.val) = ((gt t).val * 8 + 2) * 128 + r.val; omega) (by show 896 + l.val = 1 * 768 + 1 * 128 + l.val; omega))
        (fun hn r l => ld_in (prow ⟨(gt t).val * 8 + 2, by omega⟩ r) (pc 1 1 l) r l (in3 m c t) (by omega) (by show (gt t).val * 1024 + (128 + r.val) = ((gt t).val * 8 + 2 - 1) * 128 + r.val; omega) (by show 896 + l.val = 1 * 768 + 1 * 128 + l.val; omega)))
    · refine piece m (n := ⟨(gt t).val * 8 + 1, by omega⟩) (by show ((gt t).val * 8 + 1) * 128 = (gt t).val * 1024 + 128; omega) (lTile_eq (X m c) 1 (bt t) ⟨(gt t).val * 8 + 1, by omega⟩ _ _ _ _
        (fun r c => (mask_prev r c).trans ⟨fun e => ⟨e, by show 0 < (gt t).val * 8 + 1; omega⟩, fun e => e.1⟩)
        (fun r l => ld_in (row ⟨(gt t).val * 8 + 1, by omega⟩ r) (pc 0 1 l) r l (in1 m c t) (by omega) (by show (gt t).val * 1024 + (128 + r.val) = ((gt t).val * 8 + 1) * 128 + r.val; omega) (by show 128 + l.val = 0 * 768 + 1 * 128 + l.val; omega))
        (fun r l => ld_in (row ⟨(gt t).val * 8 + 1, by omega⟩ r) (pc 1 1 l) r l (in3 m c t) (by omega) (by show (gt t).val * 1024 + (128 + r.val) = ((gt t).val * 8 + 1) * 128 + r.val; omega) (by show 896 + l.val = 1 * 768 + 1 * 128 + l.val; omega))
        (fun hn r l => ld_in (prow ⟨(gt t).val * 8 + 1, by omega⟩ r) (pc 1 1 l) r l (in3 m c t) (by omega) (by show (gt t).val * 1024 + (0 + r.val) = ((gt t).val * 8 + 1 - 1) * 128 + r.val; omega) (by show 896 + l.val = 1 * 768 + 1 * 128 + l.val; omega)))
    · refine piece m (n := ⟨(gt t).val * 8 + 0, by omega⟩) (by show ((gt t).val * 8 + 0) * 128 = (gt t).val * 1024 + 0; omega) (lTile_eq (X m c) 1 (bt t) ⟨(gt t).val * 8 + 0, by omega⟩ _ _ _ _
        (fun r c => (mask_first (grid0.coords t) r c).trans ⟨fun e => ⟨e.1, by show 0 < (gt t).val * 8 + 0; have : 0 < (gt t).val := e.2; omega⟩, fun e => ⟨e.1, by have : 0 < (gt t).val * 8 + 0 := e.2; show 0 < (gt t).val; omega⟩⟩)
        (fun r l => ld_in (row ⟨(gt t).val * 8 + 0, by omega⟩ r) (pc 0 1 l) r l (in1 m c t) (by omega) (by show (gt t).val * 1024 + (0 + r.val) = ((gt t).val * 8 + 0) * 128 + r.val; omega) (by show 128 + l.val = 0 * 768 + 1 * 128 + l.val; omega))
        (fun r l => ld_in (row ⟨(gt t).val * 8 + 0, by omega⟩ r) (pc 1 1 l) r l (in3 m c t) (by omega) (by show (gt t).val * 1024 + (0 + r.val) = ((gt t).val * 8 + 0) * 128 + r.val; omega) (by show 896 + l.val = 1 * 768 + 1 * 128 + l.val; omega))
        (fun hn r l => ld_in (prow ⟨(gt t).val * 8 + 0, by omega⟩ r) (pc 1 1 l) r l (in5 m c t) (by omega) (by show ((gt t).val - 1) * 1024 + (896 + r.val) = ((gt t).val * 8 + 0 - 1) * 128 + r.val; have hn : 0 < (gt t).val * 8 + 0 := hn; omega) (by show 896 + l.val = 1 * 768 + 1 * 128 + l.val; omega)))
  · obtain h | h | h | h | h | h | h | h : (896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128) := by omega
    · exact ⟨_, .head _, mem_rect (inb := inb_S1x1024x128_S1x128x128_0_896_0) y h.1 h.2⟩
    · exact ⟨_, .tail _ (.head _), mem_rect (inb := inb_S1x1024x128_S1x128x128_0_768_0) y h.1 h.2⟩
    · exact ⟨_, .tail _ (.tail _ (.head _)), mem_rect (inb := inb_S1x1024x128_S1x128x128_0_640_0) y h.1 h.2⟩
    · exact ⟨_, .tail _ (.tail _ (.tail _ (.head _))), mem_rect (inb := inb_S1x1024x128_S1x128x128_0_512_0) y h.1 h.2⟩
    · exact ⟨_, .tail _ (.tail _ (.tail _ (.tail _ (.head _)))), mem_rect (inb := inb_S1x1024x128_S1x128x128_0_384_0) y h.1 h.2⟩
    · exact ⟨_, .tail _ (.tail _ (.tail _ (.tail _ (.tail _ (.head _))))), mem_rect (inb := inb_S1x1024x128_S1x128x128_0_256_0) y h.1 h.2⟩
    · exact ⟨_, .tail _ (.tail _ (.tail _ (.tail _ (.tail _ (.tail _ (.head _)))))), mem_rect (inb := inb_S1x1024x128_S1x128x128_0_128_0) y h.1 h.2⟩
    · exact ⟨_, .tail _ (.tail _ (.tail _ (.tail _ (.tail _ (.tail _ (.tail _ (.head _))))))), mem_rect (inb := inb_S1x1024x128_S1x128x128_0_0_0) y h.1 h.2⟩

/-- Result 4's array after the run. -/
theorem arr13 (c : Dev nD) :
    (dats m 0 c).arrAt 13 cfg0.N = fun i : S4x8192x128.Idx => resL 1 (X m c) (i 0) (i 1) (i 2) := by
  refine (dats m 0 c).arrAt_eq_of_cover 13 _ (fun t _ => ?_) cover13
  rw [flushed13]
  funext y
  obtain ⟨r, l, rfl⟩ : ∃ (r : Fin 1024) (l : Fin 128), y = ix3 0 r l := ⟨y 1, y 2, funext fun a => by
    match a with
    | ⟨0, _⟩ => exact Subsingleton.elim (α := Fin 1) _ _
    | ⟨1, _⟩ => rfl
    | ⟨2, _⟩ => rfl⟩
  refine (blk13 m c t (ix3 0 r l)).trans ?_
  exact (out13 (F := Ideal) (fun i : S4x8192x128.Idx => resL 1 (X m c) (i 0) (i 1) (i 2)) t r l).symm

end Cert.SwaFinal

end
-- ==== Proof.SwaRefRead.lean ====
module

public import proofs.«01_k».proof.Proof.Gen.SwaRefIdeal.Read
public import proofs.«01_k».proof.Proof.SwaSpec
public import Idealize.ShloMosaic.Lib.ValueIdxRank6

/-!
What the reference of the banded attention computes: its score rows of 256 (the block before, then the own block), its
greatest, its sum of exponentials, and its four results, each at one position.
-/

@[expose] public section

set_option maxRecDepth 16384

noncomputable section

namespace Cert.SwaRefRead

open Idealize.ShloMosaic Idealize.SL.Sem Cert.SwaRefIdeal Cert.SwaRefIdeal.Read Cert.SwaSpec

/-- The blocked queries. -/
theorem q15 (X : Arr) (b : Fin 4) (n : Fin 64) (r : Fin 128) (h : Fin 4) (d : Fin 64) :
    val_main_v15 (F := Ideal) X (ix6 b 0 n r h d) = X (ix3 b (row n r) (col 0 h d)) := by
  pointwise [val_main_v15, val_main_v14, val_main_v13, val_main_v12, val_main_v7, val_main_v6, val_main_v3, val_main_v0]
  rw [dif_pos (by omega)]
  congr 1
  simp [col, row]

/-- The keys of the own block. -/
theorem kCur (X : Arr) (b : Fin 4) (n : Fin 64) (r : Fin 128) (h : Fin 4) (d : Fin 64) :
    val_main_v22 (F := Ideal) X (ix6 b 0 n ⟨128 + r.val, by omega⟩ h d) = X (ix3 b (row n r) (col 1 h d)) := by
  pointwise [val_main_v22, val_main_v21, val_main_v20, val_main_v19, val_main_v18, val_main_v17, val_main_v16, val_main_v9, val_main_v8, val_main_v4, val_main_v1]
  rw [dif_pos (by omega)]
  congr 1
  simp [col, row, Nat.add_assoc]

/-- The keys of the block before, where there is one. -/
theorem kPrev (X : Arr) (b : Fin 4) (n : Fin 64) (hn : 0 < n.val) (r : Fin 128) (h : Fin 4) (d : Fin 64) :
    val_main_v22 (F := Ideal) X (ix6 b 0 n ⟨r.val, by omega⟩ h d) = X (ix3 b (prow n r) (col 1 h d)) := by
  pointwise [val_main_v22, val_main_v21, val_main_v20, val_main_v19, val_main_v18, val_main_v17, val_main_v16, val_main_v9, val_main_v8, val_main_v4, val_main_v1]
  rw [dif_pos (by omega), dif_pos (by omega)]
  congr 1
  simp [col, prow, Nat.add_assoc]

/-- The values of the own block. -/
theorem vCur (X : Arr) (b : Fin 4) (n : Fin 64) (r : Fin 128) (h : Fin 4) (d : Fin 64) :
    val_main_v29 (F := Ideal) X (ix6 b 0 n ⟨128 + r.val, by omega⟩ h d) = X (ix3 b (row n r) (col 2 h d)) := by
  pointwise [val_main_v29, val_main_v28, val_main_v27, val_main_v26, val_main_v25, val_main_v24, val_main_v23, val_main_v11, val_main_v10, val_main_v5, val_main_v2]
  rw [dif_pos (by omega)]
  congr 1
  simp [col, row, Nat.add_assoc]

/-- The values of the block before, where there is one. -/
theorem vPrev (X : Arr) (b : Fin 4) (n : Fin 64) (hn : 0 < n.val) (r : Fin 128) (h : Fin 4) (d : Fin 64) :
    val_main_v29 (F := Ideal) X (ix6 b 0 n ⟨r.val, by omega⟩ h d) = X (ix3 b (prow n r) (col 2 h d)) := by
  pointwise [val_main_v29, val_main_v28, val_main_v27, val_main_v26, val_main_v25, val_main_v24, val_main_v23, val_main_v11, val_main_v10, val_main_v5, val_main_v2]
  rw [dif_pos (by omega), dif_pos (by omega)]
  congr 1
  simp [col, prow, Nat.add_assoc]

theorem andi_iff (a b : BitVec 1) : IntOp.andi a b = 1#1 ↔ a = 1#1 ∧ b = 1#1 := by
  revert a b; decide

theorem ori_iff (a b : BitVec 1) : IntOp.ori a b = 1#1 ↔ a = 1#1 ∨ b = 1#1 := by
  revert a b; decide

theorem dist_nonneg : ∀ (r : Fin 128) (k : Fin 256),
    IntOp.cmpi CmpIPredicate.sge (IntOp.subi (IntOp.addi (128#32) (BitVec.ofNat 32 r.val)) (BitVec.ofNat 32 k.val)) 0#32 = 1#1 ↔ k.val ≤ 128 + r.val := by
  decide +kernel

theorem dist_le : ∀ (r : Fin 128) (k : Fin 256),
    IntOp.cmpi CmpIPredicate.sle (IntOp.subi (IntOp.addi (128#32) (BitVec.ofNat 32 r.val)) (BitVec.ofNat 32 k.val)) 128#32 = 1#1 ↔ r.val ≤ k.val := by
  decide +kernel

theorem not_first : ∀ n : Fin 64, IntOp.cmpi CmpIPredicate.sgt (BitVec.ofNat 32 n.val) 0#32 = 1#1 ↔ 0 < n.val := by
  decide +kernel

theorem own_block : ∀ k : Fin 256, IntOp.cmpi CmpIPredicate.sge (BitVec.ofNat 32 k.val) 128#32 = 1#1 ↔ 128 ≤ k.val := by
  decide +kernel

/-- The band's mask: keys not after the query and at most 128 back, and none before the first block. -/
theorem mask57 (n : Fin 64) (r : Fin 128) (k : Fin 256) :
    val_main_v57 (F := Ideal) (ix3 n r k) = 1#1 ↔ (k.val ≤ 128 + r.val ∧ r.val ≤ k.val) ∧ (0 < n.val ∨ 128 ≤ k.val) := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8]
  exact (andi_iff _ _).trans (and_congr ((andi_iff _ _).trans (and_congr (dist_nonneg r k) (dist_le r k))) ((ori_iff _ _).trans (or_congr (not_first n) (own_block k))))

theorem s58 (X : Arr) (b : Fin 4) (n : Fin 64) (h : Fin 4) (r : Fin 128) (k : Fin 256) :
    val_main_v58 (F := Ideal) X (ix6 b 0 n h r k) = ∑ x : Fin 64, val_main_v15 (F := Ideal) X (ix6 b 0 n r h x) * val_main_v22 (F := Ideal) X (ix6 b 0 n k h x) := by
  pointwise [val_main_v58]

theorem c59 (b : Fin 4) (n : Fin 64) (h : Fin 4) (r : Fin 128) (k : Fin 256) : val_main_v59 (F := Ideal) (ix6 b 0 n h r k) = c8 := by
  rw [val_main_v59_apply]
  rfl

theorem e61 (b : Fin 4) (n : Fin 64) (h : Fin 4) (r : Fin 128) (k : Fin 256) :
    val_main_call5_v1 (F := Ideal) (ix6 b 0 n h r k) = val_main_v57 (F := Ideal) (ix3 n r k) := by
  rw [val_main_call5_v1_apply, val_main_v61_apply]
  refine congrArg _ (funext fun a => ?_)
  match a with
  | ⟨0, _⟩ => rfl
  | ⟨1, _⟩ => rfl
  | ⟨2, _⟩ => rfl

theorem e62 (b : Fin 4) (n : Fin 64) (h : Fin 4) (r : Fin 128) (k : Fin 256) :
    val_main_call5_v2 (F := Ideal) (ix6 b 0 n h r k) = ⊥ := by
  rw [val_main_call5_v2_apply, val_main_call5_v0_apply]
  exact ninf

theorem s62 (X : Arr) (b : Fin 4) (n : Fin 64) (h : Fin 4) (r : Fin 128) (k : Fin 256) :
    val_main_v62 (F := Ideal) X (ix6 b 0 n h r k) =
      Scalar.select (val_main_v57 (F := Ideal) (ix3 n r k))
        ((∑ x : Fin 64, val_main_v15 (F := Ideal) X (ix6 b 0 n r h x) * val_main_v22 (F := Ideal) X (ix6 b 0 n k h x)) * c8) ⊥ := by
  rw [val_main_v62_apply, e61, e62, val_main_v60_apply, c59, s58]
  rfl

/-- The scores against the own block. -/
theorem sCur (X : Arr) (b : Fin 4) (n : Fin 64) (h : Fin 4) (r k : Fin 128) :
    val_main_v62 (F := Ideal) X (ix6 b 0 n h r ⟨128 + k.val, by omega⟩) = cur X b h n r k := by
  rw [s62]
  unfold cur qk Scalar.select
  simp only [q15, kCur]
  refine if_congr ((mask57 n r ⟨128 + k.val, by omega⟩).trans ?_) rfl rfl
  show (128 + k.val ≤ 128 + r.val ∧ r.val ≤ 128 + k.val) ∧ (0 < n.val ∨ 128 ≤ 128 + k.val) ↔ k.val ≤ r.val
  omega

/-- The scores against the block before. -/
theorem sPrev (X : Arr) (b : Fin 4) (n : Fin 64) (h : Fin 4) (r k : Fin 128) :
    val_main_v62 (F := Ideal) X (ix6 b 0 n h r ⟨k.val, by omega⟩) = prev X b h n r k := by
  rw [s62]
  have e : val_main_v57 (F := Ideal) (ix3 n r ⟨k.val, by omega⟩) = 1#1 ↔ r.val ≤ k.val ∧ 0 < n.val := by
    refine (mask57 n r ⟨k.val, by omega⟩).trans ?_
    show (k.val ≤ 128 + r.val ∧ r.val ≤ k.val) ∧ (0 < n.val ∨ 128 ≤ k.val) ↔ r.val ≤ k.val ∧ 0 < n.val
    omega
  unfold prev qk Scalar.select
  by_cases hn : 0 < n.val
  · simp only [q15, kPrev X b n hn]
    exact if_congr e rfl rfl
  · exact (if_neg fun q => hn (e.1 q).2).trans (if_neg fun q => hn q.2).symm

/-- The positions whose sixth coordinate is folded away are those along that axis. -/
theorem fiber6 (b : Fin 4) (n : Fin 64) (h : Fin 4) (r : Fin 128) (i : S4x1x64x4x128x256.Idx) :
    Gen.reducesTo_S4x1x64x4x128x256_S4x1x64x4x128_d5.drop i = ix5 b 0 n h r ↔ ∃ k : Fin 256, (ix6 b 0 n h r k : S4x1x64x4x128x256.Idx) = i := by
  constructor
  · intro e
    refine ⟨i 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    refine funext fun a => Fin.ext ?_
    match a with
    | ⟨0, _⟩ => rfl
    | ⟨1, _⟩ => rfl
    | ⟨2, _⟩ => rfl
    | ⟨3, _⟩ => rfl
    | ⟨4, _⟩ => rfl

/-- The greatest of a row of scores. -/
theorem m63 (X : Arr) (b : Fin 4) (n : Fin 64) (h : Fin 4) (r : Fin 128) :
    val_main_v63 (F := Ideal) X (ix5 b 0 n h r) = Finset.univ.fold max ⊥ fun k : Fin 256 => val_main_v62 (F := Ideal) X (ix6 b 0 n h r k) := by
  pointwise [val_main_v63, val_main_cst_10, ninf]
  exact Finset.fold_filter_eq_fold_of_fiber max _ (fun k : Fin 256 => (ix6 b 0 n h r k : S4x1x64x4x128x256.Idx)) (fun _ _ e => congrFun e 5) (fiber6 b n h r) ⊥ _

theorem p67 (X : Arr) (b : Fin 4) (n : Fin 64) (h : Fin 4) (r : Fin 128) (k : Fin 256) :
    val_main_v67 (F := Ideal) X (ix6 b 0 n h r k) =
      Ideal.exp (val_main_v62 (F := Ideal) X (ix6 b 0 n h r k) - val_main_v63 (F := Ideal) X (ix5 b 0 n h r)) := by
  pointwise [val_main_v67, val_main_v66, val_main_v65, val_main_v64]

/-- The sum of a row of exponentials. -/
theorem d68 (X : Arr) (b : Fin 4) (n : Fin 64) (h : Fin 4) (r : Fin 128) :
    val_main_v68 (F := Ideal) X (ix5 b 0 n h r) = ∑ k : Fin 256, val_main_v67 (F := Ideal) X (ix6 b 0 n h r k) := by
  rw [val_main_v68_apply]
  have z : val_main_cst_11 (F := Ideal) (Shape.Idx.first Gen.h_S_) = 0 := by
    show Ideal.ofBits .f32 0x00000000#32 = 0
    simp [Ideal.ofBits, Ideal.ieee]
  rw [z, zero_add]
  refine Finset.sum_congr rfl fun k _ => congrArg _ (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The rows of all blocks, one after the other. -/
theorem cast79 (y : S4x1x64x128x4x64.Idx → EReal) (b : Fin 4) (t : Fin 8192) (h : Fin 4) (d : Fin 64) :
    shapeCast S4x1x8192x4x64 y Gen.shapeCasts_S4x1x64x128x4x64_S4x1x8192x4x64 (ix5 b 0 t h d) = y (ix6 b 0 ⟨t.val / 128, by omega⟩ ⟨t.val % 128, by omega⟩ h d) := by
  refine shapeCast_apply _ _ _ _ ?_
  rw [Shape.rowMajor_val_six, Shape.rowMajor_val_five]
  show ((((b.val * 1 + 0) * 64 + t.val / 128) * 128 + t.val % 128) * 4 + h.val) * 64 + d.val = (((b.val * 1 + 0) * 8192 + t.val) * 4 + h.val) * 64 + d.val
  omega

theorem cast81 (y : S4x8192x1x4x64.Idx → EReal) (b : Fin 4) (t : Fin 8192) (h : Fin 4) (d : Fin 64) :
    shapeCast S4x8192x4x64 y Gen.shapeCasts_S4x8192x1x4x64_S4x8192x4x64 (ix4 b t h d) = y (ix5 b t 0 h d) := by
  refine shapeCast_apply _ _ _ _ ?_
  rw [Shape.rowMajor_val_five, Shape.rowMajor_val_four]
  show (((b.val * 8192 + t.val) * 1 + 0) * 4 + h.val) * 64 + d.val = ((b.val * 8192 + t.val) * 4 + h.val) * 64 + d.val
  omega

theorem cast82 (y : S4x1x64x128x4.Idx → EReal) (b : Fin 4) (t : Fin 8192) (h : Fin 4) :
    shapeCast S4x1x8192x4 y Gen.shapeCasts_S4x1x64x128x4_S4x1x8192x4 (ix4 b 0 t h) = y (ix5 b 0 ⟨t.val / 128, by omega⟩ ⟨t.val % 128, by omega⟩ h) := by
  refine shapeCast_apply _ _ _ _ ?_
  rw [Shape.rowMajor_val_five, Shape.rowMajor_val_four]
  show (((b.val * 1 + 0) * 64 + t.val / 128) * 128 + t.val % 128) * 4 + h.val = ((b.val * 1 + 0) * 8192 + t.val) * 4 + h.val
  omega

theorem a74 (X : Arr) (b : Fin 4) (n : Fin 64) (r : Fin 128) (h : Fin 4) (d : Fin 64) :
    val_main_v74 (F := Ideal) X (ix6 b 0 n r h d) =
      Ideal.div (∑ k : Fin 256, val_main_v29 (F := Ideal) X (ix6 b 0 n k h d) * val_main_v67 (F := Ideal) X (ix6 b 0 n h r k))
        (val_main_v68 (F := Ideal) X (ix5 b 0 n h r)) := by
  pointwise [val_main_v74, val_main_v73, val_main_v72, val_main_v71, val_main_v70, val_main_v69]

theorem o81 (X : Arr) (b : Fin 4) (t : Fin 8192) (h : Fin 4) (d : Fin 64) :
    val_main_v81 (F := Ideal) X (ix4 b t h d) = val_main_v74 (F := Ideal) X (ix6 b 0 ⟨t.val / 128, by omega⟩ ⟨t.val % 128, by omega⟩ h d) := by
  unfold val_main_v81
  rw [cast81, val_main_v80_apply]
  unfold val_main_v79
  refine Eq.trans (congrArg _ (funext fun a => ?_)) (cast79 (val_main_v74 (F := Ideal) X) b t h d)
  match a with
  | ⟨0, _⟩ => rfl
  | ⟨1, _⟩ => rfl
  | ⟨2, _⟩ => rfl
  | ⟨3, _⟩ => rfl
  | ⟨4, _⟩ => rfl

theorem cast75 (y : S4x1x64x4x128x1.Idx → EReal) (b : Fin 4) (n : Fin 64) (h : Fin 4) (r : Fin 128) :
    shapeCast S4x1x64x4x128 y Gen.shapeCasts_S4x1x64x4x128x1_S4x1x64x4x128 (ix5 b 0 n h r) = y (ix6 b 0 n h r 0) := by
  refine shapeCast_apply _ _ _ _ ?_
  rw [Shape.rowMajor_val_six, Shape.rowMajor_val_five]
  show ((((b.val * 1 + 0) * 64 + n.val) * 4 + h.val) * 128 + r.val) * 1 + 0 = (((b.val * 1 + 0) * 64 + n.val) * 4 + h.val) * 128 + r.val
  omega

theorem l64 (X : Arr) (b : Fin 4) (n : Fin 64) (h : Fin 4) (r : Fin 128) :
    val_main_v64 (F := Ideal) X (ix6 b 0 n h r 0) = val_main_v63 (F := Ideal) X (ix5 b 0 n h r) := by
  rw [val_main_v64_apply]
  refine congrArg _ (funext fun a => ?_)
  match a with
  | ⟨0, _⟩ => rfl
  | ⟨1, _⟩ => rfl
  | ⟨2, _⟩ => rfl
  | ⟨3, _⟩ => rfl
  | ⟨4, _⟩ => rfl

theorem l75 (X : Arr) (b : Fin 4) (n : Fin 64) (h : Fin 4) (r : Fin 128) :
    val_main_v75 (F := Ideal) X (ix5 b 0 n h r) = val_main_v63 (F := Ideal) X (ix5 b 0 n h r) := by
  unfold val_main_v75
  rw [cast75, l64]

theorem l77 (X : Arr) (b : Fin 4) (n : Fin 64) (h : Fin 4) (r : Fin 128) :
    val_main_v77 (F := Ideal) X (ix5 b 0 n h r) = val_main_v63 (F := Ideal) X (ix5 b 0 n h r) + Ideal.log (val_main_v68 (F := Ideal) X (ix5 b 0 n h r)) := by
  rw [val_main_v77_apply, val_main_v76_apply, l75]
  generalize val_main_v63 (F := Ideal) X (ix5 b 0 n h r) = x
  generalize val_main_v68 (F := Ideal) X (ix5 b 0 n h r) = y
  rfl

theorem l82 (X : Arr) (b : Fin 4) (t : Fin 8192) (h : Fin 4) :
    val_main_v82 (F := Ideal) X (ix4 b 0 t h) = val_main_v77 (F := Ideal) X (ix5 b 0 ⟨t.val / 128, by omega⟩ h ⟨t.val % 128, by omega⟩) := by
  unfold val_main_v82
  rw [cast82, val_main_v78_apply]
  congr 1
  refine funext fun a => ?_
  match a with
  | ⟨0, _⟩ => rfl
  | ⟨1, _⟩ => rfl
  | ⟨2, _⟩ => rfl
  | ⟨3, _⟩ => rfl
  | ⟨4, _⟩ => rfl

theorem l86 (X : Arr) (b : Fin 4) (t : Fin 8192) (h : Fin 4) (d : Fin 64) :
    val_main_v86 (F := Ideal) X (ix4 b t h d) = val_main_v82 (F := Ideal) X (ix4 b 0 t h) := by
  pointwise [val_main_v86, val_main_v85, val_main_v84, val_main_v83]

theorem r88 (X : Arr) (b : Fin 4) (t : Fin 8192) (l : Fin 128) :
    val_main_v88 (F := Ideal) X (ix3 b t l) = val_main_v81 (F := Ideal) X (ix4 b t ⟨l.val / 64, by omega⟩ ⟨l.val % 64, by omega⟩) := by
  pointwise [val_main_v88, val_main_v87]

theorem r90 (X : Arr) (b : Fin 4) (t : Fin 8192) (l : Fin 128) :
    val_main_v90 (F := Ideal) X (ix3 b t l) = val_main_v81 (F := Ideal) X (ix4 b t ⟨2 + l.val / 64, by omega⟩ ⟨l.val % 64, by omega⟩) := by
  pointwise [val_main_v90, val_main_v89]

theorem r92 (X : Arr) (b : Fin 4) (t : Fin 8192) (l : Fin 128) :
    val_main_v92 (F := Ideal) X (ix3 b t l) = val_main_v86 (F := Ideal) X (ix4 b t ⟨l.val / 64, by omega⟩ ⟨l.val % 64, by omega⟩) := by
  pointwise [val_main_v92, val_main_v91]

theorem r94 (X : Arr) (b : Fin 4) (t : Fin 8192) (l : Fin 128) :
    val_main_v94 (F := Ideal) X (ix3 b t l) = val_main_v86 (F := Ideal) X (ix4 b t ⟨2 + l.val / 64, by omega⟩ ⟨l.val % 64, by omega⟩) := by
  pointwise [val_main_v94, val_main_v93]

/-- The greatest score of a row. -/
theorem m63_eq (X : Arr) (b : Fin 4) (n : Fin 64) (h : Fin 4) (r : Fin 128) :
    val_main_v63 (F := Ideal) X (ix5 b 0 n h r) = smax (cur X b h n r) (prev X b h n r) := by
  rw [m63, fold_max_halves]
  simp only [sCur, sPrev]
  rfl

/-- The exponentials against the own block. -/
theorem pCur (X : Arr) (b : Fin 4) (n : Fin 64) (h : Fin 4) (r k : Fin 128) :
    val_main_v67 (F := Ideal) X (ix6 b 0 n h r ⟨128 + k.val, by omega⟩) = Ideal.exp (cur X b h n r k - smax (cur X b h n r) (prev X b h n r)) := by
  rw [p67, sCur, m63_eq]

/-- The exponentials against the block before. -/
theorem pPrev (X : Arr) (b : Fin 4) (n : Fin 64) (h : Fin 4) (r k : Fin 128) :
    val_main_v67 (F := Ideal) X (ix6 b 0 n h r ⟨k.val, by omega⟩) = Ideal.exp (prev X b h n r k - smax (cur X b h n r) (prev X b h n r)) := by
  rw [p67, sPrev, m63_eq]

/-- The sum of a row's exponentials. -/
theorem d68_eq (X : Arr) (b : Fin 4) (n : Fin 64) (h : Fin 4) (r : Fin 128) :
    val_main_v68 (F := Ideal) X (ix5 b 0 n h r) = sden (cur X b h n r) (prev X b h n r) := by
  rw [d68, sum_halves]
  simp only [pCur, pPrev]
  rfl

/-- The attention of a row, one lane of one head. -/
theorem a74_eq (X : Arr) (b : Fin 4) (n : Fin 64) (r : Fin 128) (h : Fin 4) (d : Fin 64) :
    val_main_v74 (F := Ideal) X (ix6 b 0 n r h d) = att X b h n r d := by
  rw [a74, d68_eq, sum_halves]
  simp only [pCur, pPrev, vCur]
  unfold att satt
  refine congrArg (fun z => Ideal.div z _) (congrArg₂ (· + ·) (Finset.sum_congr rfl fun k _ => mul_comm _ _) (Finset.sum_congr rfl fun k _ => ?_))
  by_cases hn : 0 < n.val
  · rw [vPrev X b n hn, mul_comm]
  · have e : prev X b h n r k = ⊥ := if_neg fun q => hn q.2
    rw [e, exp_bot_sub, mul_zero, zero_mul]

/-- The reference's first result. -/
theorem v88_eq (X : Arr) (b : Fin 4) (t : Fin 8192) (l : Fin 128) : val_main_v88 (F := Ideal) X (ix3 b t l) = resO 0 X b t l := by
  rw [r88, o81, a74_eq]
  unfold resO
  congr 1
  exact Fin.ext (by simp [hd])

/-- The reference's second result. -/
theorem v90_eq (X : Arr) (b : Fin 4) (t : Fin 8192) (l : Fin 128) : val_main_v90 (F := Ideal) X (ix3 b t l) = resO 1 X b t l := by
  rw [r90, o81, a74_eq]
  unfold resO
  congr 1

/-- The reference's third result. -/
theorem v92_eq (X : Arr) (b : Fin 4) (t : Fin 8192) (l : Fin 128) : val_main_v92 (F := Ideal) X (ix3 b t l) = resL 0 X b t l := by
  rw [r92, l86, l82, l77, m63_eq, d68_eq]
  unfold resL
  have e : (⟨l.val / 64, by omega⟩ : Fin 4) = hd 0 l := Fin.ext (by simp [hd])
  rw [e]
  rfl

/-- The reference's fourth result. -/
theorem v94_eq (X : Arr) (b : Fin 4) (t : Fin 8192) (l : Fin 128) : val_main_v94 (F := Ideal) X (ix3 b t l) = resL 1 X b t l := by
  rw [r94, l86, l82, l77, m63_eq, d68_eq]
  rfl

end Cert.SwaRefRead

end
-- ==== Proof.SwaEq.lean ====
module

public import proofs.«01_k».proof.Defs
public import proofs.«01_k».proof.Proof.SwaFinal
public import proofs.«01_k».proof.Proof.SwaRefRead
public import Idealize.ShloMosaic.Lib.Quiescent

/-!
The banded attention's kernel and its reference end with the same four arrays.
-/

@[expose] public section

noncomputable section

namespace Cert.SwaEq

open Idealize.ShloMosaic Idealize.SL.Sem Cert.SwaSpec Cert.SwaRefRead

/-- A rank-3 index from its coordinates. -/
theorem ix3_of (i : (⟨3, ![4, 8192, 128]⟩ : Shape).Idx) : i = ix3 (i 0) (i 1) (i 2) := funext fun a => by
  match a with
  | ⟨0, _⟩ => rfl
  | ⟨1, _⟩ => rfl
  | ⟨2, _⟩ => rfl

variable (m' : (ℓ : Loc Cert.SwaRefIdeal.nD Cert.SwaRefIdeal.τ Cert.SwaRefIdeal.sig) → Buf (Elt Ideal) ℓ) (c : Dev Cert.SwaRefIdeal.nD)

/-- The array the reference takes. -/
abbrev arg : Arr := m' ((c.tc : Thread Cert.SwaRefIdeal.nD Cert.SwaRefIdeal.τ).loc Cert.SwaRefIdeal.main_arg0)

/-- The reference's four results, as arrays of the projected columns. -/
theorem ref0 : Cert.SwaRefIdeal.Value.res_main_v88 m' c = fun i : (⟨3, ![4, 8192, 128]⟩ : Shape).Idx => resO 0 (arg m' c) (i 0) (i 1) (i 2) := by
  rw [Cert.SwaRefIdeal.Read.val_main_v88_eq]
  exact funext fun i => (congrArg _ (ix3_of i)).trans (v88_eq _ _ _ _)

theorem ref1 : Cert.SwaRefIdeal.Value.res_main_v90 m' c = fun i : (⟨3, ![4, 8192, 128]⟩ : Shape).Idx => resO 1 (arg m' c) (i 0) (i 1) (i 2) := by
  rw [Cert.SwaRefIdeal.Read.val_main_v90_eq]
  exact funext fun i => (congrArg _ (ix3_of i)).trans (v90_eq _ _ _ _)

theorem ref2 : Cert.SwaRefIdeal.Value.res_main_v92 m' c = fun i : (⟨3, ![4, 8192, 128]⟩ : Shape).Idx => resL 0 (arg m' c) (i 0) (i 1) (i 2) := by
  rw [Cert.SwaRefIdeal.Read.val_main_v92_eq]
  exact funext fun i => (congrArg _ (ix3_of i)).trans (v92_eq _ _ _ _)

theorem ref3 : Cert.SwaRefIdeal.Value.res_main_v94 m' c = fun i : (⟨3, ![4, 8192, 128]⟩ : Shape).Idx => resL 1 (arg m' c) (i 0) (i 1) (i 2) := by
  rw [Cert.SwaRefIdeal.Read.val_main_v94_eq]
  exact funext fun i => (congrArg _ (ix3_of i)).trans (v94_eq _ _ _ _)

/-- From equal arguments the two programs run and end with equal results. -/
theorem equal [hP : Cert.SwaIdeal.Facts] [hR : Cert.SwaRefIdeal.Facts] : Cert.algebraic_SwaIdeal_SwaRefIdeal := by
  obtain rfl : hP = Cert.SwaIdeal.Gen.facts := Subsingleton.elim _ _
  obtain rfl : hR = Cert.SwaRefIdeal.Gen.facts := Subsingleton.elim _ _
  intro m g m' g' _ hag
  refine ⟨fun c => (Cert.SwaIdeal.Gen.dats m 0 c).arrAt 10 Cert.SwaIdeal.cfg0.N, fun c => (Cert.SwaIdeal.Gen.dats m 0 c).arrAt 11 Cert.SwaIdeal.cfg0.N,
    fun c => (Cert.SwaIdeal.Gen.dats m 0 c).arrAt 12 Cert.SwaIdeal.cfg0.N, fun c => (Cert.SwaIdeal.Gen.dats m 0 c).arrAt 13 Cert.SwaIdeal.cfg0.N,
    Cert.SwaIdeal.Value.run_blocks m g, (θ_run _ _ _).mono (fun r h c => ?_) (Cert.SwaRefIdeal.Value.run (F := Ideal) m' g')⟩
  obtain ⟨h0, h1, h2, h3, h4⟩ := h c
  have e : arg m' c = Cert.SwaTile.X m c := hag c
  refine ⟨h0.trans ?_, h1.trans ?_, h2.trans ?_, h3.trans ?_, h4⟩
  · rw [ref0, e]; exact (Cert.SwaFinal.arr10 m c).symm
  · rw [ref1, e]; exact (Cert.SwaFinal.arr11 m c).symm
  · rw [ref2, e]; exact (Cert.SwaFinal.arr12 m c).symm
  · rw [ref3, e]; exact (Cert.SwaFinal.arr13 m c).symm

/-- The reference runs to its end, its argument unchanged; it declares no semaphore. -/
theorem frame_ref [hR : Cert.SwaRefIdeal.Facts] : Cert.quiescent_SwaRefIdeal := by
  obtain rfl : hR = Cert.SwaRefIdeal.Gen.facts := Subsingleton.elim _ _
  exact fun m ρ _ => (θ_run Cert.SwaRefIdeal.defs _ _).mono (fun r h => ⟨fun c => (h c).2.2.2.2, sem_eq_zero_of_no_sems (by decide) r.2⟩)
    (Cert.SwaRefIdeal.Value.run (F := Ideal) m ρ)

end Cert.SwaEq

end
-- ==== Proof.TailOddBlk.lean ====
module

public import proofs.«01_k».proof.Proof.Gen.TailOddIdeal.Frame
public import Idealize.ShloMosaic.Lib.Pointwise

/-!
What a step of the kernel after the mixers finds in each of its input blocks, element by element.
-/

@[expose] public section

set_option maxRecDepth 16384

noncomputable section

namespace Cert.TailOddBlk

open Idealize.ShloMosaic Idealize.ShloMosaic.TcCoe Idealize.SL.Sem Idealize.ShloMosaic.StableHlo Cert.TailOddIdeal Cert.TailOddIdeal.Gen

variable (m : (ℓ : Loc nD τ sig) → Buf (Elt Ideal) ℓ)

/-- The batch of a grid point. -/
abbrev bt (t : Fin grid0.N) : Fin 4 := grid0.coords t 0
/-- The block of 512 rows of a grid point. -/
abbrev gt (t : Fin grid0.N) : Fin 16 := grid0.coords t 1
/-- A row of a grid point's block. -/
abbrev row (t : Fin grid0.N) (r : Fin 512) : Fin 8192 := ⟨(gt t).val * 512 + r.val, by have := (gt t).isLt; omega⟩

/-- An argument, as launched. -/
abbrev a0 (c : Dev nD) : Vec Ideal S4x8192x1024 .f32 := m ((c : Thread nD τ).loc main_arg0)
/-- An argument, as launched. -/
abbrev a1 (c : Dev nD) : Vec Ideal S4x1x6144 .f32 := m ((c : Thread nD τ).loc main_arg1)
/-- An argument, as launched. -/
abbrev a2 (c : Dev nD) : Vec Ideal S4x8192x512 .bf16 := m ((c : Thread nD τ).loc main_arg2)
/-- An argument, as launched. -/
abbrev a3 (c : Dev nD) : Vec Ideal S4x8192x512 .bf16 := m ((c : Thread nD τ).loc main_arg3)
/-- An argument, as launched. -/
abbrev a4 (c : Dev nD) : Vec Ideal S2x1024 .f32 := m ((c : Thread nD τ).loc main_arg4)
/-- An argument, as launched. -/
abbrev a5 (c : Dev nD) : Vec Ideal S1024x1024 .f32 := m ((c : Thread nD τ).loc main_arg5)
/-- An argument, as launched. -/
abbrev a6 (c : Dev nD) : Vec Ideal S2x1024 .f32 := m ((c : Thread nD τ).loc main_arg6)
/-- An argument, as launched. -/
abbrev a7 (c : Dev nD) : Vec Ideal S2x1024 .f32 := m ((c : Thread nD τ).loc main_arg7)
/-- An argument, as launched. -/
abbrev a8 (c : Dev nD) : Vec Ideal S2x1024x2816 .f32 := m ((c : Thread nD τ).loc main_arg8)
/-- An argument, as launched. -/
abbrev a9 (c : Dev nD) : Vec Ideal S2x1024x2816 .f32 := m ((c : Thread nD τ).loc main_arg9)
/-- An argument, as launched. -/
abbrev a10 (c : Dev nD) : Vec Ideal S2x2816x1024 .f32 := m ((c : Thread nD τ).loc main_arg10)

/-- What the host puts in `v2`. -/
theorem h_v2 (c : Dev nD) (b : Fin 4) (k : Fin 1024) : (V m c main_v2 : Vec Ideal S4x1x1024 .f32) (ix3 b 0 k) = a1 m c (ix3 b 0 ⟨2048 + k.val, by omega⟩) := by
  unfold V hostOps0
  after_results_simp
  pointwise []
  try rfl

/-- What the host puts in `v3`. -/
theorem h_v3 (c : Dev nD) (b : Fin 4) (k : Fin 1024) : (V m c main_v3 : Vec Ideal S4x1x1024 .f32) (ix3 b 0 k) = a1 m c (ix3 b 0 ⟨3072 + k.val, by omega⟩) := by
  unfold V hostOps0
  after_results_simp
  pointwise []
  try rfl

/-- What the host puts in `v4`. -/
theorem h_v4 (c : Dev nD) (b : Fin 4) (k : Fin 1024) : (V m c main_v4 : Vec Ideal S4x1x1024 .f32) (ix3 b 0 k) = a1 m c (ix3 b 0 ⟨4096 + k.val, by omega⟩) := by
  unfold V hostOps0
  after_results_simp
  pointwise []
  try rfl

/-- What the host puts in `v5`. -/
theorem h_v5 (c : Dev nD) (b : Fin 4) (k : Fin 1024) : (V m c main_v5 : Vec Ideal S4x1x1024 .f32) (ix3 b 0 k) = a1 m c (ix3 b 0 ⟨5120 + k.val, by omega⟩) := by
  unfold V hostOps0
  after_results_simp
  pointwise []
  try rfl

/-- What the host puts in `v16`. -/
theorem h_v16 (c : Dev nD) (k : Fin 1024) : (V m c main_v16 : Vec Ideal S1x1024 .f32) (ix2 0 k) = a4 m c (ix2 1 k) := by
  unfold V hostOps0
  after_results_simp
  pointwise []
  try rfl

/-- What the host puts in `v17`. -/
theorem h_v17 (c : Dev nD) (k : Fin 1024) : (V m c main_v17 : Vec Ideal S1x1024 .f32) (ix2 0 k) = a6 m c (ix2 1 k) := by
  unfold V hostOps0
  after_results_simp
  pointwise []
  try rfl

/-- What the host puts in `v18`. -/
theorem h_v18 (c : Dev nD) (k : Fin 1024) : (V m c main_v18 : Vec Ideal S1x1024 .f32) (ix2 0 k) = a7 m c (ix2 1 k) := by
  unfold V hostOps0
  after_results_simp
  pointwise []
  try rfl

/-- What the host puts in `v8`. -/
theorem h_v8 (c : Dev nD) (j k : Fin 1024) : (V m c main_v8 : Vec Ideal S1024x1024 .bf16) (ix2 j k) = a5 m c (ix2 j k) := by
  unfold V hostOps0
  after_results_simp
  pointwise []
  try rfl

/-- What the host puts in `v13`. -/
theorem h_v13 (c : Dev nD) (l : Fin 2) (k : Fin 1024) (f : Fin 2816) : (V m c main_v13 : Vec Ideal S2x1024x2816 .bf16) (ix3 l k f) = a8 m c (ix3 l k f) := by
  unfold V hostOps0
  after_results_simp
  pointwise []
  try rfl

/-- What the host puts in `v14`. -/
theorem h_v14 (c : Dev nD) (l : Fin 2) (k : Fin 1024) (f : Fin 2816) : (V m c main_v14 : Vec Ideal S2x1024x2816 .bf16) (ix3 l k f) = a9 m c (ix3 l k f) := by
  unfold V hostOps0
  after_results_simp
  pointwise []
  try rfl

/-- What the host puts in `v15`. -/
theorem h_v15 (c : Dev nD) (l : Fin 2) (f : Fin 2816) (k : Fin 1024) : (V m c main_v15 : Vec Ideal S2x2816x1024 .bf16) (ix3 l f k) = a10 m c (ix3 l f k) := by
  unfold V hostOps0
  after_results_simp
  pointwise []
  try rfl

theorem wix0 : ∀ t : Fin grid0.N, win0_0.index t 0 * win0_0.size 0 = (bt t).val ∧ win0_0.index t 1 * win0_0.size 1 = (gt t).val * 512 ∧ win0_0.index t 2 * win0_0.size 2 = 0 := by decide +kernel

/-- Input 0's block. -/
theorem in0 (c : Dev nD) (t : Fin cfg0.N) (r : Fin 512) (k : Fin 1024) : (iblk m c 0 t : Vec Ideal S1x512x1024 .f32) (ix3 0 r k) = a0 m c (ix3 (bt t) (row t r) k) := by
  obtain ⟨e0, e1, e2⟩ := wix0 t
  refine Eq.trans (congrArg (V m c main_arg0) (funext fun a => Fin.ext ?_ : _ = ix3 (bt t) (row t r) k)) (congrFun (V_main_arg0 m c) _)
  match a with
  | ⟨0, _⟩ => show win0_0.index t 0 * win0_0.size 0 + 1 * 0 = _; rw [e0]; first | rfl | (show _ = _; simp) | (simp; done)
  | ⟨1, _⟩ => show win0_0.index t 1 * win0_0.size 1 + 1 * r.val = _; rw [e1]; first | rfl | (show _ = _; simp) | (simp; done)
  | ⟨2, _⟩ => show win0_0.index t 2 * win0_0.size 2 + 1 * k.val = _; rw [e2]; first | rfl | (show _ = _; simp) | (simp; done)

theorem wix3 : ∀ t : Fin grid0.N, win0_3.index t 0 * win0_3.size 0 = (bt t).val ∧ win0_3.index t 1 * win0_3.size 1 = (gt t).val * 512 ∧ win0_3.index t 2 * win0_3.size 2 = 0 := by decide +kernel

/-- Input 3's block. -/
theorem in3 (c : Dev nD) (t : Fin cfg0.N) (r : Fin 512) (k : Fin 512) : (iblk m c 3 t : Vec Ideal S1x512x512 .bf16) (ix3 0 r k) = a2 m c (ix3 (bt t) (row t r) k) := by
  obtain ⟨e0, e1, e2⟩ := wix3 t
  refine Eq.trans (congrArg (V m c main_arg2) (funext fun a => Fin.ext ?_ : _ = ix3 (bt t) (row t r) k)) (congrFun (V_main_arg2 m c) _)
  match a with
  | ⟨0, _⟩ => show win0_3.index t 0 * win0_3.size 0 + 1 * 0 = _; rw [e0]; first | rfl | (show _ = _; simp) | (simp; done)
  | ⟨1, _⟩ => show win0_3.index t 1 * win0_3.size 1 + 1 * r.val = _; rw [e1]; first | rfl | (show _ = _; simp) | (simp; done)
  | ⟨2, _⟩ => show win0_3.index t 2 * win0_3.size 2 + 1 * k.val = _; rw [e2]; first | rfl | (show _ = _; simp) | (simp; done)

theorem wix4 : ∀ t : Fin grid0.N, win0_4.index t 0 * win0_4.size 0 = (bt t).val ∧ win0_4.index t 1 * win0_4.size 1 = (gt t).val * 512 ∧ win0_4.index t 2 * win0_4.size 2 = 0 := by decide +kernel

/-- Input 4's block. -/
theorem in4 (c : Dev nD) (t : Fin cfg0.N) (r : Fin 512) (k : Fin 512) : (iblk m c 4 t : Vec Ideal S1x512x512 .bf16) (ix3 0 r k) = a3 m c (ix3 (bt t) (row t r) k) := by
  obtain ⟨e0, e1, e2⟩ := wix4 t
  refine Eq.trans (congrArg (V m c main_arg3) (funext fun a => Fin.ext ?_ : _ = ix3 (bt t) (row t r) k)) (congrFun (V_main_arg3 m c) _)
  match a with
  | ⟨0, _⟩ => show win0_4.index t 0 * win0_4.size 0 + 1 * 0 = _; rw [e0]; first | rfl | (show _ = _; simp) | (simp; done)
  | ⟨1, _⟩ => show win0_4.index t 1 * win0_4.size 1 + 1 * r.val = _; rw [e1]; first | rfl | (show _ = _; simp) | (simp; done)
  | ⟨2, _⟩ => show win0_4.index t 2 * win0_4.size 2 + 1 * k.val = _; rw [e2]; first | rfl | (show _ = _; simp) | (simp; done)

theorem wix1 : ∀ t : Fin grid0.N, win0_1.index t 0 * win0_1.size 0 = (bt t).val ∧ win0_1.index t 1 * win0_1.size 1 = 0 ∧ win0_1.index t 2 * win0_1.size 2 = 0 := by decide +kernel

/-- Input 1's block. -/
theorem in1 (c : Dev nD) (t : Fin cfg0.N) (k : Fin 1024) : (iblk m c 1 t : Vec Ideal S1x1x1024 .f32) (ix3 0 0 k) = a1 m c (ix3 (bt t) 0 ⟨2048 + k.val, by omega⟩) := by
  obtain ⟨e0, e1, e2⟩ := wix1 t
  refine Eq.trans (congrArg (V m c main_v2) (funext fun a => Fin.ext ?_ : _ = ix3 (bt t) 0 k)) (h_v2 m c (bt t) k)
  match a with
  | ⟨0, _⟩ => show win0_1.index t 0 * win0_1.size 0 + 1 * 0 = _; rw [e0]; first | rfl | (show _ = _; simp) | (simp; done)
  | ⟨1, _⟩ => show win0_1.index t 1 * win0_1.size 1 + 1 * 0 = _; rw [e1]; first | rfl | (show _ = _; simp) | (simp; done)
  | ⟨2, _⟩ => show win0_1.index t 2 * win0_1.size 2 + 1 * k.val = _; rw [e2]; first | rfl | (show _ = _; simp) | (simp; done)

theorem wix7 : ∀ t : Fin grid0.N, win0_7.index t 0 * win0_7.size 0 = (bt t).val ∧ win0_7.index t 1 * win0_7.size 1 = 0 ∧ win0_7.index t 2 * win0_7.size 2 = 0 := by decide +kernel

/-- Input 7's block. -/
theorem in7 (c : Dev nD) (t : Fin cfg0.N) (k : Fin 1024) : (iblk m c 7 t : Vec Ideal S1x1x1024 .f32) (ix3 0 0 k) = a1 m c (ix3 (bt t) 0 ⟨4096 + k.val, by omega⟩) := by
  obtain ⟨e0, e1, e2⟩ := wix7 t
  refine Eq.trans (congrArg (V m c main_v4) (funext fun a => Fin.ext ?_ : _ = ix3 (bt t) 0 k)) (h_v4 m c (bt t) k)
  match a with
  | ⟨0, _⟩ => show win0_7.index t 0 * win0_7.size 0 + 1 * 0 = _; rw [e0]; first | rfl | (show _ = _; simp) | (simp; done)
  | ⟨1, _⟩ => show win0_7.index t 1 * win0_7.size 1 + 1 * 0 = _; rw [e1]; first | rfl | (show _ = _; simp) | (simp; done)
  | ⟨2, _⟩ => show win0_7.index t 2 * win0_7.size 2 + 1 * k.val = _; rw [e2]; first | rfl | (show _ = _; simp) | (simp; done)

theorem wix8 : ∀ t : Fin grid0.N, win0_8.index t 0 * win0_8.size 0 = (bt t).val ∧ win0_8.index t 1 * win0_8.size 1 = 0 ∧ win0_8.index t 2 * win0_8.size 2 = 0 := by decide +kernel

/-- Input 8's block. -/
theorem in8 (c : Dev nD) (t : Fin cfg0.N) (k : Fin 1024) : (iblk m c 8 t : Vec Ideal S1x1x1024 .f32) (ix3 0 0 k) = a1 m c (ix3 (bt t) 0 ⟨3072 + k.val, by omega⟩) := by
  obtain ⟨e0, e1, e2⟩ := wix8 t
  refine Eq.trans (congrArg (V m c main_v3) (funext fun a => Fin.ext ?_ : _ = ix3 (bt t) 0 k)) (h_v3 m c (bt t) k)
  match a with
  | ⟨0, _⟩ => show win0_8.index t 0 * win0_8.size 0 + 1 * 0 = _; rw [e0]; first | rfl | (show _ = _; simp) | (simp; done)
  | ⟨1, _⟩ => show win0_8.index t 1 * win0_8.size 1 + 1 * 0 = _; rw [e1]; first | rfl | (show _ = _; simp) | (simp; done)
  | ⟨2, _⟩ => show win0_8.index t 2 * win0_8.size 2 + 1 * k.val = _; rw [e2]; first | rfl | (show _ = _; simp) | (simp; done)

theorem wix9 : ∀ t : Fin grid0.N, win0_9.index t 0 * win0_9.size 0 = (bt t).val ∧ win0_9.index t 1 * win0_9.size 1 = 0 ∧ win0_9.index t 2 * win0_9.size 2 = 0 := by decide +kernel

/-- Input 9's block. -/
theorem in9 (c : Dev nD) (t : Fin cfg0.N) (k : Fin 1024) : (iblk m c 9 t : Vec Ideal S1x1x1024 .f32) (ix3 0 0 k) = a1 m c (ix3 (bt t) 0 ⟨5120 + k.val, by omega⟩) := by
  obtain ⟨e0, e1, e2⟩ := wix9 t
  refine Eq.trans (congrArg (V m c main_v5) (funext fun a => Fin.ext ?_ : _ = ix3 (bt t) 0 k)) (h_v5 m c (bt t) k)
  match a with
  | ⟨0, _⟩ => show win0_9.index t 0 * win0_9.size 0 + 1 * 0 = _; rw [e0]; first | rfl | (show _ = _; simp) | (simp; done)
  | ⟨1, _⟩ => show win0_9.index t 1 * win0_9.size 1 + 1 * 0 = _; rw [e1]; first | rfl | (show _ = _; simp) | (simp; done)
  | ⟨2, _⟩ => show win0_9.index t 2 * win0_9.size 2 + 1 * k.val = _; rw [e2]; first | rfl | (show _ = _; simp) | (simp; done)

theorem wix2 : ∀ t : Fin grid0.N, win0_2.index t 0 * win0_2.size 0 = 0 ∧ win0_2.index t 1 * win0_2.size 1 = 0 := by decide +kernel

/-- Input 2's block. -/
theorem in2 (c : Dev nD) (t : Fin cfg0.N) (k : Fin 1024) : (iblk m c 2 t : Vec Ideal S1x1024 .f32) (ix2 0 k) = a4 m c (ix2 1 k) := by
  obtain ⟨e0, e1⟩ := wix2 t
  refine Eq.trans (congrArg (V m c main_v16) (funext fun a => Fin.ext ?_ : _ = ix2 0 k)) (h_v16 m c k)
  match a with
  | ⟨0, _⟩ => show win0_2.index t 0 * win0_2.size 0 + 1 * 0 = _; rw [e0]; first | rfl | (show _ = _; simp) | (simp; done)
  | ⟨1, _⟩ => show win0_2.index t 1 * win0_2.size 1 + 1 * k.val = _; rw [e1]; first | rfl | (show _ = _; simp) | (simp; done)

theorem wix6 : ∀ t : Fin grid0.N, win0_6.index t 0 * win0_6.size 0 = 0 ∧ win0_6.index t 1 * win0_6.size 1 = 0 := by decide +kernel

/-- Input 6's block. -/
theorem in6 (c : Dev nD) (t : Fin cfg0.N) (k : Fin 1024) : (iblk m c 6 t : Vec Ideal S1x1024 .f32) (ix2 0 k) = a6 m c (ix2 1 k) := by
  obtain ⟨e0, e1⟩ := wix6 t
  refine Eq.trans (congrArg (V m c main_v17) (funext fun a => Fin.ext ?_ : _ = ix2 0 k)) (h_v17 m c k)
  match a with
  | ⟨0, _⟩ => show win0_6.index t 0 * win0_6.size 0 + 1 * 0 = _; rw [e0]; first | rfl | (show _ = _; simp) | (simp; done)
  | ⟨1, _⟩ => show win0_6.index t 1 * win0_6.size 1 + 1 * k.val = _; rw [e1]; first | rfl | (show _ = _; simp) | (simp; done)

theorem wix10 : ∀ t : Fin grid0.N, win0_10.index t 0 * win0_10.size 0 = 0 ∧ win0_10.index t 1 * win0_10.size 1 = 0 := by decide +kernel

/-- Input 10's block. -/
theorem in10 (c : Dev nD) (t : Fin cfg0.N) (k : Fin 1024) : (iblk m c 10 t : Vec Ideal S1x1024 .f32) (ix2 0 k) = a7 m c (ix2 1 k) := by
  obtain ⟨e0, e1⟩ := wix10 t
  refine Eq.trans (congrArg (V m c main_v18) (funext fun a => Fin.ext ?_ : _ = ix2 0 k)) (h_v18 m c k)
  match a with
  | ⟨0, _⟩ => show win0_10.index t 0 * win0_10.size 0 + 1 * 0 = _; rw [e0]; first | rfl | (show _ = _; simp) | (simp; done)
  | ⟨1, _⟩ => show win0_10.index t 1 * win0_10.size 1 + 1 * k.val = _; rw [e1]; first | rfl | (show _ = _; simp) | (simp; done)

theorem wix5 : ∀ t : Fin grid0.N, win0_5.index t 0 * win0_5.size 0 = 0 ∧ win0_5.index t 1 * win0_5.size 1 = 0 := by decide +kernel

/-- Input 5's block. -/
theorem in5 (c : Dev nD) (t : Fin cfg0.N) (j k : Fin 1024) : (iblk m c 5 t : Vec Ideal S1024x1024 .bf16) (ix2 j k) = a5 m c (ix2 j k) := by
  obtain ⟨e0, e1⟩ := wix5 t
  refine Eq.trans (congrArg (V m c main_v8) (funext fun a => Fin.ext ?_ : _ = ix2 j k)) (h_v8 m c j k)
  match a with
  | ⟨0, _⟩ => show win0_5.index t 0 * win0_5.size 0 + 1 * j.val = _; rw [e0]; first | rfl | (show _ = _; simp) | (simp; done)
  | ⟨1, _⟩ => show win0_5.index t 1 * win0_5.size 1 + 1 * k.val = _; rw [e1]; first | rfl | (show _ = _; simp) | (simp; done)

theorem wix11 : ∀ t : Fin grid0.N, win0_11.index t 0 * win0_11.size 0 = 1 ∧ win0_11.index t 1 * win0_11.size 1 = 0 ∧ win0_11.index t 2 * win0_11.size 2 = 0 := by decide +kernel

/-- Input 11's block. -/
theorem in11 (c : Dev nD) (t : Fin cfg0.N) (k : Fin 1024) (f : Fin 2816) : (iblk m c 11 t : Vec Ideal S1x1024x2816 .bf16) (ix3 0 k f) = a8 m c (ix3 1 k f) := by
  obtain ⟨e0, e1, e2⟩ := wix11 t
  refine Eq.trans (congrArg (V m c main_v13) (funext fun a => Fin.ext ?_ : _ = ix3 1 k f)) (h_v13 m c 1 k f)
  match a with
  | ⟨0, _⟩ => show win0_11.index t 0 * win0_11.size 0 + 1 * 0 = _; rw [e0]; first | rfl | (show _ = _; simp) | (simp; done)
  | ⟨1, _⟩ => show win0_11.index t 1 * win0_11.size 1 + 1 * k.val = _; rw [e1]; first | rfl | (show _ = _; simp) | (simp; done)
  | ⟨2, _⟩ => show win0_11.index t 2 * win0_11.size 2 + 1 * f.val = _; rw [e2]; first | rfl | (show _ = _; simp) | (simp; done)

theorem wix12 : ∀ t : Fin grid0.N, win0_12.index t 0 * win0_12.size 0 = 1 ∧ win0_12.index t 1 * win0_12.size 1 = 0 ∧ win0_12.index t 2 * win0_12.size 2 = 0 := by decide +kernel

/-- Input 12's block. -/
theorem in12 (c : Dev nD) (t : Fin cfg0.N) (k : Fin 1024) (f : Fin 2816) : (iblk m c 12 t : Vec Ideal S1x1024x2816 .bf16) (ix3 0 k f) = a9 m c (ix3 1 k f) := by
  obtain ⟨e0, e1, e2⟩ := wix12 t
  refine Eq.trans (congrArg (V m c main_v14) (funext fun a => Fin.ext ?_ : _ = ix3 1 k f)) (h_v14 m c 1 k f)
  match a with
  | ⟨0, _⟩ => show win0_12.index t 0 * win0_12.size 0 + 1 * 0 = _; rw [e0]; first | rfl | (show _ = _; simp) | (simp; done)
  | ⟨1, _⟩ => show win0_12.index t 1 * win0_12.size 1 + 1 * k.val = _; rw [e1]; first | rfl | (show _ = _; simp) | (simp; done)
  | ⟨2, _⟩ => show win0_12.index t 2 * win0_12.size 2 + 1 * f.val = _; rw [e2]; first | rfl | (show _ = _; simp) | (simp; done)

theorem wix13 : ∀ t : Fin grid0.N, win0_13.index t 0 * win0_13.size 0 = 1 ∧ win0_13.index t 1 * win0_13.size 1 = 0 ∧ win0_13.index t 2 * win0_13.size 2 = 0 := by decide +kernel

/-- Input 13's block. -/
theorem in13 (c : Dev nD) (t : Fin cfg0.N) (f : Fin 2816) (k : Fin 1024) : (iblk m c 13 t : Vec Ideal S1x2816x1024 .bf16) (ix3 0 f k) = a10 m c (ix3 1 f k) := by
  obtain ⟨e0, e1, e2⟩ := wix13 t
  refine Eq.trans (congrArg (V m c main_v15) (funext fun a => Fin.ext ?_ : _ = ix3 1 f k)) (h_v15 m c 1 f k)
  match a with
  | ⟨0, _⟩ => show win0_13.index t 0 * win0_13.size 0 + 1 * 0 = _; rw [e0]; first | rfl | (show _ = _; simp) | (simp; done)
  | ⟨1, _⟩ => show win0_13.index t 1 * win0_13.size 1 + 1 * f.val = _; rw [e1]; first | rfl | (show _ = _; simp) | (simp; done)
  | ⟨2, _⟩ => show win0_13.index t 2 * win0_13.size 2 + 1 * k.val = _; rw [e2]; first | rfl | (show _ = _; simp) | (simp; done)

end Cert.TailOddBlk

end
-- ==== Proof.TailOddOut.lean ====
module

public import proofs.«01_k».proof.Proof.Gen.TailOddIdeal.Frame
public import Idealize.ShloMosaic.Lib.Pipeline.ValueKit.Acc

/-!
What one step of the kernel after the mixers leaves in its block of the result.
-/

@[expose] public section

set_option maxRecDepth 16384

noncomputable section

namespace Cert.TailOddOut

open Idealize.ShloMosaic Idealize.ShloMosaic.TcCoe Idealize.ShloMosaic.Tactic Idealize.SL.Sem Cert.TailOddIdeal Cert.TailOddIdeal.Gen

variable {F : FTy → Type} [FloatOps F]

/-- A block of 512 rows with the normalised output of the mixers added. -/
def mixT (x0 : Vec F S1x512x1024 .f32) (x1 : Vec F S1x1x1024 .f32) (x2 : Vec F S1x1024 .f32) (x3 x4 : Vec F S1x512x512 .bf16) (x5 : Vec F S1024x1024 .bf16) : FVec F S512x1024 .f32 :=
  k0_pay1 (View.ld x3 (Rect.unit (s := S1x512x512) ![0, 0, 0] S1x512x512.size inb_S1x512x512_S1x512x512_0_0_0)) (View.ld x5 (Rect.unit (s := S1024x1024) ![0, 0] S512x1024.size inb_S1024x1024_S512x1024_0_0)) (View.ld x4 (Rect.unit (s := S1x512x512) ![0, 0, 0] S1x512x512.size inb_S1x512x512_S1x512x512_0_0_0)) (View.ld x5 (Rect.unit (s := S1024x1024) ![512, 0] S512x1024.size inb_S1024x1024_S512x1024_512_0))
    (View.ld x0 (Rect.unit (s := S1x512x1024) ![0, 0, 0] S1x512x1024.size inb_S1x512x1024_S1x512x1024_0_0_0)) (View.ld x1 (Rect.unit (s := S1x1x1024) ![0, 0, 0] S1x1x1024.size inb_S1x1x1024_S1x1x1024_0_0_0)) (View.ld x2 (Rect.unit (s := S1x1024) ![0, 0] S1x1024.size inb_S1x1024_S1x1024_0_0))

/-- The block the feed-forward reads. -/
def hidT (y : FVec F S512x1024 .f32) (x6 : Vec F S1x1024 .f32) (x7 x8 : Vec F S1x1x1024 .f32) : FVec F S512x1024 .bf16 :=
  k0_pay3 y (View.ld x6 (Rect.unit (s := S1x1024) ![0, 0] S1x1024.size inb_S1x1024_S1x1024_0_0)) (View.ld x7 (Rect.unit (s := S1x1x1024) ![0, 0, 0] S1x1x1024.size inb_S1x1x1024_S1x1x1024_0_0_0)) (View.ld x8 (Rect.unit (s := S1x1x1024) ![0, 0, 0] S1x1x1024.size inb_S1x1x1024_S1x1x1024_0_0_0))

/-- The feed-forward of a block: its 2816 inner columns in parts of 512, and the last of 256. -/
def ffnT (h : FVec F S512x1024 .bf16) (x11 x12 : Vec F S1x1024x2816 .bf16) (x13 : Vec F S1x2816x1024 .bf16) : FVec F S512x1024 .f32 :=
  k0_pay18 (k0_pay13 h (View.ld x11 (Rect.unit (s := S1x1024x2816) ![0, 0, 2048] S1x1024x512.size inb_S1x1024x2816_S1x1024x512_0_0_2048))) (k0_pay14 h (View.ld x12 (Rect.unit (s := S1x1024x2816) ![0, 0, 2048] S1x1024x512.size inb_S1x1024x2816_S1x1024x512_0_0_2048)))
    (k0_pay15 (k0_pay8 h (View.ld x12 (Rect.unit (s := S1x1024x2816) ![0, 0, 1024] S1x1024x512.size inb_S1x1024x2816_S1x1024x512_0_0_1024)))
      (k0_pay9 (k0_pay5 h (View.ld x11 (Rect.unit (s := S1x1024x2816) ![0, 0, 512] S1x1024x512.size inb_S1x1024x2816_S1x1024x512_0_0_512))) (k0_pay6 h (View.ld x12 (Rect.unit (s := S1x1024x2816) ![0, 0, 512] S1x1024x512.size inb_S1x1024x2816_S1x1024x512_0_0_512)))
        (k0_pay7 h (View.ld x11 (Rect.unit (s := S1x1024x2816) ![0, 0, 0] S1x1024x512.size inb_S1x1024x2816_S1x1024x512_0_0_0)) (View.ld x12 (Rect.unit (s := S1x1024x2816) ![0, 0, 0] S1x1024x512.size inb_S1x1024x2816_S1x1024x512_0_0_0))
          (View.ld x13 (Rect.unit (s := S1x2816x1024) ![0, 0, 0] S1x512x1024.size inb_S1x2816x1024_S1x512x1024_0_0_0)))
        (View.ld x13 (Rect.unit (s := S1x2816x1024) ![0, 512, 0] S1x512x1024.size inb_S1x2816x1024_S1x512x1024_0_512_0)))
      (k0_pay10 h (View.ld x11 (Rect.unit (s := S1x1024x2816) ![0, 0, 1536] S1x1024x512.size inb_S1x1024x2816_S1x1024x512_0_0_1536))) (k0_pay11 h (View.ld x12 (Rect.unit (s := S1x1024x2816) ![0, 0, 1536] S1x1024x512.size inb_S1x1024x2816_S1x1024x512_0_0_1536)))
      (k0_pay12 h (View.ld x11 (Rect.unit (s := S1x1024x2816) ![0, 0, 1024] S1x1024x512.size inb_S1x1024x2816_S1x1024x512_0_0_1024))) (View.ld x13 (Rect.unit (s := S1x2816x1024) ![0, 1024, 0] S1x512x1024.size inb_S1x2816x1024_S1x512x1024_0_1024_0)) (View.ld x13 (Rect.unit (s := S1x2816x1024) ![0, 1536, 0] S1x512x1024.size inb_S1x2816x1024_S1x512x1024_0_1536_0)))
    (k0_pay16 h (View.ld x11 (Rect.unit (s := S1x1024x2816) ![0, 0, 2560] S1x1024x256.size inb_S1x1024x2816_S1x1024x256_0_0_2560))) (k0_pay17 h (View.ld x12 (Rect.unit (s := S1x1024x2816) ![0, 0, 2560] S1x1024x256.size inb_S1x1024x2816_S1x1024x256_0_0_2560)))
    (Scalar.ofBits .f32 0x00000000#32) (View.ld x13 (Rect.unit (s := S1x2816x1024) ![0, 2048, 0] S1x512x1024.size inb_S1x2816x1024_S1x512x1024_0_2048_0)) (View.ld x13 (Rect.unit (s := S1x2816x1024) ![0, 2560, 0] S1x256x1024.size inb_S1x2816x1024_S1x256x1024_0_2560_0)) k0_pay4

/-- The block of the result: the feed-forward's output normalised, gated and added. -/
def outT (y s : FVec F S512x1024 .f32) (x9 : Vec F S1x1x1024 .f32) (x10 : Vec F S1x1024 .f32) : FVec F S1x512x1024 .f32 :=
  k0_pay19 y (View.ld x9 (Rect.unit (s := S1x1x1024) ![0, 0, 0] S1x1x1024.size inb_S1x1x1024_S1x1x1024_0_0_0)) s (View.ld x10 (Rect.unit (s := S1x1024) ![0, 0] S1x1024.size inb_S1x1024_S1x1024_0_0))

theorem z2 : ∀ a : Fin 2, (![0, 0] : Fin 2 → ℕ) a = 0 := by decide

/-- What one step leaves in its block of the result. -/
theorem out_eq (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024 .f32) (harg13 : arg13.IsWhole) (arg14 : Memref sig .tc .vmem S1x1024x2816 .bf16) (harg14 : arg14.IsWhole) (arg15 : Memref sig .tc .vmem S1x1024x2816 .bf16) (harg15 : arg15.IsWhole) (arg16 : Memref sig .tc .vmem S1x2816x1024 .bf16) (harg16 : arg16.IsWhole) (arg17 : Memref sig .tc .vmem S1x512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .f32) (harg20 : arg20.IsWhole) (hc0 : cond0_0 i) (hc1 : cond0_1 i)
        (x0 : Vec F S1x512x1024 .f32) (x1 : Vec F S1x1x1024 .f32) (x2 : Vec F S1x1024 .f32) (x3 : Vec F S1x512x512 .bf16) (x4 : Vec F S1x512x512 .bf16) (x5 : Vec F S1024x1024 .bf16) (x6 : Vec F S1x1024 .f32) (x7 : Vec F S1x1x1024 .f32) (x8 : Vec F S1x1x1024 .f32) (x9 : Vec F S1x1x1024 .f32) (x10 : Vec F S1x1024 .f32) (x11 : Vec F S1x1024x2816 .bf16) (x12 : Vec F S1x1024x2816 .bf16) (x13 : Vec F S1x2816x1024 .bf16) :
    out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13
      = outT (mixT x0 x1 x2 x3 x4 x5) (ffnT (hidT (mixT x0 x1 x2 x3 x4 x5) x6 x7 x8) x11 x12 x13) x9 x10 := by
  unfold out0_A_14
  rw [View.read_writes_eq_canon _ _ _ (cover0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_cons_unit_zero (S := S1x512x1024) (by decide)]
  simp only [View.readCov_unit_lit' (S := S512x1024) _ _ _ z2, View.readCov_cons_unit_lit' (S := S512x1024) _ _ _ _ _ z2 z2,
    View.readAt_eq_ld, Memref.IsWhole.read_unread, *]
  unfold k0_pay2
  simp only [shapeCast_self]
  rfl

end Cert.TailOddOut

end
-- ==== Proof.TailSpec.lean ====
module

public import Idealize.ShloMosaic.Lib.Pointwise

/-!
What follows a layer's mixers, for one position: the normalised output of the mixers added to the position's row, and the
feed-forward of the row so obtained.
-/

@[expose] public section

set_option maxRecDepth 16384

noncomputable section

namespace Cert.TailSpec

open Idealize.ShloMosaic

/-- A row of 1024 numbers. -/
abbrev Row := Fin 1024 → EReal

/-- A row divided by the root of its mean square, times a row of weights. -/
def rms (y g : Row) : Row := fun c =>
  y c * Ideal.rsqrt (Ideal.div (∑ k, y k * y k) (Ideal.ofBits .f32 0x44800000#32) + Ideal.ofBits .f32 0x358637BD#32) * g c
/-- A number times its logistic. -/
def silu (z : EReal) : EReal := z * Ideal.div 1 (1 + Ideal.exp (-z))
/-- The row with the normalised output of the mixers added, under the gate. -/
def mix (x g1 y gpm : Row) : Row := fun c => x c + g1 c * rms y gpm c
/-- The row the feed-forward reads: normalised, scaled and shifted. -/
def hid (x gpre sc sh : Row) : Row := fun c => rms x gpre c * (1 + sc c) + sh c
/-- A sum of 512 products. -/
def dot512 (a b : Fin 512 → EReal) : EReal := ∑ k, a k * b k
/-- One of the feed-forward's inner numbers. -/
def act (h wg wu : Row) : EReal := silu (∑ k, h k * wg k) * ∑ k, h k * wu k
/-- The feed-forward. -/
def ffn (h : Row) (wg wu : Fin 1024 → Fin 2816 → EReal) (wd : Fin 2816 → Fin 1024 → EReal) : Row := fun c =>
  ∑ f, act h (fun k => wg k f) (fun k => wu k f) * wd f c
/-- The layer after its mixers. -/
def tail (x g1 y gpm gpre sc sh g2 gpf : Row) (wg wu : Fin 1024 → Fin 2816 → EReal) (wd : Fin 2816 → Fin 1024 → EReal) : Row :=
  mix (mix x g1 y gpm) g2 (ffn (hid (mix x g1 y gpm) gpre sc sh) wg wu wd) gpf

/-- A sum over the feed-forward's 2816 inner numbers is the sum of its parts of 512, and the last of 256. -/
theorem sum_parts (f : Fin 2816 → EReal) : ∑ k, f k =
    (((((∑ k : Fin 512, f ⟨k.val, by omega⟩) + ∑ k : Fin 512, f ⟨512 + k.val, by omega⟩) + ∑ k : Fin 512, f ⟨1024 + k.val, by omega⟩)
      + ∑ k : Fin 512, f ⟨1536 + k.val, by omega⟩) + ∑ k : Fin 512, f ⟨2048 + k.val, by omega⟩) + ∑ k : Fin 256, f ⟨2560 + k.val, by omega⟩ := by
  rw [← Fin.sum_congr' f (show 512 + 512 + 512 + 512 + 512 + 256 = 2816 from rfl)]
  simp only [Fin.sum_univ_add]
  rfl

/-- A sum over 1024 numbers is the sum of its halves. -/
theorem sum_halves (f : Fin 1024 → EReal) : ∑ k, f k = (∑ k : Fin 512, f ⟨k.val, by omega⟩) + ∑ k : Fin 512, f ⟨512 + k.val, by omega⟩ := by
  rw [← Fin.sum_congr' f (show 512 + 512 = 1024 from rfl)]
  simp only [Fin.sum_univ_add]
  rfl

end Cert.TailSpec

end
-- ==== Proof.TailOddRow.lean ====
module

public import proofs.«01_k».proof.Proof.Gen.TailOddIdeal.Skeleton
public import proofs.«01_k».proof.Proof.TailSpec

/-!
What the parts of the kernel after the mixers compute, at one row and one column of a block of 512 rows.
-/

@[expose] public section

set_option maxRecDepth 16384

noncomputable section

namespace Cert.TailOddRow

open Idealize.ShloMosaic Cert.TailOddIdeal Cert.TailOddIdeal.Gen Cert.TailSpec

/-- The mixers' outputs through the output projection, normalised, gated and added to the layer's input. -/
theorem pay1_apply (a : Vec Ideal S1x512x512 .bf16) (w : Vec Ideal S512x1024 .bf16) (a' : Vec Ideal S1x512x512 .bf16) (w' : Vec Ideal S512x1024 .bf16)
    (x : Vec Ideal S1x512x1024 .f32) (g1 : Vec Ideal S1x1x1024 .f32) (gpm : Vec Ideal S1x1024 .f32) (r : Fin 512) (c : Fin 1024) :
    k0_pay1 (F := Ideal) a w a' w' x g1 gpm (ix2 r c) = mix (fun c => x (ix3 0 r c)) (fun c => g1 (ix3 0 0 c))
      (fun c => (∑ k : Fin 512, a (ix3 0 r k) * w (ix2 k c)) + ∑ k : Fin 512, a' (ix3 0 r k) * w' (ix2 k c)) (fun c => gpm (ix2 0 c)) c := by
  pointwise [k0_pay1]
  rfl

/-- The row the feed-forward reads. -/
theorem pay3_apply (x : FVec Ideal S512x1024 .f32) (gpre : Vec Ideal S1x1024 .f32) (sc sh : Vec Ideal S1x1x1024 .f32) (r : Fin 512) (c : Fin 1024) :
    k0_pay3 (F := Ideal) x gpre sc sh (ix2 r c) = hid (fun c => x (ix2 r c)) (fun c => gpre (ix2 0 c)) (fun c => sc (ix3 0 0 c)) (fun c => sh (ix3 0 0 c)) c := by
  pointwise [k0_pay3]
  rfl

/-- The sum starts at nought. -/
theorem pay4_apply (r : Fin 512) (c : Fin 1024) : k0_pay4 (F := Ideal) (ix2 r c) = 0 := by
  pointwise [k0_pay4]

/-- A product with 512 of the feed-forward's inner columns. -/
theorem pay5_apply (h : Vec Ideal S512x1024 .bf16) (w : Vec Ideal S1x1024x512 .bf16) (r : Fin 512) (f : Fin 512) :
    k0_pay5 (F := Ideal) h w (ix2 r f) = ∑ k : Fin 1024, h (ix2 r k) * w (ix3 0 k f) := by
  pointwise [k0_pay5]

/-- A product with 512 of the feed-forward's inner columns. -/
theorem pay6_apply (h : Vec Ideal S512x1024 .bf16) (w : Vec Ideal S1x1024x512 .bf16) (r : Fin 512) (f : Fin 512) :
    k0_pay6 (F := Ideal) h w (ix2 r f) = ∑ k : Fin 1024, h (ix2 r k) * w (ix3 0 k f) := by
  pointwise [k0_pay6]

/-- A product with 512 of the feed-forward's inner columns. -/
theorem pay8_apply (h : Vec Ideal S512x1024 .bf16) (w : Vec Ideal S1x1024x512 .bf16) (r : Fin 512) (f : Fin 512) :
    k0_pay8 (F := Ideal) h w (ix2 r f) = ∑ k : Fin 1024, h (ix2 r k) * w (ix3 0 k f) := by
  pointwise [k0_pay8]

/-- A product with 512 of the feed-forward's inner columns. -/
theorem pay10_apply (h : Vec Ideal S512x1024 .bf16) (w : Vec Ideal S1x1024x512 .bf16) (r : Fin 512) (f : Fin 512) :
    k0_pay10 (F := Ideal) h w (ix2 r f) = ∑ k : Fin 1024, h (ix2 r k) * w (ix3 0 k f) := by
  pointwise [k0_pay10]

/-- A product with 512 of the feed-forward's inner columns. -/
theorem pay11_apply (h : Vec Ideal S512x1024 .bf16) (w : Vec Ideal S1x1024x512 .bf16) (r : Fin 512) (f : Fin 512) :
    k0_pay11 (F := Ideal) h w (ix2 r f) = ∑ k : Fin 1024, h (ix2 r k) * w (ix3 0 k f) := by
  pointwise [k0_pay11]

/-- A product with 512 of the feed-forward's inner columns. -/
theorem pay13_apply (h : Vec Ideal S512x1024 .bf16) (w : Vec Ideal S1x1024x512 .bf16) (r : Fin 512) (f : Fin 512) :
    k0_pay13 (F := Ideal) h w (ix2 r f) = ∑ k : Fin 1024, h (ix2 r k) * w (ix3 0 k f) := by
  pointwise [k0_pay13]

/-- A product with 512 of the feed-forward's inner columns. -/
theorem pay14_apply (h : Vec Ideal S512x1024 .bf16) (w : Vec Ideal S1x1024x512 .bf16) (r : Fin 512) (f : Fin 512) :
    k0_pay14 (F := Ideal) h w (ix2 r f) = ∑ k : Fin 1024, h (ix2 r k) * w (ix3 0 k f) := by
  pointwise [k0_pay14]

/-- A product with 256 of the feed-forward's inner columns. -/
theorem pay16_apply (h : Vec Ideal S512x1024 .bf16) (w : Vec Ideal S1x1024x256 .bf16) (r : Fin 512) (f : Fin 256) :
    k0_pay16 (F := Ideal) h w (ix2 r f) = ∑ k : Fin 1024, h (ix2 r k) * w (ix3 0 k f) := by
  pointwise [k0_pay16]

/-- A product with 256 of the feed-forward's inner columns. -/
theorem pay17_apply (h : Vec Ideal S512x1024 .bf16) (w : Vec Ideal S1x1024x256 .bf16) (r : Fin 512) (f : Fin 256) :
    k0_pay17 (F := Ideal) h w (ix2 r f) = ∑ k : Fin 1024, h (ix2 r k) * w (ix3 0 k f) := by
  pointwise [k0_pay17]

/-- The first 512 inner columns: the product's logistic-weighted gate, times the other product, through the last product. -/
theorem pay7_apply (h : Vec Ideal S512x1024 .bf16) (w u : Vec Ideal S1x1024x512 .bf16) (d : Vec Ideal S1x512x1024 .bf16) (r : Fin 512) (c : Fin 1024) :
    k0_pay7 (F := Ideal) h w u d (ix2 r c) = ∑ f : Fin 512, act (fun k => h (ix2 r k)) (fun k => w (ix3 0 k f)) (fun k => u (ix3 0 k f)) * d (ix3 0 f c) := by
  pointwise [k0_pay7]
  simp only [zero_sub]
  rfl

/-- The second 512 inner columns, added to the first. -/
theorem pay9_apply (a b : FVec Ideal S512x512 .f32) (s : FVec Ideal S512x1024 .f32) (d : Vec Ideal S1x512x1024 .bf16) (r : Fin 512) (c : Fin 1024) :
    k0_pay9 (F := Ideal) a b s d (ix2 r c) = s (ix2 r c) + ∑ f : Fin 512, silu (a (ix2 r f)) * b (ix2 r f) * d (ix3 0 f c) := by
  pointwise [k0_pay9]
  simp only [zero_sub]
  rfl

/-- A gate of the third 512 inner columns. -/
theorem pay12_apply (h : Vec Ideal S512x1024 .bf16) (w : Vec Ideal S1x1024x512 .bf16) (r : Fin 512) (f : Fin 512) :
    k0_pay12 (F := Ideal) h w (ix2 r f) = silu (∑ k : Fin 1024, h (ix2 r k) * w (ix3 0 k f)) := by
  pointwise [k0_pay12]
  simp only [zero_sub]
  rfl

/-- The third and the fourth 512 inner columns, added to the ones before. -/
theorem pay15_apply (b : FVec Ideal S512x512 .f32) (s : FVec Ideal S512x1024 .f32) (a' b' g : FVec Ideal S512x512 .f32) (d d' : Vec Ideal S1x512x1024 .bf16)
    (r : Fin 512) (c : Fin 1024) :
    k0_pay15 (F := Ideal) b s a' b' g d d' (ix2 r c) = (s (ix2 r c) + ∑ f : Fin 512, g (ix2 r f) * b (ix2 r f) * d (ix3 0 f c))
      + ∑ f : Fin 512, silu (a' (ix2 r f)) * b' (ix2 r f) * d' (ix3 0 f c) := by
  pointwise [k0_pay15]
  simp only [zero_sub]
  rfl

/-- The fifth 512 inner columns and the last 256, added to the ones before, and the whole to the sum so far. -/
theorem pay18_apply (a b : FVec Ideal S512x512 .f32) (s : FVec Ideal S512x1024 .f32) (a' b' : FVec Ideal S512x256 .f32) (d : Vec Ideal S1x512x1024 .bf16)
    (d' : Vec Ideal S1x256x1024 .bf16) (t : Vec Ideal S512x1024 .f32) (r : Fin 512) (c : Fin 1024) :
    k0_pay18 (F := Ideal) a b s a' b' (Scalar.ofBits .f32 0x00000000#32) d d' t (ix2 r c) = t (ix2 r c) + ((s (ix2 r c) + ∑ f : Fin 512, silu (a (ix2 r f)) * b (ix2 r f) * d (ix3 0 f c))
      + ∑ f : Fin 256, silu (a' (ix2 r f)) * b' (ix2 r f) * d' (ix3 0 f c)) := by
  pointwise [k0_pay18]
  simp only [zero_sub]
  rfl

/-- The feed-forward's output, normalised, gated and added to the row it read. -/
theorem pay19_apply (x : Vec Ideal S512x1024 .f32) (g2 : Vec Ideal S1x1x1024 .f32) (s : Vec Ideal S512x1024 .f32) (gpf : Vec Ideal S1x1024 .f32) (r : Fin 512) (c : Fin 1024) :
    k0_pay19 (F := Ideal) x g2 s gpf (ix3 0 r c) = mix (fun c => x (ix2 r c)) (fun c => g2 (ix3 0 0 c)) (fun c => s (ix2 r c)) (fun c => gpf (ix2 0 c)) c := by
  pointwise [k0_pay19]
  rfl

end Cert.TailOddRow

end
-- ==== Proof.TailOddFinal.lean ====
module

public import proofs.«01_k».proof.Proof.Gen.TailOddIdeal.Value
public import proofs.«01_k».proof.Proof.TailOddBlk
public import proofs.«01_k».proof.Proof.TailOddOut
public import proofs.«01_k».proof.Proof.TailOddRow

/-!
What the kernel after the mixers leaves in its result: the layer after its mixers, position by position.
-/

@[expose] public section

set_option maxRecDepth 16384

noncomputable section

namespace Cert.TailOddFinal

open Idealize.ShloMosaic Idealize.ShloMosaic.TcCoe Idealize.SL.Sem Cert.TailOddIdeal Cert.TailOddIdeal.Gen Cert.TailOddIdeal.Value
open Cert.TailOddBlk Cert.TailOddOut Cert.TailOddRow Cert.TailSpec

/-- Columns `o` to `o + n` of the gate's or the other product's weights. -/
theorem ld_cols {o n : ℕ} {inb} (x : Vec Ideal S1x1024x2816 .bf16) (ho : o + n ≤ 2816) (k : Fin 1024) (f : Fin n) :
    View.ld x (Rect.unit (s := S1x1024x2816) ![0, 0, o] ![1, 1024, n] inb) (ix3 0 k f) = x (ix3 0 k ⟨o + f.val, by omega⟩) := by
  refine congrArg x (funext fun a => Fin.ext ?_)
  match a with
  | ⟨0, _⟩ => rfl
  | ⟨1, _⟩ => show 0 + 1 * k.val = k.val; omega
  | ⟨2, _⟩ => show o + 1 * f.val = o + f.val; omega

/-- Rows `o` to `o + n` of the last product's weights. -/
theorem ld_rows {o n : ℕ} {inb} (x : Vec Ideal S1x2816x1024 .bf16) (ho : o + n ≤ 2816) (f : Fin n) (c : Fin 1024) :
    View.ld x (Rect.unit (s := S1x2816x1024) ![0, o, 0] ![1, n, 1024] inb) (ix3 0 f c) = x (ix3 0 ⟨o + f.val, by omega⟩ c) := by
  refine congrArg x (funext fun a => Fin.ext ?_)
  match a with
  | ⟨0, _⟩ => rfl
  | ⟨1, _⟩ => show o + 1 * f.val = o + f.val; omega
  | ⟨2, _⟩ => show 0 + 1 * c.val = c.val; omega

/-- Rows `o` to `o + 512` of the output projection. -/
theorem ld_half {o : ℕ} {inb} (x : Vec Ideal S1024x1024 .bf16) (ho : o + 512 ≤ 1024) (k : Fin 512) (c : Fin 1024) :
    View.ld x (Rect.unit (s := S1024x1024) ![o, 0] S512x1024.size inb) (ix2 k c) = x (ix2 ⟨o + k.val, by omega⟩ c) := by
  refine congrArg x (funext fun a => Fin.ext ?_)
  match a with
  | ⟨0, _⟩ => show o + 1 * k.val = o + k.val; omega
  | ⟨1, _⟩ => show 0 + 1 * c.val = c.val; omega

theorem z2 : (![0, 0] : Fin 2 → ℕ) = fun _ => 0 := by decide
theorem z3 : (![0, 0, 0] : Fin 3 → ℕ) = fun _ => 0 := by decide

/-- A block with the normalised output of the mixers added. -/
theorem mixT_apply (x0 : Vec Ideal S1x512x1024 .f32) (x1 : Vec Ideal S1x1x1024 .f32) (x2 : Vec Ideal S1x1024 .f32) (x3 x4 : Vec Ideal S1x512x512 .bf16) (x5 : Vec Ideal S1024x1024 .bf16)
    (r : Fin 512) (c : Fin 1024) :
    mixT x0 x1 x2 x3 x4 x5 (ix2 r c) = mix (fun c => x0 (ix3 0 r c)) (fun c => x1 (ix3 0 0 c))
      (fun c => dot512 (fun k => x3 (ix3 0 r k)) (fun k => x5 (ix2 ⟨k.val, by omega⟩ c)) + dot512 (fun k => x4 (ix3 0 r k)) (fun k => x5 (ix2 ⟨512 + k.val, by omega⟩ c)))
      (fun c => x2 (ix2 0 c)) c := by
  unfold mixT
  simp only [View.ld_unit_zero (S := S1x512x1024) z3, View.ld_unit_zero (S := S1x1x1024) z3, View.ld_unit_zero (S := S1x512x512) z3, View.ld_unit_zero (S := S1x1024) z2]
  rw [pay1_apply]
  have e0 := fun (k : Fin 512) (c : Fin 1024) => ld_half (o := 0) (inb := inb_S1024x1024_S512x1024_0_0) x5 (by omega) k c
  have e1 := fun (k : Fin 512) (c : Fin 1024) => ld_half (o := 512) (inb := inb_S1024x1024_S512x1024_512_0) x5 (by omega) k c
  simp only [e0, e1, zero_add]
  rfl

/-- The block the feed-forward reads. -/
theorem hidT_apply (y : FVec Ideal S512x1024 .f32) (x6 : Vec Ideal S1x1024 .f32) (x7 x8 : Vec Ideal S1x1x1024 .f32) (r : Fin 512) (c : Fin 1024) :
    hidT y x6 x7 x8 (ix2 r c) = hid (fun c => y (ix2 r c)) (fun c => x6 (ix2 0 c)) (fun c => x7 (ix3 0 0 c)) (fun c => x8 (ix3 0 0 c)) c := by
  unfold hidT
  simp only [View.ld_unit_zero (S := S1x1x1024) z3, View.ld_unit_zero (S := S1x1024) z2]
  rw [pay3_apply]

/-- The feed-forward of a block. -/
theorem ffnT_apply (h : FVec Ideal S512x1024 .bf16) (x11 x12 : Vec Ideal S1x1024x2816 .bf16) (x13 : Vec Ideal S1x2816x1024 .bf16) (r : Fin 512) (c : Fin 1024) :
    ffnT h x11 x12 x13 (ix2 r c) = ffn (fun k => h (ix2 r k)) (fun k f => x11 (ix3 0 k f)) (fun k f => x12 (ix3 0 k f)) (fun f c => x13 (ix3 0 f c)) c := by
  unfold ffnT ffn
  rw [sum_parts, pay18_apply, pay15_apply, pay9_apply, pay7_apply]
  simp only [pay4_apply, pay5_apply, pay6_apply, pay8_apply, pay10_apply, pay11_apply, pay12_apply, pay13_apply, pay14_apply, pay16_apply, pay17_apply, zero_add]
  have g11_0 := fun (k : Fin 1024) (f : Fin 512) => ld_cols (o := 0) (n := 512) (inb := inb_S1x1024x2816_S1x1024x512_0_0_0) x11 (by omega) k f
  have g11_1 := fun (k : Fin 1024) (f : Fin 512) => ld_cols (o := 512) (n := 512) (inb := inb_S1x1024x2816_S1x1024x512_0_0_512) x11 (by omega) k f
  have g11_2 := fun (k : Fin 1024) (f : Fin 512) => ld_cols (o := 1024) (n := 512) (inb := inb_S1x1024x2816_S1x1024x512_0_0_1024) x11 (by omega) k f
  have g11_3 := fun (k : Fin 1024) (f : Fin 512) => ld_cols (o := 1536) (n := 512) (inb := inb_S1x1024x2816_S1x1024x512_0_0_1536) x11 (by omega) k f
  have g11_4 := fun (k : Fin 1024) (f : Fin 512) => ld_cols (o := 2048) (n := 512) (inb := inb_S1x1024x2816_S1x1024x512_0_0_2048) x11 (by omega) k f
  have g11_5 := fun (k : Fin 1024) (f : Fin 256) => ld_cols (o := 2560) (n := 256) (inb := inb_S1x1024x2816_S1x1024x256_0_0_2560) x11 (by omega) k f
  have g12_0 := fun (k : Fin 1024) (f : Fin 512) => ld_cols (o := 0) (n := 512) (inb := inb_S1x1024x2816_S1x1024x512_0_0_0) x12 (by omega) k f
  have g12_1 := fun (k : Fin 1024) (f : Fin 512) => ld_cols (o := 512) (n := 512) (inb := inb_S1x1024x2816_S1x1024x512_0_0_512) x12 (by omega) k f
  have g12_2 := fun (k : Fin 1024) (f : Fin 512) => ld_cols (o := 1024) (n := 512) (inb := inb_S1x1024x2816_S1x1024x512_0_0_1024) x12 (by omega) k f
  have g12_3 := fun (k : Fin 1024) (f : Fin 512) => ld_cols (o := 1536) (n := 512) (inb := inb_S1x1024x2816_S1x1024x512_0_0_1536) x12 (by omega) k f
  have g12_4 := fun (k : Fin 1024) (f : Fin 512) => ld_cols (o := 2048) (n := 512) (inb := inb_S1x1024x2816_S1x1024x512_0_0_2048) x12 (by omega) k f
  have g12_5 := fun (k : Fin 1024) (f : Fin 256) => ld_cols (o := 2560) (n := 256) (inb := inb_S1x1024x2816_S1x1024x256_0_0_2560) x12 (by omega) k f
  have d0 := fun (f : Fin 512) (c : Fin 1024) => ld_rows (o := 0) (n := 512) (inb := inb_S1x2816x1024_S1x512x1024_0_0_0) x13 (by omega) f c
  have d1 := fun (f : Fin 512) (c : Fin 1024) => ld_rows (o := 512) (n := 512) (inb := inb_S1x2816x1024_S1x512x1024_0_512_0) x13 (by omega) f c
  have d2 := fun (f : Fin 512) (c : Fin 1024) => ld_rows (o := 1024) (n := 512) (inb := inb_S1x2816x1024_S1x512x1024_0_1024_0) x13 (by omega) f c
  have d3 := fun (f : Fin 512) (c : Fin 1024) => ld_rows (o := 1536) (n := 512) (inb := inb_S1x2816x1024_S1x512x1024_0_1536_0) x13 (by omega) f c
  have d4 := fun (f : Fin 512) (c : Fin 1024) => ld_rows (o := 2048) (n := 512) (inb := inb_S1x2816x1024_S1x512x1024_0_2048_0) x13 (by omega) f c
  have d5 := fun (f : Fin 256) (c : Fin 1024) => ld_rows (o := 2560) (n := 256) (inb := inb_S1x2816x1024_S1x256x1024_0_2560_0) x13 (by omega) f c
  simp only [g11_0, g11_1, g11_2, g11_3, g11_4, g11_5, g12_0, g12_1, g12_2, g12_3, g12_4, g12_5, d0, d1, d2, d3, d4, d5, zero_add]
  rfl

/-- A block of the result. -/
theorem outT_apply (y s : FVec Ideal S512x1024 .f32) (x9 : Vec Ideal S1x1x1024 .f32) (x10 : Vec Ideal S1x1024 .f32) (r : Fin 512) (c : Fin 1024) :
    outT y s x9 x10 (ix3 0 r c) = mix (fun c => y (ix2 r c)) (fun c => x9 (ix3 0 0 c)) (fun c => s (ix2 r c)) (fun c => x10 (ix2 0 c)) c := by
  unfold outT
  simp only [View.ld_unit_zero (S := S1x1x1024) z3, View.ld_unit_zero (S := S1x1024) z2]
  rw [pay19_apply]

variable (m : (ℓ : Loc nD τ sig) → Buf (Elt Ideal) ℓ)

/-- The layer after its mixers, of the arguments as launched. -/
def res (c : Dev nD) (b : Fin 4) (t : Fin 8192) : Row :=
  tail (fun k => a0 m c (ix3 b t k)) (fun k => a1 m c (ix3 b 0 ⟨2048 + k.val, by omega⟩))
    (fun j => dot512 (fun k => a2 m c (ix3 b t k)) (fun k => a5 m c (ix2 ⟨k.val, by omega⟩ j)) + dot512 (fun k => a3 m c (ix3 b t k)) (fun k => a5 m c (ix2 ⟨512 + k.val, by omega⟩ j)))
    (fun k => a4 m c (ix2 1 k)) (fun k => a6 m c (ix2 1 k)) (fun k => a1 m c (ix3 b 0 ⟨4096 + k.val, by omega⟩)) (fun k => a1 m c (ix3 b 0 ⟨3072 + k.val, by omega⟩))
    (fun k => a1 m c (ix3 b 0 ⟨5120 + k.val, by omega⟩)) (fun k => a7 m c (ix2 1 k))
    (fun k f => a8 m c (ix3 1 k f)) (fun k f => a9 m c (ix3 1 k f)) (fun f k => a10 m c (ix3 1 f k))

/-- What a step leaves in its block of the result. -/
theorem out_res (c : Dev nD) (t : Fin cfg0.N) (r : Fin 512) (j : Fin 1024) :
    (outsAt0 m c t : Vec Ideal S1x512x1024 .f32) (ix3 0 r j) = res m c (bt t) (row t r) j := by
  unfold outsAt0
  rw [out_eq, outT_apply]
  simp only [ffnT_apply, hidT_apply, mixT_apply, in0, in1, in2, in3, in4, in5, in6, in7, in8, in9, in10, in11, in12, in13]
  rfl

theorem wix14 : ∀ t : Fin grid0.N, win0_14.index t 0 * win0_14.size 0 = (bt t).val ∧ win0_14.index t 1 * win0_14.size 1 = (gt t).val * 512 ∧ win0_14.index t 2 * win0_14.size 2 = 0 := by decide +kernel

/-- A step's block of the result array. -/
theorem out14 (G : Vec Ideal S4x8192x1024 .f32) (t : Fin cfg0.N) (r : Fin 512) (k : Fin 1024) :
    (((cfg0.win 14).blk t).view.read (Elt Ideal) G : Vec Ideal S1x512x1024 .f32) (ix3 0 r k) = G (ix3 (bt t) (row t r) k) := by
  obtain ⟨h0, h1, h2⟩ := wix14 t
  refine congrArg G (funext fun a => Fin.ext ?_)
  match a with
  | ⟨0, _⟩ => show win0_14.index t 0 * win0_14.size 0 + 1 * 0 = (bt t).val; omega
  | ⟨1, _⟩ => show win0_14.index t 1 * win0_14.size 1 + 1 * r.val = (gt t).val * 512 + r.val; omega
  | ⟨2, _⟩ => show win0_14.index t 2 * win0_14.size 2 + 1 * k.val = k.val; omega

theorem pts : ∀ (b : Fin 4) (g : Fin 16), ∃ t : Fin grid0.N, bt t = b ∧ gt t = g := by decide +kernel

/-- An element of the result lies in the block of its batch and its rows. -/
theorem mem14 (t : Fin cfg0.N) (i : S4x8192x1024.Idx) (hb : (bt t).val = (i 0 : Nat)) (hg : (gt t).val = (i 1 : Nat) / 512) :
    i ∈ ((cfg0.win 14).blk t).view.set := by
  obtain ⟨h0, h1, h2⟩ := wix14 t
  show i ∈ ((View.whole main_v19).slice (win0_14.rect t)).set
  rw [View.set_slice_whole, Rect.mem_set_unit]
  have l2 : (i 2 : Nat) < 1024 := (i 2).isLt
  intro a
  match a with
  | ⟨0, _⟩ => show win0_14.index t 0 * win0_14.size 0 ≤ (i 0 : Nat) ∧ (i 0 : Nat) < win0_14.index t 0 * win0_14.size 0 + 1; omega
  | ⟨1, _⟩ => show win0_14.index t 1 * win0_14.size 1 ≤ (i 1 : Nat) ∧ (i 1 : Nat) < win0_14.index t 1 * win0_14.size 1 + 512; omega
  | ⟨2, _⟩ => show win0_14.index t 2 * win0_14.size 2 ≤ (i 2 : Nat) ∧ (i 2 : Nat) < win0_14.index t 2 * win0_14.size 2 + 1024; omega

/-- Every element of the result lies in some step's block. -/
theorem cover14 (i : S4x8192x1024.Idx) : ∃ t : Fin cfg0.N, (cfg0.win 14).flush t = true ∧ i ∈ ((cfg0.win 14).blk t).view.set := by
  have l1 : (i 1 : Nat) < 8192 := (i 1).isLt
  obtain ⟨t, h0, h1⟩ := pts (i 0) ⟨(i 1 : Nat) / 512, by omega⟩
  exact ⟨t, flush0_14 t, mem14 t i (congrArg Fin.val h0) (congrArg Fin.val h1)⟩

/-- The result array after the run. -/
theorem arr14 (c : Dev nD) :
    (dats m 0 c).arrAt 14 cfg0.N = fun i : S4x8192x1024.Idx => res m c (i 0) (i 1) (i 2) := by
  refine (dats m 0 c).arrAt_eq_of_cover 14 _ (fun t _ => ?_) cover14
  rw [flushed14]
  funext y
  obtain ⟨r, k, rfl⟩ : ∃ (r : Fin 512) (k : Fin 1024), y = ix3 0 r k := ⟨y 1, y 2, funext fun a => by
    match a with
    | ⟨0, _⟩ => exact Subsingleton.elim (α := Fin 1) _ _
    | ⟨1, _⟩ => rfl
    | ⟨2, _⟩ => rfl⟩
  refine (out_res m c t r k).trans ?_
  exact (out14 (fun i : S4x8192x1024.Idx => res m c (i 0) (i 1) (i 2)) t r k).symm

end Cert.TailOddFinal

end
-- ==== Proof.TailOddRefRun.lean ====
module

public import proofs.«01_k».proof.Proof.Gen.TailOddRefIdeal
public import proofs.«01_k».proof.Proof.Gen.SwaRefIdeal.Run
public import Idealize.ShloMosaic.Lib.StableHlo.Run

/-!
The reference after the mixers, as five lists of operations run one after the other, and what a run of them leaves.
-/

@[expose] public section

set_option maxRecDepth 16384

noncomputable section

namespace Cert.TailOddRefRun

open Cert.TailOddRefIdeal Cert.TailOddRefIdeal.Gen Idealize.ShloMosaic Idealize.ShloMosaic.TcCoe Idealize.SL.Sem Idealize.ShloMosaic.StableHlo

variable {F : FTy → Type} [FloatOps F]

/-- Two arrays side by side along the last axis. -/
def cat2 : (⟨S4x8192x512, .f32⟩ : BufTy).Contents (Elt F) → (⟨S4x8192x512, .f32⟩ : BufTy).Contents (Elt F) → (⟨S4x8192x1024, .f32⟩ : BufTy).Contents (Elt F) :=
  fun a b => concatenate S4x8192x1024 2 [⟨S4x8192x512, a⟩, ⟨S4x8192x512, b⟩] concatenates_S4x8192x512_S4x8192x512_S4x8192x1024_d2

/-- The mixers' outputs side by side, through the output projection. -/
abbrev s1 : List (HloOp τ sig (Elt F)) :=
  [ unary main_arg2 main_v0 ((extf .f32 · bitsLt_bf16_f32) : (⟨S4x8192x512, .bf16⟩ : BufTy).Contents (Elt F) → (⟨S4x8192x512, .f32⟩ : BufTy).Contents (Elt F)),
    unary main_arg3 main_v1 ((extf .f32 · bitsLt_bf16_f32) : (⟨S4x8192x512, .bf16⟩ : BufTy).Contents (Elt F) → (⟨S4x8192x512, .f32⟩ : BufTy).Contents (Elt F)),
    binary main_v0 main_v1 main_v2 (cat2 (F := F)),
    binary main_v2 main_arg5 main_v3 ((fun l r => Host.dotGeneral dot_S4x8192x1024_S1024x1024_S4x8192x1024_2_0_01_1_n_n none l r) : (⟨S4x8192x1024, .f32⟩ : BufTy).Contents (Elt F) → (⟨S1024x1024, .f32⟩ : BufTy).Contents (Elt F) → (⟨S4x8192x1024, .f32⟩ : BufTy).Contents (Elt F))]

/-- The adaptation's parts, and the first sum. -/
abbrev s2 : List (HloOp τ sig (Elt F)) :=
  [ unary main_arg1 main_v4 ((extractStridedSlice S4x1x1024 ![0, 0, 0] · slices_S4x1x6144_S4x1x1024_0_0_0) : (⟨S4x1x6144, .f32⟩ : BufTy).Contents (Elt F) → (⟨S4x1x1024, .f32⟩ : BufTy).Contents (Elt F)),
    unary main_arg1 main_v5 ((extractStridedSlice S4x1x1024 ![0, 0, 1024] · slices_S4x1x6144_S4x1x1024_0_0_1024) : (⟨S4x1x6144, .f32⟩ : BufTy).Contents (Elt F) → (⟨S4x1x1024, .f32⟩ : BufTy).Contents (Elt F)),
    unary main_arg1 main_v6 ((extractStridedSlice S4x1x1024 ![0, 0, 2048] · slices_S4x1x6144_S4x1x1024_0_0_2048) : (⟨S4x1x6144, .f32⟩ : BufTy).Contents (Elt F) → (⟨S4x1x1024, .f32⟩ : BufTy).Contents (Elt F)),
    unary main_arg1 main_v7 ((extractStridedSlice S4x1x1024 ![0, 0, 3072] · slices_S4x1x6144_S4x1x1024_0_0_3072) : (⟨S4x1x6144, .f32⟩ : BufTy).Contents (Elt F) → (⟨S4x1x1024, .f32⟩ : BufTy).Contents (Elt F)),
    unary main_arg1 main_v8 ((extractStridedSlice S4x1x1024 ![0, 0, 4096] · slices_S4x1x6144_S4x1x1024_0_0_4096) : (⟨S4x1x6144, .f32⟩ : BufTy).Contents (Elt F) → (⟨S4x1x1024, .f32⟩ : BufTy).Contents (Elt F)),
    unary main_arg1 main_v9 ((extractStridedSlice S4x1x1024 ![0, 0, 5120] · slices_S4x1x6144_S4x1x1024_0_0_5120) : (⟨S4x1x6144, .f32⟩ : BufTy).Contents (Elt F) → (⟨S4x1x1024, .f32⟩ : BufTy).Contents (Elt F)),
    unary main_arg4 main_v10 ((extractStridedSlice S1x1024 ![1, 0] · slices_S2x1024_S1x1024_1_0) : (⟨S2x1024, .f32⟩ : BufTy).Contents (Elt F) → (⟨S1x1024, .f32⟩ : BufTy).Contents (Elt F)),
    reshape main_v10 main_v11 (rfl : (.f32 : EltTy) = .f32) shapeCasts_S1x1024_S1024,
    binary main_v3 main_v3 main_v12 (mulf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v12 main_cst main_v13 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v13 main_v14 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v15 (broadcastInDim S4x8192x1 ![] bcast_S_S4x8192x1 : (⟨S_, .f32⟩ : BufTy).Contents (Elt F) → (⟨S4x8192x1, .f32⟩ : BufTy).Contents (Elt F)),
    binary main_v14 main_v15 main_v16 (Host.divf : (⟨S4x8192x1, .f32⟩ : BufTy).Contents (Elt F) → (⟨S4x8192x1, .f32⟩ : BufTy).Contents (Elt F) → (⟨S4x8192x1, .f32⟩ : BufTy).Contents (Elt F)),
    nullary main_cst_1 (constant S_ .f32 0x358637BD#32),
    unary main_cst_1 main_v17 (broadcastInDim S4x8192x1 ![] bcast_S_S4x8192x1 : (⟨S_, .f32⟩ : BufTy).Contents (Elt F) → (⟨S4x8192x1, .f32⟩ : BufTy).Contents (Elt F)),
    binary main_v16 main_v17 main_v18 (addf : (⟨S4x8192x1, .f32⟩ : BufTy).Contents (Elt F) → (⟨S4x8192x1, .f32⟩ : BufTy).Contents (Elt F) → (⟨S4x8192x1, .f32⟩ : BufTy).Contents (Elt F)),
    unary main_v18 main_v19 (Host.rsqrt : (⟨S4x8192x1, .f32⟩ : BufTy).Contents (Elt F) → (⟨S4x8192x1, .f32⟩ : BufTy).Contents (Elt F)),
    unary main_v19 main_v20 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v3 main_v20 main_v21 (mulf : (⟨S4x8192x1024, .f32⟩ : BufTy).Contents (Elt F) → (⟨S4x8192x1024, .f32⟩ : BufTy).Contents (Elt F) → (⟨S4x8192x1024, .f32⟩ : BufTy).Contents (Elt F)),
    unary main_v11 main_v22 (broadcastInDim S1x1x1024 ![2] bcast_S1024_S1x1x1024_2 : (⟨S1024, .f32⟩ : BufTy).Contents (Elt F) → (⟨S1x1x1024, .f32⟩ : BufTy).Contents (Elt F)),
    unary main_v22 main_v23 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v21 main_v23 main_v24 (mulf : (⟨S4x8192x1024, .f32⟩ : BufTy).Contents (Elt F) → (⟨S4x8192x1024, .f32⟩ : BufTy).Contents (Elt F) → (⟨S4x8192x1024, .f32⟩ : BufTy).Contents (Elt F)),
    unary main_v6 main_v25 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v25 main_v24 main_v26 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_v26 main_v27 (addf : (⟨S4x8192x1024, .f32⟩ : BufTy).Contents (Elt F) → (⟨S4x8192x1024, .f32⟩ : BufTy).Contents (Elt F) → (⟨S4x8192x1024, .f32⟩ : BufTy).Contents (Elt F))]

/-- The row the feed-forward reads. -/
abbrev s3 : List (HloOp τ sig (Elt F)) :=
  [ unary main_arg6 main_v28 ((extractStridedSlice S1x1024 ![1, 0] · slices_S2x1024_S1x1024_1_0) : (⟨S2x1024, .f32⟩ : BufTy).Contents (Elt F) → (⟨S1x1024, .f32⟩ : BufTy).Contents (Elt F)),
    reshape main_v28 main_v29 (rfl : (.f32 : EltTy) = .f32) shapeCasts_S1x1024_S1024,
    binary main_v27 main_v27 main_v30 (mulf : (⟨S4x8192x1024, .f32⟩ : BufTy).Contents (Elt F) → (⟨S4x8192x1024, .f32⟩ : BufTy).Contents (Elt F) → (⟨S4x8192x1024, .f32⟩ : BufTy).Contents (Elt F)),
    nullary main_cst_2 (constant S_ .f32 0x00000000#32),
    binary main_v30 main_cst_2 main_v31 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v31 main_v32 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_3 (constant S_ .f32 0x44800000#32),
    unary main_cst_3 main_v33 (broadcastInDim S4x8192x1 ![] bcast_S_S4x8192x1 : (⟨S_, .f32⟩ : BufTy).Contents (Elt F) → (⟨S4x8192x1, .f32⟩ : BufTy).Contents (Elt F)),
    binary main_v32 main_v33 main_v34 (Host.divf : (⟨S4x8192x1, .f32⟩ : BufTy).Contents (Elt F) → (⟨S4x8192x1, .f32⟩ : BufTy).Contents (Elt F) → (⟨S4x8192x1, .f32⟩ : BufTy).Contents (Elt F)),
    nullary main_cst_4 (constant S_ .f32 0x358637BD#32),
    unary main_cst_4 main_v35 (broadcastInDim S4x8192x1 ![] bcast_S_S4x8192x1 : (⟨S_, .f32⟩ : BufTy).Contents (Elt F) → (⟨S4x8192x1, .f32⟩ : BufTy).Contents (Elt F)),
    binary main_v34 main_v35 main_v36 (addf : (⟨S4x8192x1, .f32⟩ : BufTy).Contents (Elt F) → (⟨S4x8192x1, .f32⟩ : BufTy).Contents (Elt F) → (⟨S4x8192x1, .f32⟩ : BufTy).Contents (Elt F)),
    unary main_v36 main_v37 (Host.rsqrt : (⟨S4x8192x1, .f32⟩ : BufTy).Contents (Elt F) → (⟨S4x8192x1, .f32⟩ : BufTy).Contents (Elt F)),
    unary main_v37 main_v38 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v27 main_v38 main_v39 (mulf : (⟨S4x8192x1024, .f32⟩ : BufTy).Contents (Elt F) → (⟨S4x8192x1024, .f32⟩ : BufTy).Contents (Elt F) → (⟨S4x8192x1024, .f32⟩ : BufTy).Contents (Elt F)),
    unary main_v29 main_v40 (broadcastInDim S1x1x1024 ![2] bcast_S1024_S1x1x1024_2 : (⟨S1024, .f32⟩ : BufTy).Contents (Elt F) → (⟨S1x1x1024, .f32⟩ : BufTy).Contents (Elt F)),
    unary main_v40 main_v41 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v39 main_v41 main_v42 (mulf : (⟨S4x8192x1024, .f32⟩ : BufTy).Contents (Elt F) → (⟨S4x8192x1024, .f32⟩ : BufTy).Contents (Elt F) → (⟨S4x8192x1024, .f32⟩ : BufTy).Contents (Elt F)),
    nullary main_cst_5 (constant S_ .f32 0x3F800000#32),
    unary main_cst_5 main_v43 (broadcastInDim S4x1x1024 ![] bcast_S_S4x1x1024 : (⟨S_, .f32⟩ : BufTy).Contents (Elt F) → (⟨S4x1x1024, .f32⟩ : BufTy).Contents (Elt F)),
    binary main_v43 main_v8 main_v44 (addf : (⟨S4x1x1024, .f32⟩ : BufTy).Contents (Elt F) → (⟨S4x1x1024, .f32⟩ : BufTy).Contents (Elt F) → (⟨S4x1x1024, .f32⟩ : BufTy).Contents (Elt F)),
    unary main_v44 main_v45 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v42 main_v45 main_v46 (mulf : (⟨S4x8192x1024, .f32⟩ : BufTy).Contents (Elt F) → (⟨S4x8192x1024, .f32⟩ : BufTy).Contents (Elt F) → (⟨S4x8192x1024, .f32⟩ : BufTy).Contents (Elt F)),
    unary main_v7 main_v47 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v46 main_v47 main_v48 (addf : (⟨S4x8192x1024, .f32⟩ : BufTy).Contents (Elt F) → (⟨S4x8192x1024, .f32⟩ : BufTy).Contents (Elt F) → (⟨S4x8192x1024, .f32⟩ : BufTy).Contents (Elt F))]

/-- The feed-forward. -/
abbrev s4 : List (HloOp τ sig (Elt F)) :=
  [ unary main_arg8 main_v49 ((extractStridedSlice S1x1024x2816 ![1, 0, 0] · slices_S2x1024x2816_S1x1024x2816_1_0_0) : (⟨S2x1024x2816, .f32⟩ : BufTy).Contents (Elt F) → (⟨S1x1024x2816, .f32⟩ : BufTy).Contents (Elt F)),
    reshape main_v49 main_v50 (rfl : (.f32 : EltTy) = .f32) shapeCasts_S1x1024x2816_S1024x2816,
    binary main_v48 main_v50 main_v51 ((fun l r => Host.dotGeneral dot_S4x8192x1024_S1024x2816_S4x8192x2816_2_0_01_1_n_n none l r) : (⟨S4x8192x1024, .f32⟩ : BufTy).Contents (Elt F) → (⟨S1024x2816, .f32⟩ : BufTy).Contents (Elt F) → (⟨S4x8192x2816, .f32⟩ : BufTy).Contents (Elt F)),
    TRef.unary (TRef.of (T := ⟨S4x8192x2816, .f32⟩) main_v51) (TRef.of (T := ⟨S4x8192x2816, .f32⟩) main_call0_v0) Host.negf,
    TRef.unary (TRef.of (T := ⟨S4x8192x2816, .f32⟩) main_call0_v0) (TRef.of (T := ⟨S4x8192x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4x8192x2816, .f32⟩) main_call0_v2) (broadcastInDim S4x8192x2816 ![] bcast_S_S4x8192x2816),
    TRef.binary (TRef.of (T := ⟨S4x8192x2816, .f32⟩) main_call0_v2) (TRef.of (T := ⟨S4x8192x2816, .f32⟩) main_call0_v1) (TRef.of (T := ⟨S4x8192x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4x8192x2816, .f32⟩) main_call0_v4) (broadcastInDim S4x8192x2816 ![] bcast_S_S4x8192x2816),
    TRef.binary (TRef.of (T := ⟨S4x8192x2816, .f32⟩) main_call0_v4) (TRef.of (T := ⟨S4x8192x2816, .f32⟩) main_call0_v3) (TRef.of (T := ⟨S4x8192x2816, .f32⟩) main_call0_v5) Host.divf,
    TRef.binary (TRef.of (T := ⟨S4x8192x2816, .f32⟩) main_v51) (TRef.of (T := ⟨S4x8192x2816, .f32⟩) main_call0_v5) (TRef.of (T := ⟨S4x8192x2816, .f32⟩) main_v52) mulf,
    unary main_arg9 main_v53 ((extractStridedSlice S1x1024x2816 ![1, 0, 0] · slices_S2x1024x2816_S1x1024x2816_1_0_0) : (⟨S2x1024x2816, .f32⟩ : BufTy).Contents (Elt F) → (⟨S1x1024x2816, .f32⟩ : BufTy).Contents (Elt F)),
    reshape main_v53 main_v54 (rfl : (.f32 : EltTy) = .f32) shapeCasts_S1x1024x2816_S1024x2816,
    binary main_v48 main_v54 main_v55 ((fun l r => Host.dotGeneral dot_S4x8192x1024_S1024x2816_S4x8192x2816_2_0_01_1_n_n none l r) : (⟨S4x8192x1024, .f32⟩ : BufTy).Contents (Elt F) → (⟨S1024x2816, .f32⟩ : BufTy).Contents (Elt F) → (⟨S4x8192x2816, .f32⟩ : BufTy).Contents (Elt F)),
    binary main_v52 main_v55 main_v56 (mulf : (⟨S4x8192x2816, .f32⟩ : BufTy).Contents (Elt F) → (⟨S4x8192x2816, .f32⟩ : BufTy).Contents (Elt F) → (⟨S4x8192x2816, .f32⟩ : BufTy).Contents (Elt F)),
    unary main_arg10 main_v57 ((extractStridedSlice S1x2816x1024 ![1, 0, 0] · slices_S2x2816x1024_S1x2816x1024_1_0_0) : (⟨S2x2816x1024, .f32⟩ : BufTy).Contents (Elt F) → (⟨S1x2816x1024, .f32⟩ : BufTy).Contents (Elt F)),
    reshape main_v57 main_v58 (rfl : (.f32 : EltTy) = .f32) shapeCasts_S1x2816x1024_S2816x1024,
    binary main_v56 main_v58 main_v59 ((fun l r => Host.dotGeneral dot_S4x8192x2816_S2816x1024_S4x8192x1024_2_0_01_1_n_n none l r) : (⟨S4x8192x2816, .f32⟩ : BufTy).Contents (Elt F) → (⟨S2816x1024, .f32⟩ : BufTy).Contents (Elt F) → (⟨S4x8192x1024, .f32⟩ : BufTy).Contents (Elt F))]

/-- The second sum. -/
abbrev s5 : List (HloOp τ sig (Elt F)) :=
  [ unary main_arg7 main_v60 ((extractStridedSlice S1x1024 ![1, 0] · slices_S2x1024_S1x1024_1_0) : (⟨S2x1024, .f32⟩ : BufTy).Contents (Elt F) → (⟨S1x1024, .f32⟩ : BufTy).Contents (Elt F)),
    reshape main_v60 main_v61 (rfl : (.f32 : EltTy) = .f32) shapeCasts_S1x1024_S1024,
    binary main_v59 main_v59 main_v62 (mulf : (⟨S4x8192x1024, .f32⟩ : BufTy).Contents (Elt F) → (⟨S4x8192x1024, .f32⟩ : BufTy).Contents (Elt F) → (⟨S4x8192x1024, .f32⟩ : BufTy).Contents (Elt F)),
    nullary main_cst_6 (constant S_ .f32 0x00000000#32),
    binary main_v62 main_cst_6 main_v63 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v63 main_v64 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_7 (constant S_ .f32 0x44800000#32),
    unary main_cst_7 main_v65 (broadcastInDim S4x8192x1 ![] bcast_S_S4x8192x1 : (⟨S_, .f32⟩ : BufTy).Contents (Elt F) → (⟨S4x8192x1, .f32⟩ : BufTy).Contents (Elt F)),
    binary main_v64 main_v65 main_v66 (Host.divf : (⟨S4x8192x1, .f32⟩ : BufTy).Contents (Elt F) → (⟨S4x8192x1, .f32⟩ : BufTy).Contents (Elt F) → (⟨S4x8192x1, .f32⟩ : BufTy).Contents (Elt F)),
    nullary main_cst_8 (constant S_ .f32 0x358637BD#32),
    unary main_cst_8 main_v67 (broadcastInDim S4x8192x1 ![] bcast_S_S4x8192x1 : (⟨S_, .f32⟩ : BufTy).Contents (Elt F) → (⟨S4x8192x1, .f32⟩ : BufTy).Contents (Elt F)),
    binary main_v66 main_v67 main_v68 (addf : (⟨S4x8192x1, .f32⟩ : BufTy).Contents (Elt F) → (⟨S4x8192x1, .f32⟩ : BufTy).Contents (Elt F) → (⟨S4x8192x1, .f32⟩ : BufTy).Contents (Elt F)),
    unary main_v68 main_v69 (Host.rsqrt : (⟨S4x8192x1, .f32⟩ : BufTy).Contents (Elt F) → (⟨S4x8192x1, .f32⟩ : BufTy).Contents (Elt F)),
    unary main_v69 main_v70 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v59 main_v70 main_v71 (mulf : (⟨S4x8192x1024, .f32⟩ : BufTy).Contents (Elt F) → (⟨S4x8192x1024, .f32⟩ : BufTy).Contents (Elt F) → (⟨S4x8192x1024, .f32⟩ : BufTy).Contents (Elt F)),
    unary main_v61 main_v72 (broadcastInDim S1x1x1024 ![2] bcast_S1024_S1x1x1024_2 : (⟨S1024, .f32⟩ : BufTy).Contents (Elt F) → (⟨S1x1x1024, .f32⟩ : BufTy).Contents (Elt F)),
    unary main_v72 main_v73 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v71 main_v73 main_v74 (mulf : (⟨S4x8192x1024, .f32⟩ : BufTy).Contents (Elt F) → (⟨S4x8192x1024, .f32⟩ : BufTy).Contents (Elt F) → (⟨S4x8192x1024, .f32⟩ : BufTy).Contents (Elt F)),
    unary main_v9 main_v75 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v75 main_v74 main_v76 (mulf : (⟨S4x8192x1024, .f32⟩ : BufTy).Contents (Elt F) → (⟨S4x8192x1024, .f32⟩ : BufTy).Contents (Elt F) → (⟨S4x8192x1024, .f32⟩ : BufTy).Contents (Elt F)),
    binary main_v27 main_v76 main_v77 (addf : (⟨S4x8192x1024, .f32⟩ : BufTy).Contents (Elt F) → (⟨S4x8192x1024, .f32⟩ : BufTy).Contents (Elt F) → (⟨S4x8192x1024, .f32⟩ : BufTy).Contents (Elt F))]

/-- All the operations. -/
abbrev ops : List (HloOp τ sig (Elt F)) := s1 ++ (s2 ++ (s3 ++ (s4 ++ s5)))

set_option maxHeartbeats 4000000 in
/-- The program is its operations in order. -/
theorem main_eq (c : Dev nD) : main (F := F) c = seq ops := rfl
/-- No buffer is scoped. -/
theorem refs_none : (Finset.univ.filter fun b : Ref sig .tc => b.isScoped) = ∅ := by decide
/-- No semaphore is scoped. -/
theorem sems_none : (Finset.univ.filter fun sm : SemLoc sig => sm.isScoped .tc) = ∅ := by decide

theorem sub1 : (s1 : List (HloOp τ sig (Elt F))).Forall fun op => op.bufs ⊆ tcRefs τ sig :=
  ⟨unary_bufs_sub .., unary_bufs_sub .., binary_bufs_sub .., binary_bufs_sub ..⟩
theorem sub2 : (s2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩
theorem sub3 : (s3 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩
theorem sub4 : (s4 : List (HloOp τ sig (Elt F))).Forall fun op => op.bufs ⊆ tcRefs τ sig :=
  ⟨unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., reshape_bufs_sub .., binary_bufs_sub ..⟩
theorem sub5 : (s5 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- Every operation's buffers are the program's. -/
theorem ops_sub : (ops : List (HloOp τ sig (Elt F))).Forall fun op => op.bufs ⊆ tcRefs τ sig :=
  List.forall_append.2 ⟨sub1, List.forall_append.2 ⟨sub2, List.forall_append.2 ⟨sub3, List.forall_append.2 ⟨sub4, sub5⟩⟩⟩⟩

/-- What a list of operations and then another leave is what the other leaves of what the first leaves. -/
theorem after_append : ∀ (a b : List (HloOp τ sig (Elt F))) (V : Valuation τ sig (Elt F)), after (a ++ b) V = after b (after a V)
  | [], _, _ => rfl
  | o :: a, b, V => after_append a b (o.result V)

theorem fr1 : ∀ op ∈ (s1 : List (HloOp τ sig (Elt F))), op.fresh = ∅ := List.forall_iff_forall_mem.1 (forall_fresh_of_map rfl)
theorem fr2 : ∀ op ∈ (s2 : List (HloOp τ sig (Elt F))), op.fresh = ∅ := List.forall_iff_forall_mem.1 (forall_fresh_of_map rfl)
theorem fr3 : ∀ op ∈ (s3 : List (HloOp τ sig (Elt F))), op.fresh = ∅ := List.forall_iff_forall_mem.1 (forall_fresh_of_map rfl)
theorem fr4 : ∀ op ∈ (s4 : List (HloOp τ sig (Elt F))), op.fresh = ∅ := List.forall_iff_forall_mem.1 (forall_fresh_of_map rfl)
theorem fr5 : ∀ op ∈ (s5 : List (HloOp τ sig (Elt F))), op.fresh = ∅ := List.forall_iff_forall_mem.1 (forall_fresh_of_map rfl)

/-- No operation takes a new buffer. -/
theorem ops_fresh (op : HloOp τ sig (Elt F)) (h : op ∈ (ops : List (HloOp τ sig (Elt F)))) : op.fresh = ∅ := by
  rcases List.mem_append.1 h with h | h
  · exact fr1 op h
  rcases List.mem_append.1 h with h | h
  · exact fr2 op h
  rcases List.mem_append.1 h with h | h
  · exact fr3 op h
  rcases List.mem_append.1 h with h | h
  · exact fr4 op h
  · exact fr5 op h

/-- Every run ends, each buffer holding what the five lists leave of the contents at the start. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after s5 (after s4 (after s3 (after s2 (after s1 (launchContents m c))))) (Proc.devRef .tc b) :=
  (θ_run defs _ _).mono (fun _ h c b => (h c b).trans (by rw [after_append, after_append, after_append, after_append]))
    (run_seq refs_none sems_none defs main (fun _ => ops) main_eq (fun _ => ops_sub) m ρ fun _ => ops_fresh)

end Cert.TailOddRefRun

end
-- ==== Proof.TailOddRefStage.lean ====
module

public import proofs.«01_k».proof.Proof.TailOddRefRun
public import proofs.«01_k».proof.Proof.TailSpec

/-!
What each of the reference's five lists of operations leaves, at one position and one column.
-/

@[expose] public section

set_option maxRecDepth 16384

noncomputable section

namespace Cert.TailOddRefStage

open Cert.TailOddRefIdeal Cert.TailOddRefIdeal.Gen Cert.TailOddRefRun Cert.TailSpec
open Idealize.ShloMosaic Idealize.ShloMosaic.TcCoe Idealize.SL.Sem Idealize.ShloMosaic.StableHlo

variable (V : Valuation τ sig (Elt Ideal))

/-- The buffers the first list writes. -/
abbrev w1 : List (Ref sig .tc) := [main_v0, main_v1, main_v2, main_v3]
/-- The list leaves the other buffers as they were. -/
theorem keep1 {r : Ref sig .tc} (h : r ∉ w1) : after s1 V (Proc.devRef .tc r) = V (Proc.devRef .tc r) :=
  after_of_writes_sub s1 V (forall_writes_sub_of_map (W := w1) rfl) h

/-- The buffers the second list writes. -/
abbrev w2 : List (Ref sig .tc) := [main_v4, main_v5, main_v6, main_v7, main_v8, main_v9, main_v10, main_v11, main_v12, main_cst, main_v13, main_v14, main_cst_0, main_v15, main_v16, main_cst_1, main_v17, main_v18, main_v19, main_v20, main_v21, main_v22, main_v23, main_v24, main_v25, main_v26, main_v27]
/-- The list leaves the other buffers as they were. -/
theorem keep2 {r : Ref sig .tc} (h : r ∉ w2) : after s2 V (Proc.devRef .tc r) = V (Proc.devRef .tc r) :=
  after_of_writes_sub s2 V (forall_writes_sub_of_map (W := w2) rfl) h

/-- The buffers the third list writes. -/
abbrev w3 : List (Ref sig .tc) := [main_v28, main_v29, main_v30, main_cst_2, main_v31, main_v32, main_cst_3, main_v33, main_v34, main_cst_4, main_v35, main_v36, main_v37, main_v38, main_v39, main_v40, main_v41, main_v42, main_cst_5, main_v43, main_v44, main_v45, main_v46, main_v47, main_v48]
/-- The list leaves the other buffers as they were. -/
theorem keep3 {r : Ref sig .tc} (h : r ∉ w3) : after s3 V (Proc.devRef .tc r) = V (Proc.devRef .tc r) :=
  after_of_writes_sub s3 V (forall_writes_sub_of_map (W := w3) rfl) h

/-- The buffers the fourth list writes. -/
abbrev w4 : List (Ref sig .tc) := [main_v49, main_v50, main_v51, main_call0_v0, main_call0_v1, main_call0_cst, main_call0_v2, main_call0_v3, main_call0_cst_0, main_call0_v4, main_call0_v5, main_v52, main_v53, main_v54, main_v55, main_v56, main_v57, main_v58, main_v59]
/-- The list leaves the other buffers as they were. -/
theorem keep4 {r : Ref sig .tc} (h : r ∉ w4) : after s4 V (Proc.devRef .tc r) = V (Proc.devRef .tc r) :=
  after_of_writes_sub s4 V (forall_writes_sub_of_map (W := w4) rfl) h

/-- The buffers the fifth list writes. -/
abbrev w5 : List (Ref sig .tc) := [main_v60, main_v61, main_v62, main_cst_6, main_v63, main_v64, main_cst_7, main_v65, main_v66, main_cst_8, main_v67, main_v68, main_v69, main_v70, main_v71, main_v72, main_v73, main_v74, main_v75, main_v76, main_v77]
/-- The list leaves the other buffers as they were. -/
theorem keep5 {r : Ref sig .tc} (h : r ∉ w5) : after s5 V (Proc.devRef .tc r) = V (Proc.devRef .tc r) :=
  after_of_writes_sub s5 V (forall_writes_sub_of_map (W := w5) rfl) h

/-- The left array's columns come first. -/
theorem cat2_left (x y : (⟨S4x8192x512, .f32⟩ : BufTy).Contents (Elt Ideal)) (b : Fin 4) (t : Fin 8192) (k : Fin 512) :
    cat2 x y (ix3 b t ⟨k.val, by omega⟩) = x (ix3 b t k) := by
  pointwise [cat2]

/-- The right array's columns come last. -/
theorem cat2_right (x y : (⟨S4x8192x512, .f32⟩ : BufTy).Contents (Elt Ideal)) (b : Fin 4) (t : Fin 8192) (k : Fin 512) :
    cat2 x y (ix3 b t ⟨512 + k.val, by omega⟩) = y (ix3 b t k) := by
  pointwise [cat2]

/-- The first list: the mixers' outputs through the output projection. -/
theorem st1 (b : Fin 4) (t : Fin 8192) (c : Fin 1024) :
    (after s1 V (Proc.devRef .tc main_v3) : Vec Ideal S4x8192x1024 .f32) (ix3 b t c) = dot512 (fun k => (V (Proc.devRef .tc main_arg2) : Vec Ideal S4x8192x512 .bf16) (ix3 b t k)) (fun k => (V (Proc.devRef .tc main_arg5) : Vec Ideal S1024x1024 .f32) (ix2 ⟨k.val, by omega⟩ c)) + dot512 (fun k => (V (Proc.devRef .tc main_arg3) : Vec Ideal S4x8192x512 .bf16) (ix3 b t k)) (fun k => (V (Proc.devRef .tc main_arg5) : Vec Ideal S1024x1024 .f32) (ix2 ⟨512 + k.val, by omega⟩ c)) := by
  simp only [s1]
  after_results_simp
  pointwise []
  rw [sum_halves]
  unfold dot512
  simp only [cat2_left, cat2_right]
  rfl

/-- The second list: the row with the normalised output of the mixers added. -/
theorem st2 (b : Fin 4) (t : Fin 8192) (c : Fin 1024) :
    (after s2 V (Proc.devRef .tc main_v27) : Vec Ideal S4x8192x1024 .f32) (ix3 b t c) = mix (fun c => (V (Proc.devRef .tc main_arg0) : Vec Ideal S4x8192x1024 .f32) (ix3 b t c)) (fun c => (V (Proc.devRef .tc main_arg1) : Vec Ideal S4x1x6144 .f32) (ix3 b 0 ⟨2048 + c.val, by omega⟩)) (fun c => (V (Proc.devRef .tc main_v3) : Vec Ideal S4x8192x1024 .f32) (ix3 b t c)) (fun c => (V (Proc.devRef .tc main_arg4) : Vec Ideal S2x1024 .f32) (ix2 1 c)) c := by
  simp only [s2, TRef.binary, TRef.nullary, TRef.unary, TRef.toBuf, TRef.ofBuf, cast_eq]
  after_results_simp
  pointwise []

  rfl

/-- A part of the adaptation. -/
theorem st2_v7 (b : Fin 4) (c : Fin 1024) :
    (after s2 V (Proc.devRef .tc main_v7) : Vec Ideal S4x1x1024 .f32) (ix3 b 0 c) = (V (Proc.devRef .tc main_arg1) : Vec Ideal S4x1x6144 .f32) (ix3 b 0 ⟨3072 + c.val, by omega⟩) := by
  simp only [s2, TRef.binary, TRef.nullary, TRef.unary, TRef.toBuf, TRef.ofBuf, cast_eq]
  after_results_simp
  pointwise []

/-- A part of the adaptation. -/
theorem st2_v8 (b : Fin 4) (c : Fin 1024) :
    (after s2 V (Proc.devRef .tc main_v8) : Vec Ideal S4x1x1024 .f32) (ix3 b 0 c) = (V (Proc.devRef .tc main_arg1) : Vec Ideal S4x1x6144 .f32) (ix3 b 0 ⟨4096 + c.val, by omega⟩) := by
  simp only [s2, TRef.binary, TRef.nullary, TRef.unary, TRef.toBuf, TRef.ofBuf, cast_eq]
  after_results_simp
  pointwise []

/-- A part of the adaptation. -/
theorem st2_v9 (b : Fin 4) (c : Fin 1024) :
    (after s2 V (Proc.devRef .tc main_v9) : Vec Ideal S4x1x1024 .f32) (ix3 b 0 c) = (V (Proc.devRef .tc main_arg1) : Vec Ideal S4x1x6144 .f32) (ix3 b 0 ⟨5120 + c.val, by omega⟩) := by
  simp only [s2, TRef.binary, TRef.nullary, TRef.unary, TRef.toBuf, TRef.ofBuf, cast_eq]
  after_results_simp
  pointwise []

/-- The third list: the row the feed-forward reads. -/
theorem st3 (b : Fin 4) (t : Fin 8192) (c : Fin 1024) :
    (after s3 V (Proc.devRef .tc main_v48) : Vec Ideal S4x8192x1024 .f32) (ix3 b t c) = hid (fun c => (V (Proc.devRef .tc main_v27) : Vec Ideal S4x8192x1024 .f32) (ix3 b t c)) (fun c => (V (Proc.devRef .tc main_arg6) : Vec Ideal S2x1024 .f32) (ix2 1 c)) (fun c => (V (Proc.devRef .tc main_v8) : Vec Ideal S4x1x1024 .f32) (ix3 b 0 c)) (fun c => (V (Proc.devRef .tc main_v7) : Vec Ideal S4x1x1024 .f32) (ix3 b 0 c)) c := by
  simp only [s3, TRef.binary, TRef.nullary, TRef.unary, TRef.toBuf, TRef.ofBuf, cast_eq]
  after_results_simp
  pointwise []

  rfl

/-- The fourth list: the feed-forward. -/
theorem st4 (b : Fin 4) (t : Fin 8192) (c : Fin 1024) :
    (after s4 V (Proc.devRef .tc main_v59) : Vec Ideal S4x8192x1024 .f32) (ix3 b t c) = ffn (fun c => (V (Proc.devRef .tc main_v48) : Vec Ideal S4x8192x1024 .f32) (ix3 b t c)) (fun k f => (V (Proc.devRef .tc main_arg8) : Vec Ideal S2x1024x2816 .f32) (ix3 1 k f)) (fun k f => (V (Proc.devRef .tc main_arg9) : Vec Ideal S2x1024x2816 .f32) (ix3 1 k f)) (fun f c => (V (Proc.devRef .tc main_arg10) : Vec Ideal S2x2816x1024 .f32) (ix3 1 f c)) c := by
  simp only [s4, TRef.binary, TRef.nullary, TRef.unary, TRef.toBuf, TRef.ofBuf, cast_eq]
  after_results_simp
  pointwise []

  rfl

/-- The fifth list: the feed-forward's output normalised, gated and added. -/
theorem st5 (b : Fin 4) (t : Fin 8192) (c : Fin 1024) :
    (after s5 V (Proc.devRef .tc main_v77) : Vec Ideal S4x8192x1024 .f32) (ix3 b t c) = mix (fun c => (V (Proc.devRef .tc main_v27) : Vec Ideal S4x8192x1024 .f32) (ix3 b t c)) (fun c => (V (Proc.devRef .tc main_v9) : Vec Ideal S4x1x1024 .f32) (ix3 b 0 c)) (fun c => (V (Proc.devRef .tc main_v59) : Vec Ideal S4x8192x1024 .f32) (ix3 b t c)) (fun c => (V (Proc.devRef .tc main_arg7) : Vec Ideal S2x1024 .f32) (ix2 1 c)) c := by
  simp only [s5, TRef.binary, TRef.nullary, TRef.unary, TRef.toBuf, TRef.ofBuf, cast_eq]
  after_results_simp
  pointwise []

  rfl

/-- The five lists together: the layer after its mixers. -/
theorem all (b : Fin 4) (t : Fin 8192) (c : Fin 1024) :
    (after s5 (after s4 (after s3 (after s2 (after s1 V)))) (Proc.devRef .tc main_v77) : Vec Ideal S4x8192x1024 .f32) (ix3 b t c)
      = tail (fun c => (V (Proc.devRef .tc main_arg0) : Vec Ideal S4x8192x1024 .f32) (ix3 b t c)) (fun c => (V (Proc.devRef .tc main_arg1) : Vec Ideal S4x1x6144 .f32) (ix3 b 0 ⟨2048 + c.val, by omega⟩))
        (fun c => (dot512 (fun k => (V (Proc.devRef .tc main_arg2) : Vec Ideal S4x8192x512 .bf16) (ix3 b t k)) (fun k => (V (Proc.devRef .tc main_arg5) : Vec Ideal S1024x1024 .f32) (ix2 ⟨k.val, by omega⟩ c))) + dot512 (fun k => (V (Proc.devRef .tc main_arg3) : Vec Ideal S4x8192x512 .bf16) (ix3 b t k)) (fun k => (V (Proc.devRef .tc main_arg5) : Vec Ideal S1024x1024 .f32) (ix2 ⟨512 + k.val, by omega⟩ c)))
        (fun c => (V (Proc.devRef .tc main_arg4) : Vec Ideal S2x1024 .f32) (ix2 1 c)) (fun c => (V (Proc.devRef .tc main_arg6) : Vec Ideal S2x1024 .f32) (ix2 1 c)) (fun c => (V (Proc.devRef .tc main_arg1) : Vec Ideal S4x1x6144 .f32) (ix3 b 0 ⟨4096 + c.val, by omega⟩)) (fun c => (V (Proc.devRef .tc main_arg1) : Vec Ideal S4x1x6144 .f32) (ix3 b 0 ⟨3072 + c.val, by omega⟩))
        (fun c => (V (Proc.devRef .tc main_arg1) : Vec Ideal S4x1x6144 .f32) (ix3 b 0 ⟨5120 + c.val, by omega⟩)) (fun c => (V (Proc.devRef .tc main_arg7) : Vec Ideal S2x1024 .f32) (ix2 1 c))
        (fun k f => (V (Proc.devRef .tc main_arg8) : Vec Ideal S2x1024x2816 .f32) (ix3 1 k f)) (fun k f => (V (Proc.devRef .tc main_arg9) : Vec Ideal S2x1024x2816 .f32) (ix3 1 k f)) (fun f c => (V (Proc.devRef .tc main_arg10) : Vec Ideal S2x2816x1024 .f32) (ix3 1 f c)) c := by
  generalize h1 : after s1 V = V1
  generalize h2 : after s2 V1 = V2
  generalize h3 : after s3 V2 = V3
  generalize h4 : after s4 V3 = V4
  have k1_arg7 : V1 (Proc.devRef .tc main_arg7) = V (Proc.devRef .tc main_arg7) := h1 ▸ keep1 V (by decide)
  have k1_arg8 : V1 (Proc.devRef .tc main_arg8) = V (Proc.devRef .tc main_arg8) := h1 ▸ keep1 V (by decide)
  have k1_arg9 : V1 (Proc.devRef .tc main_arg9) = V (Proc.devRef .tc main_arg9) := h1 ▸ keep1 V (by decide)
  have k1_arg10 : V1 (Proc.devRef .tc main_arg10) = V (Proc.devRef .tc main_arg10) := h1 ▸ keep1 V (by decide)
  have k1_arg6 : V1 (Proc.devRef .tc main_arg6) = V (Proc.devRef .tc main_arg6) := h1 ▸ keep1 V (by decide)
  have k1_arg0 : V1 (Proc.devRef .tc main_arg0) = V (Proc.devRef .tc main_arg0) := h1 ▸ keep1 V (by decide)
  have k1_arg1 : V1 (Proc.devRef .tc main_arg1) = V (Proc.devRef .tc main_arg1) := h1 ▸ keep1 V (by decide)
  have k1_arg4 : V1 (Proc.devRef .tc main_arg4) = V (Proc.devRef .tc main_arg4) := h1 ▸ keep1 V (by decide)
  have k2_arg7 : V2 (Proc.devRef .tc main_arg7) = V1 (Proc.devRef .tc main_arg7) := h2 ▸ keep2 V1 (by decide)
  have k2_arg8 : V2 (Proc.devRef .tc main_arg8) = V1 (Proc.devRef .tc main_arg8) := h2 ▸ keep2 V1 (by decide)
  have k2_arg9 : V2 (Proc.devRef .tc main_arg9) = V1 (Proc.devRef .tc main_arg9) := h2 ▸ keep2 V1 (by decide)
  have k2_arg10 : V2 (Proc.devRef .tc main_arg10) = V1 (Proc.devRef .tc main_arg10) := h2 ▸ keep2 V1 (by decide)
  have k2_arg6 : V2 (Proc.devRef .tc main_arg6) = V1 (Proc.devRef .tc main_arg6) := h2 ▸ keep2 V1 (by decide)
  have k3_arg7 : V3 (Proc.devRef .tc main_arg7) = V2 (Proc.devRef .tc main_arg7) := h3 ▸ keep3 V2 (by decide)
  have k3_v27 : V3 (Proc.devRef .tc main_v27) = V2 (Proc.devRef .tc main_v27) := h3 ▸ keep3 V2 (by decide)
  have k3_v9 : V3 (Proc.devRef .tc main_v9) = V2 (Proc.devRef .tc main_v9) := h3 ▸ keep3 V2 (by decide)
  have k3_arg8 : V3 (Proc.devRef .tc main_arg8) = V2 (Proc.devRef .tc main_arg8) := h3 ▸ keep3 V2 (by decide)
  have k3_arg9 : V3 (Proc.devRef .tc main_arg9) = V2 (Proc.devRef .tc main_arg9) := h3 ▸ keep3 V2 (by decide)
  have k3_arg10 : V3 (Proc.devRef .tc main_arg10) = V2 (Proc.devRef .tc main_arg10) := h3 ▸ keep3 V2 (by decide)
  have k4_arg7 : V4 (Proc.devRef .tc main_arg7) = V3 (Proc.devRef .tc main_arg7) := h4 ▸ keep4 V3 (by decide)
  have k4_v27 : V4 (Proc.devRef .tc main_v27) = V3 (Proc.devRef .tc main_v27) := h4 ▸ keep4 V3 (by decide)
  have k4_v9 : V4 (Proc.devRef .tc main_v9) = V3 (Proc.devRef .tc main_v9) := h4 ▸ keep4 V3 (by decide)
  have f1 := fun c => h1 ▸ st1 V b t c
  have f2 := fun c => h2 ▸ st2 V1 b t c
  have f2v7 := fun c => h2 ▸ st2_v7 V1 b c
  have f2v8 := fun c => h2 ▸ st2_v8 V1 b c
  have f2v9 := fun c => h2 ▸ st2_v9 V1 b c
  have f3 := fun c => h3 ▸ st3 V2 b t c
  have f4 := fun c => h4 ▸ st4 V3 b t c
  rw [st5]
  simp only [f4, k4_arg7, k4_v27, k4_v9, k3_arg7, k3_v27, k3_v9, k3_arg8, k3_arg9, k3_arg10, f3, k2_arg7, k2_arg8, k2_arg9, k2_arg10, k2_arg6, f2, f2v7, f2v8, f2v9, k1_arg7, k1_arg8, k1_arg9, k1_arg10, k1_arg6, k1_arg0, k1_arg1, k1_arg4, f1]
  rfl

end Cert.TailOddRefStage

end
-- ==== Proof.TailOddEq.lean ====
module

public import proofs.«01_k».proof.Defs
public import proofs.«01_k».proof.Proof.TailOddFinal
public import proofs.«01_k».proof.Proof.TailOddRefStage
public import Idealize.ShloMosaic.Lib.Quiescent

/-!
The kernel after the odd layer's mixers and its reference end with the same array.
-/

@[expose] public section

set_option maxRecDepth 16384

noncomputable section

namespace Cert.TailOddEq

open Idealize.ShloMosaic Idealize.SL.Sem Idealize.ShloMosaic.StableHlo
open Cert.TailOddRefIdeal Cert.TailOddRefIdeal.Gen Cert.TailOddRefRun Cert.TailOddRefStage

/-- A buffer none of the reference's operations writes is left as it was. -/
theorem keep (V : Valuation τ sig (Elt Ideal)) {r : Ref sig .tc} (h : r ∉ w1 ∧ r ∉ w2 ∧ r ∉ w3 ∧ r ∉ w4 ∧ r ∉ w5) :
    after s5 (after s4 (after s3 (after s2 (after s1 V)))) (Proc.devRef .tc r) = V (Proc.devRef .tc r) :=
  (keep5 (after s4 (after s3 (after s2 (after s1 V)))) h.2.2.2.2).trans ((keep4 (after s3 (after s2 (after s1 V))) h.2.2.2.1).trans ((keep3 (after s2 (after s1 V)) h.2.2.1).trans ((keep2 (after s1 V) h.2.1).trans ((keep1 (V) h.1)))))

/-- The reference's arguments are unchanged at the end. -/
theorem args_kept (m : (ℓ : Loc nD τ sig) → Buf (Elt Ideal) ℓ) (c : Dev nD) (M : (ℓ : Loc nD τ sig) → Buf (Elt Ideal) ℓ)
    (h : ∀ b : Ref sig .tc, M ((c.tc : Thread nD τ).loc b) = after s5 (after s4 (after s3 (after s2 (after s1 (launchContents m c))))) (Proc.devRef .tc b)) :
    M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10) :=
  ⟨(h main_arg0).trans (keep _ (by decide)),
    (h main_arg1).trans (keep _ (by decide)),
    (h main_arg2).trans (keep _ (by decide)),
    (h main_arg3).trans (keep _ (by decide)),
    (h main_arg4).trans (keep _ (by decide)),
    (h main_arg5).trans (keep _ (by decide)),
    (h main_arg6).trans (keep _ (by decide)),
    (h main_arg7).trans (keep _ (by decide)),
    (h main_arg8).trans (keep _ (by decide)),
    (h main_arg9).trans (keep _ (by decide)),
    (h main_arg10).trans (keep _ (by decide))⟩

/-- A rank-3 index from its coordinates. -/
theorem ix3_of (i : (⟨3, ![4, 8192, 1024]⟩ : Shape).Idx) : i = ix3 (i 0) (i 1) (i 2) := funext fun a => by
  match a with
  | ⟨0, _⟩ => rfl
  | ⟨1, _⟩ => rfl
  | ⟨2, _⟩ => rfl

/-- From equal arguments the two programs run and end with equal results. -/
theorem equal [hP : Cert.TailOddIdeal.Facts] [hR : Cert.TailOddRefIdeal.Facts] : Cert.algebraic_TailOddIdeal_TailOddRefIdeal := by
  obtain rfl : hP = Cert.TailOddIdeal.Gen.facts := Subsingleton.elim _ _
  obtain rfl : hR = Cert.TailOddRefIdeal.Gen.facts := Subsingleton.elim _ _
  intro m g m' g' _ hag
  refine ⟨fun c => (Cert.TailOddIdeal.Gen.dats m 0 c).arrAt 14 Cert.TailOddIdeal.cfg0.N, Cert.TailOddIdeal.Value.run_blocks m g,
    (θ_run _ _ _).mono (fun r h c => ?_) (Cert.TailOddRefRun.run (F := Ideal) m' g')⟩
  refine ⟨(h c main_v77).trans ?_, args_kept m' c r.2.mem (h c)⟩
  refine Eq.trans ?_ (Cert.TailOddFinal.arr14 m c).symm
  obtain ⟨e0, e1, e2, e3, e4, e5, e6, e7, e8, e9, e10⟩ := hag c
  refine funext fun i => (congrArg _ (ix3_of i)).trans ((Cert.TailOddRefStage.all (launchContents m' c) (i 0) (i 1) (i 2)).trans ?_)
  unfold Cert.TailOddFinal.res
  have f0 : launchContents m' c (Proc.devRef .tc main_arg0) = Cert.TailOddBlk.a0 m c := e0
  have f1 : launchContents m' c (Proc.devRef .tc main_arg1) = Cert.TailOddBlk.a1 m c := e1
  have f2 : launchContents m' c (Proc.devRef .tc main_arg2) = Cert.TailOddBlk.a2 m c := e2
  have f3 : launchContents m' c (Proc.devRef .tc main_arg3) = Cert.TailOddBlk.a3 m c := e3
  have f4 : launchContents m' c (Proc.devRef .tc main_arg4) = Cert.TailOddBlk.a4 m c := e4
  have f5 : launchContents m' c (Proc.devRef .tc main_arg5) = Cert.TailOddBlk.a5 m c := e5
  have f6 : launchContents m' c (Proc.devRef .tc main_arg6) = Cert.TailOddBlk.a6 m c := e6
  have f7 : launchContents m' c (Proc.devRef .tc main_arg7) = Cert.TailOddBlk.a7 m c := e7
  have f8 : launchContents m' c (Proc.devRef .tc main_arg8) = Cert.TailOddBlk.a8 m c := e8
  have f9 : launchContents m' c (Proc.devRef .tc main_arg9) = Cert.TailOddBlk.a9 m c := e9
  have f10 : launchContents m' c (Proc.devRef .tc main_arg10) = Cert.TailOddBlk.a10 m c := e10
  rw [f0, f1, f2, f3, f4, f5, f6, f7, f8, f9, f10]

/-- The reference runs to its end, its arguments unchanged; it declares no semaphore. -/
theorem frame_ref [hR : Cert.TailOddRefIdeal.Facts] : Cert.quiescent_TailOddRefIdeal := by
  obtain rfl : hR = Cert.TailOddRefIdeal.Gen.facts := Subsingleton.elim _ _
  exact fun m ρ _ => (θ_run defs _ _).mono (fun r h => ⟨fun c => args_kept m c r.2.mem (h c), sem_eq_zero_of_no_sems (by decide) r.2⟩)
    (Cert.TailOddRefRun.run (F := Ideal) m ρ)

end Cert.TailOddEq

end
-- ==== Proof.TailEvenRun.lean ====
/- One step of the kernel after the even layer's mixers, run whole: what its stores leave in each buffer. The generated
   run of this step, with a larger budget for its definition. -/
module

public import proofs.«01_k».proof.Proof.Gen.TailEvenIdeal.Frame.Runs

@[expose] public section

-- membership in a rectangle of production extents (`View.cover_of_tiled`): the elaborator's structural look
-- recurses once per coordinate of the long axes
set_option maxRecDepth 16384

noncomputable section

namespace Cert.TailEvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x512 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S768x1024 .bf16) (harg19 : arg19.IsWhole) (arg20 : Memref sig .tc .vmem S1x1024 .f32) (harg20 : arg20.IsWhole) (arg21 : Memref sig .tc .vmem S1x1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x1024 .f32) (harg24 : arg24.IsWhole) (arg25 : Memref sig .tc .vmem S1x1024x2816 .bf16) (harg25 : arg25.IsWhole) (arg26 : Memref sig .tc .vmem S1x1024x2816 .bf16) (harg26 : arg26.IsWhole) (arg27 : Memref sig .tc .vmem S1x2816x1024 .bf16) (harg27 : arg27.IsWhole) (arg28 : Memref sig .tc .vmem S1x512x1024 .f32) (harg28 : arg28.IsWhole) (arg29 : Memref sig .tc .vmem S512x1024 .f32) (harg29 : arg29.IsWhole) (arg30 : Memref sig .tc .vmem S512x1024 .bf16) (harg30 : arg30.IsWhole) (arg31 : Memref sig .tc .vmem S512x1024 .f32) (harg31 : arg31.IsWhole) (hc0 : cond0_0 i) (hc1 : cond0_1 i)
    (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) (x17 : Vec F S1x1024 .f32) (x18 : Vec F S1x1x1024 .f32) (x19 : Vec F S1x1x1024 .f32) (x20 : Vec F S1x1x1024 .f32) (x21 : Vec F S1x1024 .f32) (x22 : Vec F S1x1024x2816 .bf16) (x23 : Vec F S1x1024x2816 .bf16) (x24 : Vec F S1x2816x1024 .bf16) :
    Σ' (L25 : List (View.Piece (Elt F) S1x512x1024 .f32)), Σ' (LT0 : List (View.Piece (Elt F) S512x1024 .f32)), Σ' (LT1 : List (View.Piece (Elt F) S512x1024 .bf16)), { LT2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ (∃ f, arg28.view.loc (c : Thread nD τ) ↦[arg28.view.set]{fullShare} arg28.view.writes (Elt F) f L25) ∗ (∃ f, arg29.view.loc (c : Thread nD τ) ↦[arg29.view.set]{fullShare} arg29.view.writes (Elt F) f LT0) ∗ (∃ f, arg30.view.loc (c : Thread nD τ) ↦[arg30.view.set]{fullShare} arg30.view.writes (Elt F) f LT1) ∗ (∃ f, arg31.view.loc (c : Thread nD τ) ↦[arg31.view.set]{fullShare} arg31.view.writes (Elt F) f LT2)) -∗ K ⟨⟩))
          ⊢ wp frame (wpE (defs₀ (F := F)) Variants.none c none) E (cc0_layer_tail i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, fun E K => ?run⟩
  case run =>
    simp only [cc0_layer_tail_eq_skeleton]; unfold cc0_layer_tail_skel
    simp only [k0_part7_eq_skeleton, k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]; · iexists _; iexact H25
    isplitl [HS0]; · iexists _; iexact HS0
    isplitl [HS1]; · iexists _; iexact HS1
    iexists _; iexact HS2

end Cert.TailEvenIdeal.Gen

end
-- ==== Proof.TailEvenFrame.lean ====
/- The frame of the kernel after the even layer's mixers, over the run of TailEvenRun.lean: the generated text. -/
module

public import proofs.«01_k».proof.Proof.TailEvenRun
public import Idealize.ShloMosaic.Lib.Claim

@[expose] public section

-- membership in a rectangle of production extents (`View.cover_of_tiled`): the elaborator's structural look
-- recurses once per coordinate of the long axes
set_option maxRecDepth 16384

noncomputable section

namespace Cert.TailEvenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 25 tile its block (1 store of `S1x512x1024`, checked by the kernel's evaluation: Lib/Ring.lean `Piece.tiledL`, linear in the pieces, through a loop's `@[irreducible]` trip theorem too), so they cover it. -/
theorem cover0_A_25 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x512 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S768x1024 .bf16) (harg19 : arg19.IsWhole) (arg20 : Memref sig .tc .vmem S1x1024 .f32) (harg20 : arg20.IsWhole) (arg21 : Memref sig .tc .vmem S1x1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x1024 .f32) (harg24 : arg24.IsWhole) (arg25 : Memref sig .tc .vmem S1x1024x2816 .bf16) (harg25 : arg25.IsWhole) (arg26 : Memref sig .tc .vmem S1x1024x2816 .bf16) (harg26 : arg26.IsWhole) (arg27 : Memref sig .tc .vmem S1x2816x1024 .bf16) (harg27 : arg27.IsWhole) (arg28 : Memref sig .tc .vmem S1x512x1024 .f32) (harg28 : arg28.IsWhole) (arg29 : Memref sig .tc .vmem S512x1024 .f32) (harg29 : arg29.IsWhole) (arg30 : Memref sig .tc .vmem S512x1024 .bf16) (harg30 : arg30.IsWhole) (arg31 : Memref sig .tc .vmem S512x1024 .f32) (harg31 : arg31.IsWhole) (hc0 : cond0_0 i) (hc1 : cond0_1 i)
    (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) (x17 : Vec F S1x1024 .f32) (x18 : Vec F S1x1x1024 .f32) (x19 : Vec F S1x1x1024 .f32) (x20 : Vec F S1x1x1024 .f32) (x21 : Vec F S1x1024 .f32) (x22 : Vec F S1x1024x2816 .bf16) (x23 : Vec F S1x1024x2816 .bf16) (x24 : Vec F S1x2816x1024 .bf16) (y : S1x512x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 x24).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 x24).1 S1x512x1024.size (by sl_kernel_rfl) y

/-- What the run leaves in output 25's staging buffer: its pieces read back over junk. -/
def out0_A_25 (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x512 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S768x1024 .bf16) (harg19 : arg19.IsWhole) (arg20 : Memref sig .tc .vmem S1x1024 .f32) (harg20 : arg20.IsWhole) (arg21 : Memref sig .tc .vmem S1x1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x1024 .f32) (harg24 : arg24.IsWhole) (arg25 : Memref sig .tc .vmem S1x1024x2816 .bf16) (harg25 : arg25.IsWhole) (arg26 : Memref sig .tc .vmem S1x1024x2816 .bf16) (harg26 : arg26.IsWhole) (arg27 : Memref sig .tc .vmem S1x2816x1024 .bf16) (harg27 : arg27.IsWhole) (arg28 : Memref sig .tc .vmem S1x512x1024 .f32) (harg28 : arg28.IsWhole) (arg29 : Memref sig .tc .vmem S512x1024 .f32) (harg29 : arg29.IsWhole) (arg30 : Memref sig .tc .vmem S512x1024 .bf16) (harg30 : arg30.IsWhole) (arg31 : Memref sig .tc .vmem S512x1024 .f32) (harg31 : arg31.IsWhole) (hc0 : cond0_0 i) (hc1 : cond0_1 i)
    (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) (x17 : Vec F S1x1024 .f32) (x18 : Vec F S1x1x1024 .f32) (x19 : Vec F S1x1x1024 .f32) (x20 : Vec F S1x1x1024 .f32) (x21 : Vec F S1x1024 .f32) (x22 : Vec F S1x1024x2816 .bf16) (x23 : Vec F S1x1024x2816 .bf16) (x24 : Vec F S1x2816x1024 .bf16) : Vec F S1x512x1024 .f32 :=
  VO0_25.read (Elt F) (VO0_25.writes (Elt F) VO0_25.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 x24).1)

/-! ## What the outputs hold after each point -/

/-- What the outputs' staging buffers hold after the body at point `t`: the run's contents at
    the point's memrefs and input blocks. -/
def outsAt0 (c : Dev nD) (t : Fin cfg0.N) : Vec F S1x512x1024 .f32 :=
  out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20 t], after0_20]
  rw [show (dats m 0 c).leavesExact 21 t = owns (c : Thread nD τ) (ms0_21 t) fullShare ((dats m 0 c).after 21 t) from by
      unfold Dat.leavesExact; rw [liveAt0_21 t], after0_21]
  rw [show (dats m 0 c).leavesExact 22 t = owns (c : Thread nD τ) (ms0_22 t) fullShare ((dats m 0 c).after 22 t) from by
      unfold Dat.leavesExact; rw [liveAt0_22 t], after0_22]
  rw [show (dats m 0 c).leavesExact 23 t = owns (c : Thread nD τ) (ms0_23 t) fullShare ((dats m 0 c).after 23 t) from by
      unfold Dat.leavesExact; rw [liveAt0_23 t], after0_23]
  rw [show (dats m 0 c).leavesExact 24 t = owns (c : Thread nD τ) (ms0_24 t) fullShare ((dats m 0 c).after 24 t) from by
      unfold Dat.leavesExact; rw [liveAt0_24 t], after0_24]
  rw [show (dats m 0 c).leavesExact 25 t = owns (c : Thread nD τ) (ms0_25 t) fullShare ((dats m 0 c).after 25 t) from by
      unfold Dat.leavesExact; rw [liveAt0_25_A t (hcond0_0 t) (hcond0_1 t)], after0_25]
  unfold outsAt0
  unfold out0_A_25
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, ⟨%e25, H25⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_TailEvenIdeal`'s statement (Defs.lean) at any `F` — Proof.lean cites it at `Bits`:
    `theorem Cert.Proof.claim : Cert.Claim := ⟨Cert.TailEvenIdeal.Gen.facts, fun m ρ _ => Cert.TailEvenIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.TailEvenIdeal.Gen

end
-- ==== Proof.TailEvenSame.lean ====
module

public import proofs.«01_k».proof.Defs
public import proofs.«01_k».proof.Proof.Gen.TailEven
public import proofs.«01_k».proof.Proof.TailEvenFrame

/-!
The kernel after the even layer's mixers and its idealization have the same text, so the run of one, read at the
machine's floats, is the run of the other.
-/

@[expose] public section

set_option maxRecDepth 16384

noncomputable section

namespace Cert.TailEvenSame

open Idealize.ShloMosaic Idealize.SL.Sem

set_option maxHeartbeats 8000000 in
/-- The two programs have the same kernel body. -/
theorem bodies : @Cert.TailEven.defs₀ Bits _ Cert.TailEven.Gen.facts = @Cert.TailEvenIdeal.defs₀ Bits _ Cert.TailEvenIdeal.Gen.facts := by
  refine congrArg Defs.onTc (funext fun l => funext fun x => ?_)
  obtain ⟨_ | n, h⟩ := l
  · obtain ⟨t, s⟩ := x
    exact rfl
  · exact absurd h (Nat.not_lt.2 (Nat.le_add_left _ _))

set_option maxHeartbeats 8000000 in
/-- The two programs have the same functions. -/
theorem same : @Cert.TailEven.defs Bits _ Cert.TailEven.Gen.facts = @Cert.TailEvenIdeal.defs Bits _ Cert.TailEvenIdeal.Gen.facts :=
  congrArg (Pipeline.defs (Cert.TailEven.pcfgs (F := Bits))) bodies

set_option maxHeartbeats 8000000 in
/-- The kernel after the even layer's mixers runs to its end and leaves its arguments: its idealization's run at the machine's floats. -/
theorem frame_kernel [h : Cert.TailEven.Facts] : Cert.quiescent_TailEven := by
  obtain rfl : h = Cert.TailEven.Gen.facts := Subsingleton.elim _ _
  intro m ρ _
  rw [same]
  exact Cert.TailEvenIdeal.Gen.frame (F := Bits) m ρ

end Cert.TailEvenSame

end
-- ==== Proof.TailEvenValue.lean ====
/- What the kernel after the even layer's mixers leaves in its result, block by block: the generated text. -/
module

public import proofs.«01_k».proof.Proof.TailEvenFrame
public import Idealize.ShloMosaic.Lib.Pipeline.Value

@[expose] public section

noncomputable section

namespace Cert.TailEvenIdeal.Value

open Cert.TailEvenIdeal Cert.TailEvenIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 25's array: the run's contents for that window after the body (`Gen.outsAt0`), read through the window's block. -/
theorem flushed25 (c : Dev nD) (t : Fin cfg0.N) :
    (dats m 0 c).flushed 25 t = (cfg0.win 25).cut (grid0.coords t) (outsAt0 m c t) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed25, outsAt0]

/-- The index map sends distinct grid points to distinct block indices (decided over the 64 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S4x8192x1024.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v19) = (dats m 0 c).arrAt 25 cfg0.N :=
  (h c).1 25

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 7 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 8 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: input window 9 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

/-- After the frame run, argument `main_arg9` is as launched: input window 10 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

/-- After the frame run, argument `main_arg10` is as launched: input window 13 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 13).trans (((dats m 0 c).arrAt_in 13 rfl _).trans ((A_eq m c 13).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 14 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 14).trans (((dats m 0 c).arrAt_in 14 rfl _).trans ((A_eq m c 14).trans (V_main_arg12 m c)))

/-- After the frame run, argument `main_arg13` is as launched: input window 12 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- After the frame run, argument `main_arg14` is as launched: input window 15 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 15).trans (((dats m 0 c).arrAt_in 15 rfl _).trans ((A_eq m c 15).trans (V_main_arg14 m c)))

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

end Cert.TailEvenIdeal.Value

end
-- ==== Proof.TailEvenBlk.lean ====
module

public import proofs.«01_k».proof.Proof.TailEvenFrame
public import Idealize.ShloMosaic.Lib.Pointwise

/-!
What a step of the kernel after the even layer's mixers finds in each of its input blocks, element by element.
-/

@[expose] public section

set_option maxRecDepth 16384

noncomputable section

namespace Cert.TailEvenBlk

open Idealize.ShloMosaic Idealize.ShloMosaic.TcCoe Idealize.SL.Sem Idealize.ShloMosaic.StableHlo Cert.TailEvenIdeal Cert.TailEvenIdeal.Gen

variable (m : (ℓ : Loc nD τ sig) → Buf (Elt Ideal) ℓ)

/-- The batch of a grid point. -/
abbrev bt (t : Fin grid0.N) : Fin 4 := grid0.coords t 0
/-- The block of 512 rows of a grid point. -/
abbrev gt (t : Fin grid0.N) : Fin 16 := grid0.coords t 1
/-- A row of a grid point's block. -/
abbrev row (t : Fin grid0.N) (r : Fin 512) : Fin 8192 := ⟨(gt t).val * 512 + r.val, by have := (gt t).isLt; omega⟩

/-- An argument, as launched. -/
abbrev a0 (c : Dev nD) : Vec Ideal S4x8192x1024 .f32 := m ((c : Thread nD τ).loc main_arg0)
/-- An argument, as launched. -/
abbrev a1 (c : Dev nD) : Vec Ideal S4x1x6144 .f32 := m ((c : Thread nD τ).loc main_arg1)
/-- An argument, as launched. -/
abbrev a2 (c : Dev nD) : Vec Ideal S4x8192x512 .bf16 := m ((c : Thread nD τ).loc main_arg2)
/-- An argument, as launched. -/
abbrev a3 (c : Dev nD) : Vec Ideal S4x8192x128 .f32 := m ((c : Thread nD τ).loc main_arg3)
/-- An argument, as launched. -/
abbrev a4 (c : Dev nD) : Vec Ideal S4x8192x128 .f32 := m ((c : Thread nD τ).loc main_arg4)
/-- An argument, as launched. -/
abbrev a5 (c : Dev nD) : Vec Ideal S4x8192x128 .f32 := m ((c : Thread nD τ).loc main_arg5)
/-- An argument, as launched. -/
abbrev a6 (c : Dev nD) : Vec Ideal S4x8192x128 .f32 := m ((c : Thread nD τ).loc main_arg6)
/-- An argument, as launched. -/
abbrev a7 (c : Dev nD) : Vec Ideal S4x8192x128 .f32 := m ((c : Thread nD τ).loc main_arg7)
/-- An argument, as launched. -/
abbrev a8 (c : Dev nD) : Vec Ideal S4x8192x128 .f32 := m ((c : Thread nD τ).loc main_arg8)
/-- An argument, as launched. -/
abbrev a9 (c : Dev nD) : Vec Ideal S4x8192x128 .f32 := m ((c : Thread nD τ).loc main_arg9)
/-- An argument, as launched. -/
abbrev a10 (c : Dev nD) : Vec Ideal S4x8192x128 .f32 := m ((c : Thread nD τ).loc main_arg10)
/-- An argument, as launched. -/
abbrev a11 (c : Dev nD) : Vec Ideal S4x8192x128 .f32 := m ((c : Thread nD τ).loc main_arg11)
/-- An argument, as launched. -/
abbrev a12 (c : Dev nD) : Vec Ideal S4x8192x128 .f32 := m ((c : Thread nD τ).loc main_arg12)
/-- An argument, as launched. -/
abbrev a13 (c : Dev nD) : Vec Ideal S4x8192x128 .f32 := m ((c : Thread nD τ).loc main_arg13)
/-- An argument, as launched. -/
abbrev a14 (c : Dev nD) : Vec Ideal S4x8192x128 .f32 := m ((c : Thread nD τ).loc main_arg14)
/-- An argument, as launched. -/
abbrev a15 (c : Dev nD) : Vec Ideal S2x1024 .f32 := m ((c : Thread nD τ).loc main_arg15)
/-- An argument, as launched. -/
abbrev a16 (c : Dev nD) : Vec Ideal S768x1024 .f32 := m ((c : Thread nD τ).loc main_arg16)
/-- An argument, as launched. -/
abbrev a17 (c : Dev nD) : Vec Ideal S2x1024 .f32 := m ((c : Thread nD τ).loc main_arg17)
/-- An argument, as launched. -/
abbrev a18 (c : Dev nD) : Vec Ideal S2x1024 .f32 := m ((c : Thread nD τ).loc main_arg18)
/-- An argument, as launched. -/
abbrev a19 (c : Dev nD) : Vec Ideal S2x1024x2816 .f32 := m ((c : Thread nD τ).loc main_arg19)
/-- An argument, as launched. -/
abbrev a20 (c : Dev nD) : Vec Ideal S2x1024x2816 .f32 := m ((c : Thread nD τ).loc main_arg20)
/-- An argument, as launched. -/
abbrev a21 (c : Dev nD) : Vec Ideal S2x2816x1024 .f32 := m ((c : Thread nD τ).loc main_arg21)

/-- What the host puts in `v2`. -/
theorem h_v2 (c : Dev nD) (b : Fin 4) (k : Fin 1024) : (V m c main_v2 : Vec Ideal S4x1x1024 .f32) (ix3 b 0 k) = a1 m c (ix3 b 0 ⟨2048 + k.val, by omega⟩) := by
  unfold V hostOps0
  after_results_simp
  pointwise []
  try rfl

/-- What the host puts in `v3`. -/
theorem h_v3 (c : Dev nD) (b : Fin 4) (k : Fin 1024) : (V m c main_v3 : Vec Ideal S4x1x1024 .f32) (ix3 b 0 k) = a1 m c (ix3 b 0 ⟨3072 + k.val, by omega⟩) := by
  unfold V hostOps0
  after_results_simp
  pointwise []
  try rfl

/-- What the host puts in `v4`. -/
theorem h_v4 (c : Dev nD) (b : Fin 4) (k : Fin 1024) : (V m c main_v4 : Vec Ideal S4x1x1024 .f32) (ix3 b 0 k) = a1 m c (ix3 b 0 ⟨4096 + k.val, by omega⟩) := by
  unfold V hostOps0
  after_results_simp
  pointwise []
  try rfl

/-- What the host puts in `v5`. -/
theorem h_v5 (c : Dev nD) (b : Fin 4) (k : Fin 1024) : (V m c main_v5 : Vec Ideal S4x1x1024 .f32) (ix3 b 0 k) = a1 m c (ix3 b 0 ⟨5120 + k.val, by omega⟩) := by
  unfold V hostOps0
  after_results_simp
  pointwise []
  try rfl

/-- What the host puts in `v16`. -/
theorem h_v16 (c : Dev nD) (k : Fin 1024) : (V m c main_v16 : Vec Ideal S1x1024 .f32) (ix2 0 k) = a15 m c (ix2 0 k) := by
  unfold V hostOps0
  after_results_simp
  pointwise []
  try rfl

/-- What the host puts in `v17`. -/
theorem h_v17 (c : Dev nD) (k : Fin 1024) : (V m c main_v17 : Vec Ideal S1x1024 .f32) (ix2 0 k) = a17 m c (ix2 0 k) := by
  unfold V hostOps0
  after_results_simp
  pointwise []
  try rfl

/-- What the host puts in `v18`. -/
theorem h_v18 (c : Dev nD) (k : Fin 1024) : (V m c main_v18 : Vec Ideal S1x1024 .f32) (ix2 0 k) = a18 m c (ix2 0 k) := by
  unfold V hostOps0
  after_results_simp
  pointwise []
  try rfl

/-- What the host puts in `v8`. -/
theorem h_v8 (c : Dev nD) (j : Fin 768) (k : Fin 1024) : (V m c main_v8 : Vec Ideal S768x1024 .bf16) (ix2 j k) = a16 m c (ix2 j k) := by
  unfold V hostOps0
  after_results_simp
  pointwise []
  try rfl

/-- What the host puts in `v13`. -/
theorem h_v13 (c : Dev nD) (l : Fin 2) (k : Fin 1024) (f : Fin 2816) : (V m c main_v13 : Vec Ideal S2x1024x2816 .bf16) (ix3 l k f) = a19 m c (ix3 l k f) := by
  unfold V hostOps0
  after_results_simp
  pointwise []
  try rfl

/-- What the host puts in `v14`. -/
theorem h_v14 (c : Dev nD) (l : Fin 2) (k : Fin 1024) (f : Fin 2816) : (V m c main_v14 : Vec Ideal S2x1024x2816 .bf16) (ix3 l k f) = a20 m c (ix3 l k f) := by
  unfold V hostOps0
  after_results_simp
  pointwise []
  try rfl

/-- What the host puts in `v15`. -/
theorem h_v15 (c : Dev nD) (l : Fin 2) (f : Fin 2816) (k : Fin 1024) : (V m c main_v15 : Vec Ideal S2x2816x1024 .bf16) (ix3 l f k) = a21 m c (ix3 l f k) := by
  unfold V hostOps0
  after_results_simp
  pointwise []
  try rfl

theorem wix0 : ∀ t : Fin grid0.N, win0_0.index t 0 * win0_0.size 0 = (bt t).val ∧ win0_0.index t 1 * win0_0.size 1 = (gt t).val * 512 ∧ win0_0.index t 2 * win0_0.size 2 = 0 := by decide +kernel

/-- Input 0's block. -/
theorem in0 (c : Dev nD) (t : Fin cfg0.N) (r : Fin 512) (k : Fin 1024) : (iblk m c 0 t : Vec Ideal S1x512x1024 .f32) (ix3 0 r k) = a0 m c (ix3 (bt t) (row t r) k) := by
  obtain ⟨e0, e1, e2⟩ := wix0 t
  refine Eq.trans (congrArg (V m c main_arg0) (funext fun a => Fin.ext ?_ : _ = ix3 (bt t) (row t r) k)) (congrFun (V_main_arg0 m c) _)
  match a with
  | ⟨0, _⟩ => show win0_0.index t 0 * win0_0.size 0 + 1 * 0 = _; rw [e0]; first | rfl | (show _ = _; simp) | (simp; done)
  | ⟨1, _⟩ => show win0_0.index t 1 * win0_0.size 1 + 1 * r.val = _; rw [e1]; first | rfl | (show _ = _; simp) | (simp; done)
  | ⟨2, _⟩ => show win0_0.index t 2 * win0_0.size 2 + 1 * k.val = _; rw [e2]; first | rfl | (show _ = _; simp) | (simp; done)

theorem wix3 : ∀ t : Fin grid0.N, win0_3.index t 0 * win0_3.size 0 = (bt t).val ∧ win0_3.index t 1 * win0_3.size 1 = (gt t).val * 512 ∧ win0_3.index t 2 * win0_3.size 2 = 0 := by decide +kernel

/-- Input 3's block. -/
theorem in3 (c : Dev nD) (t : Fin cfg0.N) (r : Fin 512) (k : Fin 512) : (iblk m c 3 t : Vec Ideal S1x512x512 .bf16) (ix3 0 r k) = a2 m c (ix3 (bt t) (row t r) k) := by
  obtain ⟨e0, e1, e2⟩ := wix3 t
  refine Eq.trans (congrArg (V m c main_arg2) (funext fun a => Fin.ext ?_ : _ = ix3 (bt t) (row t r) k)) (congrFun (V_main_arg2 m c) _)
  match a with
  | ⟨0, _⟩ => show win0_3.index t 0 * win0_3.size 0 + 1 * 0 = _; rw [e0]; first | rfl | (show _ = _; simp) | (simp; done)
  | ⟨1, _⟩ => show win0_3.index t 1 * win0_3.size 1 + 1 * r.val = _; rw [e1]; first | rfl | (show _ = _; simp) | (simp; done)
  | ⟨2, _⟩ => show win0_3.index t 2 * win0_3.size 2 + 1 * k.val = _; rw [e2]; first | rfl | (show _ = _; simp) | (simp; done)

theorem wix4 : ∀ t : Fin grid0.N, win0_4.index t 0 * win0_4.size 0 = (bt t).val ∧ win0_4.index t 1 * win0_4.size 1 = (gt t).val * 512 ∧ win0_4.index t 2 * win0_4.size 2 = 0 := by decide +kernel

/-- Input 4's block. -/
theorem in4 (c : Dev nD) (t : Fin cfg0.N) (r : Fin 512) (k : Fin 128) : (iblk m c 4 t : Vec Ideal S1x512x128 .f32) (ix3 0 r k) = a3 m c (ix3 (bt t) (row t r) k) := by
  obtain ⟨e0, e1, e2⟩ := wix4 t
  refine Eq.trans (congrArg (V m c main_arg3) (funext fun a => Fin.ext ?_ : _ = ix3 (bt t) (row t r) k)) (congrFun (V_main_arg3 m c) _)
  match a with
  | ⟨0, _⟩ => show win0_4.index t 0 * win0_4.size 0 + 1 * 0 = _; rw [e0]; first | rfl | (show _ = _; simp) | (simp; done)
  | ⟨1, _⟩ => show win0_4.index t 1 * win0_4.size 1 + 1 * r.val = _; rw [e1]; first | rfl | (show _ = _; simp) | (simp; done)
  | ⟨2, _⟩ => show win0_4.index t 2 * win0_4.size 2 + 1 * k.val = _; rw [e2]; first | rfl | (show _ = _; simp) | (simp; done)

theorem wix5 : ∀ t : Fin grid0.N, win0_5.index t 0 * win0_5.size 0 = (bt t).val ∧ win0_5.index t 1 * win0_5.size 1 = (gt t).val * 512 ∧ win0_5.index t 2 * win0_5.size 2 = 0 := by decide +kernel

/-- Input 5's block. -/
theorem in5 (c : Dev nD) (t : Fin cfg0.N) (r : Fin 512) (k : Fin 128) : (iblk m c 5 t : Vec Ideal S1x512x128 .f32) (ix3 0 r k) = a5 m c (ix3 (bt t) (row t r) k) := by
  obtain ⟨e0, e1, e2⟩ := wix5 t
  refine Eq.trans (congrArg (V m c main_arg5) (funext fun a => Fin.ext ?_ : _ = ix3 (bt t) (row t r) k)) (congrFun (V_main_arg5 m c) _)
  match a with
  | ⟨0, _⟩ => show win0_5.index t 0 * win0_5.size 0 + 1 * 0 = _; rw [e0]; first | rfl | (show _ = _; simp) | (simp; done)
  | ⟨1, _⟩ => show win0_5.index t 1 * win0_5.size 1 + 1 * r.val = _; rw [e1]; first | rfl | (show _ = _; simp) | (simp; done)
  | ⟨2, _⟩ => show win0_5.index t 2 * win0_5.size 2 + 1 * k.val = _; rw [e2]; first | rfl | (show _ = _; simp) | (simp; done)

theorem wix6 : ∀ t : Fin grid0.N, win0_6.index t 0 * win0_6.size 0 = (bt t).val ∧ win0_6.index t 1 * win0_6.size 1 = (gt t).val * 512 ∧ win0_6.index t 2 * win0_6.size 2 = 0 := by decide +kernel

/-- Input 6's block. -/
theorem in6 (c : Dev nD) (t : Fin cfg0.N) (r : Fin 512) (k : Fin 128) : (iblk m c 6 t : Vec Ideal S1x512x128 .f32) (ix3 0 r k) = a7 m c (ix3 (bt t) (row t r) k) := by
  obtain ⟨e0, e1, e2⟩ := wix6 t
  refine Eq.trans (congrArg (V m c main_arg7) (funext fun a => Fin.ext ?_ : _ = ix3 (bt t) (row t r) k)) (congrFun (V_main_arg7 m c) _)
  match a with
  | ⟨0, _⟩ => show win0_6.index t 0 * win0_6.size 0 + 1 * 0 = _; rw [e0]; first | rfl | (show _ = _; simp) | (simp; done)
  | ⟨1, _⟩ => show win0_6.index t 1 * win0_6.size 1 + 1 * r.val = _; rw [e1]; first | rfl | (show _ = _; simp) | (simp; done)
  | ⟨2, _⟩ => show win0_6.index t 2 * win0_6.size 2 + 1 * k.val = _; rw [e2]; first | rfl | (show _ = _; simp) | (simp; done)

theorem wix7 : ∀ t : Fin grid0.N, win0_7.index t 0 * win0_7.size 0 = (bt t).val ∧ win0_7.index t 1 * win0_7.size 1 = (gt t).val * 512 ∧ win0_7.index t 2 * win0_7.size 2 = 0 := by decide +kernel

/-- Input 7's block. -/
theorem in7 (c : Dev nD) (t : Fin cfg0.N) (r : Fin 512) (k : Fin 128) : (iblk m c 7 t : Vec Ideal S1x512x128 .f32) (ix3 0 r k) = a4 m c (ix3 (bt t) (row t r) k) := by
  obtain ⟨e0, e1, e2⟩ := wix7 t
  refine Eq.trans (congrArg (V m c main_arg4) (funext fun a => Fin.ext ?_ : _ = ix3 (bt t) (row t r) k)) (congrFun (V_main_arg4 m c) _)
  match a with
  | ⟨0, _⟩ => show win0_7.index t 0 * win0_7.size 0 + 1 * 0 = _; rw [e0]; first | rfl | (show _ = _; simp) | (simp; done)
  | ⟨1, _⟩ => show win0_7.index t 1 * win0_7.size 1 + 1 * r.val = _; rw [e1]; first | rfl | (show _ = _; simp) | (simp; done)
  | ⟨2, _⟩ => show win0_7.index t 2 * win0_7.size 2 + 1 * k.val = _; rw [e2]; first | rfl | (show _ = _; simp) | (simp; done)

theorem wix8 : ∀ t : Fin grid0.N, win0_8.index t 0 * win0_8.size 0 = (bt t).val ∧ win0_8.index t 1 * win0_8.size 1 = (gt t).val * 512 ∧ win0_8.index t 2 * win0_8.size 2 = 0 := by decide +kernel

/-- Input 8's block. -/
theorem in8 (c : Dev nD) (t : Fin cfg0.N) (r : Fin 512) (k : Fin 128) : (iblk m c 8 t : Vec Ideal S1x512x128 .f32) (ix3 0 r k) = a6 m c (ix3 (bt t) (row t r) k) := by
  obtain ⟨e0, e1, e2⟩ := wix8 t
  refine Eq.trans (congrArg (V m c main_arg6) (funext fun a => Fin.ext ?_ : _ = ix3 (bt t) (row t r) k)) (congrFun (V_main_arg6 m c) _)
  match a with
  | ⟨0, _⟩ => show win0_8.index t 0 * win0_8.size 0 + 1 * 0 = _; rw [e0]; first | rfl | (show _ = _; simp) | (simp; done)
  | ⟨1, _⟩ => show win0_8.index t 1 * win0_8.size 1 + 1 * r.val = _; rw [e1]; first | rfl | (show _ = _; simp) | (simp; done)
  | ⟨2, _⟩ => show win0_8.index t 2 * win0_8.size 2 + 1 * k.val = _; rw [e2]; first | rfl | (show _ = _; simp) | (simp; done)

theorem wix9 : ∀ t : Fin grid0.N, win0_9.index t 0 * win0_9.size 0 = (bt t).val ∧ win0_9.index t 1 * win0_9.size 1 = (gt t).val * 512 ∧ win0_9.index t 2 * win0_9.size 2 = 0 := by decide +kernel

/-- Input 9's block. -/
theorem in9 (c : Dev nD) (t : Fin cfg0.N) (r : Fin 512) (k : Fin 128) : (iblk m c 9 t : Vec Ideal S1x512x128 .f32) (ix3 0 r k) = a8 m c (ix3 (bt t) (row t r) k) := by
  obtain ⟨e0, e1, e2⟩ := wix9 t
  refine Eq.trans (congrArg (V m c main_arg8) (funext fun a => Fin.ext ?_ : _ = ix3 (bt t) (row t r) k)) (congrFun (V_main_arg8 m c) _)
  match a with
  | ⟨0, _⟩ => show win0_9.index t 0 * win0_9.size 0 + 1 * 0 = _; rw [e0]; first | rfl | (show _ = _; simp) | (simp; done)
  | ⟨1, _⟩ => show win0_9.index t 1 * win0_9.size 1 + 1 * r.val = _; rw [e1]; first | rfl | (show _ = _; simp) | (simp; done)
  | ⟨2, _⟩ => show win0_9.index t 2 * win0_9.size 2 + 1 * k.val = _; rw [e2]; first | rfl | (show _ = _; simp) | (simp; done)

theorem wix10 : ∀ t : Fin grid0.N, win0_10.index t 0 * win0_10.size 0 = (bt t).val ∧ win0_10.index t 1 * win0_10.size 1 = (gt t).val * 512 ∧ win0_10.index t 2 * win0_10.size 2 = 0 := by decide +kernel

/-- Input 10's block. -/
theorem in10 (c : Dev nD) (t : Fin cfg0.N) (r : Fin 512) (k : Fin 128) : (iblk m c 10 t : Vec Ideal S1x512x128 .f32) (ix3 0 r k) = a9 m c (ix3 (bt t) (row t r) k) := by
  obtain ⟨e0, e1, e2⟩ := wix10 t
  refine Eq.trans (congrArg (V m c main_arg9) (funext fun a => Fin.ext ?_ : _ = ix3 (bt t) (row t r) k)) (congrFun (V_main_arg9 m c) _)
  match a with
  | ⟨0, _⟩ => show win0_10.index t 0 * win0_10.size 0 + 1 * 0 = _; rw [e0]; first | rfl | (show _ = _; simp) | (simp; done)
  | ⟨1, _⟩ => show win0_10.index t 1 * win0_10.size 1 + 1 * r.val = _; rw [e1]; first | rfl | (show _ = _; simp) | (simp; done)
  | ⟨2, _⟩ => show win0_10.index t 2 * win0_10.size 2 + 1 * k.val = _; rw [e2]; first | rfl | (show _ = _; simp) | (simp; done)

theorem wix11 : ∀ t : Fin grid0.N, win0_11.index t 0 * win0_11.size 0 = (bt t).val ∧ win0_11.index t 1 * win0_11.size 1 = (gt t).val * 512 ∧ win0_11.index t 2 * win0_11.size 2 = 0 := by decide +kernel

/-- Input 11's block. -/
theorem in11 (c : Dev nD) (t : Fin cfg0.N) (r : Fin 512) (k : Fin 128) : (iblk m c 11 t : Vec Ideal S1x512x128 .f32) (ix3 0 r k) = a11 m c (ix3 (bt t) (row t r) k) := by
  obtain ⟨e0, e1, e2⟩ := wix11 t
  refine Eq.trans (congrArg (V m c main_arg11) (funext fun a => Fin.ext ?_ : _ = ix3 (bt t) (row t r) k)) (congrFun (V_main_arg11 m c) _)
  match a with
  | ⟨0, _⟩ => show win0_11.index t 0 * win0_11.size 0 + 1 * 0 = _; rw [e0]; first | rfl | (show _ = _; simp) | (simp; done)
  | ⟨1, _⟩ => show win0_11.index t 1 * win0_11.size 1 + 1 * r.val = _; rw [e1]; first | rfl | (show _ = _; simp) | (simp; done)
  | ⟨2, _⟩ => show win0_11.index t 2 * win0_11.size 2 + 1 * k.val = _; rw [e2]; first | rfl | (show _ = _; simp) | (simp; done)

theorem wix12 : ∀ t : Fin grid0.N, win0_12.index t 0 * win0_12.size 0 = (bt t).val ∧ win0_12.index t 1 * win0_12.size 1 = (gt t).val * 512 ∧ win0_12.index t 2 * win0_12.size 2 = 0 := by decide +kernel

/-- Input 12's block. -/
theorem in12 (c : Dev nD) (t : Fin cfg0.N) (r : Fin 512) (k : Fin 128) : (iblk m c 12 t : Vec Ideal S1x512x128 .f32) (ix3 0 r k) = a13 m c (ix3 (bt t) (row t r) k) := by
  obtain ⟨e0, e1, e2⟩ := wix12 t
  refine Eq.trans (congrArg (V m c main_arg13) (funext fun a => Fin.ext ?_ : _ = ix3 (bt t) (row t r) k)) (congrFun (V_main_arg13 m c) _)
  match a with
  | ⟨0, _⟩ => show win0_12.index t 0 * win0_12.size 0 + 1 * 0 = _; rw [e0]; first | rfl | (show _ = _; simp) | (simp; done)
  | ⟨1, _⟩ => show win0_12.index t 1 * win0_12.size 1 + 1 * r.val = _; rw [e1]; first | rfl | (show _ = _; simp) | (simp; done)
  | ⟨2, _⟩ => show win0_12.index t 2 * win0_12.size 2 + 1 * k.val = _; rw [e2]; first | rfl | (show _ = _; simp) | (simp; done)

theorem wix13 : ∀ t : Fin grid0.N, win0_13.index t 0 * win0_13.size 0 = (bt t).val ∧ win0_13.index t 1 * win0_13.size 1 = (gt t).val * 512 ∧ win0_13.index t 2 * win0_13.size 2 = 0 := by decide +kernel

/-- Input 13's block. -/
theorem in13 (c : Dev nD) (t : Fin cfg0.N) (r : Fin 512) (k : Fin 128) : (iblk m c 13 t : Vec Ideal S1x512x128 .f32) (ix3 0 r k) = a10 m c (ix3 (bt t) (row t r) k) := by
  obtain ⟨e0, e1, e2⟩ := wix13 t
  refine Eq.trans (congrArg (V m c main_arg10) (funext fun a => Fin.ext ?_ : _ = ix3 (bt t) (row t r) k)) (congrFun (V_main_arg10 m c) _)
  match a with
  | ⟨0, _⟩ => show win0_13.index t 0 * win0_13.size 0 + 1 * 0 = _; rw [e0]; first | rfl | (show _ = _; simp) | (simp; done)
  | ⟨1, _⟩ => show win0_13.index t 1 * win0_13.size 1 + 1 * r.val = _; rw [e1]; first | rfl | (show _ = _; simp) | (simp; done)
  | ⟨2, _⟩ => show win0_13.index t 2 * win0_13.size 2 + 1 * k.val = _; rw [e2]; first | rfl | (show _ = _; simp) | (simp; done)

theorem wix14 : ∀ t : Fin grid0.N, win0_14.index t 0 * win0_14.size 0 = (bt t).val ∧ win0_14.index t 1 * win0_14.size 1 = (gt t).val * 512 ∧ win0_14.index t 2 * win0_14.size 2 = 0 := by decide +kernel

/-- Input 14's block. -/
theorem in14 (c : Dev nD) (t : Fin cfg0.N) (r : Fin 512) (k : Fin 128) : (iblk m c 14 t : Vec Ideal S1x512x128 .f32) (ix3 0 r k) = a12 m c (ix3 (bt t) (row t r) k) := by
  obtain ⟨e0, e1, e2⟩ := wix14 t
  refine Eq.trans (congrArg (V m c main_arg12) (funext fun a => Fin.ext ?_ : _ = ix3 (bt t) (row t r) k)) (congrFun (V_main_arg12 m c) _)
  match a with
  | ⟨0, _⟩ => show win0_14.index t 0 * win0_14.size 0 + 1 * 0 = _; rw [e0]; first | rfl | (show _ = _; simp) | (simp; done)
  | ⟨1, _⟩ => show win0_14.index t 1 * win0_14.size 1 + 1 * r.val = _; rw [e1]; first | rfl | (show _ = _; simp) | (simp; done)
  | ⟨2, _⟩ => show win0_14.index t 2 * win0_14.size 2 + 1 * k.val = _; rw [e2]; first | rfl | (show _ = _; simp) | (simp; done)

theorem wix15 : ∀ t : Fin grid0.N, win0_15.index t 0 * win0_15.size 0 = (bt t).val ∧ win0_15.index t 1 * win0_15.size 1 = (gt t).val * 512 ∧ win0_15.index t 2 * win0_15.size 2 = 0 := by decide +kernel

/-- Input 15's block. -/
theorem in15 (c : Dev nD) (t : Fin cfg0.N) (r : Fin 512) (k : Fin 128) : (iblk m c 15 t : Vec Ideal S1x512x128 .f32) (ix3 0 r k) = a14 m c (ix3 (bt t) (row t r) k) := by
  obtain ⟨e0, e1, e2⟩ := wix15 t
  refine Eq.trans (congrArg (V m c main_arg14) (funext fun a => Fin.ext ?_ : _ = ix3 (bt t) (row t r) k)) (congrFun (V_main_arg14 m c) _)
  match a with
  | ⟨0, _⟩ => show win0_15.index t 0 * win0_15.size 0 + 1 * 0 = _; rw [e0]; first | rfl | (show _ = _; simp) | (simp; done)
  | ⟨1, _⟩ => show win0_15.index t 1 * win0_15.size 1 + 1 * r.val = _; rw [e1]; first | rfl | (show _ = _; simp) | (simp; done)
  | ⟨2, _⟩ => show win0_15.index t 2 * win0_15.size 2 + 1 * k.val = _; rw [e2]; first | rfl | (show _ = _; simp) | (simp; done)

theorem wix1 : ∀ t : Fin grid0.N, win0_1.index t 0 * win0_1.size 0 = (bt t).val ∧ win0_1.index t 1 * win0_1.size 1 = 0 ∧ win0_1.index t 2 * win0_1.size 2 = 0 := by decide +kernel

/-- Input 1's block. -/
theorem in1 (c : Dev nD) (t : Fin cfg0.N) (k : Fin 1024) : (iblk m c 1 t : Vec Ideal S1x1x1024 .f32) (ix3 0 0 k) = a1 m c (ix3 (bt t) 0 ⟨2048 + k.val, by omega⟩) := by
  obtain ⟨e0, e1, e2⟩ := wix1 t
  refine Eq.trans (congrArg (V m c main_v2) (funext fun a => Fin.ext ?_ : _ = ix3 (bt t) 0 k)) (h_v2 m c (bt t) k)
  match a with
  | ⟨0, _⟩ => show win0_1.index t 0 * win0_1.size 0 + 1 * 0 = _; rw [e0]; first | rfl | (show _ = _; simp) | (simp; done)
  | ⟨1, _⟩ => show win0_1.index t 1 * win0_1.size 1 + 1 * 0 = _; rw [e1]; first | rfl | (show _ = _; simp) | (simp; done)
  | ⟨2, _⟩ => show win0_1.index t 2 * win0_1.size 2 + 1 * k.val = _; rw [e2]; first | rfl | (show _ = _; simp) | (simp; done)

theorem wix18 : ∀ t : Fin grid0.N, win0_18.index t 0 * win0_18.size 0 = (bt t).val ∧ win0_18.index t 1 * win0_18.size 1 = 0 ∧ win0_18.index t 2 * win0_18.size 2 = 0 := by decide +kernel

/-- Input 18's block. -/
theorem in18 (c : Dev nD) (t : Fin cfg0.N) (k : Fin 1024) : (iblk m c 18 t : Vec Ideal S1x1x1024 .f32) (ix3 0 0 k) = a1 m c (ix3 (bt t) 0 ⟨4096 + k.val, by omega⟩) := by
  obtain ⟨e0, e1, e2⟩ := wix18 t
  refine Eq.trans (congrArg (V m c main_v4) (funext fun a => Fin.ext ?_ : _ = ix3 (bt t) 0 k)) (h_v4 m c (bt t) k)
  match a with
  | ⟨0, _⟩ => show win0_18.index t 0 * win0_18.size 0 + 1 * 0 = _; rw [e0]; first | rfl | (show _ = _; simp) | (simp; done)
  | ⟨1, _⟩ => show win0_18.index t 1 * win0_18.size 1 + 1 * 0 = _; rw [e1]; first | rfl | (show _ = _; simp) | (simp; done)
  | ⟨2, _⟩ => show win0_18.index t 2 * win0_18.size 2 + 1 * k.val = _; rw [e2]; first | rfl | (show _ = _; simp) | (simp; done)

theorem wix19 : ∀ t : Fin grid0.N, win0_19.index t 0 * win0_19.size 0 = (bt t).val ∧ win0_19.index t 1 * win0_19.size 1 = 0 ∧ win0_19.index t 2 * win0_19.size 2 = 0 := by decide +kernel

/-- Input 19's block. -/
theorem in19 (c : Dev nD) (t : Fin cfg0.N) (k : Fin 1024) : (iblk m c 19 t : Vec Ideal S1x1x1024 .f32) (ix3 0 0 k) = a1 m c (ix3 (bt t) 0 ⟨3072 + k.val, by omega⟩) := by
  obtain ⟨e0, e1, e2⟩ := wix19 t
  refine Eq.trans (congrArg (V m c main_v3) (funext fun a => Fin.ext ?_ : _ = ix3 (bt t) 0 k)) (h_v3 m c (bt t) k)
  match a with
  | ⟨0, _⟩ => show win0_19.index t 0 * win0_19.size 0 + 1 * 0 = _; rw [e0]; first | rfl | (show _ = _; simp) | (simp; done)
  | ⟨1, _⟩ => show win0_19.index t 1 * win0_19.size 1 + 1 * 0 = _; rw [e1]; first | rfl | (show _ = _; simp) | (simp; done)
  | ⟨2, _⟩ => show win0_19.index t 2 * win0_19.size 2 + 1 * k.val = _; rw [e2]; first | rfl | (show _ = _; simp) | (simp; done)

theorem wix20 : ∀ t : Fin grid0.N, win0_20.index t 0 * win0_20.size 0 = (bt t).val ∧ win0_20.index t 1 * win0_20.size 1 = 0 ∧ win0_20.index t 2 * win0_20.size 2 = 0 := by decide +kernel

/-- Input 20's block. -/
theorem in20 (c : Dev nD) (t : Fin cfg0.N) (k : Fin 1024) : (iblk m c 20 t : Vec Ideal S1x1x1024 .f32) (ix3 0 0 k) = a1 m c (ix3 (bt t) 0 ⟨5120 + k.val, by omega⟩) := by
  obtain ⟨e0, e1, e2⟩ := wix20 t
  refine Eq.trans (congrArg (V m c main_v5) (funext fun a => Fin.ext ?_ : _ = ix3 (bt t) 0 k)) (h_v5 m c (bt t) k)
  match a with
  | ⟨0, _⟩ => show win0_20.index t 0 * win0_20.size 0 + 1 * 0 = _; rw [e0]; first | rfl | (show _ = _; simp) | (simp; done)
  | ⟨1, _⟩ => show win0_20.index t 1 * win0_20.size 1 + 1 * 0 = _; rw [e1]; first | rfl | (show _ = _; simp) | (simp; done)
  | ⟨2, _⟩ => show win0_20.index t 2 * win0_20.size 2 + 1 * k.val = _; rw [e2]; first | rfl | (show _ = _; simp) | (simp; done)

theorem wix2 : ∀ t : Fin grid0.N, win0_2.index t 0 * win0_2.size 0 = 0 ∧ win0_2.index t 1 * win0_2.size 1 = 0 := by decide +kernel

/-- Input 2's block. -/
theorem in2 (c : Dev nD) (t : Fin cfg0.N) (k : Fin 1024) : (iblk m c 2 t : Vec Ideal S1x1024 .f32) (ix2 0 k) = a15 m c (ix2 0 k) := by
  obtain ⟨e0, e1⟩ := wix2 t
  refine Eq.trans (congrArg (V m c main_v16) (funext fun a => Fin.ext ?_ : _ = ix2 0 k)) (h_v16 m c k)
  match a with
  | ⟨0, _⟩ => show win0_2.index t 0 * win0_2.size 0 + 1 * 0 = _; rw [e0]; first | rfl | (show _ = _; simp) | (simp; done)
  | ⟨1, _⟩ => show win0_2.index t 1 * win0_2.size 1 + 1 * k.val = _; rw [e1]; first | rfl | (show _ = _; simp) | (simp; done)

theorem wix17 : ∀ t : Fin grid0.N, win0_17.index t 0 * win0_17.size 0 = 0 ∧ win0_17.index t 1 * win0_17.size 1 = 0 := by decide +kernel

/-- Input 17's block. -/
theorem in17 (c : Dev nD) (t : Fin cfg0.N) (k : Fin 1024) : (iblk m c 17 t : Vec Ideal S1x1024 .f32) (ix2 0 k) = a17 m c (ix2 0 k) := by
  obtain ⟨e0, e1⟩ := wix17 t
  refine Eq.trans (congrArg (V m c main_v17) (funext fun a => Fin.ext ?_ : _ = ix2 0 k)) (h_v17 m c k)
  match a with
  | ⟨0, _⟩ => show win0_17.index t 0 * win0_17.size 0 + 1 * 0 = _; rw [e0]; first | rfl | (show _ = _; simp) | (simp; done)
  | ⟨1, _⟩ => show win0_17.index t 1 * win0_17.size 1 + 1 * k.val = _; rw [e1]; first | rfl | (show _ = _; simp) | (simp; done)

theorem wix21 : ∀ t : Fin grid0.N, win0_21.index t 0 * win0_21.size 0 = 0 ∧ win0_21.index t 1 * win0_21.size 1 = 0 := by decide +kernel

/-- Input 21's block. -/
theorem in21 (c : Dev nD) (t : Fin cfg0.N) (k : Fin 1024) : (iblk m c 21 t : Vec Ideal S1x1024 .f32) (ix2 0 k) = a18 m c (ix2 0 k) := by
  obtain ⟨e0, e1⟩ := wix21 t
  refine Eq.trans (congrArg (V m c main_v18) (funext fun a => Fin.ext ?_ : _ = ix2 0 k)) (h_v18 m c k)
  match a with
  | ⟨0, _⟩ => show win0_21.index t 0 * win0_21.size 0 + 1 * 0 = _; rw [e0]; first | rfl | (show _ = _; simp) | (simp; done)
  | ⟨1, _⟩ => show win0_21.index t 1 * win0_21.size 1 + 1 * k.val = _; rw [e1]; first | rfl | (show _ = _; simp) | (simp; done)

theorem wix16 : ∀ t : Fin grid0.N, win0_16.index t 0 * win0_16.size 0 = 0 ∧ win0_16.index t 1 * win0_16.size 1 = 0 := by decide +kernel

/-- Input 16's block. -/
theorem in16 (c : Dev nD) (t : Fin cfg0.N) (j : Fin 768) (k : Fin 1024) : (iblk m c 16 t : Vec Ideal S768x1024 .bf16) (ix2 j k) = a16 m c (ix2 j k) := by
  obtain ⟨e0, e1⟩ := wix16 t
  refine Eq.trans (congrArg (V m c main_v8) (funext fun a => Fin.ext ?_ : _ = ix2 j k)) (h_v8 m c j k)
  match a with
  | ⟨0, _⟩ => show win0_16.index t 0 * win0_16.size 0 + 1 * j.val = _; rw [e0]; first | rfl | (show _ = _; simp) | (simp; done)
  | ⟨1, _⟩ => show win0_16.index t 1 * win0_16.size 1 + 1 * k.val = _; rw [e1]; first | rfl | (show _ = _; simp) | (simp; done)

theorem wix22 : ∀ t : Fin grid0.N, win0_22.index t 0 * win0_22.size 0 = 0 ∧ win0_22.index t 1 * win0_22.size 1 = 0 ∧ win0_22.index t 2 * win0_22.size 2 = 0 := by decide +kernel

/-- Input 22's block. -/
theorem in22 (c : Dev nD) (t : Fin cfg0.N) (k : Fin 1024) (f : Fin 2816) : (iblk m c 22 t : Vec Ideal S1x1024x2816 .bf16) (ix3 0 k f) = a19 m c (ix3 0 k f) := by
  obtain ⟨e0, e1, e2⟩ := wix22 t
  refine Eq.trans (congrArg (V m c main_v13) (funext fun a => Fin.ext ?_ : _ = ix3 0 k f)) (h_v13 m c 0 k f)
  match a with
  | ⟨0, _⟩ => show win0_22.index t 0 * win0_22.size 0 + 1 * 0 = _; rw [e0]; first | rfl | (show _ = _; simp) | (simp; done)
  | ⟨1, _⟩ => show win0_22.index t 1 * win0_22.size 1 + 1 * k.val = _; rw [e1]; first | rfl | (show _ = _; simp) | (simp; done)
  | ⟨2, _⟩ => show win0_22.index t 2 * win0_22.size 2 + 1 * f.val = _; rw [e2]; first | rfl | (show _ = _; simp) | (simp; done)

theorem wix23 : ∀ t : Fin grid0.N, win0_23.index t 0 * win0_23.size 0 = 0 ∧ win0_23.index t 1 * win0_23.size 1 = 0 ∧ win0_23.index t 2 * win0_23.size 2 = 0 := by decide +kernel

/-- Input 23's block. -/
theorem in23 (c : Dev nD) (t : Fin cfg0.N) (k : Fin 1024) (f : Fin 2816) : (iblk m c 23 t : Vec Ideal S1x1024x2816 .bf16) (ix3 0 k f) = a20 m c (ix3 0 k f) := by
  obtain ⟨e0, e1, e2⟩ := wix23 t
  refine Eq.trans (congrArg (V m c main_v14) (funext fun a => Fin.ext ?_ : _ = ix3 0 k f)) (h_v14 m c 0 k f)
  match a with
  | ⟨0, _⟩ => show win0_23.index t 0 * win0_23.size 0 + 1 * 0 = _; rw [e0]; first | rfl | (show _ = _; simp) | (simp; done)
  | ⟨1, _⟩ => show win0_23.index t 1 * win0_23.size 1 + 1 * k.val = _; rw [e1]; first | rfl | (show _ = _; simp) | (simp; done)
  | ⟨2, _⟩ => show win0_23.index t 2 * win0_23.size 2 + 1 * f.val = _; rw [e2]; first | rfl | (show _ = _; simp) | (simp; done)

theorem wix24 : ∀ t : Fin grid0.N, win0_24.index t 0 * win0_24.size 0 = 0 ∧ win0_24.index t 1 * win0_24.size 1 = 0 ∧ win0_24.index t 2 * win0_24.size 2 = 0 := by decide +kernel

/-- Input 24's block. -/
theorem in24 (c : Dev nD) (t : Fin cfg0.N) (f : Fin 2816) (k : Fin 1024) : (iblk m c 24 t : Vec Ideal S1x2816x1024 .bf16) (ix3 0 f k) = a21 m c (ix3 0 f k) := by
  obtain ⟨e0, e1, e2⟩ := wix24 t
  refine Eq.trans (congrArg (V m c main_v15) (funext fun a => Fin.ext ?_ : _ = ix3 0 f k)) (h_v15 m c 0 f k)
  match a with
  | ⟨0, _⟩ => show win0_24.index t 0 * win0_24.size 0 + 1 * 0 = _; rw [e0]; first | rfl | (show _ = _; simp) | (simp; done)
  | ⟨1, _⟩ => show win0_24.index t 1 * win0_24.size 1 + 1 * f.val = _; rw [e1]; first | rfl | (show _ = _; simp) | (simp; done)
  | ⟨2, _⟩ => show win0_24.index t 2 * win0_24.size 2 + 1 * k.val = _; rw [e2]; first | rfl | (show _ = _; simp) | (simp; done)

end Cert.TailEvenBlk

end
-- ==== Proof.TailEvenOut.lean ====
module

public import proofs.«01_k».proof.Proof.TailEvenFrame
public import Idealize.ShloMosaic.Lib.Pipeline.ValueKit.Acc

/-!
What one step of the kernel after the even layer's mixers leaves in its block of the result.
-/

@[expose] public section

set_option maxRecDepth 16384

noncomputable section

namespace Cert.TailEvenOut

open Idealize.ShloMosaic Idealize.ShloMosaic.TcCoe Idealize.ShloMosaic.Tactic Idealize.SL.Sem Cert.TailEvenIdeal Cert.TailEvenIdeal.Gen

variable {F : FTy → Type} [FloatOps F]

/-- The first mixer's and the first two heads' output through their parts of the output projection. -/
def projT (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) : FVec F S512x1024 .f32 :=
  k0_pay11 (k0_pay1 (View.ld x3 (Rect.unit (s := S1x512x512) ![0, 0, 0] S1x512x512.size inb_S1x512x512_S1x512x512_0_0_0)) (View.ld x16 (Rect.unit (s := S768x1024) ![0, 0] S512x1024.size inb_S768x1024_S512x1024_0_0)))
    (k0_pay7 (View.ld x10 (Rect.unit (s := S1x512x128) ![0, 0, 0] S1x512x128.size inb_S1x512x128_S1x512x128_0_0_0)) (View.ld x11 (Rect.unit (s := S1x512x128) ![0, 0, 0] S1x512x128.size inb_S1x512x128_S1x512x128_0_0_0)) (View.ld x12 (Rect.unit (s := S1x512x128) ![0, 0, 0] S1x512x128.size inb_S1x512x128_S1x512x128_0_0_0))) (k0_pay8 (View.ld x10 (Rect.unit (s := S1x512x128) ![0, 0, 0] S1x512x128.size inb_S1x512x128_S1x512x128_0_0_0)) (View.ld x11 (Rect.unit (s := S1x512x128) ![0, 0, 0] S1x512x128.size inb_S1x512x128_S1x512x128_0_0_0)) (View.ld x12 (Rect.unit (s := S1x512x128) ![0, 0, 0] S1x512x128.size inb_S1x512x128_S1x512x128_0_0_0)))
    (k0_pay9 (View.ld x10 (Rect.unit (s := S1x512x128) ![0, 0, 0] S1x512x128.size inb_S1x512x128_S1x512x128_0_0_0)) (View.ld x11 (Rect.unit (s := S1x512x128) ![0, 0, 0] S1x512x128.size inb_S1x512x128_S1x512x128_0_0_0)) (View.ld x12 (Rect.unit (s := S1x512x128) ![0, 0, 0] S1x512x128.size inb_S1x512x128_S1x512x128_0_0_0)) (View.ld x4 (Rect.unit (s := S1x512x128) ![0, 0, 0] S1x512x128.size inb_S1x512x128_S1x512x128_0_0_0)) (View.ld x5 (Rect.unit (s := S1x512x128) ![0, 0, 0] S1x512x128.size inb_S1x512x128_S1x512x128_0_0_0)) (View.ld x6 (Rect.unit (s := S1x512x128) ![0, 0, 0] S1x512x128.size inb_S1x512x128_S1x512x128_0_0_0))) (k0_pay10 (View.ld x10 (Rect.unit (s := S1x512x128) ![0, 0, 0] S1x512x128.size inb_S1x512x128_S1x512x128_0_0_0)) (View.ld x11 (Rect.unit (s := S1x512x128) ![0, 0, 0] S1x512x128.size inb_S1x512x128_S1x512x128_0_0_0)) (View.ld x12 (Rect.unit (s := S1x512x128) ![0, 0, 0] S1x512x128.size inb_S1x512x128_S1x512x128_0_0_0))) (View.ld x16 (Rect.unit (s := S768x1024) ![512, 0] S128x1024.size inb_S768x1024_S128x1024_512_0))

/-- A block of 512 rows with the normalised output of the mixers added. -/
def mixT (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) : FVec F S512x1024 .f32 :=
  k0_pay21 (projT x3 x4 x5 x6 x7 x8 x9 x10 x11 x12 x13 x14 x15 x16) (k0_pay17 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0))) (k0_pay18 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0)))
    (k0_pay19 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0)) (View.ld x7 (Rect.unit (s := S1x512x128) ![0, 0, 0] S1x512x128.size inb_S1x512x128_S1x512x128_0_0_0)) (View.ld x8 (Rect.unit (s := S1x512x128) ![0, 0, 0] S1x512x128.size inb_S1x512x128_S1x512x128_0_0_0)) (View.ld x9 (Rect.unit (s := S1x512x128) ![0, 0, 0] S1x512x128.size inb_S1x512x128_S1x512x128_0_0_0))) (k0_pay20 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0))) (View.ld x16 (Rect.unit (s := S768x1024) ![640, 0] S128x1024.size inb_S768x1024_S128x1024_640_0))
    (View.ld x0 (Rect.unit (s := S1x512x1024) ![0, 0, 0] S1x512x1024.size inb_S1x512x1024_S1x512x1024_0_0_0)) (View.ld x1 (Rect.unit (s := S1x1x1024) ![0, 0, 0] S1x1x1024.size inb_S1x1x1024_S1x1x1024_0_0_0)) (View.ld x2 (Rect.unit (s := S1x1024) ![0, 0] S1x1024.size inb_S1x1024_S1x1024_0_0))

/-- The mean squares of that block's rows. -/
def sqT (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) : FVec F S512x1 .f32 :=
  k0_pay24 (projT x3 x4 x5 x6 x7 x8 x9 x10 x11 x12 x13 x14 x15 x16) (k0_pay17 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0))) (k0_pay18 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0)))
    (k0_pay19 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0)) (View.ld x7 (Rect.unit (s := S1x512x128) ![0, 0, 0] S1x512x128.size inb_S1x512x128_S1x512x128_0_0_0)) (View.ld x8 (Rect.unit (s := S1x512x128) ![0, 0, 0] S1x512x128.size inb_S1x512x128_S1x512x128_0_0_0)) (View.ld x9 (Rect.unit (s := S1x512x128) ![0, 0, 0] S1x512x128.size inb_S1x512x128_S1x512x128_0_0_0))) (k0_pay20 (View.ld x13 (Rect.unit (s := S1x512x128) ![0, 0, 0] S1x512x128.size inb_S1x512x128_S1x512x128_0_0_0)) (View.ld x14 (Rect.unit (s := S1x512x128) ![0, 0, 0] S1x512x128.size inb_S1x512x128_S1x512x128_0_0_0)) (View.ld x15 (Rect.unit (s := S1x512x128) ![0, 0, 0] S1x512x128.size inb_S1x512x128_S1x512x128_0_0_0))) (View.ld x16 (Rect.unit (s := S768x1024) ![640, 0] S128x1024.size inb_S768x1024_S128x1024_640_0))
    (View.ld x0 (Rect.unit (s := S1x512x1024) ![0, 0, 0] S1x512x1024.size inb_S1x512x1024_S1x512x1024_0_0_0)) (View.ld x1 (Rect.unit (s := S1x1x1024) ![0, 0, 0] S1x1x1024.size inb_S1x1x1024_S1x1x1024_0_0_0)) (View.ld x2 (Rect.unit (s := S1x1024) ![0, 0] S1x1024.size inb_S1x1024_S1x1024_0_0))

/-- The block the feed-forward reads. -/
def hidT (y : FVec F S512x1024 .f32) (q : FVec F S512x1 .f32) (x17 : Vec F S1x1024 .f32) (x18 x19 : Vec F S1x1x1024 .f32) : FVec F S512x1024 .bf16 :=
  k0_pay25 y (k0_pay23 (View.ld x17 (Rect.unit (s := S1x1024) ![0, 0] S1x1024.size inb_S1x1024_S1x1024_0_0))) q (View.ld x18 (Rect.unit (s := S1x1x1024) ![0, 0, 0] S1x1x1024.size inb_S1x1x1024_S1x1x1024_0_0_0)) (View.ld x19 (Rect.unit (s := S1x1x1024) ![0, 0, 0] S1x1x1024.size inb_S1x1x1024_S1x1x1024_0_0_0))

/-- The feed-forward of a block: its 2816 inner columns in parts of 512, and the last of 256. -/
def ffnT (h : FVec F S512x1024 .bf16) (x22 x23 : Vec F S1x1024x2816 .bf16) (x24 : Vec F S1x2816x1024 .bf16) : FVec F S512x1024 .f32 :=
  k0_pay40 (k0_pay35 h (View.ld x22 (Rect.unit (s := S1x1024x2816) ![0, 0, 2048] S1x1024x512.size inb_S1x1024x2816_S1x1024x512_0_0_2048))) (k0_pay36 h (View.ld x23 (Rect.unit (s := S1x1024x2816) ![0, 0, 2048] S1x1024x512.size inb_S1x1024x2816_S1x1024x512_0_0_2048)))
    (k0_pay37 (k0_pay30 h (View.ld x23 (Rect.unit (s := S1x1024x2816) ![0, 0, 1024] S1x1024x512.size inb_S1x1024x2816_S1x1024x512_0_0_1024)))
      (k0_pay31 (k0_pay27 h (View.ld x22 (Rect.unit (s := S1x1024x2816) ![0, 0, 512] S1x1024x512.size inb_S1x1024x2816_S1x1024x512_0_0_512))) (k0_pay28 h (View.ld x23 (Rect.unit (s := S1x1024x2816) ![0, 0, 512] S1x1024x512.size inb_S1x1024x2816_S1x1024x512_0_0_512)))
        (k0_pay29 h (View.ld x22 (Rect.unit (s := S1x1024x2816) ![0, 0, 0] S1x1024x512.size inb_S1x1024x2816_S1x1024x512_0_0_0)) (View.ld x23 (Rect.unit (s := S1x1024x2816) ![0, 0, 0] S1x1024x512.size inb_S1x1024x2816_S1x1024x512_0_0_0))
          (View.ld x24 (Rect.unit (s := S1x2816x1024) ![0, 0, 0] S1x512x1024.size inb_S1x2816x1024_S1x512x1024_0_0_0)))
        (View.ld x24 (Rect.unit (s := S1x2816x1024) ![0, 512, 0] S1x512x1024.size inb_S1x2816x1024_S1x512x1024_0_512_0)))
      (k0_pay32 h (View.ld x22 (Rect.unit (s := S1x1024x2816) ![0, 0, 1536] S1x1024x512.size inb_S1x1024x2816_S1x1024x512_0_0_1536))) (k0_pay33 h (View.ld x23 (Rect.unit (s := S1x1024x2816) ![0, 0, 1536] S1x1024x512.size inb_S1x1024x2816_S1x1024x512_0_0_1536)))
      (k0_pay34 h (View.ld x22 (Rect.unit (s := S1x1024x2816) ![0, 0, 1024] S1x1024x512.size inb_S1x1024x2816_S1x1024x512_0_0_1024))) (View.ld x24 (Rect.unit (s := S1x2816x1024) ![0, 1024, 0] S1x512x1024.size inb_S1x2816x1024_S1x512x1024_0_1024_0)) (View.ld x24 (Rect.unit (s := S1x2816x1024) ![0, 1536, 0] S1x512x1024.size inb_S1x2816x1024_S1x512x1024_0_1536_0)))
    (k0_pay38 h (View.ld x22 (Rect.unit (s := S1x1024x2816) ![0, 0, 2560] S1x1024x256.size inb_S1x1024x2816_S1x1024x256_0_0_2560))) (k0_pay39 h (View.ld x23 (Rect.unit (s := S1x1024x2816) ![0, 0, 2560] S1x1024x256.size inb_S1x1024x2816_S1x1024x256_0_0_2560)))
    (Scalar.ofBits .f32 0x00000000#32) (View.ld x24 (Rect.unit (s := S1x2816x1024) ![0, 2048, 0] S1x512x1024.size inb_S1x2816x1024_S1x512x1024_0_2048_0)) (View.ld x24 (Rect.unit (s := S1x2816x1024) ![0, 2560, 0] S1x256x1024.size inb_S1x2816x1024_S1x256x1024_0_2560_0)) k0_pay26

/-- The block of the result: the feed-forward's output normalised, gated and added. -/
def outT (y s : FVec F S512x1024 .f32) (x20 : Vec F S1x1x1024 .f32) (x21 : Vec F S1x1024 .f32) : FVec F S1x512x1024 .f32 :=
  k0_pay41 y (View.ld x20 (Rect.unit (s := S1x1x1024) ![0, 0, 0] S1x1x1024.size inb_S1x1x1024_S1x1x1024_0_0_0)) s (View.ld x21 (Rect.unit (s := S1x1024) ![0, 0] S1x1024.size inb_S1x1024_S1x1024_0_0))

theorem z2 : ∀ a : Fin 2, (![0, 0] : Fin 2 → ℕ) a = 0 := by decide

/-- What one step leaves in its block of the result. -/
theorem out_eq (c : Dev nD) (i : grid0.Coords) (arg3 : Memref sig .tc .vmem S1x512x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x512x512 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S768x1024 .bf16) (harg19 : arg19.IsWhole) (arg20 : Memref sig .tc .vmem S1x1024 .f32) (harg20 : arg20.IsWhole) (arg21 : Memref sig .tc .vmem S1x1x1024 .f32) (harg21 : arg21.IsWhole) (arg22 : Memref sig .tc .vmem S1x1x1024 .f32) (harg22 : arg22.IsWhole) (arg23 : Memref sig .tc .vmem S1x1x1024 .f32) (harg23 : arg23.IsWhole) (arg24 : Memref sig .tc .vmem S1x1024 .f32) (harg24 : arg24.IsWhole) (arg25 : Memref sig .tc .vmem S1x1024x2816 .bf16) (harg25 : arg25.IsWhole) (arg26 : Memref sig .tc .vmem S1x1024x2816 .bf16) (harg26 : arg26.IsWhole) (arg27 : Memref sig .tc .vmem S1x2816x1024 .bf16) (harg27 : arg27.IsWhole) (arg28 : Memref sig .tc .vmem S1x512x1024 .f32) (harg28 : arg28.IsWhole) (arg29 : Memref sig .tc .vmem S512x1024 .f32) (harg29 : arg29.IsWhole) (arg30 : Memref sig .tc .vmem S512x1024 .bf16) (harg30 : arg30.IsWhole) (arg31 : Memref sig .tc .vmem S512x1024 .f32) (harg31 : arg31.IsWhole) (hc0 : cond0_0 i) (hc1 : cond0_1 i)
    (x0 : Vec F S1x512x1024 .f32) (x1 : Vec F S1x1x1024 .f32) (x2 : Vec F S1x1024 .f32) (x3 : Vec F S1x512x512 .bf16) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S768x1024 .bf16) (x17 : Vec F S1x1024 .f32) (x18 : Vec F S1x1x1024 .f32) (x19 : Vec F S1x1x1024 .f32) (x20 : Vec F S1x1x1024 .f32) (x21 : Vec F S1x1024 .f32) (x22 : Vec F S1x1024x2816 .bf16) (x23 : Vec F S1x1024x2816 .bf16) (x24 : Vec F S1x2816x1024 .bf16) :
    out0_A_25 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 x24
      = outT (mixT x0 x1 x2 x3 x4 x5 x6 x7 x8 x9 x10 x11 x12 x13 x14 x15 x16) (ffnT (hidT (mixT x0 x1 x2 x3 x4 x5 x6 x7 x8 x9 x10 x11 x12 x13 x14 x15 x16) (sqT x0 x1 x2 x3 x4 x5 x6 x7 x8 x9 x10 x11 x12 x13 x14 x15 x16) x17 x18 x19) x22 x23 x24) x20 x21 := by
  unfold out0_A_25
  rw [View.read_writes_eq_canon _ _ _ (cover0_A_25 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17 x18 x19 x20 x21 x22 x23 x24)]
  unfold kernelRun0_A
  dsimp only
  sl_unfold_words
  rw [View.canon_cons_unit_zero (S := S1x512x1024) (by decide)]
  simp only [View.readCov_unit_lit' (S := S512x1024) _ _ _ z2, View.readCov_cons_unit_lit' (S := S512x1024) _ _ _ _ _ z2 z2,
    View.readAt_eq_ld, Memref.IsWhole.read_unread, *]
  unfold k0_pay22
  simp only [shapeCast_self]
  rfl

end Cert.TailEvenOut

end
-- ==== Proof.TailMerge.lean ====
module

public import proofs.«01_k».proof.Proof.TailSpec

/-!
Merging three groups' attention outputs by the logarithms of their sums: the exponentials' weighted sum over their sum,
and the same as a sum of the outputs each under its own quotient.
-/

@[expose] public section

set_option maxRecDepth 16384

noncomputable section

namespace Cert.TailMerge

open Idealize.ShloMosaic

/-- The outputs, each times the exponential of its logarithm less the greatest, over the sum of the exponentials. -/
def merge (l0 l1 l2 o0 o1 o2 : EReal) : EReal :=
  Ideal.div ((Ideal.exp (l0 - max (max l0 l1) l2) * o0 + Ideal.exp (l1 - max (max l0 l1) l2) * o1) + Ideal.exp (l2 - max (max l0 l1) l2) * o2)
    ((Ideal.exp (l0 - max (max l0 l1) l2) + Ideal.exp (l1 - max (max l0 l1) l2)) + Ideal.exp (l2 - max (max l0 l1) l2))

/-- The weight of one group: its exponential over the sum of the exponentials. -/
def weight (l l0 l1 l2 : EReal) : EReal :=
  Ideal.div (Ideal.exp (l - max (max l0 l1) l2)) ((Ideal.exp (l0 - max (max l0 l1) l2) + Ideal.exp (l1 - max (max l0 l1) l2)) + Ideal.exp (l2 - max (max l0 l1) l2))

/-- The outputs, each under its own weight. -/
def wsum (l0 l1 l2 o0 o1 o2 : EReal) : EReal := (weight l0 l0 l1 l2 * o0 + weight l1 l0 l1 l2 * o1) + weight l2 l0 l1 l2 * o2

/-- The greatest of three. -/
def max3 (a b c : EReal) : EReal := max (max a b) c
/-- A sum of three products. -/
def dot3 (f g : Fin 3 → EReal) : EReal := ∑ k, f k * g k
/-- The softmax of three numbers, their greatest given. -/
def soft (f : Fin 3 → EReal) (m : EReal) (g : Fin 3) : EReal :=
  Ideal.div (Ideal.exp (f g - max (Ideal.ofBits .f32 0xFF800000#32) m)) (∑ x, Ideal.exp (f x - max (Ideal.ofBits .f32 0xFF800000#32) m))

/-- The least pattern is the least number. -/
theorem neg_inf : Ideal.ofBits .f32 0xFF800000#32 = (⊥ : EReal) := rfl

/-- The greatest of three numbers, folded. -/
theorem fold_three (f : Fin 3 → EReal) : Finset.univ.fold max ⊥ f = max3 (f 0) (f 1) (f 2) := by
  show max (f 0) (max (f 1) (max (f 2) ⊥)) = max (max (f 0) (f 1)) (f 2)
  rw [max_bot_right, max_assoc]

/-- The softmax's weighted sum of three outputs. -/
theorem dot3_soft (f o : Fin 3 → EReal) : dot3 (fun g => soft f (max3 (f 0) (f 1) (f 2)) g) o = wsum (f 0) (f 1) (f 2) (o 0) (o 1) (o 2) := by
  unfold dot3 soft max3 wsum weight
  rw [neg_inf, max_bot_left, Fin.sum_univ_three, Fin.sum_univ_three]

/-- A number less a real one that is no smaller has a real exponential between nought and one. -/
theorem exp_sub {l : EReal} {m : ℝ} (h : l ≤ (m : EReal)) : ∃ e : ℝ, 0 ≤ e ∧ Ideal.exp (l - (m : EReal)) = (e : EReal) := by
  induction l with
  | bot => exact ⟨0, le_refl _, by rw [EReal.bot_sub]; rfl⟩
  | top => simp at h
  | coe x => exact ⟨Real.exp (x - m), (Real.exp_pos _).le, by rw [← EReal.coe_sub]; rfl⟩

/-- A real number less itself has exponential one. -/
theorem exp_self (m : ℝ) : Ideal.exp ((m : EReal) - (m : EReal)) = ((1 : ℝ) : EReal) := by
  rw [← EReal.coe_sub, sub_self]
  show ((Real.exp 0 : ℝ) : EReal) = _
  rw [Real.exp_zero]

/-- Where the greatest logarithm is a real number, the two forms of the merge agree. -/
theorem merge_eq (l0 l1 l2 o0 o1 o2 : EReal) (h : ∃ m : ℝ, max (max l0 l1) l2 = (m : EReal)) :
    merge l0 l1 l2 o0 o1 o2 = wsum l0 l1 l2 o0 o1 o2 := by
  obtain ⟨m, hm⟩ := h
  have b0 : l0 ≤ (m : EReal) := hm ▸ le_trans (le_max_left _ _) (le_max_left _ _)
  have b1 : l1 ≤ (m : EReal) := hm ▸ le_trans (le_max_right _ _) (le_max_left _ _)
  have b2 : l2 ≤ (m : EReal) := hm ▸ le_max_right _ _
  obtain ⟨e0, p0, q0⟩ := exp_sub b0
  obtain ⟨e1, p1, q1⟩ := exp_sub b1
  obtain ⟨e2, p2, q2⟩ := exp_sub b2
  have s : e0 + e1 + e2 ≠ 0 := by
    have one : ∀ {l : EReal} {e : ℝ}, l = (m : EReal) → Ideal.exp (l - (m : EReal)) = (e : EReal) → e = 1 := fun hl he => by
      rw [hl, exp_self] at he
      exact (EReal.coe_injective he).symm
    rcases max_choice (max l0 l1) l2 with h | h
    · rcases max_choice l0 l1 with h' | h'
      · have := one (by rw [← hm, h, h']) q0
        intro hs
        linarith
      · have := one (by rw [← hm, h, h']) q1
        intro hs
        linarith
    · have := one (by rw [← hm, h]) q2
      intro hs
      linarith
  have hs : (e0 : EReal) + (e1 : EReal) + (e2 : EReal) = ((e0 + e1 + e2 : ℝ) : EReal) := by push_cast; rfl
  unfold merge wsum weight
  rw [hm, q0, q1, q2, hs]
  simp only [Ideal.div_coe s]
  have t0 : 0 ≤ 1 / (e0 + e1 + e2) := by positivity
  generalize 1 / (e0 + e1 + e2) = t at t0 ⊢
  have d : ∀ a b : EReal, (a + b) * (t : EReal) = a * (t : EReal) + b * (t : EReal) := fun a b =>
    EReal.right_distrib_of_nonneg_of_ne_top (by exact_mod_cast t0) (EReal.coe_ne_top t) a b
  rw [d, d]
  simp only [mul_right_comm]

/-- The mixers' outputs through the output projection: the first mixer's 512 columns, and two heads' 128 columns twice. -/
def proj (a : Fin 512 → EReal) (b0 b1 : Fin 128 → EReal) (w : Fin 768 → Fin 1024 → EReal) : TailSpec.Row := fun c =>
  (TailSpec.dot512 a (fun k => w ⟨k.val, by omega⟩ c) + ∑ k : Fin 128, b0 k * w ⟨512 + k.val, by omega⟩ c) + ∑ k : Fin 128, b1 k * w ⟨640 + k.val, by omega⟩ c

/-- A sum over 768 numbers is the sum of its first 512, the next 128 and the last 128. -/
theorem sum_three (f : Fin 768 → EReal) : ∑ k, f k =
    ((∑ k : Fin 512, f ⟨k.val, by omega⟩) + ∑ k : Fin 128, f ⟨512 + k.val, by omega⟩) + ∑ k : Fin 128, f ⟨640 + k.val, by omega⟩ := by
  rw [← Fin.sum_congr' f (show 512 + 128 + 128 = 768 from rfl)]
  simp only [Fin.sum_univ_add]
  rfl

end Cert.TailMerge

end
-- ==== Proof.TailEvenRow.lean ====
module

public import proofs.«01_k».proof.Proof.Gen.TailEvenIdeal.Skeleton
public import proofs.«01_k».proof.Proof.TailMerge

/-!
What the parts of the kernel after the even layer's mixers compute, at one row and one column of a block of 512 rows.
-/

@[expose] public section

set_option maxRecDepth 16384

noncomputable section

namespace Cert.TailEvenRow

open Idealize.ShloMosaic Cert.TailEvenIdeal Cert.TailEvenIdeal.Gen Cert.TailSpec

/-- The first mixer's output through its part of the output projection. -/
theorem pay1_apply (a : Vec Ideal S1x512x512 .bf16) (w : Vec Ideal S512x1024 .bf16) (r : Fin 512) (c : Fin 1024) :
    k0_pay1 (F := Ideal) a w (ix2 r c) = ∑ k : Fin 512, a (ix3 0 r k) * w (ix2 k c) := by
  pointwise [k0_pay1]

/-- The first two heads: the exponential of the second group's logarithm less the greatest of the three. -/
theorem pay7_apply (l0 l1 l2 : Vec Ideal S1x512x128 .f32) (r : Fin 512) (k : Fin 128) :
    k0_pay7 (F := Ideal) l0 l1 l2 (ix2 r k) = Ideal.exp (l1 (ix3 0 r k) - (max (max (l0 (ix3 0 r k)) (l1 (ix3 0 r k))) (l2 (ix3 0 r k)))) := by
  pointwise [k0_pay2, k0_pay3, k0_pay4, k0_pay5, k0_pay6, k0_pay7, k0_pay8, k0_pay9, k0_pay10]

/-- The first two heads: the exponential of the third group's logarithm less the greatest of the three. -/
theorem pay8_apply (l0 l1 l2 : Vec Ideal S1x512x128 .f32) (r : Fin 512) (k : Fin 128) :
    k0_pay8 (F := Ideal) l0 l1 l2 (ix2 r k) = Ideal.exp (l2 (ix3 0 r k) - (max (max (l0 (ix3 0 r k)) (l1 (ix3 0 r k))) (l2 (ix3 0 r k)))) := by
  pointwise [k0_pay2, k0_pay3, k0_pay4, k0_pay5, k0_pay6, k0_pay7, k0_pay8, k0_pay9, k0_pay10]

/-- The first two heads: the exponential of the first group's logarithm less the greatest of the three. -/
theorem pay10_apply (l0 l1 l2 : Vec Ideal S1x512x128 .f32) (r : Fin 512) (k : Fin 128) :
    k0_pay10 (F := Ideal) l0 l1 l2 (ix2 r k) = Ideal.exp (l0 (ix3 0 r k) - (max (max (l0 (ix3 0 r k)) (l1 (ix3 0 r k))) (l2 (ix3 0 r k)))) := by
  pointwise [k0_pay2, k0_pay3, k0_pay4, k0_pay5, k0_pay6, k0_pay7, k0_pay8, k0_pay9, k0_pay10]

/-- The first two heads: the groups' outputs, each times its exponential. -/
theorem pay9_apply (l0 l1 l2 o0 o1 o2 : Vec Ideal S1x512x128 .f32) (r : Fin 512) (k : Fin 128) :
    k0_pay9 (F := Ideal) l0 l1 l2 o0 o1 o2 (ix2 r k) = (Ideal.exp (l0 (ix3 0 r k) - (max (max (l0 (ix3 0 r k)) (l1 (ix3 0 r k))) (l2 (ix3 0 r k)))) * o0 (ix3 0 r k)
      + Ideal.exp (l1 (ix3 0 r k) - (max (max (l0 (ix3 0 r k)) (l1 (ix3 0 r k))) (l2 (ix3 0 r k)))) * o1 (ix3 0 r k)) + Ideal.exp (l2 (ix3 0 r k) - (max (max (l0 (ix3 0 r k)) (l1 (ix3 0 r k))) (l2 (ix3 0 r k)))) * o2 (ix3 0 r k) := by
  pointwise [k0_pay2, k0_pay3, k0_pay4, k0_pay5, k0_pay6, k0_pay7, k0_pay8, k0_pay9, k0_pay10]

/-- The second two heads: the exponential of the second group's logarithm less the greatest of the three. -/
theorem pay17_apply (l0 l1 l2 : Vec Ideal S1x512x128 .f32) (r : Fin 512) (k : Fin 128) :
    k0_pay17 (F := Ideal) l0 l1 l2 (ix2 r k) = Ideal.exp (l1 (ix3 0 r k) - (max (max (l0 (ix3 0 r k)) (l1 (ix3 0 r k))) (l2 (ix3 0 r k)))) := by
  pointwise [k0_pay12, k0_pay13, k0_pay14, k0_pay15, k0_pay16, k0_pay17, k0_pay18, k0_pay19, k0_pay20]

/-- The second two heads: the exponential of the third group's logarithm less the greatest of the three. -/
theorem pay18_apply (l0 l1 l2 : Vec Ideal S1x512x128 .f32) (r : Fin 512) (k : Fin 128) :
    k0_pay18 (F := Ideal) l0 l1 l2 (ix2 r k) = Ideal.exp (l2 (ix3 0 r k) - (max (max (l0 (ix3 0 r k)) (l1 (ix3 0 r k))) (l2 (ix3 0 r k)))) := by
  pointwise [k0_pay12, k0_pay13, k0_pay14, k0_pay15, k0_pay16, k0_pay17, k0_pay18, k0_pay19, k0_pay20]

/-- The second two heads: the exponential of the first group's logarithm less the greatest of the three. -/
theorem pay20_apply (l0 l1 l2 : Vec Ideal S1x512x128 .f32) (r : Fin 512) (k : Fin 128) :
    k0_pay20 (F := Ideal) l0 l1 l2 (ix2 r k) = Ideal.exp (l0 (ix3 0 r k) - (max (max (l0 (ix3 0 r k)) (l1 (ix3 0 r k))) (l2 (ix3 0 r k)))) := by
  pointwise [k0_pay12, k0_pay13, k0_pay14, k0_pay15, k0_pay16, k0_pay17, k0_pay18, k0_pay19, k0_pay20]

/-- The second two heads: the groups' outputs, each times its exponential. -/
theorem pay19_apply (l0 l1 l2 o0 o1 o2 : Vec Ideal S1x512x128 .f32) (r : Fin 512) (k : Fin 128) :
    k0_pay19 (F := Ideal) l0 l1 l2 o0 o1 o2 (ix2 r k) = (Ideal.exp (l0 (ix3 0 r k) - (max (max (l0 (ix3 0 r k)) (l1 (ix3 0 r k))) (l2 (ix3 0 r k)))) * o0 (ix3 0 r k)
      + Ideal.exp (l1 (ix3 0 r k) - (max (max (l0 (ix3 0 r k)) (l1 (ix3 0 r k))) (l2 (ix3 0 r k)))) * o1 (ix3 0 r k)) + Ideal.exp (l2 (ix3 0 r k) - (max (max (l0 (ix3 0 r k)) (l1 (ix3 0 r k))) (l2 (ix3 0 r k)))) * o2 (ix3 0 r k) := by
  pointwise [k0_pay12, k0_pay13, k0_pay14, k0_pay15, k0_pay16, k0_pay17, k0_pay18, k0_pay19, k0_pay20]

/-- The first two heads' merged output through its part of the output projection, added to the sum so far. -/
theorem pay11_apply (y : FVec Ideal S512x1024 .f32) (e1 e2 n e0 : FVec Ideal S512x128 .f32) (w : Vec Ideal S128x1024 .bf16) (r : Fin 512) (c : Fin 1024) :
    k0_pay11 (F := Ideal) y e1 e2 n e0 w (ix2 r c) = y (ix2 r c) + ∑ k : Fin 128, Ideal.div (n (ix2 r k)) ((e0 (ix2 r k) + e1 (ix2 r k)) + e2 (ix2 r k)) * w (ix2 k c) := by
  pointwise [k0_pay11]

/-- The second two heads' likewise, and the whole normalised, gated and added to the layer's input. -/
theorem pay21_apply (y : FVec Ideal S512x1024 .f32) (e1 e2 n e0 : FVec Ideal S512x128 .f32) (w : Vec Ideal S128x1024 .bf16)
    (x : Vec Ideal S1x512x1024 .f32) (g1 : Vec Ideal S1x1x1024 .f32) (gpm : Vec Ideal S1x1024 .f32) (r : Fin 512) (c : Fin 1024) :
    k0_pay21 (F := Ideal) y e1 e2 n e0 w x g1 gpm (ix2 r c) = mix (fun c => x (ix3 0 r c)) (fun c => g1 (ix3 0 0 c))
      (fun c => y (ix2 r c) + ∑ k : Fin 128, Ideal.div (n (ix2 r k)) ((e0 (ix2 r k) + e1 (ix2 r k)) + e2 (ix2 r k)) * w (ix2 k c)) (fun c => gpm (ix2 0 c)) c := by
  pointwise [k0_pay21]
  rfl

/-- The mean square of the row before the feed-forward. -/
theorem pay24_apply (y : FVec Ideal S512x1024 .f32) (e1 e2 n e0 : FVec Ideal S512x128 .f32) (w : Vec Ideal S128x1024 .bf16)
    (x : Vec Ideal S1x512x1024 .f32) (g1 : Vec Ideal S1x1x1024 .f32) (gpm : Vec Ideal S1x1024 .f32) (r : Fin 512) :
    k0_pay24 (F := Ideal) y e1 e2 n e0 w x g1 gpm (ix2 r 0) = Ideal.div (∑ k : Fin 1024, k0_pay21 (F := Ideal) y e1 e2 n e0 w x g1 gpm (ix2 r k) * k0_pay21 (F := Ideal) y e1 e2 n e0 w x g1 gpm (ix2 r k))
      (Ideal.ofBits .f32 0x44800000#32) := by
  unfold k0_pay24
  generalize k0_pay21 (F := Ideal) y e1 e2 n e0 w x g1 gpm = z
  pointwise []

/-- The row the feed-forward reads. -/
theorem pay25_apply (x : FVec Ideal S512x1024 .f32) (gpre : Vec Ideal S1x1024 .f32) (q : FVec Ideal S512x1 .f32) (sc sh : Vec Ideal S1x1x1024 .f32)
    (r : Fin 512) (c : Fin 1024) (hq : q (ix2 r 0) = Ideal.div (∑ k : Fin 1024, x (ix2 r k) * x (ix2 r k)) (Ideal.ofBits .f32 0x44800000#32)) :
    k0_pay25 (F := Ideal) x (k0_pay23 gpre) q sc sh (ix2 r c) = hid (fun c => x (ix2 r c)) (fun c => gpre (ix2 0 c)) (fun c => sc (ix3 0 0 c)) (fun c => sh (ix3 0 0 c)) c := by
  pointwise [k0_pay25, k0_pay23]
  rw [hq]
  rfl

/-- The sum starts at nought. -/
theorem pay26_apply (r : Fin 512) (c : Fin 1024) : k0_pay26 (F := Ideal) (ix2 r c) = 0 := by
  pointwise [k0_pay26]

/-- A product with 512 of the feed-forward's inner columns. -/
theorem pay27_apply (h : Vec Ideal S512x1024 .bf16) (w : Vec Ideal S1x1024x512 .bf16) (r : Fin 512) (f : Fin 512) :
    k0_pay27 (F := Ideal) h w (ix2 r f) = ∑ k : Fin 1024, h (ix2 r k) * w (ix3 0 k f) := by
  pointwise [k0_pay27]

/-- A product with 512 of the feed-forward's inner columns. -/
theorem pay28_apply (h : Vec Ideal S512x1024 .bf16) (w : Vec Ideal S1x1024x512 .bf16) (r : Fin 512) (f : Fin 512) :
    k0_pay28 (F := Ideal) h w (ix2 r f) = ∑ k : Fin 1024, h (ix2 r k) * w (ix3 0 k f) := by
  pointwise [k0_pay28]

/-- A product with 512 of the feed-forward's inner columns. -/
theorem pay30_apply (h : Vec Ideal S512x1024 .bf16) (w : Vec Ideal S1x1024x512 .bf16) (r : Fin 512) (f : Fin 512) :
    k0_pay30 (F := Ideal) h w (ix2 r f) = ∑ k : Fin 1024, h (ix2 r k) * w (ix3 0 k f) := by
  pointwise [k0_pay30]

/-- A product with 512 of the feed-forward's inner columns. -/
theorem pay32_apply (h : Vec Ideal S512x1024 .bf16) (w : Vec Ideal S1x1024x512 .bf16) (r : Fin 512) (f : Fin 512) :
    k0_pay32 (F := Ideal) h w (ix2 r f) = ∑ k : Fin 1024, h (ix2 r k) * w (ix3 0 k f) := by
  pointwise [k0_pay32]

/-- A product with 512 of the feed-forward's inner columns. -/
theorem pay33_apply (h : Vec Ideal S512x1024 .bf16) (w : Vec Ideal S1x1024x512 .bf16) (r : Fin 512) (f : Fin 512) :
    k0_pay33 (F := Ideal) h w (ix2 r f) = ∑ k : Fin 1024, h (ix2 r k) * w (ix3 0 k f) := by
  pointwise [k0_pay33]

/-- A product with 512 of the feed-forward's inner columns. -/
theorem pay35_apply (h : Vec Ideal S512x1024 .bf16) (w : Vec Ideal S1x1024x512 .bf16) (r : Fin 512) (f : Fin 512) :
    k0_pay35 (F := Ideal) h w (ix2 r f) = ∑ k : Fin 1024, h (ix2 r k) * w (ix3 0 k f) := by
  pointwise [k0_pay35]

/-- A product with 512 of the feed-forward's inner columns. -/
theorem pay36_apply (h : Vec Ideal S512x1024 .bf16) (w : Vec Ideal S1x1024x512 .bf16) (r : Fin 512) (f : Fin 512) :
    k0_pay36 (F := Ideal) h w (ix2 r f) = ∑ k : Fin 1024, h (ix2 r k) * w (ix3 0 k f) := by
  pointwise [k0_pay36]

/-- A product with 256 of the feed-forward's inner columns. -/
theorem pay38_apply (h : Vec Ideal S512x1024 .bf16) (w : Vec Ideal S1x1024x256 .bf16) (r : Fin 512) (f : Fin 256) :
    k0_pay38 (F := Ideal) h w (ix2 r f) = ∑ k : Fin 1024, h (ix2 r k) * w (ix3 0 k f) := by
  pointwise [k0_pay38]

/-- A product with 256 of the feed-forward's inner columns. -/
theorem pay39_apply (h : Vec Ideal S512x1024 .bf16) (w : Vec Ideal S1x1024x256 .bf16) (r : Fin 512) (f : Fin 256) :
    k0_pay39 (F := Ideal) h w (ix2 r f) = ∑ k : Fin 1024, h (ix2 r k) * w (ix3 0 k f) := by
  pointwise [k0_pay39]

/-- The first 512 inner columns: the product's logistic-weighted gate, times the other product, through the last product. -/
theorem pay29_apply (h : Vec Ideal S512x1024 .bf16) (w u : Vec Ideal S1x1024x512 .bf16) (d : Vec Ideal S1x512x1024 .bf16) (r : Fin 512) (c : Fin 1024) :
    k0_pay29 (F := Ideal) h w u d (ix2 r c) = ∑ f : Fin 512, act (fun k => h (ix2 r k)) (fun k => w (ix3 0 k f)) (fun k => u (ix3 0 k f)) * d (ix3 0 f c) := by
  pointwise [k0_pay29]
  simp only [zero_sub]
  rfl

/-- The second 512 inner columns, added to the first. -/
theorem pay31_apply (a b : FVec Ideal S512x512 .f32) (s : FVec Ideal S512x1024 .f32) (d : Vec Ideal S1x512x1024 .bf16) (r : Fin 512) (c : Fin 1024) :
    k0_pay31 (F := Ideal) a b s d (ix2 r c) = s (ix2 r c) + ∑ f : Fin 512, silu (a (ix2 r f)) * b (ix2 r f) * d (ix3 0 f c) := by
  pointwise [k0_pay31]
  simp only [zero_sub]
  rfl

/-- A gate of the third 512 inner columns. -/
theorem pay34_apply (h : Vec Ideal S512x1024 .bf16) (w : Vec Ideal S1x1024x512 .bf16) (r : Fin 512) (f : Fin 512) :
    k0_pay34 (F := Ideal) h w (ix2 r f) = silu (∑ k : Fin 1024, h (ix2 r k) * w (ix3 0 k f)) := by
  pointwise [k0_pay34]
  simp only [zero_sub]
  rfl

/-- The third and the fourth 512 inner columns, added to the ones before. -/
theorem pay37_apply (b : FVec Ideal S512x512 .f32) (s : FVec Ideal S512x1024 .f32) (a' b' g : FVec Ideal S512x512 .f32) (d d' : Vec Ideal S1x512x1024 .bf16)
    (r : Fin 512) (c : Fin 1024) :
    k0_pay37 (F := Ideal) b s a' b' g d d' (ix2 r c) = (s (ix2 r c) + ∑ f : Fin 512, g (ix2 r f) * b (ix2 r f) * d (ix3 0 f c))
      + ∑ f : Fin 512, silu (a' (ix2 r f)) * b' (ix2 r f) * d' (ix3 0 f c) := by
  pointwise [k0_pay37]
  simp only [zero_sub]
  rfl

/-- The fifth 512 inner columns and the last 256, added to the ones before, and the whole to the sum so far. -/
theorem pay40_apply (a b : FVec Ideal S512x512 .f32) (s : FVec Ideal S512x1024 .f32) (a' b' : FVec Ideal S512x256 .f32) (d : Vec Ideal S1x512x1024 .bf16)
    (d' : Vec Ideal S1x256x1024 .bf16) (t : Vec Ideal S512x1024 .f32) (r : Fin 512) (c : Fin 1024) :
    k0_pay40 (F := Ideal) a b s a' b' (Scalar.ofBits .f32 0x00000000#32) d d' t (ix2 r c) = t (ix2 r c) + ((s (ix2 r c) + ∑ f : Fin 512, silu (a (ix2 r f)) * b (ix2 r f) * d (ix3 0 f c))
      + ∑ f : Fin 256, silu (a' (ix2 r f)) * b' (ix2 r f) * d' (ix3 0 f c)) := by
  pointwise [k0_pay40]
  simp only [zero_sub]
  rfl

/-- The feed-forward's output, normalised, gated and added to the row it read. -/
theorem pay41_apply (x : Vec Ideal S512x1024 .f32) (g2 : Vec Ideal S1x1x1024 .f32) (s : Vec Ideal S512x1024 .f32) (gpf : Vec Ideal S1x1024 .f32) (r : Fin 512) (c : Fin 1024) :
    k0_pay41 (F := Ideal) x g2 s gpf (ix3 0 r c) = mix (fun c => x (ix2 r c)) (fun c => g2 (ix3 0 0 c)) (fun c => s (ix2 r c)) (fun c => gpf (ix2 0 c)) c := by
  pointwise [k0_pay41]
  rfl

end Cert.TailEvenRow

end
-- ==== Proof.TailEvenFinal.lean ====
module

public import proofs.«01_k».proof.Proof.TailEvenValue
public import proofs.«01_k».proof.Proof.TailEvenBlk
public import proofs.«01_k».proof.Proof.TailEvenOut
public import proofs.«01_k».proof.Proof.TailEvenRow

/-!
What the kernel after the even layer's mixers leaves in its result: the layer after its mixers, position by position.
-/

@[expose] public section

set_option maxRecDepth 16384

noncomputable section

namespace Cert.TailEvenFinal

open Idealize.ShloMosaic Idealize.ShloMosaic.TcCoe Idealize.SL.Sem Cert.TailEvenIdeal Cert.TailEvenIdeal.Gen Cert.TailEvenIdeal.Value
open Cert.TailEvenBlk Cert.TailEvenOut Cert.TailEvenRow Cert.TailSpec Cert.TailMerge

/-- Columns `o` to `o + n` of the gate's or the other product's weights. -/
theorem ld_cols {o n : ℕ} {inb} (x : Vec Ideal S1x1024x2816 .bf16) (ho : o + n ≤ 2816) (k : Fin 1024) (f : Fin n) :
    View.ld x (Rect.unit (s := S1x1024x2816) ![0, 0, o] ![1, 1024, n] inb) (ix3 0 k f) = x (ix3 0 k ⟨o + f.val, by omega⟩) := by
  refine congrArg x (funext fun a => Fin.ext ?_)
  match a with
  | ⟨0, _⟩ => rfl
  | ⟨1, _⟩ => show 0 + 1 * k.val = k.val; omega
  | ⟨2, _⟩ => show o + 1 * f.val = o + f.val; omega

/-- Rows `o` to `o + n` of the last product's weights. -/
theorem ld_rows {o n : ℕ} {inb} (x : Vec Ideal S1x2816x1024 .bf16) (ho : o + n ≤ 2816) (f : Fin n) (c : Fin 1024) :
    View.ld x (Rect.unit (s := S1x2816x1024) ![0, o, 0] ![1, n, 1024] inb) (ix3 0 f c) = x (ix3 0 ⟨o + f.val, by omega⟩ c) := by
  refine congrArg x (funext fun a => Fin.ext ?_)
  match a with
  | ⟨0, _⟩ => rfl
  | ⟨1, _⟩ => show o + 1 * f.val = o + f.val; omega
  | ⟨2, _⟩ => show 0 + 1 * c.val = c.val; omega

/-- Rows `o` to `o + n` of the output projection. -/
theorem ld_part {o n : ℕ} {inb} (x : Vec Ideal S768x1024 .bf16) (ho : o + n ≤ 768) (k : Fin n) (c : Fin 1024) :
    View.ld x (Rect.unit (s := S768x1024) ![o, 0] ![n, 1024] inb) (ix2 k c) = x (ix2 ⟨o + k.val, by omega⟩ c) := by
  refine congrArg x (funext fun a => Fin.ext ?_)
  match a with
  | ⟨0, _⟩ => show o + 1 * k.val = o + k.val; omega
  | ⟨1, _⟩ => show 0 + 1 * c.val = c.val; omega

theorem z2 : (![0, 0] : Fin 2 → ℕ) = fun _ => 0 := by decide
theorem z3 : (![0, 0, 0] : Fin 3 → ℕ) = fun _ => 0 := by decide

/-- The first mixer's and the first two heads' output, projected. -/
theorem projT_apply (x3 : Vec Ideal S1x512x512 .bf16) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S768x1024 .bf16) (r : Fin 512) (c : Fin 1024) :
    projT x3 x4 x5 x6 x7 x8 x9 x10 x11 x12 x13 x14 x15 x16 (ix2 r c) = dot512 (fun k => x3 (ix3 0 r k)) (fun k => x16 (ix2 ⟨k.val, by omega⟩ c))
      + ∑ k : Fin 128, merge (x10 (ix3 0 r k)) (x11 (ix3 0 r k)) (x12 (ix3 0 r k)) (x4 (ix3 0 r k)) (x5 (ix3 0 r k)) (x6 (ix3 0 r k)) * x16 (ix2 ⟨512 + k.val, by omega⟩ c) := by
  unfold projT
  simp only [View.ld_unit_zero (S := S1x512x1024) z3, View.ld_unit_zero (S := S1x1x1024) z3, View.ld_unit_zero (S := S1x512x512) z3, View.ld_unit_zero (S := S1x512x128) z3, View.ld_unit_zero (S := S1x1024) z2]
  rw [pay11_apply, pay1_apply]
  have e0 := fun (k : Fin 512) (c : Fin 1024) => ld_part (o := 0) (n := 512) (inb := inb_S768x1024_S512x1024_0_0) x16 (by omega) k c
  have e1 := fun (k : Fin 128) (c : Fin 1024) => ld_part (o := 512) (n := 128) (inb := inb_S768x1024_S128x1024_512_0) x16 (by omega) k c
  simp only [pay7_apply, pay8_apply, pay9_apply, pay10_apply]
  refine congrArg₂ (· + ·) (Finset.sum_congr rfl fun k _ => ?_) (Finset.sum_congr rfl fun k _ => ?_)
  · refine congrArg _ ((e0 k c).trans ?_)
    simp only [zero_add]
  · exact congrArg _ (e1 k c)

/-- A block with the normalised output of the mixers added. -/
theorem mixT_apply (x0 : Vec Ideal S1x512x1024 .f32) (x1 : Vec Ideal S1x1x1024 .f32) (x2 : Vec Ideal S1x1024 .f32) (x3 : Vec Ideal S1x512x512 .bf16) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S768x1024 .bf16)
    (r : Fin 512) (c : Fin 1024) :
    mixT x0 x1 x2 x3 x4 x5 x6 x7 x8 x9 x10 x11 x12 x13 x14 x15 x16 (ix2 r c) = mix (fun c => x0 (ix3 0 r c)) (fun c => x1 (ix3 0 0 c))
      (proj (fun k => x3 (ix3 0 r k)) (fun k => merge (x10 (ix3 0 r k)) (x11 (ix3 0 r k)) (x12 (ix3 0 r k)) (x4 (ix3 0 r k)) (x5 (ix3 0 r k)) (x6 (ix3 0 r k))) (fun k => merge (x13 (ix3 0 r k)) (x14 (ix3 0 r k)) (x15 (ix3 0 r k)) (x7 (ix3 0 r k)) (x8 (ix3 0 r k)) (x9 (ix3 0 r k))) (fun k c => x16 (ix2 k c)))
      (fun c => x2 (ix2 0 c)) c := by
  unfold mixT
  simp only [View.ld_unit_zero (S := S1x512x1024) z3, View.ld_unit_zero (S := S1x1x1024) z3, View.ld_unit_zero (S := S1x512x512) z3, View.ld_unit_zero (S := S1x512x128) z3, View.ld_unit_zero (S := S1x1024) z2]
  rw [pay21_apply]
  have e1 := fun (k : Fin 128) (c : Fin 1024) => ld_part (o := 640) (n := 128) (inb := inb_S768x1024_S128x1024_640_0) x16 (by omega) k c
  simp only [pay17_apply, pay18_apply, pay19_apply, pay20_apply, projT_apply]
  refine congrArg (fun y => mix _ _ y _ c) (funext fun c => ?_)
  refine congrArg₂ (· + ·) rfl (Finset.sum_congr rfl fun k _ => ?_)
  exact congrArg _ (e1 k c)

/-- The mean squares of that block's rows. -/
theorem sqT_apply (x0 : Vec Ideal S1x512x1024 .f32) (x1 : Vec Ideal S1x1x1024 .f32) (x2 : Vec Ideal S1x1024 .f32) (x3 : Vec Ideal S1x512x512 .bf16) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S768x1024 .bf16) (r : Fin 512) :
    sqT x0 x1 x2 x3 x4 x5 x6 x7 x8 x9 x10 x11 x12 x13 x14 x15 x16 (ix2 r 0) = Ideal.div (∑ k : Fin 1024, mixT x0 x1 x2 x3 x4 x5 x6 x7 x8 x9 x10 x11 x12 x13 x14 x15 x16 (ix2 r k) * mixT x0 x1 x2 x3 x4 x5 x6 x7 x8 x9 x10 x11 x12 x13 x14 x15 x16 (ix2 r k)) (Ideal.ofBits .f32 0x44800000#32) := by
  unfold sqT
  rw [pay24_apply]
  rfl

/-- The block the feed-forward reads. -/
theorem hidT_apply (y : FVec Ideal S512x1024 .f32) (q : FVec Ideal S512x1 .f32) (x17 : Vec Ideal S1x1024 .f32) (x18 x19 : Vec Ideal S1x1x1024 .f32) (r : Fin 512) (c : Fin 1024)
    (hq : q (ix2 r 0) = Ideal.div (∑ k : Fin 1024, y (ix2 r k) * y (ix2 r k)) (Ideal.ofBits .f32 0x44800000#32)) :
    hidT y q x17 x18 x19 (ix2 r c) = hid (fun c => y (ix2 r c)) (fun c => x17 (ix2 0 c)) (fun c => x18 (ix3 0 0 c)) (fun c => x19 (ix3 0 0 c)) c := by
  unfold hidT
  simp only [View.ld_unit_zero (S := S1x1x1024) z3, View.ld_unit_zero (S := S1x1024) z2]
  exact pay25_apply y x17 q x18 x19 r c hq

/-- The feed-forward of a block. -/
theorem ffnT_apply (h : FVec Ideal S512x1024 .bf16) (x22 x23 : Vec Ideal S1x1024x2816 .bf16) (x24 : Vec Ideal S1x2816x1024 .bf16) (r : Fin 512) (c : Fin 1024) :
    ffnT h x22 x23 x24 (ix2 r c) = ffn (fun k => h (ix2 r k)) (fun k f => x22 (ix3 0 k f)) (fun k f => x23 (ix3 0 k f)) (fun f c => x24 (ix3 0 f c)) c := by
  unfold ffnT ffn
  rw [sum_parts, pay40_apply, pay37_apply, pay31_apply, pay29_apply]
  simp only [pay26_apply, pay27_apply, pay28_apply, pay30_apply, pay32_apply, pay33_apply, pay34_apply, pay35_apply, pay36_apply, pay38_apply, pay39_apply, zero_add]
  have g11_0 := fun (k : Fin 1024) (f : Fin 512) => ld_cols (o := 0) (n := 512) (inb := inb_S1x1024x2816_S1x1024x512_0_0_0) x22 (by omega) k f
  have g11_1 := fun (k : Fin 1024) (f : Fin 512) => ld_cols (o := 512) (n := 512) (inb := inb_S1x1024x2816_S1x1024x512_0_0_512) x22 (by omega) k f
  have g11_2 := fun (k : Fin 1024) (f : Fin 512) => ld_cols (o := 1024) (n := 512) (inb := inb_S1x1024x2816_S1x1024x512_0_0_1024) x22 (by omega) k f
  have g11_3 := fun (k : Fin 1024) (f : Fin 512) => ld_cols (o := 1536) (n := 512) (inb := inb_S1x1024x2816_S1x1024x512_0_0_1536) x22 (by omega) k f
  have g11_4 := fun (k : Fin 1024) (f : Fin 512) => ld_cols (o := 2048) (n := 512) (inb := inb_S1x1024x2816_S1x1024x512_0_0_2048) x22 (by omega) k f
  have g11_5 := fun (k : Fin 1024) (f : Fin 256) => ld_cols (o := 2560) (n := 256) (inb := inb_S1x1024x2816_S1x1024x256_0_0_2560) x22 (by omega) k f
  have g12_0 := fun (k : Fin 1024) (f : Fin 512) => ld_cols (o := 0) (n := 512) (inb := inb_S1x1024x2816_S1x1024x512_0_0_0) x23 (by omega) k f
  have g12_1 := fun (k : Fin 1024) (f : Fin 512) => ld_cols (o := 512) (n := 512) (inb := inb_S1x1024x2816_S1x1024x512_0_0_512) x23 (by omega) k f
  have g12_2 := fun (k : Fin 1024) (f : Fin 512) => ld_cols (o := 1024) (n := 512) (inb := inb_S1x1024x2816_S1x1024x512_0_0_1024) x23 (by omega) k f
  have g12_3 := fun (k : Fin 1024) (f : Fin 512) => ld_cols (o := 1536) (n := 512) (inb := inb_S1x1024x2816_S1x1024x512_0_0_1536) x23 (by omega) k f
  have g12_4 := fun (k : Fin 1024) (f : Fin 512) => ld_cols (o := 2048) (n := 512) (inb := inb_S1x1024x2816_S1x1024x512_0_0_2048) x23 (by omega) k f
  have g12_5 := fun (k : Fin 1024) (f : Fin 256) => ld_cols (o := 2560) (n := 256) (inb := inb_S1x1024x2816_S1x1024x256_0_0_2560) x23 (by omega) k f
  have d0 := fun (f : Fin 512) (c : Fin 1024) => ld_rows (o := 0) (n := 512) (inb := inb_S1x2816x1024_S1x512x1024_0_0_0) x24 (by omega) f c
  have d1 := fun (f : Fin 512) (c : Fin 1024) => ld_rows (o := 512) (n := 512) (inb := inb_S1x2816x1024_S1x512x1024_0_512_0) x24 (by omega) f c
  have d2 := fun (f : Fin 512) (c : Fin 1024) => ld_rows (o := 1024) (n := 512) (inb := inb_S1x2816x1024_S1x512x1024_0_1024_0) x24 (by omega) f c
  have d3 := fun (f : Fin 512) (c : Fin 1024) => ld_rows (o := 1536) (n := 512) (inb := inb_S1x2816x1024_S1x512x1024_0_1536_0) x24 (by omega) f c
  have d4 := fun (f : Fin 512) (c : Fin 1024) => ld_rows (o := 2048) (n := 512) (inb := inb_S1x2816x1024_S1x512x1024_0_2048_0) x24 (by omega) f c
  have d5 := fun (f : Fin 256) (c : Fin 1024) => ld_rows (o := 2560) (n := 256) (inb := inb_S1x2816x1024_S1x256x1024_0_2560_0) x24 (by omega) f c
  simp only [g11_0, g11_1, g11_2, g11_3, g11_4, g11_5, g12_0, g12_1, g12_2, g12_3, g12_4, g12_5, d0, d1, d2, d3, d4, d5, zero_add]
  rfl

/-- A block of the result. -/
theorem outT_apply (y s : FVec Ideal S512x1024 .f32) (x20 : Vec Ideal S1x1x1024 .f32) (x21 : Vec Ideal S1x1024 .f32) (r : Fin 512) (c : Fin 1024) :
    outT y s x20 x21 (ix3 0 r c) = mix (fun c => y (ix2 r c)) (fun c => x20 (ix3 0 0 c)) (fun c => s (ix2 r c)) (fun c => x21 (ix2 0 c)) c := by
  unfold outT
  simp only [View.ld_unit_zero (S := S1x1x1024) z3, View.ld_unit_zero (S := S1x1024) z2]
  rw [pay41_apply]

variable (m : (ℓ : Loc nD τ sig) → Buf (Elt Ideal) ℓ)

/-- The layer after its mixers, of the arguments as launched. -/
def res (c : Dev nD) (b : Fin 4) (t : Fin 8192) : Row :=
  tail (fun k => a0 m c (ix3 b t k)) (fun k => a1 m c (ix3 b 0 ⟨2048 + k.val, by omega⟩))
    (proj (fun k => a2 m c (ix3 b t k)) (fun k => merge (a9 m c (ix3 b t k)) (a11 m c (ix3 b t k)) (a13 m c (ix3 b t k)) (a3 m c (ix3 b t k)) (a5 m c (ix3 b t k)) (a7 m c (ix3 b t k)))
      (fun k => merge (a10 m c (ix3 b t k)) (a12 m c (ix3 b t k)) (a14 m c (ix3 b t k)) (a4 m c (ix3 b t k)) (a6 m c (ix3 b t k)) (a8 m c (ix3 b t k))) (fun k j => a16 m c (ix2 k j)))
    (fun k => a15 m c (ix2 0 k)) (fun k => a17 m c (ix2 0 k)) (fun k => a1 m c (ix3 b 0 ⟨4096 + k.val, by omega⟩)) (fun k => a1 m c (ix3 b 0 ⟨3072 + k.val, by omega⟩))
    (fun k => a1 m c (ix3 b 0 ⟨5120 + k.val, by omega⟩)) (fun k => a18 m c (ix2 0 k))
    (fun k f => a19 m c (ix3 0 k f)) (fun k f => a20 m c (ix3 0 k f)) (fun f k => a21 m c (ix3 0 f k))

/-- What a step leaves in its block of the result. -/
theorem out_res (c : Dev nD) (t : Fin cfg0.N) (r : Fin 512) (j : Fin 1024) :
    (outsAt0 m c t : Vec Ideal S1x512x1024 .f32) (ix3 0 r j) = res m c (bt t) (row t r) j := by
  unfold outsAt0
  rw [out_eq, outT_apply]
  simp only [ffnT_apply, hidT_apply _ _ _ _ _ _ _ (sqT_apply _ _ _ _ _ _ _ _ _ _ _ _ _ _ _ _ _ _)]
  simp only [mixT_apply, in0, in1, in2, in3, in4, in5, in6, in7, in8, in9, in10, in11, in12, in13, in14, in15, in16, in17, in18, in19, in20, in21, in22, in23, in24]
  rfl

theorem wix25 : ∀ t : Fin grid0.N, win0_25.index t 0 * win0_25.size 0 = (bt t).val ∧ win0_25.index t 1 * win0_25.size 1 = (gt t).val * 512 ∧ win0_25.index t 2 * win0_25.size 2 = 0 := by decide +kernel

/-- A step's block of the result array. -/
theorem out25 (G : Vec Ideal S4x8192x1024 .f32) (t : Fin cfg0.N) (r : Fin 512) (k : Fin 1024) :
    (((cfg0.win 25).blk t).view.read (Elt Ideal) G : Vec Ideal S1x512x1024 .f32) (ix3 0 r k) = G (ix3 (bt t) (row t r) k) := by
  obtain ⟨h0, h1, h2⟩ := wix25 t
  refine congrArg G (funext fun a => Fin.ext ?_)
  match a with
  | ⟨0, _⟩ => show win0_25.index t 0 * win0_25.size 0 + 1 * 0 = (bt t).val; omega
  | ⟨1, _⟩ => show win0_25.index t 1 * win0_25.size 1 + 1 * r.val = (gt t).val * 512 + r.val; omega
  | ⟨2, _⟩ => show win0_25.index t 2 * win0_25.size 2 + 1 * k.val = k.val; omega

theorem pts : ∀ (b : Fin 4) (g : Fin 16), ∃ t : Fin grid0.N, bt t = b ∧ gt t = g := by decide +kernel

/-- An element of the result lies in the block of its batch and its rows. -/
theorem mem25 (t : Fin cfg0.N) (i : S4x8192x1024.Idx) (hb : (bt t).val = (i 0 : Nat)) (hg : (gt t).val = (i 1 : Nat) / 512) :
    i ∈ ((cfg0.win 25).blk t).view.set := by
  obtain ⟨h0, h1, h2⟩ := wix25 t
  show i ∈ ((View.whole main_v19).slice (win0_25.rect t)).set
  rw [View.set_slice_whole, Rect.mem_set_unit]
  have l2 : (i 2 : Nat) < 1024 := (i 2).isLt
  intro a
  match a with
  | ⟨0, _⟩ => show win0_25.index t 0 * win0_25.size 0 ≤ (i 0 : Nat) ∧ (i 0 : Nat) < win0_25.index t 0 * win0_25.size 0 + 1; omega
  | ⟨1, _⟩ => show win0_25.index t 1 * win0_25.size 1 ≤ (i 1 : Nat) ∧ (i 1 : Nat) < win0_25.index t 1 * win0_25.size 1 + 512; omega
  | ⟨2, _⟩ => show win0_25.index t 2 * win0_25.size 2 ≤ (i 2 : Nat) ∧ (i 2 : Nat) < win0_25.index t 2 * win0_25.size 2 + 1024; omega

/-- Every element of the result lies in some step's block. -/
theorem cover25 (i : S4x8192x1024.Idx) : ∃ t : Fin cfg0.N, (cfg0.win 25).flush t = true ∧ i ∈ ((cfg0.win 25).blk t).view.set := by
  have l1 : (i 1 : Nat) < 8192 := (i 1).isLt
  obtain ⟨t, h0, h1⟩ := pts (i 0) ⟨(i 1 : Nat) / 512, by omega⟩
  exact ⟨t, flush0_25 t, mem25 t i (congrArg Fin.val h0) (congrArg Fin.val h1)⟩

/-- The result array after the run. -/
theorem arr25 (c : Dev nD) :
    (dats m 0 c).arrAt 25 cfg0.N = fun i : S4x8192x1024.Idx => res m c (i 0) (i 1) (i 2) := by
  refine (dats m 0 c).arrAt_eq_of_cover 25 _ (fun t _ => ?_) cover25
  rw [flushed25]
  funext y
  obtain ⟨r, k, rfl⟩ : ∃ (r : Fin 512) (k : Fin 1024), y = ix3 0 r k := ⟨y 1, y 2, funext fun a => by
    match a with
    | ⟨0, _⟩ => exact Subsingleton.elim (α := Fin 1) _ _
    | ⟨1, _⟩ => rfl
    | ⟨2, _⟩ => rfl⟩
  refine (out_res m c t r k).trans ?_
  exact (out25 (fun i : S4x8192x1024.Idx => res m c (i 0) (i 1) (i 2)) t r k).symm

end Cert.TailEvenFinal

end
-- ==== Proof.TailEvenRefRun.lean ====
module

public import proofs.«01_k».proof.Proof.Gen.TailEvenRefIdeal
public import proofs.«01_k».proof.Proof.Gen.SwaRefIdeal.Run
public import Idealize.ShloMosaic.Lib.StableHlo.Run

/-!
The reference after the even layer's mixers, as eleven lists of operations run one after the other, and what a run of them leaves.
-/

@[expose] public section

set_option maxRecDepth 16384

noncomputable section

namespace Cert.TailEvenRefRun

open Cert.TailEvenRefIdeal Cert.TailEvenRefIdeal.Gen Idealize.ShloMosaic Idealize.ShloMosaic.TcCoe Idealize.SL.Sem Idealize.ShloMosaic.StableHlo

variable {F : FTy → Type} [FloatOps F]

/-- Two arrays of 128 columns side by side. -/
def cat128 : (⟨S4x8192x128, .f32⟩ : BufTy).Contents (Elt F) → (⟨S4x8192x128, .f32⟩ : BufTy).Contents (Elt F) → (⟨S4x8192x256, .f32⟩ : BufTy).Contents (Elt F) :=
  fun a b => concatenate S4x8192x256 2 [⟨S4x8192x128, a⟩, ⟨S4x8192x128, b⟩] concatenates_S4x8192x128_S4x8192x128_S4x8192x256_d2

/-- An array of 512 columns and one of 256 side by side. -/
def cat512 : (⟨S4x8192x512, .f32⟩ : BufTy).Contents (Elt F) → (⟨S4x8192x256, .f32⟩ : BufTy).Contents (Elt F) → (⟨S4x8192x768, .f32⟩ : BufTy).Contents (Elt F) :=
  fun a b => concatenate S4x8192x768 2 [⟨S4x8192x512, a⟩, ⟨S4x8192x256, b⟩] concatenates_S4x8192x512_S4x8192x256_S4x8192x768_d2

/-- Three arrays stacked. -/
def stack3 : (⟨S1x4x8192x256, .f32⟩ : BufTy).Contents (Elt F) → (⟨S1x4x8192x256, .f32⟩ : BufTy).Contents (Elt F) → (⟨S1x4x8192x256, .f32⟩ : BufTy).Contents (Elt F)
    → (⟨S3x4x8192x256, .f32⟩ : BufTy).Contents (Elt F) :=
  fun a b c => concatenate S3x4x8192x256 0 [⟨S1x4x8192x256, a⟩, ⟨S1x4x8192x256, b⟩, ⟨S1x4x8192x256, c⟩] concatenates_S1x4x8192x256_S1x4x8192x256_S1x4x8192x256_S3x4x8192x256_d0

/-- The groups' two pairs of heads side by side. -/
abbrev s1 : List (HloOp τ sig (Elt F)) :=
  [ binary main_arg3 main_arg4 main_v0 (cat128 (F := F)),
    binary main_arg5 main_arg6 main_v1 (cat128 (F := F)),
    binary main_arg7 main_arg8 main_v2 (cat128 (F := F)),
    binary main_arg9 main_arg10 main_v3 (cat128 (F := F)),
    binary main_arg11 main_arg12 main_v4 (cat128 (F := F)),
    binary main_arg13 main_arg14 main_v5 (cat128 (F := F)),
    unary main_v3 main_v6 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v4 main_v7 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v5 main_v8 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F))]

/-- The groups' logarithms stacked. -/
abbrev s2 : List (HloOp τ sig (Elt F)) :=
  [ nary ![main_v6, main_v7, main_v8] main_v9 (fun u => stack3 (F := F) (u 0) (u 1) (u 2))]

/-- The greatest of the groups' logarithms. -/
abbrev s3 : List (HloOp τ sig (Elt F)) :=
  [ nullary main_cst (constant S_ .f32 0xFF800000#32),
    binary main_v9 main_cst main_v10 ((fun x v => Host.reduce FloatOps.maximumf x v reducesTo_S3x4x8192x256_S4x8192x256_d0 h_S_) : (⟨S3x4x8192x256, .f32⟩ : BufTy).Contents (Elt F) → (⟨S_, .f32⟩ : BufTy).Contents (Elt F) → (⟨S4x8192x256, .f32⟩ : BufTy).Contents (Elt F))]

/-- The softmax of the groups' logarithms. -/
abbrev s4 : List (HloOp τ sig (Elt F)) :=
  [ nullary main_cst_0 (constant S_ .f32 0xFF800000#32),
    unary main_cst_0 main_v11 (broadcastInDim S4x8192x256 ![] bcast_S_S4x8192x256 : (⟨S_, .f32⟩ : BufTy).Contents (Elt F) → (⟨S4x8192x256, .f32⟩ : BufTy).Contents (Elt F)),
    binary main_v11 main_v10 main_v12 (maximumf : (⟨S4x8192x256, .f32⟩ : BufTy).Contents (Elt F) → (⟨S4x8192x256, .f32⟩ : BufTy).Contents (Elt F) → (⟨S4x8192x256, .f32⟩ : BufTy).Contents (Elt F)),
    unary main_v12 main_v13 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v13 main_v14 (broadcastInDim S3x4x8192x256 ![0, 1, 2, 3] bcast_S1x4x8192x256_S3x4x8192x256_0_1_2_3 : (⟨S1x4x8192x256, .f32⟩ : BufTy).Contents (Elt F) → (⟨S3x4x8192x256, .f32⟩ : BufTy).Contents (Elt F)),
    binary main_v9 main_v14 main_v15 (subf : (⟨S3x4x8192x256, .f32⟩ : BufTy).Contents (Elt F) → (⟨S3x4x8192x256, .f32⟩ : BufTy).Contents (Elt F) → (⟨S3x4x8192x256, .f32⟩ : BufTy).Contents (Elt F)),
    unary main_v15 main_v16 (Host.exp : (⟨S3x4x8192x256, .f32⟩ : BufTy).Contents (Elt F) → (⟨S3x4x8192x256, .f32⟩ : BufTy).Contents (Elt F)),
    nullary main_cst_1 (constant S_ .f32 0x00000000#32),
    binary main_v16 main_cst_1 main_v17 ((fun x v => Host.reduceAdd x v reducesTo_S3x4x8192x256_S4x8192x256_d0 h_S_) : (⟨S3x4x8192x256, .f32⟩ : BufTy).Contents (Elt F) → (⟨S_, .f32⟩ : BufTy).Contents (Elt F) → (⟨S4x8192x256, .f32⟩ : BufTy).Contents (Elt F)),
    unary main_v17 main_v18 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v18 main_v19 (broadcastInDim S3x4x8192x256 ![0, 1, 2, 3] bcast_S1x4x8192x256_S3x4x8192x256_0_1_2_3 : (⟨S1x4x8192x256, .f32⟩ : BufTy).Contents (Elt F) → (⟨S3x4x8192x256, .f32⟩ : BufTy).Contents (Elt F)),
    binary main_v16 main_v19 main_v20 (Host.divf : (⟨S3x4x8192x256, .f32⟩ : BufTy).Contents (Elt F) → (⟨S3x4x8192x256, .f32⟩ : BufTy).Contents (Elt F) → (⟨S3x4x8192x256, .f32⟩ : BufTy).Contents (Elt F)),
    unary main_v0 main_v21 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v1 main_v22 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F)),
    unary main_v2 main_v23 (broadcastInDim S1x4x8192x256 ![1, 2, 3] bcast_S4x8192x256_S1x4x8192x256_1_2_3 : (⟨S4x8192x256, .f32⟩ : BufTy).Contents (Elt F) → (⟨S1x4x8192x256, .f32⟩ : BufTy).Contents (Elt F))]

/-- The groups' outputs stacked. -/
abbrev s5 : List (HloOp τ sig (Elt F)) :=
  [ nary ![main_v21, main_v22, main_v23] main_v24 (fun u => stack3 (F := F) (u 0) (u 1) (u 2))]

/-- The outputs weighted and summed. -/
abbrev s6 : List (HloOp τ sig (Elt F)) :=
  [ binary main_v20 main_v24 main_v25 (mulf : (⟨S3x4x8192x256, .f32⟩ : BufTy).Contents (Elt F) → (⟨S3x4x8192x256, .f32⟩ : BufTy).Contents (Elt F) → (⟨S3x4x8192x256, .f32⟩ : BufTy).Contents (Elt F)),
    nullary main_cst_2 (constant S_ .f32 0x00000000#32),
    binary main_v25 main_cst_2 main_v26 ((fun x v => Host.reduceAdd x v reducesTo_S3x4x8192x256_S4x8192x256_d0 h_S_) : (⟨S3x4x8192x256, .f32⟩ : BufTy).Contents (Elt F) → (⟨S_, .f32⟩ : BufTy).Contents (Elt F) → (⟨S4x8192x256, .f32⟩ : BufTy).Contents (Elt F))]

/-- The mixers' outputs through the output projection. -/
abbrev s7 : List (HloOp τ sig (Elt F)) :=
  [ unary main_arg2 main_v27 ((extf .f32 · bitsLt_bf16_f32) : (⟨S4x8192x512, .bf16⟩ : BufTy).Contents (Elt F) → (⟨S4x8192x512, .f32⟩ : BufTy).Contents (Elt F)),
    binary main_v27 main_v26 main_v28 (cat512 (F := F)),
    binary main_v28 main_arg16 main_v29 ((fun l r => Host.dotGeneral dot_S4x8192x768_S768x1024_S4x8192x1024_2_0_01_1_n_n none l r) : (⟨S4x8192x768, .f32⟩ : BufTy).Contents (Elt F) → (⟨S768x1024, .f32⟩ : BufTy).Contents (Elt F) → (⟨S4x8192x1024, .f32⟩ : BufTy).Contents (Elt F))]

/-- The adaptation's parts, and the first sum. -/
abbrev s8 : List (HloOp τ sig (Elt F)) :=
  [ unary main_arg1 main_v30 ((extractStridedSlice S4x1x1024 ![0, 0, 0] · slices_S4x1x6144_S4x1x1024_0_0_0) : (⟨S4x1x6144, .f32⟩ : BufTy).Contents (Elt F) → (⟨S4x1x1024, .f32⟩ : BufTy).Contents (Elt F)),
    unary main_arg1 main_v31 ((extractStridedSlice S4x1x1024 ![0, 0, 1024] · slices_S4x1x6144_S4x1x1024_0_0_1024) : (⟨S4x1x6144, .f32⟩ : BufTy).Contents (Elt F) → (⟨S4x1x1024, .f32⟩ : BufTy).Contents (Elt F)),
    unary main_arg1 main_v32 ((extractStridedSlice S4x1x1024 ![0, 0, 2048] · slices_S4x1x6144_S4x1x1024_0_0_2048) : (⟨S4x1x6144, .f32⟩ : BufTy).Contents (Elt F) → (⟨S4x1x1024, .f32⟩ : BufTy).Contents (Elt F)),
    unary main_arg1 main_v33 ((extractStridedSlice S4x1x1024 ![0, 0, 3072] · slices_S4x1x6144_S4x1x1024_0_0_3072) : (⟨S4x1x6144, .f32⟩ : BufTy).Contents (Elt F) → (⟨S4x1x1024, .f32⟩ : BufTy).Contents (Elt F)),
    unary main_arg1 main_v34 ((extractStridedSlice S4x1x1024 ![0, 0, 4096] · slices_S4x1x6144_S4x1x1024_0_0_4096) : (⟨S4x1x6144, .f32⟩ : BufTy).Contents (Elt F) → (⟨S4x1x1024, .f32⟩ : BufTy).Contents (Elt F)),
    unary main_arg1 main_v35 ((extractStridedSlice S4x1x1024 ![0, 0, 5120] · slices_S4x1x6144_S4x1x1024_0_0_5120) : (⟨S4x1x6144, .f32⟩ : BufTy).Contents (Elt F) → (⟨S4x1x1024, .f32⟩ : BufTy).Contents (Elt F)),
    unary main_arg15 main_v36 ((extractStridedSlice S1x1024 ![0, 0] · slices_S2x1024_S1x1024_0_0) : (⟨S2x1024, .f32⟩ : BufTy).Contents (Elt F) → (⟨S1x1024, .f32⟩ : BufTy).Contents (Elt F)),
    reshape main_v36 main_v37 (rfl : (.f32 : EltTy) = .f32) shapeCasts_S1x1024_S1024,
    binary main_v29 main_v29 main_v38 (mulf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x00000000#32),
    binary main_v38 main_cst_3 main_v39 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v39 main_v40 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_4 (constant S_ .f32 0x44800000#32),
    unary main_cst_4 main_v41 (broadcastInDim S4x8192x1 ![] bcast_S_S4x8192x1 : (⟨S_, .f32⟩ : BufTy).Contents (Elt F) → (⟨S4x8192x1, .f32⟩ : BufTy).Contents (Elt F)),
    binary main_v40 main_v41 main_v42 (Host.divf : (⟨S4x8192x1, .f32⟩ : BufTy).Contents (Elt F) → (⟨S4x8192x1, .f32⟩ : BufTy).Contents (Elt F) → (⟨S4x8192x1, .f32⟩ : BufTy).Contents (Elt F)),
    nullary main_cst_5 (constant S_ .f32 0x358637BD#32),
    unary main_cst_5 main_v43 (broadcastInDim S4x8192x1 ![] bcast_S_S4x8192x1 : (⟨S_, .f32⟩ : BufTy).Contents (Elt F) → (⟨S4x8192x1, .f32⟩ : BufTy).Contents (Elt F)),
    binary main_v42 main_v43 main_v44 (addf : (⟨S4x8192x1, .f32⟩ : BufTy).Contents (Elt F) → (⟨S4x8192x1, .f32⟩ : BufTy).Contents (Elt F) → (⟨S4x8192x1, .f32⟩ : BufTy).Contents (Elt F)),
    unary main_v44 main_v45 (Host.rsqrt : (⟨S4x8192x1, .f32⟩ : BufTy).Contents (Elt F) → (⟨S4x8192x1, .f32⟩ : BufTy).Contents (Elt F)),
    unary main_v45 main_v46 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v29 main_v46 main_v47 (mulf : (⟨S4x8192x1024, .f32⟩ : BufTy).Contents (Elt F) → (⟨S4x8192x1024, .f32⟩ : BufTy).Contents (Elt F) → (⟨S4x8192x1024, .f32⟩ : BufTy).Contents (Elt F)),
    unary main_v37 main_v48 (broadcastInDim S1x1x1024 ![2] bcast_S1024_S1x1x1024_2 : (⟨S1024, .f32⟩ : BufTy).Contents (Elt F) → (⟨S1x1x1024, .f32⟩ : BufTy).Contents (Elt F)),
    unary main_v48 main_v49 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v47 main_v49 main_v50 (mulf : (⟨S4x8192x1024, .f32⟩ : BufTy).Contents (Elt F) → (⟨S4x8192x1024, .f32⟩ : BufTy).Contents (Elt F) → (⟨S4x8192x1024, .f32⟩ : BufTy).Contents (Elt F)),
    unary main_v32 main_v51 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v51 main_v50 main_v52 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_v52 main_v53 (addf : (⟨S4x8192x1024, .f32⟩ : BufTy).Contents (Elt F) → (⟨S4x8192x1024, .f32⟩ : BufTy).Contents (Elt F) → (⟨S4x8192x1024, .f32⟩ : BufTy).Contents (Elt F))]

/-- The row the feed-forward reads. -/
abbrev s9 : List (HloOp τ sig (Elt F)) :=
  [ unary main_arg17 main_v54 ((extractStridedSlice S1x1024 ![0, 0] · slices_S2x1024_S1x1024_0_0) : (⟨S2x1024, .f32⟩ : BufTy).Contents (Elt F) → (⟨S1x1024, .f32⟩ : BufTy).Contents (Elt F)),
    reshape main_v54 main_v55 (rfl : (.f32 : EltTy) = .f32) shapeCasts_S1x1024_S1024,
    binary main_v53 main_v53 main_v56 (mulf : (⟨S4x8192x1024, .f32⟩ : BufTy).Contents (Elt F) → (⟨S4x8192x1024, .f32⟩ : BufTy).Contents (Elt F) → (⟨S4x8192x1024, .f32⟩ : BufTy).Contents (Elt F)),
    nullary main_cst_6 (constant S_ .f32 0x00000000#32),
    binary main_v56 main_cst_6 main_v57 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v57 main_v58 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_7 (constant S_ .f32 0x44800000#32),
    unary main_cst_7 main_v59 (broadcastInDim S4x8192x1 ![] bcast_S_S4x8192x1 : (⟨S_, .f32⟩ : BufTy).Contents (Elt F) → (⟨S4x8192x1, .f32⟩ : BufTy).Contents (Elt F)),
    binary main_v58 main_v59 main_v60 (Host.divf : (⟨S4x8192x1, .f32⟩ : BufTy).Contents (Elt F) → (⟨S4x8192x1, .f32⟩ : BufTy).Contents (Elt F) → (⟨S4x8192x1, .f32⟩ : BufTy).Contents (Elt F)),
    nullary main_cst_8 (constant S_ .f32 0x358637BD#32),
    unary main_cst_8 main_v61 (broadcastInDim S4x8192x1 ![] bcast_S_S4x8192x1 : (⟨S_, .f32⟩ : BufTy).Contents (Elt F) → (⟨S4x8192x1, .f32⟩ : BufTy).Contents (Elt F)),
    binary main_v60 main_v61 main_v62 (addf : (⟨S4x8192x1, .f32⟩ : BufTy).Contents (Elt F) → (⟨S4x8192x1, .f32⟩ : BufTy).Contents (Elt F) → (⟨S4x8192x1, .f32⟩ : BufTy).Contents (Elt F)),
    unary main_v62 main_v63 (Host.rsqrt : (⟨S4x8192x1, .f32⟩ : BufTy).Contents (Elt F) → (⟨S4x8192x1, .f32⟩ : BufTy).Contents (Elt F)),
    unary main_v63 main_v64 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v53 main_v64 main_v65 (mulf : (⟨S4x8192x1024, .f32⟩ : BufTy).Contents (Elt F) → (⟨S4x8192x1024, .f32⟩ : BufTy).Contents (Elt F) → (⟨S4x8192x1024, .f32⟩ : BufTy).Contents (Elt F)),
    unary main_v55 main_v66 (broadcastInDim S1x1x1024 ![2] bcast_S1024_S1x1x1024_2 : (⟨S1024, .f32⟩ : BufTy).Contents (Elt F) → (⟨S1x1x1024, .f32⟩ : BufTy).Contents (Elt F)),
    unary main_v66 main_v67 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v65 main_v67 main_v68 (mulf : (⟨S4x8192x1024, .f32⟩ : BufTy).Contents (Elt F) → (⟨S4x8192x1024, .f32⟩ : BufTy).Contents (Elt F) → (⟨S4x8192x1024, .f32⟩ : BufTy).Contents (Elt F)),
    nullary main_cst_9 (constant S_ .f32 0x3F800000#32),
    unary main_cst_9 main_v69 (broadcastInDim S4x1x1024 ![] bcast_S_S4x1x1024 : (⟨S_, .f32⟩ : BufTy).Contents (Elt F) → (⟨S4x1x1024, .f32⟩ : BufTy).Contents (Elt F)),
    binary main_v69 main_v34 main_v70 (addf : (⟨S4x1x1024, .f32⟩ : BufTy).Contents (Elt F) → (⟨S4x1x1024, .f32⟩ : BufTy).Contents (Elt F) → (⟨S4x1x1024, .f32⟩ : BufTy).Contents (Elt F)),
    unary main_v70 main_v71 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v68 main_v71 main_v72 (mulf : (⟨S4x8192x1024, .f32⟩ : BufTy).Contents (Elt F) → (⟨S4x8192x1024, .f32⟩ : BufTy).Contents (Elt F) → (⟨S4x8192x1024, .f32⟩ : BufTy).Contents (Elt F)),
    unary main_v33 main_v73 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v72 main_v73 main_v74 (addf : (⟨S4x8192x1024, .f32⟩ : BufTy).Contents (Elt F) → (⟨S4x8192x1024, .f32⟩ : BufTy).Contents (Elt F) → (⟨S4x8192x1024, .f32⟩ : BufTy).Contents (Elt F))]

/-- The feed-forward. -/
abbrev s10 : List (HloOp τ sig (Elt F)) :=
  [ unary main_arg19 main_v75 ((extractStridedSlice S1x1024x2816 ![0, 0, 0] · slices_S2x1024x2816_S1x1024x2816_0_0_0) : (⟨S2x1024x2816, .f32⟩ : BufTy).Contents (Elt F) → (⟨S1x1024x2816, .f32⟩ : BufTy).Contents (Elt F)),
    reshape main_v75 main_v76 (rfl : (.f32 : EltTy) = .f32) shapeCasts_S1x1024x2816_S1024x2816,
    binary main_v74 main_v76 main_v77 ((fun l r => Host.dotGeneral dot_S4x8192x1024_S1024x2816_S4x8192x2816_2_0_01_1_n_n none l r) : (⟨S4x8192x1024, .f32⟩ : BufTy).Contents (Elt F) → (⟨S1024x2816, .f32⟩ : BufTy).Contents (Elt F) → (⟨S4x8192x2816, .f32⟩ : BufTy).Contents (Elt F)),
    TRef.unary (TRef.of (T := ⟨S4x8192x2816, .f32⟩) main_v77) (TRef.of (T := ⟨S4x8192x2816, .f32⟩) main_call0_v0) Host.negf,
    TRef.unary (TRef.of (T := ⟨S4x8192x2816, .f32⟩) main_call0_v0) (TRef.of (T := ⟨S4x8192x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4x8192x2816, .f32⟩) main_call0_v2) (broadcastInDim S4x8192x2816 ![] bcast_S_S4x8192x2816),
    TRef.binary (TRef.of (T := ⟨S4x8192x2816, .f32⟩) main_call0_v2) (TRef.of (T := ⟨S4x8192x2816, .f32⟩) main_call0_v1) (TRef.of (T := ⟨S4x8192x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4x8192x2816, .f32⟩) main_call0_v4) (broadcastInDim S4x8192x2816 ![] bcast_S_S4x8192x2816),
    TRef.binary (TRef.of (T := ⟨S4x8192x2816, .f32⟩) main_call0_v4) (TRef.of (T := ⟨S4x8192x2816, .f32⟩) main_call0_v3) (TRef.of (T := ⟨S4x8192x2816, .f32⟩) main_call0_v5) Host.divf,
    TRef.binary (TRef.of (T := ⟨S4x8192x2816, .f32⟩) main_v77) (TRef.of (T := ⟨S4x8192x2816, .f32⟩) main_call0_v5) (TRef.of (T := ⟨S4x8192x2816, .f32⟩) main_v78) mulf,
    unary main_arg20 main_v79 ((extractStridedSlice S1x1024x2816 ![0, 0, 0] · slices_S2x1024x2816_S1x1024x2816_0_0_0) : (⟨S2x1024x2816, .f32⟩ : BufTy).Contents (Elt F) → (⟨S1x1024x2816, .f32⟩ : BufTy).Contents (Elt F)),
    reshape main_v79 main_v80 (rfl : (.f32 : EltTy) = .f32) shapeCasts_S1x1024x2816_S1024x2816,
    binary main_v74 main_v80 main_v81 ((fun l r => Host.dotGeneral dot_S4x8192x1024_S1024x2816_S4x8192x2816_2_0_01_1_n_n none l r) : (⟨S4x8192x1024, .f32⟩ : BufTy).Contents (Elt F) → (⟨S1024x2816, .f32⟩ : BufTy).Contents (Elt F) → (⟨S4x8192x2816, .f32⟩ : BufTy).Contents (Elt F)),
    binary main_v78 main_v81 main_v82 (mulf : (⟨S4x8192x2816, .f32⟩ : BufTy).Contents (Elt F) → (⟨S4x8192x2816, .f32⟩ : BufTy).Contents (Elt F) → (⟨S4x8192x2816, .f32⟩ : BufTy).Contents (Elt F)),
    unary main_arg21 main_v83 ((extractStridedSlice S1x2816x1024 ![0, 0, 0] · slices_S2x2816x1024_S1x2816x1024_0_0_0) : (⟨S2x2816x1024, .f32⟩ : BufTy).Contents (Elt F) → (⟨S1x2816x1024, .f32⟩ : BufTy).Contents (Elt F)),
    reshape main_v83 main_v84 (rfl : (.f32 : EltTy) = .f32) shapeCasts_S1x2816x1024_S2816x1024,
    binary main_v82 main_v84 main_v85 ((fun l r => Host.dotGeneral dot_S4x8192x2816_S2816x1024_S4x8192x1024_2_0_01_1_n_n none l r) : (⟨S4x8192x2816, .f32⟩ : BufTy).Contents (Elt F) → (⟨S2816x1024, .f32⟩ : BufTy).Contents (Elt F) → (⟨S4x8192x1024, .f32⟩ : BufTy).Contents (Elt F))]

/-- The second sum. -/
abbrev s11 : List (HloOp τ sig (Elt F)) :=
  [ unary main_arg18 main_v86 ((extractStridedSlice S1x1024 ![0, 0] · slices_S2x1024_S1x1024_0_0) : (⟨S2x1024, .f32⟩ : BufTy).Contents (Elt F) → (⟨S1x1024, .f32⟩ : BufTy).Contents (Elt F)),
    reshape main_v86 main_v87 (rfl : (.f32 : EltTy) = .f32) shapeCasts_S1x1024_S1024,
    binary main_v85 main_v85 main_v88 (mulf : (⟨S4x8192x1024, .f32⟩ : BufTy).Contents (Elt F) → (⟨S4x8192x1024, .f32⟩ : BufTy).Contents (Elt F) → (⟨S4x8192x1024, .f32⟩ : BufTy).Contents (Elt F)),
    nullary main_cst_10 (constant S_ .f32 0x00000000#32),
    binary main_v88 main_cst_10 main_v89 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v89 main_v90 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_11 (constant S_ .f32 0x44800000#32),
    unary main_cst_11 main_v91 (broadcastInDim S4x8192x1 ![] bcast_S_S4x8192x1 : (⟨S_, .f32⟩ : BufTy).Contents (Elt F) → (⟨S4x8192x1, .f32⟩ : BufTy).Contents (Elt F)),
    binary main_v90 main_v91 main_v92 (Host.divf : (⟨S4x8192x1, .f32⟩ : BufTy).Contents (Elt F) → (⟨S4x8192x1, .f32⟩ : BufTy).Contents (Elt F) → (⟨S4x8192x1, .f32⟩ : BufTy).Contents (Elt F)),
    nullary main_cst_12 (constant S_ .f32 0x358637BD#32),
    unary main_cst_12 main_v93 (broadcastInDim S4x8192x1 ![] bcast_S_S4x8192x1 : (⟨S_, .f32⟩ : BufTy).Contents (Elt F) → (⟨S4x8192x1, .f32⟩ : BufTy).Contents (Elt F)),
    binary main_v92 main_v93 main_v94 (addf : (⟨S4x8192x1, .f32⟩ : BufTy).Contents (Elt F) → (⟨S4x8192x1, .f32⟩ : BufTy).Contents (Elt F) → (⟨S4x8192x1, .f32⟩ : BufTy).Contents (Elt F)),
    unary main_v94 main_v95 (Host.rsqrt : (⟨S4x8192x1, .f32⟩ : BufTy).Contents (Elt F) → (⟨S4x8192x1, .f32⟩ : BufTy).Contents (Elt F)),
    unary main_v95 main_v96 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v85 main_v96 main_v97 (mulf : (⟨S4x8192x1024, .f32⟩ : BufTy).Contents (Elt F) → (⟨S4x8192x1024, .f32⟩ : BufTy).Contents (Elt F) → (⟨S4x8192x1024, .f32⟩ : BufTy).Contents (Elt F)),
    unary main_v87 main_v98 (broadcastInDim S1x1x1024 ![2] bcast_S1024_S1x1x1024_2 : (⟨S1024, .f32⟩ : BufTy).Contents (Elt F) → (⟨S1x1x1024, .f32⟩ : BufTy).Contents (Elt F)),
    unary main_v98 main_v99 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v97 main_v99 main_v100 (mulf : (⟨S4x8192x1024, .f32⟩ : BufTy).Contents (Elt F) → (⟨S4x8192x1024, .f32⟩ : BufTy).Contents (Elt F) → (⟨S4x8192x1024, .f32⟩ : BufTy).Contents (Elt F)),
    unary main_v35 main_v101 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v101 main_v100 main_v102 (mulf : (⟨S4x8192x1024, .f32⟩ : BufTy).Contents (Elt F) → (⟨S4x8192x1024, .f32⟩ : BufTy).Contents (Elt F) → (⟨S4x8192x1024, .f32⟩ : BufTy).Contents (Elt F)),
    binary main_v53 main_v102 main_v103 (addf : (⟨S4x8192x1024, .f32⟩ : BufTy).Contents (Elt F) → (⟨S4x8192x1024, .f32⟩ : BufTy).Contents (Elt F) → (⟨S4x8192x1024, .f32⟩ : BufTy).Contents (Elt F))]

/-- All the operations. -/
abbrev ops : List (HloOp τ sig (Elt F)) := s1 ++ (s2 ++ (s3 ++ (s4 ++ (s5 ++ (s6 ++ (s7 ++ (s8 ++ (s9 ++ (s10 ++ (s11))))))))))

set_option maxHeartbeats 4000000 in
/-- The program is its operations in order. -/
theorem main_eq (c : Dev nD) : main (F := F) c = seq ops := rfl
/-- No buffer is scoped. -/
theorem refs_none : (Finset.univ.filter fun b : Ref sig .tc => b.isScoped) = ∅ := by decide
/-- No semaphore is scoped. -/
theorem sems_none : (Finset.univ.filter fun sm : SemLoc sig => sm.isScoped .tc) = ∅ := by decide

theorem sub1 : (s1 : List (HloOp τ sig (Elt F))).Forall fun op => op.bufs ⊆ tcRefs τ sig :=
  ⟨binary_bufs_sub .., binary_bufs_sub .., binary_bufs_sub .., binary_bufs_sub .., binary_bufs_sub .., binary_bufs_sub .., unary_bufs_sub .., unary_bufs_sub .., unary_bufs_sub ..⟩
theorem sub2 : (s2 : List (HloOp τ sig (Elt F))).Forall fun op => op.bufs ⊆ tcRefs τ sig :=
  nary_bufs_sub ..
theorem sub3 : (s3 : List (HloOp τ sig (Elt F))).Forall fun op => op.bufs ⊆ tcRefs τ sig :=
  ⟨nullary_bufs_sub .., binary_bufs_sub ..⟩
theorem sub4 : (s4 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub ..⟩
theorem sub5 : (s5 : List (HloOp τ sig (Elt F))).Forall fun op => op.bufs ⊆ tcRefs τ sig :=
  nary_bufs_sub ..
theorem sub6 : (s6 : List (HloOp τ sig (Elt F))).Forall fun op => op.bufs ⊆ tcRefs τ sig :=
  ⟨binary_bufs_sub .., nullary_bufs_sub .., binary_bufs_sub ..⟩
theorem sub7 : (s7 : List (HloOp τ sig (Elt F))).Forall fun op => op.bufs ⊆ tcRefs τ sig :=
  ⟨unary_bufs_sub .., binary_bufs_sub .., binary_bufs_sub ..⟩
theorem sub8 : (s8 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩
theorem sub9 : (s9 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩
theorem sub10 : (s10 : List (HloOp τ sig (Elt F))).Forall fun op => op.bufs ⊆ tcRefs τ sig :=
  ⟨unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., reshape_bufs_sub .., binary_bufs_sub ..⟩
theorem sub11 : (s11 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

/-- Every operation's buffers are the program's. -/
theorem ops_sub : (ops : List (HloOp τ sig (Elt F))).Forall fun op => op.bufs ⊆ tcRefs τ sig :=
  List.forall_append.2 ⟨sub1, List.forall_append.2 ⟨sub2, List.forall_append.2 ⟨sub3, List.forall_append.2 ⟨sub4, List.forall_append.2 ⟨sub5, List.forall_append.2 ⟨sub6, List.forall_append.2 ⟨sub7, List.forall_append.2 ⟨sub8, List.forall_append.2 ⟨sub9, List.forall_append.2 ⟨sub10, sub11⟩⟩⟩⟩⟩⟩⟩⟩⟩⟩

/-- What a list of operations and then another leave is what the other leaves of what the first leaves. -/
theorem after_append : ∀ (a b : List (HloOp τ sig (Elt F))) (V : Valuation τ sig (Elt F)), after (a ++ b) V = after b (after a V)
  | [], _, _ => rfl
  | o :: a, b, V => after_append a b (o.result V)

theorem fr1 : ∀ op ∈ (s1 : List (HloOp τ sig (Elt F))), op.fresh = ∅ := List.forall_iff_forall_mem.1 (forall_fresh_of_map rfl)
theorem fr2 : ∀ op ∈ (s2 : List (HloOp τ sig (Elt F))), op.fresh = ∅ := List.forall_iff_forall_mem.1 (forall_fresh_of_map rfl)
theorem fr3 : ∀ op ∈ (s3 : List (HloOp τ sig (Elt F))), op.fresh = ∅ := List.forall_iff_forall_mem.1 (forall_fresh_of_map rfl)
theorem fr4 : ∀ op ∈ (s4 : List (HloOp τ sig (Elt F))), op.fresh = ∅ := List.forall_iff_forall_mem.1 (forall_fresh_of_map rfl)
theorem fr5 : ∀ op ∈ (s5 : List (HloOp τ sig (Elt F))), op.fresh = ∅ := List.forall_iff_forall_mem.1 (forall_fresh_of_map rfl)
theorem fr6 : ∀ op ∈ (s6 : List (HloOp τ sig (Elt F))), op.fresh = ∅ := List.forall_iff_forall_mem.1 (forall_fresh_of_map rfl)
theorem fr7 : ∀ op ∈ (s7 : List (HloOp τ sig (Elt F))), op.fresh = ∅ := List.forall_iff_forall_mem.1 (forall_fresh_of_map rfl)
theorem fr8 : ∀ op ∈ (s8 : List (HloOp τ sig (Elt F))), op.fresh = ∅ := List.forall_iff_forall_mem.1 (forall_fresh_of_map rfl)
theorem fr9 : ∀ op ∈ (s9 : List (HloOp τ sig (Elt F))), op.fresh = ∅ := List.forall_iff_forall_mem.1 (forall_fresh_of_map rfl)
theorem fr10 : ∀ op ∈ (s10 : List (HloOp τ sig (Elt F))), op.fresh = ∅ := List.forall_iff_forall_mem.1 (forall_fresh_of_map rfl)
theorem fr11 : ∀ op ∈ (s11 : List (HloOp τ sig (Elt F))), op.fresh = ∅ := List.forall_iff_forall_mem.1 (forall_fresh_of_map rfl)

/-- No operation takes a new buffer. -/
theorem ops_fresh (op : HloOp τ sig (Elt F)) (h : op ∈ (ops : List (HloOp τ sig (Elt F)))) : op.fresh = ∅ := by
  rcases List.mem_append.1 h with h | h
  · exact fr1 op h
  rcases List.mem_append.1 h with h | h
  · exact fr2 op h
  rcases List.mem_append.1 h with h | h
  · exact fr3 op h
  rcases List.mem_append.1 h with h | h
  · exact fr4 op h
  rcases List.mem_append.1 h with h | h
  · exact fr5 op h
  rcases List.mem_append.1 h with h | h
  · exact fr6 op h
  rcases List.mem_append.1 h with h | h
  · exact fr7 op h
  rcases List.mem_append.1 h with h | h
  · exact fr8 op h
  rcases List.mem_append.1 h with h | h
  · exact fr9 op h
  rcases List.mem_append.1 h with h | h
  · exact fr10 op h
  exact fr11 op h

/-- Every run ends, each buffer holding what the lists leave of the contents at the start. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after s11 (after s10 (after s9 (after s8 (after s7 (after s6 (after s5 (after s4 (after s3 (after s2 (after s1 (launchContents m c))))))))))) (Proc.devRef .tc b) :=
  (θ_run defs _ _).mono (fun _ h c b => (h c b).trans (by rw [after_append, after_append, after_append, after_append, after_append, after_append, after_append, after_append, after_append, after_append]))
    (run_seq refs_none sems_none defs main (fun _ => ops) main_eq (fun _ => ops_sub) m ρ fun _ => ops_fresh)

end Cert.TailEvenRefRun

end
-- ==== Proof.TailEvenRefStage.lean ====
module

public import proofs.«01_k».proof.Proof.TailEvenRefRun
public import proofs.«01_k».proof.Proof.TailMerge

/-!
What each of the reference's eleven lists of operations leaves, at one position and one column.
-/

@[expose] public section

set_option maxRecDepth 16384

noncomputable section

namespace Cert.TailEvenRefStage

open Cert.TailEvenRefIdeal Cert.TailEvenRefIdeal.Gen Cert.TailEvenRefRun Cert.TailSpec Cert.TailMerge
open Idealize.ShloMosaic Idealize.ShloMosaic.TcCoe Idealize.SL.Sem Idealize.ShloMosaic.StableHlo

variable (V : Valuation τ sig (Elt Ideal))

/-- The buffers the first list writes. -/
abbrev w1 : List (Ref sig .tc) := [main_v0, main_v1, main_v2, main_v3, main_v4, main_v5, main_v6, main_v7, main_v8]
/-- The list leaves the other buffers as they were. -/
theorem keep1 {r : Ref sig .tc} (h : r ∉ w1) : after s1 V (Proc.devRef .tc r) = V (Proc.devRef .tc r) :=
  after_of_writes_sub s1 V (forall_writes_sub_of_map (W := w1) rfl) h

/-- The buffers the second list writes. -/
abbrev w2 : List (Ref sig .tc) := [main_v9]
/-- The list leaves the other buffers as they were. -/
theorem keep2 {r : Ref sig .tc} (h : r ∉ w2) : after s2 V (Proc.devRef .tc r) = V (Proc.devRef .tc r) :=
  after_of_writes_sub s2 V (forall_writes_sub_of_map (W := w2) rfl) h

/-- The buffers the third list writes. -/
abbrev w3 : List (Ref sig .tc) := [main_cst, main_v10]
/-- The list leaves the other buffers as they were. -/
theorem keep3 {r : Ref sig .tc} (h : r ∉ w3) : after s3 V (Proc.devRef .tc r) = V (Proc.devRef .tc r) :=
  after_of_writes_sub s3 V (forall_writes_sub_of_map (W := w3) rfl) h

/-- The buffers the fourth list writes. -/
abbrev w4 : List (Ref sig .tc) := [main_cst_0, main_v11, main_v12, main_v13, main_v14, main_v15, main_v16, main_cst_1, main_v17, main_v18, main_v19, main_v20, main_v21, main_v22, main_v23]
/-- The list leaves the other buffers as they were. -/
theorem keep4 {r : Ref sig .tc} (h : r ∉ w4) : after s4 V (Proc.devRef .tc r) = V (Proc.devRef .tc r) :=
  after_of_writes_sub s4 V (forall_writes_sub_of_map (W := w4) rfl) h

/-- The buffers the fifth list writes. -/
abbrev w5 : List (Ref sig .tc) := [main_v24]
/-- The list leaves the other buffers as they were. -/
theorem keep5 {r : Ref sig .tc} (h : r ∉ w5) : after s5 V (Proc.devRef .tc r) = V (Proc.devRef .tc r) :=
  after_of_writes_sub s5 V (forall_writes_sub_of_map (W := w5) rfl) h

/-- The buffers the sixth list writes. -/
abbrev w6 : List (Ref sig .tc) := [main_v25, main_cst_2, main_v26]
/-- The list leaves the other buffers as they were. -/
theorem keep6 {r : Ref sig .tc} (h : r ∉ w6) : after s6 V (Proc.devRef .tc r) = V (Proc.devRef .tc r) :=
  after_of_writes_sub s6 V (forall_writes_sub_of_map (W := w6) rfl) h

/-- The buffers the seventh list writes. -/
abbrev w7 : List (Ref sig .tc) := [main_v27, main_v28, main_v29]
/-- The list leaves the other buffers as they were. -/
theorem keep7 {r : Ref sig .tc} (h : r ∉ w7) : after s7 V (Proc.devRef .tc r) = V (Proc.devRef .tc r) :=
  after_of_writes_sub s7 V (forall_writes_sub_of_map (W := w7) rfl) h

/-- The buffers the eighth list writes. -/
abbrev w8 : List (Ref sig .tc) := [main_v30, main_v31, main_v32, main_v33, main_v34, main_v35, main_v36, main_v37, main_v38, main_cst_3, main_v39, main_v40, main_cst_4, main_v41, main_v42, main_cst_5, main_v43, main_v44, main_v45, main_v46, main_v47, main_v48, main_v49, main_v50, main_v51, main_v52, main_v53]
/-- The list leaves the other buffers as they were. -/
theorem keep8 {r : Ref sig .tc} (h : r ∉ w8) : after s8 V (Proc.devRef .tc r) = V (Proc.devRef .tc r) :=
  after_of_writes_sub s8 V (forall_writes_sub_of_map (W := w8) rfl) h

/-- The buffers the ninth list writes. -/
abbrev w9 : List (Ref sig .tc) := [main_v54, main_v55, main_v56, main_cst_6, main_v57, main_v58, main_cst_7, main_v59, main_v60, main_cst_8, main_v61, main_v62, main_v63, main_v64, main_v65, main_v66, main_v67, main_v68, main_cst_9, main_v69, main_v70, main_v71, main_v72, main_v73, main_v74]
/-- The list leaves the other buffers as they were. -/
theorem keep9 {r : Ref sig .tc} (h : r ∉ w9) : after s9 V (Proc.devRef .tc r) = V (Proc.devRef .tc r) :=
  after_of_writes_sub s9 V (forall_writes_sub_of_map (W := w9) rfl) h

/-- The buffers the tenth list writes. -/
abbrev w10 : List (Ref sig .tc) := [main_v75, main_v76, main_v77, main_call0_v0, main_call0_v1, main_call0_cst, main_call0_v2, main_call0_v3, main_call0_cst_0, main_call0_v4, main_call0_v5, main_v78, main_v79, main_v80, main_v81, main_v82, main_v83, main_v84, main_v85]
/-- The list leaves the other buffers as they were. -/
theorem keep10 {r : Ref sig .tc} (h : r ∉ w10) : after s10 V (Proc.devRef .tc r) = V (Proc.devRef .tc r) :=
  after_of_writes_sub s10 V (forall_writes_sub_of_map (W := w10) rfl) h

/-- The buffers the eleventh list writes. -/
abbrev w11 : List (Ref sig .tc) := [main_v86, main_v87, main_v88, main_cst_10, main_v89, main_v90, main_cst_11, main_v91, main_v92, main_cst_12, main_v93, main_v94, main_v95, main_v96, main_v97, main_v98, main_v99, main_v100, main_v101, main_v102, main_v103]
/-- The list leaves the other buffers as they were. -/
theorem keep11 {r : Ref sig .tc} (h : r ∉ w11) : after s11 V (Proc.devRef .tc r) = V (Proc.devRef .tc r) :=
  after_of_writes_sub s11 V (forall_writes_sub_of_map (W := w11) rfl) h

/-- The left array's columns come first. -/
theorem cat128_left (x y : (⟨S4x8192x128, .f32⟩ : BufTy).Contents (Elt Ideal)) (b : Fin 4) (t : Fin 8192) (k : Fin 128) :
    cat128 x y (ix3 b t ⟨k.val, by omega⟩) = x (ix3 b t k) := by
  pointwise [cat128]

/-- The right array's columns come last. -/
theorem cat128_right (x y : (⟨S4x8192x128, .f32⟩ : BufTy).Contents (Elt Ideal)) (b : Fin 4) (t : Fin 8192) (k : Fin 128) :
    cat128 x y (ix3 b t ⟨128 + k.val, by omega⟩) = y (ix3 b t k) := by
  pointwise [cat128]

/-- The left array's columns come first. -/
theorem cat512_left (x : (⟨S4x8192x512, .f32⟩ : BufTy).Contents (Elt Ideal)) (y : (⟨S4x8192x256, .f32⟩ : BufTy).Contents (Elt Ideal)) (b : Fin 4) (t : Fin 8192) (k : Fin 512) :
    cat512 x y (ix3 b t ⟨k.val, by omega⟩) = x (ix3 b t k) := by
  pointwise [cat512]

/-- The right array's columns come last. -/
theorem cat512_right (x : (⟨S4x8192x512, .f32⟩ : BufTy).Contents (Elt Ideal)) (y : (⟨S4x8192x256, .f32⟩ : BufTy).Contents (Elt Ideal)) (b : Fin 4) (t : Fin 8192) (k : Fin 256) :
    cat512 x y (ix3 b t ⟨512 + k.val, by omega⟩) = y (ix3 b t k) := by
  pointwise [cat512]

/-- The right array's first half. -/
theorem cat512_mid (x : (⟨S4x8192x512, .f32⟩ : BufTy).Contents (Elt Ideal)) (y : (⟨S4x8192x256, .f32⟩ : BufTy).Contents (Elt Ideal)) (b : Fin 4) (t : Fin 8192) (k : Fin 128) :
    cat512 x y (ix3 b t ⟨512 + k.val, by omega⟩) = y (ix3 b t ⟨k.val, by omega⟩) :=
  cat512_right x y b t ⟨k.val, by omega⟩

/-- The right array's second half. -/
theorem cat512_last (x : (⟨S4x8192x512, .f32⟩ : BufTy).Contents (Elt Ideal)) (y : (⟨S4x8192x256, .f32⟩ : BufTy).Contents (Elt Ideal)) (b : Fin 4) (t : Fin 8192) (k : Fin 128) :
    cat512 x y (ix3 b t ⟨640 + k.val, by omega⟩) = y (ix3 b t ⟨128 + k.val, by omega⟩) := by
  rw [← cat512_right x y b t ⟨128 + k.val, by omega⟩]
  exact congrArg (fun j => cat512 x y (ix3 b t j)) (Fin.ext (by show 640 + k.val = 512 + (128 + k.val); omega))

/-- A group's outputs side by side. -/
theorem st1_v0 : (after s1 V (Proc.devRef .tc main_v0) : Vec Ideal S4x8192x256 .f32) = cat128 (F := Ideal) (V (Proc.devRef .tc main_arg3) : Vec Ideal S4x8192x128 .f32) (V (Proc.devRef .tc main_arg4) : Vec Ideal S4x8192x128 .f32) := by
  simp only [s1]
  after_results_simp
  try rfl

/-- A group's outputs side by side. -/
theorem st1_v1 : (after s1 V (Proc.devRef .tc main_v1) : Vec Ideal S4x8192x256 .f32) = cat128 (F := Ideal) (V (Proc.devRef .tc main_arg5) : Vec Ideal S4x8192x128 .f32) (V (Proc.devRef .tc main_arg6) : Vec Ideal S4x8192x128 .f32) := by
  simp only [s1]
  after_results_simp
  try rfl

/-- A group's outputs side by side. -/
theorem st1_v2 : (after s1 V (Proc.devRef .tc main_v2) : Vec Ideal S4x8192x256 .f32) = cat128 (F := Ideal) (V (Proc.devRef .tc main_arg7) : Vec Ideal S4x8192x128 .f32) (V (Proc.devRef .tc main_arg8) : Vec Ideal S4x8192x128 .f32) := by
  simp only [s1]
  after_results_simp
  try rfl

/-- A group's logarithms side by side. -/
theorem st1_v6 (b : Fin 4) (t : Fin 8192) (j : Fin 256) : (after s1 V (Proc.devRef .tc main_v6) : Vec Ideal S1x4x8192x256 .f32) (ix4 0 b t j) = cat128 (F := Ideal) (V (Proc.devRef .tc main_arg9) : Vec Ideal S4x8192x128 .f32) (V (Proc.devRef .tc main_arg10) : Vec Ideal S4x8192x128 .f32) (ix3 b t j) := by
  simp only [s1]
  after_results_simp
  pointwise []

/-- A group's logarithms side by side. -/
theorem st1_v7 (b : Fin 4) (t : Fin 8192) (j : Fin 256) : (after s1 V (Proc.devRef .tc main_v7) : Vec Ideal S1x4x8192x256 .f32) (ix4 0 b t j) = cat128 (F := Ideal) (V (Proc.devRef .tc main_arg11) : Vec Ideal S4x8192x128 .f32) (V (Proc.devRef .tc main_arg12) : Vec Ideal S4x8192x128 .f32) (ix3 b t j) := by
  simp only [s1]
  after_results_simp
  pointwise []

/-- A group's logarithms side by side. -/
theorem st1_v8 (b : Fin 4) (t : Fin 8192) (j : Fin 256) : (after s1 V (Proc.devRef .tc main_v8) : Vec Ideal S1x4x8192x256 .f32) (ix4 0 b t j) = cat128 (F := Ideal) (V (Proc.devRef .tc main_arg13) : Vec Ideal S4x8192x128 .f32) (V (Proc.devRef .tc main_arg14) : Vec Ideal S4x8192x128 .f32) (ix3 b t j) := by
  simp only [s1]
  after_results_simp
  pointwise []

/-- The first of a stack. -/
theorem stack3_0 (x0 x1 x2 : (⟨S1x4x8192x256, .f32⟩ : BufTy).Contents (Elt Ideal)) (b : Fin 4) (t : Fin 8192) (j : Fin 256) :
    stack3 x0 x1 x2 (ix4 0 b t j) = x0 (ix4 0 b t j) := by
  pointwise [stack3]

/-- The second of a stack. -/
theorem stack3_1 (x0 x1 x2 : (⟨S1x4x8192x256, .f32⟩ : BufTy).Contents (Elt Ideal)) (b : Fin 4) (t : Fin 8192) (j : Fin 256) :
    stack3 x0 x1 x2 (ix4 1 b t j) = x1 (ix4 0 b t j) := by
  pointwise [stack3]

/-- The third of a stack. -/
theorem stack3_2 (x0 x1 x2 : (⟨S1x4x8192x256, .f32⟩ : BufTy).Contents (Elt Ideal)) (b : Fin 4) (t : Fin 8192) (j : Fin 256) :
    stack3 x0 x1 x2 (ix4 2 b t j) = x2 (ix4 0 b t j) := by
  pointwise [stack3]

/-- The stack. -/
theorem st2_v9 : (after s2 V (Proc.devRef .tc main_v9) : Vec Ideal S3x4x8192x256 .f32) = stack3 (F := Ideal) (V (Proc.devRef .tc main_v6) : Vec Ideal S1x4x8192x256 .f32) (V (Proc.devRef .tc main_v7) : Vec Ideal S1x4x8192x256 .f32) (V (Proc.devRef .tc main_v8) : Vec Ideal S1x4x8192x256 .f32) := by
  simp only [s2]
  after_results_simp
  rfl

/-- The stack. -/
theorem st5_v24 : (after s5 V (Proc.devRef .tc main_v24) : Vec Ideal S3x4x8192x256 .f32) = stack3 (F := Ideal) (V (Proc.devRef .tc main_v21) : Vec Ideal S1x4x8192x256 .f32) (V (Proc.devRef .tc main_v22) : Vec Ideal S1x4x8192x256 .f32) (V (Proc.devRef .tc main_v23) : Vec Ideal S1x4x8192x256 .f32) := by
  simp only [s5]
  after_results_simp
  rfl

/-- The positions whose first coordinate is folded away are those along that axis. -/
theorem fiber4 (b : Fin 4) (t : Fin 8192) (j : Fin 256) (i : S3x4x8192x256.Idx) :
    Gen.reducesTo_S3x4x8192x256_S4x8192x256_d0.drop i = ix3 b t j ↔ ∃ k : Fin 3, (ix4 k b t j : S3x4x8192x256.Idx) = i := by
  constructor
  · intro e
    refine ⟨i 0, funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
  · rintro ⟨k, rfl⟩
    refine funext fun a => Fin.ext ?_
    match a with
    | ⟨0, _⟩ => rfl
    | ⟨1, _⟩ => rfl
    | ⟨2, _⟩ => rfl

/-- The greatest along the stack. -/
theorem red_max (x : Vec Ideal S3x4x8192x256 .f32) (b : Fin 4) (t : Fin 8192) (j : Fin 256) :
    Host.reduce FloatOps.maximumf x (constant (F := Ideal) S_ .f32 0xFF800000#32) reducesTo_S3x4x8192x256_S4x8192x256_d0 h_S_ (ix3 b t j)
      = max3 (x (ix4 0 b t j)) (x (ix4 1 b t j)) (x (ix4 2 b t j)) := by
  rw [Host.reduce_eq_fold]
  exact (Finset.fold_filter_eq_fold_of_fiber (FloatOps.maximumf (F := Ideal)) _ (fun k : Fin 3 => (ix4 k b t j : S3x4x8192x256.Idx)) (fun _ _ e => congrFun e 0) (fiber4 b t j) _ x).trans
    (fold_three fun g => x (ix4 g b t j))

/-- The third list: the greatest logarithm. -/
theorem st3 (b : Fin 4) (t : Fin 8192) (j : Fin 256) : (after s3 V (Proc.devRef .tc main_v10) : Vec Ideal S4x8192x256 .f32) (ix3 b t j)
    = max3 ((V (Proc.devRef .tc main_v9) : Vec Ideal S3x4x8192x256 .f32) (ix4 0 b t j)) ((V (Proc.devRef .tc main_v9) : Vec Ideal S3x4x8192x256 .f32) (ix4 1 b t j)) ((V (Proc.devRef .tc main_v9) : Vec Ideal S3x4x8192x256 .f32) (ix4 2 b t j)) := by
  simp only [s3]
  after_results_simp
  exact red_max _ b t j

/-- The fourth list: the softmax. -/
theorem st4 (g : Fin 3) (b : Fin 4) (t : Fin 8192) (j : Fin 256) : (after s4 V (Proc.devRef .tc main_v20) : Vec Ideal S3x4x8192x256 .f32) (ix4 g b t j)
    = soft (fun g => (V (Proc.devRef .tc main_v9) : Vec Ideal S3x4x8192x256 .f32) (ix4 g b t j)) ((V (Proc.devRef .tc main_v10) : Vec Ideal S4x8192x256 .f32) (ix3 b t j)) g := by
  simp only [s4]
  after_results_simp
  pointwise []
  rfl

/-- A group's outputs, to be stacked. -/
theorem st4_v21 (b : Fin 4) (t : Fin 8192) (j : Fin 256) : (after s4 V (Proc.devRef .tc main_v21) : Vec Ideal S1x4x8192x256 .f32) (ix4 0 b t j) = (V (Proc.devRef .tc main_v0) : Vec Ideal S4x8192x256 .f32) (ix3 b t j) := by
  simp only [s4]
  after_results_simp
  pointwise []

/-- A group's outputs, to be stacked. -/
theorem st4_v22 (b : Fin 4) (t : Fin 8192) (j : Fin 256) : (after s4 V (Proc.devRef .tc main_v22) : Vec Ideal S1x4x8192x256 .f32) (ix4 0 b t j) = (V (Proc.devRef .tc main_v1) : Vec Ideal S4x8192x256 .f32) (ix3 b t j) := by
  simp only [s4]
  after_results_simp
  pointwise []

/-- A group's outputs, to be stacked. -/
theorem st4_v23 (b : Fin 4) (t : Fin 8192) (j : Fin 256) : (after s4 V (Proc.devRef .tc main_v23) : Vec Ideal S1x4x8192x256 .f32) (ix4 0 b t j) = (V (Proc.devRef .tc main_v2) : Vec Ideal S4x8192x256 .f32) (ix3 b t j) := by
  simp only [s4]
  after_results_simp
  pointwise []

/-- The sixth list: the outputs weighted and summed. -/
theorem st6 (b : Fin 4) (t : Fin 8192) (j : Fin 256) : (after s6 V (Proc.devRef .tc main_v26) : Vec Ideal S4x8192x256 .f32) (ix3 b t j) =
    dot3 (fun g => (V (Proc.devRef .tc main_v20) : Vec Ideal S3x4x8192x256 .f32) (ix4 g b t j)) (fun g => (V (Proc.devRef .tc main_v24) : Vec Ideal S3x4x8192x256 .f32) (ix4 g b t j)) := by
  simp only [s6]
  after_results_simp
  pointwise []
  rfl

/-- The seventh list: the mixers' outputs through the output projection. -/
theorem st7 (b : Fin 4) (t : Fin 8192) (c : Fin 1024) : (after s7 V (Proc.devRef .tc main_v29) : Vec Ideal S4x8192x1024 .f32) (ix3 b t c)
    = proj (fun k => (V (Proc.devRef .tc main_arg2) : Vec Ideal S4x8192x512 .bf16) (ix3 b t k)) (fun k => (V (Proc.devRef .tc main_v26) : Vec Ideal S4x8192x256 .f32) (ix3 b t ⟨k.val, by omega⟩))
      (fun k => (V (Proc.devRef .tc main_v26) : Vec Ideal S4x8192x256 .f32) (ix3 b t ⟨128 + k.val, by omega⟩)) (fun k c => (V (Proc.devRef .tc main_arg16) : Vec Ideal S768x1024 .f32) (ix2 k c)) c := by
  simp only [s7]
  after_results_simp
  pointwise []
  rw [sum_three]
  unfold proj dot512
  simp only [cat512_left, cat512_mid, cat512_last]
  rfl

/-- The eighth list: the row with the normalised output of the mixers added. -/
theorem st8 (b : Fin 4) (t : Fin 8192) (c : Fin 1024) :
    (after s8 V (Proc.devRef .tc main_v53) : Vec Ideal S4x8192x1024 .f32) (ix3 b t c) = mix (fun c => (V (Proc.devRef .tc main_arg0) : Vec Ideal S4x8192x1024 .f32) (ix3 b t c)) (fun c => (V (Proc.devRef .tc main_arg1) : Vec Ideal S4x1x6144 .f32) (ix3 b 0 ⟨2048 + c.val, by omega⟩)) (fun c => (V (Proc.devRef .tc main_v29) : Vec Ideal S4x8192x1024 .f32) (ix3 b t c)) (fun c => (V (Proc.devRef .tc main_arg15) : Vec Ideal S2x1024 .f32) (ix2 0 c)) c := by
  simp only [s8, TRef.binary, TRef.nullary, TRef.unary, TRef.toBuf, TRef.ofBuf, cast_eq]
  after_results_simp
  pointwise []
  rfl

/-- A part of the adaptation. -/
theorem st8_v33 (b : Fin 4) (c : Fin 1024) :
    (after s8 V (Proc.devRef .tc main_v33) : Vec Ideal S4x1x1024 .f32) (ix3 b 0 c) = (V (Proc.devRef .tc main_arg1) : Vec Ideal S4x1x6144 .f32) (ix3 b 0 ⟨3072 + c.val, by omega⟩) := by
  simp only [s8, TRef.binary, TRef.nullary, TRef.unary, TRef.toBuf, TRef.ofBuf, cast_eq]
  after_results_simp
  pointwise []

/-- A part of the adaptation. -/
theorem st8_v34 (b : Fin 4) (c : Fin 1024) :
    (after s8 V (Proc.devRef .tc main_v34) : Vec Ideal S4x1x1024 .f32) (ix3 b 0 c) = (V (Proc.devRef .tc main_arg1) : Vec Ideal S4x1x6144 .f32) (ix3 b 0 ⟨4096 + c.val, by omega⟩) := by
  simp only [s8, TRef.binary, TRef.nullary, TRef.unary, TRef.toBuf, TRef.ofBuf, cast_eq]
  after_results_simp
  pointwise []

/-- A part of the adaptation. -/
theorem st8_v35 (b : Fin 4) (c : Fin 1024) :
    (after s8 V (Proc.devRef .tc main_v35) : Vec Ideal S4x1x1024 .f32) (ix3 b 0 c) = (V (Proc.devRef .tc main_arg1) : Vec Ideal S4x1x6144 .f32) (ix3 b 0 ⟨5120 + c.val, by omega⟩) := by
  simp only [s8, TRef.binary, TRef.nullary, TRef.unary, TRef.toBuf, TRef.ofBuf, cast_eq]
  after_results_simp
  pointwise []

/-- The ninth list: the row the feed-forward reads. -/
theorem st9 (b : Fin 4) (t : Fin 8192) (c : Fin 1024) :
    (after s9 V (Proc.devRef .tc main_v74) : Vec Ideal S4x8192x1024 .f32) (ix3 b t c) = hid (fun c => (V (Proc.devRef .tc main_v53) : Vec Ideal S4x8192x1024 .f32) (ix3 b t c)) (fun c => (V (Proc.devRef .tc main_arg17) : Vec Ideal S2x1024 .f32) (ix2 0 c)) (fun c => (V (Proc.devRef .tc main_v34) : Vec Ideal S4x1x1024 .f32) (ix3 b 0 c)) (fun c => (V (Proc.devRef .tc main_v33) : Vec Ideal S4x1x1024 .f32) (ix3 b 0 c)) c := by
  simp only [s9, TRef.binary, TRef.nullary, TRef.unary, TRef.toBuf, TRef.ofBuf, cast_eq]
  after_results_simp
  pointwise []
  rfl

/-- The tenth list: the feed-forward. -/
theorem st10 (b : Fin 4) (t : Fin 8192) (c : Fin 1024) :
    (after s10 V (Proc.devRef .tc main_v85) : Vec Ideal S4x8192x1024 .f32) (ix3 b t c) = ffn (fun c => (V (Proc.devRef .tc main_v74) : Vec Ideal S4x8192x1024 .f32) (ix3 b t c)) (fun k f => (V (Proc.devRef .tc main_arg19) : Vec Ideal S2x1024x2816 .f32) (ix3 0 k f)) (fun k f => (V (Proc.devRef .tc main_arg20) : Vec Ideal S2x1024x2816 .f32) (ix3 0 k f)) (fun f c => (V (Proc.devRef .tc main_arg21) : Vec Ideal S2x2816x1024 .f32) (ix3 0 f c)) c := by
  simp only [s10, TRef.binary, TRef.nullary, TRef.unary, TRef.toBuf, TRef.ofBuf, cast_eq]
  after_results_simp
  pointwise []
  rfl

/-- The eleventh list: the feed-forward's output normalised, gated and added. -/
theorem st11 (b : Fin 4) (t : Fin 8192) (c : Fin 1024) :
    (after s11 V (Proc.devRef .tc main_v103) : Vec Ideal S4x8192x1024 .f32) (ix3 b t c) = mix (fun c => (V (Proc.devRef .tc main_v53) : Vec Ideal S4x8192x1024 .f32) (ix3 b t c)) (fun c => (V (Proc.devRef .tc main_v35) : Vec Ideal S4x1x1024 .f32) (ix3 b 0 c)) (fun c => (V (Proc.devRef .tc main_v85) : Vec Ideal S4x8192x1024 .f32) (ix3 b t c)) (fun c => (V (Proc.devRef .tc main_arg18) : Vec Ideal S2x1024 .f32) (ix2 0 c)) c := by
  simp only [s11, TRef.binary, TRef.nullary, TRef.unary, TRef.toBuf, TRef.ofBuf, cast_eq]
  after_results_simp
  pointwise []
  rfl

/-- The first six lists together: the groups' outputs merged. -/
theorem merged (b : Fin 4) (t : Fin 8192) (j : Fin 256) :
    (after s6 (after s5 (after s4 (after s3 (after s2 (after s1 V))))) (Proc.devRef .tc main_v26) : Vec Ideal S4x8192x256 .f32) (ix3 b t j)
      = wsum (cat128 (F := Ideal) (V (Proc.devRef .tc main_arg9) : Vec Ideal S4x8192x128 .f32) (V (Proc.devRef .tc main_arg10) : Vec Ideal S4x8192x128 .f32) (ix3 b t j)) (cat128 (F := Ideal) (V (Proc.devRef .tc main_arg11) : Vec Ideal S4x8192x128 .f32) (V (Proc.devRef .tc main_arg12) : Vec Ideal S4x8192x128 .f32) (ix3 b t j)) (cat128 (F := Ideal) (V (Proc.devRef .tc main_arg13) : Vec Ideal S4x8192x128 .f32) (V (Proc.devRef .tc main_arg14) : Vec Ideal S4x8192x128 .f32) (ix3 b t j)) (cat128 (F := Ideal) (V (Proc.devRef .tc main_arg3) : Vec Ideal S4x8192x128 .f32) (V (Proc.devRef .tc main_arg4) : Vec Ideal S4x8192x128 .f32) (ix3 b t j)) (cat128 (F := Ideal) (V (Proc.devRef .tc main_arg5) : Vec Ideal S4x8192x128 .f32) (V (Proc.devRef .tc main_arg6) : Vec Ideal S4x8192x128 .f32) (ix3 b t j)) (cat128 (F := Ideal) (V (Proc.devRef .tc main_arg7) : Vec Ideal S4x8192x128 .f32) (V (Proc.devRef .tc main_arg8) : Vec Ideal S4x8192x128 .f32) (ix3 b t j)) := by
  generalize h1 : after s1 V = V1
  generalize h2 : after s2 V1 = V2
  generalize h3 : after s3 V2 = V3
  generalize h4 : after s4 V3 = V4
  generalize h5 : after s5 V4 = V5
  have k2_v0 : V2 (Proc.devRef .tc main_v0) = V1 (Proc.devRef .tc main_v0) := h2 ▸ keep2 _ (by decide)
  have k2_v1 : V2 (Proc.devRef .tc main_v1) = V1 (Proc.devRef .tc main_v1) := h2 ▸ keep2 _ (by decide)
  have k2_v2 : V2 (Proc.devRef .tc main_v2) = V1 (Proc.devRef .tc main_v2) := h2 ▸ keep2 _ (by decide)
  have k3_v0 : V3 (Proc.devRef .tc main_v0) = V2 (Proc.devRef .tc main_v0) := h3 ▸ keep3 _ (by decide)
  have k3_v1 : V3 (Proc.devRef .tc main_v1) = V2 (Proc.devRef .tc main_v1) := h3 ▸ keep3 _ (by decide)
  have k3_v2 : V3 (Proc.devRef .tc main_v2) = V2 (Proc.devRef .tc main_v2) := h3 ▸ keep3 _ (by decide)
  have k3_v9 : V3 (Proc.devRef .tc main_v9) = V2 (Proc.devRef .tc main_v9) := h3 ▸ keep3 _ (by decide)
  have k5_v20 : V5 (Proc.devRef .tc main_v20) = V4 (Proc.devRef .tc main_v20) := h5 ▸ keep5 _ (by decide)
  have a0 := h1 ▸ st1_v0 V
  have a1 := h1 ▸ st1_v1 V
  have a2 := h1 ▸ st1_v2 V
  have a6 := h1 ▸ st1_v6 V b t j
  have a7 := h1 ▸ st1_v7 V b t j
  have a8 := h1 ▸ st1_v8 V b t j
  have b9 := h2 ▸ st2_v9 V1
  have c10 := h3 ▸ st3 V2 b t j
  have d20 := fun g => h4 ▸ st4 V3 g b t j
  have d21 := h4 ▸ st4_v21 V3 b t j
  have d22 := h4 ▸ st4_v22 V3 b t j
  have d23 := h4 ▸ st4_v23 V3 b t j
  have e24 := h5 ▸ st5_v24 V4
  rw [st6]
  simp only [k5_v20, d20, k3_v9, c10]
  refine (dot3_soft _ _).trans ?_
  simp only [e24, b9, stack3_0, stack3_1, stack3_2, a6, a7, a8, d21, d22, d23, k3_v0, k3_v1, k3_v2, k2_v0, k2_v1, k2_v2, a0, a1, a2]

/-- The lists together: the layer after its mixers. -/
theorem all (b : Fin 4) (t : Fin 8192) (c : Fin 1024) :
    (after s11 (after s10 (after s9 (after s8 (after s7 (after s6 (after s5 (after s4 (after s3 (after s2 (after s1 V)))))))))) (Proc.devRef .tc main_v103) : Vec Ideal S4x8192x1024 .f32) (ix3 b t c)
      = tail (fun c => (V (Proc.devRef .tc main_arg0) : Vec Ideal S4x8192x1024 .f32) (ix3 b t c)) (fun c => (V (Proc.devRef .tc main_arg1) : Vec Ideal S4x1x6144 .f32) (ix3 b 0 ⟨2048 + c.val, by omega⟩))
        (proj (fun k => (V (Proc.devRef .tc main_arg2) : Vec Ideal S4x8192x512 .bf16) (ix3 b t k))
          (fun k => wsum ((V (Proc.devRef .tc main_arg9) : Vec Ideal S4x8192x128 .f32) (ix3 b t k)) ((V (Proc.devRef .tc main_arg11) : Vec Ideal S4x8192x128 .f32) (ix3 b t k)) ((V (Proc.devRef .tc main_arg13) : Vec Ideal S4x8192x128 .f32) (ix3 b t k)) ((V (Proc.devRef .tc main_arg3) : Vec Ideal S4x8192x128 .f32) (ix3 b t k)) ((V (Proc.devRef .tc main_arg5) : Vec Ideal S4x8192x128 .f32) (ix3 b t k)) ((V (Proc.devRef .tc main_arg7) : Vec Ideal S4x8192x128 .f32) (ix3 b t k)))
          (fun k => wsum ((V (Proc.devRef .tc main_arg10) : Vec Ideal S4x8192x128 .f32) (ix3 b t k)) ((V (Proc.devRef .tc main_arg12) : Vec Ideal S4x8192x128 .f32) (ix3 b t k)) ((V (Proc.devRef .tc main_arg14) : Vec Ideal S4x8192x128 .f32) (ix3 b t k)) ((V (Proc.devRef .tc main_arg4) : Vec Ideal S4x8192x128 .f32) (ix3 b t k)) ((V (Proc.devRef .tc main_arg6) : Vec Ideal S4x8192x128 .f32) (ix3 b t k)) ((V (Proc.devRef .tc main_arg8) : Vec Ideal S4x8192x128 .f32) (ix3 b t k)))
          (fun k c => (V (Proc.devRef .tc main_arg16) : Vec Ideal S768x1024 .f32) (ix2 k c)))
        (fun c => (V (Proc.devRef .tc main_arg15) : Vec Ideal S2x1024 .f32) (ix2 0 c)) (fun c => (V (Proc.devRef .tc main_arg17) : Vec Ideal S2x1024 .f32) (ix2 0 c)) (fun c => (V (Proc.devRef .tc main_arg1) : Vec Ideal S4x1x6144 .f32) (ix3 b 0 ⟨4096 + c.val, by omega⟩)) (fun c => (V (Proc.devRef .tc main_arg1) : Vec Ideal S4x1x6144 .f32) (ix3 b 0 ⟨3072 + c.val, by omega⟩))
        (fun c => (V (Proc.devRef .tc main_arg1) : Vec Ideal S4x1x6144 .f32) (ix3 b 0 ⟨5120 + c.val, by omega⟩)) (fun c => (V (Proc.devRef .tc main_arg18) : Vec Ideal S2x1024 .f32) (ix2 0 c))
        (fun k f => (V (Proc.devRef .tc main_arg19) : Vec Ideal S2x1024x2816 .f32) (ix3 0 k f)) (fun k f => (V (Proc.devRef .tc main_arg20) : Vec Ideal S2x1024x2816 .f32) (ix3 0 k f)) (fun f c => (V (Proc.devRef .tc main_arg21) : Vec Ideal S2x2816x1024 .f32) (ix3 0 f c)) c := by
  have mg := merged V b t
  have k6_arg0 : (after s6 (after s5 (after s4 (after s3 (after s2 (after s1 V)))))) (Proc.devRef .tc main_arg0) = V (Proc.devRef .tc main_arg0) := (keep6 _ (by decide)).trans ((keep5 _ (by decide)).trans ((keep4 _ (by decide)).trans ((keep3 _ (by decide)).trans ((keep2 _ (by decide)).trans (keep1 V (by decide))))))
  have k6_arg1 : (after s6 (after s5 (after s4 (after s3 (after s2 (after s1 V)))))) (Proc.devRef .tc main_arg1) = V (Proc.devRef .tc main_arg1) := (keep6 _ (by decide)).trans ((keep5 _ (by decide)).trans ((keep4 _ (by decide)).trans ((keep3 _ (by decide)).trans ((keep2 _ (by decide)).trans (keep1 V (by decide))))))
  have k6_arg2 : (after s6 (after s5 (after s4 (after s3 (after s2 (after s1 V)))))) (Proc.devRef .tc main_arg2) = V (Proc.devRef .tc main_arg2) := (keep6 _ (by decide)).trans ((keep5 _ (by decide)).trans ((keep4 _ (by decide)).trans ((keep3 _ (by decide)).trans ((keep2 _ (by decide)).trans (keep1 V (by decide))))))
  have k6_arg15 : (after s6 (after s5 (after s4 (after s3 (after s2 (after s1 V)))))) (Proc.devRef .tc main_arg15) = V (Proc.devRef .tc main_arg15) := (keep6 _ (by decide)).trans ((keep5 _ (by decide)).trans ((keep4 _ (by decide)).trans ((keep3 _ (by decide)).trans ((keep2 _ (by decide)).trans (keep1 V (by decide))))))
  have k6_arg16 : (after s6 (after s5 (after s4 (after s3 (after s2 (after s1 V)))))) (Proc.devRef .tc main_arg16) = V (Proc.devRef .tc main_arg16) := (keep6 _ (by decide)).trans ((keep5 _ (by decide)).trans ((keep4 _ (by decide)).trans ((keep3 _ (by decide)).trans ((keep2 _ (by decide)).trans (keep1 V (by decide))))))
  have k6_arg17 : (after s6 (after s5 (after s4 (after s3 (after s2 (after s1 V)))))) (Proc.devRef .tc main_arg17) = V (Proc.devRef .tc main_arg17) := (keep6 _ (by decide)).trans ((keep5 _ (by decide)).trans ((keep4 _ (by decide)).trans ((keep3 _ (by decide)).trans ((keep2 _ (by decide)).trans (keep1 V (by decide))))))
  have k6_arg18 : (after s6 (after s5 (after s4 (after s3 (after s2 (after s1 V)))))) (Proc.devRef .tc main_arg18) = V (Proc.devRef .tc main_arg18) := (keep6 _ (by decide)).trans ((keep5 _ (by decide)).trans ((keep4 _ (by decide)).trans ((keep3 _ (by decide)).trans ((keep2 _ (by decide)).trans (keep1 V (by decide))))))
  have k6_arg19 : (after s6 (after s5 (after s4 (after s3 (after s2 (after s1 V)))))) (Proc.devRef .tc main_arg19) = V (Proc.devRef .tc main_arg19) := (keep6 _ (by decide)).trans ((keep5 _ (by decide)).trans ((keep4 _ (by decide)).trans ((keep3 _ (by decide)).trans ((keep2 _ (by decide)).trans (keep1 V (by decide))))))
  have k6_arg20 : (after s6 (after s5 (after s4 (after s3 (after s2 (after s1 V)))))) (Proc.devRef .tc main_arg20) = V (Proc.devRef .tc main_arg20) := (keep6 _ (by decide)).trans ((keep5 _ (by decide)).trans ((keep4 _ (by decide)).trans ((keep3 _ (by decide)).trans ((keep2 _ (by decide)).trans (keep1 V (by decide))))))
  have k6_arg21 : (after s6 (after s5 (after s4 (after s3 (after s2 (after s1 V)))))) (Proc.devRef .tc main_arg21) = V (Proc.devRef .tc main_arg21) := (keep6 _ (by decide)).trans ((keep5 _ (by decide)).trans ((keep4 _ (by decide)).trans ((keep3 _ (by decide)).trans ((keep2 _ (by decide)).trans (keep1 V (by decide))))))
  generalize after s6 (after s5 (after s4 (after s3 (after s2 (after s1 V))))) = V6 at *
  generalize h7 : after s7 V6 = V7
  generalize h8 : after s8 V7 = V8
  generalize h9 : after s9 V8 = V9
  generalize h10 : after s10 V9 = V10
  have k7_arg0 : V7 (Proc.devRef .tc main_arg0) = V6 (Proc.devRef .tc main_arg0) := h7 ▸ keep7 _ (by decide)
  have k7_arg1 : V7 (Proc.devRef .tc main_arg1) = V6 (Proc.devRef .tc main_arg1) := h7 ▸ keep7 _ (by decide)
  have k7_arg15 : V7 (Proc.devRef .tc main_arg15) = V6 (Proc.devRef .tc main_arg15) := h7 ▸ keep7 _ (by decide)
  have k7_arg17 : V7 (Proc.devRef .tc main_arg17) = V6 (Proc.devRef .tc main_arg17) := h7 ▸ keep7 _ (by decide)
  have k7_arg18 : V7 (Proc.devRef .tc main_arg18) = V6 (Proc.devRef .tc main_arg18) := h7 ▸ keep7 _ (by decide)
  have k7_arg19 : V7 (Proc.devRef .tc main_arg19) = V6 (Proc.devRef .tc main_arg19) := h7 ▸ keep7 _ (by decide)
  have k7_arg20 : V7 (Proc.devRef .tc main_arg20) = V6 (Proc.devRef .tc main_arg20) := h7 ▸ keep7 _ (by decide)
  have k7_arg21 : V7 (Proc.devRef .tc main_arg21) = V6 (Proc.devRef .tc main_arg21) := h7 ▸ keep7 _ (by decide)
  have k8_arg17 : V8 (Proc.devRef .tc main_arg17) = V7 (Proc.devRef .tc main_arg17) := h8 ▸ keep8 _ (by decide)
  have k8_arg18 : V8 (Proc.devRef .tc main_arg18) = V7 (Proc.devRef .tc main_arg18) := h8 ▸ keep8 _ (by decide)
  have k8_arg19 : V8 (Proc.devRef .tc main_arg19) = V7 (Proc.devRef .tc main_arg19) := h8 ▸ keep8 _ (by decide)
  have k8_arg20 : V8 (Proc.devRef .tc main_arg20) = V7 (Proc.devRef .tc main_arg20) := h8 ▸ keep8 _ (by decide)
  have k8_arg21 : V8 (Proc.devRef .tc main_arg21) = V7 (Proc.devRef .tc main_arg21) := h8 ▸ keep8 _ (by decide)
  have k9_arg18 : V9 (Proc.devRef .tc main_arg18) = V8 (Proc.devRef .tc main_arg18) := h9 ▸ keep9 _ (by decide)
  have k9_arg19 : V9 (Proc.devRef .tc main_arg19) = V8 (Proc.devRef .tc main_arg19) := h9 ▸ keep9 _ (by decide)
  have k9_arg20 : V9 (Proc.devRef .tc main_arg20) = V8 (Proc.devRef .tc main_arg20) := h9 ▸ keep9 _ (by decide)
  have k9_arg21 : V9 (Proc.devRef .tc main_arg21) = V8 (Proc.devRef .tc main_arg21) := h9 ▸ keep9 _ (by decide)
  have k9_v53 : V9 (Proc.devRef .tc main_v53) = V8 (Proc.devRef .tc main_v53) := h9 ▸ keep9 _ (by decide)
  have k9_v35 : V9 (Proc.devRef .tc main_v35) = V8 (Proc.devRef .tc main_v35) := h9 ▸ keep9 _ (by decide)
  have k10_arg18 : V10 (Proc.devRef .tc main_arg18) = V9 (Proc.devRef .tc main_arg18) := h10 ▸ keep10 _ (by decide)
  have k10_v53 : V10 (Proc.devRef .tc main_v53) = V9 (Proc.devRef .tc main_v53) := h10 ▸ keep10 _ (by decide)
  have k10_v35 : V10 (Proc.devRef .tc main_v35) = V9 (Proc.devRef .tc main_v35) := h10 ▸ keep10 _ (by decide)
  have f7 := fun c => h7 ▸ st7 V6 b t c
  have f8 := fun c => h8 ▸ st8 V7 b t c
  have f8v33 := fun c => h8 ▸ st8_v33 V7 b c
  have f8v34 := fun c => h8 ▸ st8_v34 V7 b c
  have f8v35 := fun c => h8 ▸ st8_v35 V7 b c
  have f9 := fun c => h9 ▸ st9 V8 b t c
  have f10 := fun c => h10 ▸ st10 V9 b t c
  rw [st11]
  simp only [f10, k10_arg18, k10_v53, k10_v35, k9_arg18, k9_arg19, k9_arg20, k9_arg21, k9_v53, k9_v35, f9, k8_arg17, k8_arg18, k8_arg19, k8_arg20, k8_arg21, f8, f8v33, f8v34, f8v35,
    k7_arg0, k7_arg1, k7_arg15, k7_arg17, k7_arg18, k7_arg19, k7_arg20, k7_arg21, f7, k6_arg0, k6_arg1, k6_arg2, k6_arg15, k6_arg16, k6_arg17, k6_arg18, k6_arg19, k6_arg20, k6_arg21, mg, cat128_left, cat128_right]
  rfl

end Cert.TailEvenRefStage

end
-- ==== Proof.TailEvenEq.lean ====
module

public import proofs.«01_k».proof.Defs
public import proofs.«01_k».proof.Proof.TailEvenFinal
public import proofs.«01_k».proof.Proof.TailEvenRefStage
public import Idealize.ShloMosaic.Lib.Quiescent

/-!
The kernel after the even layer's mixers and its reference end with the same array.
-/

@[expose] public section

set_option maxRecDepth 16384

noncomputable section

namespace Cert.TailEvenEq

open Idealize.ShloMosaic Idealize.SL.Sem Idealize.ShloMosaic.StableHlo
open Cert.TailEvenRefIdeal Cert.TailEvenRefIdeal.Gen Cert.TailEvenRefRun Cert.TailEvenRefStage

/-- A buffer none of the reference's operations writes is left as it was. -/
theorem keep (V : Valuation τ sig (Elt Ideal)) {r : Ref sig .tc} (h : r ∉ w1 ∧ r ∉ w2 ∧ r ∉ w3 ∧ r ∉ w4 ∧ r ∉ w5 ∧ r ∉ w6 ∧ r ∉ w7 ∧ r ∉ w8 ∧ r ∉ w9 ∧ r ∉ w10 ∧ r ∉ w11) :
    after s11 (after s10 (after s9 (after s8 (after s7 (after s6 (after s5 (after s4 (after s3 (after s2 (after s1 V)))))))))) (Proc.devRef .tc r) = V (Proc.devRef .tc r) :=
  (keep11 (after s10 (after s9 (after s8 (after s7 (after s6 (after s5 (after s4 (after s3 (after s2 (after s1 V)))))))))) h.2.2.2.2.2.2.2.2.2.2).trans ((keep10 (after s9 (after s8 (after s7 (after s6 (after s5 (after s4 (after s3 (after s2 (after s1 V))))))))) h.2.2.2.2.2.2.2.2.2.1).trans ((keep9 (after s8 (after s7 (after s6 (after s5 (after s4 (after s3 (after s2 (after s1 V)))))))) h.2.2.2.2.2.2.2.2.1).trans ((keep8 (after s7 (after s6 (after s5 (after s4 (after s3 (after s2 (after s1 V))))))) h.2.2.2.2.2.2.2.1).trans ((keep7 (after s6 (after s5 (after s4 (after s3 (after s2 (after s1 V)))))) h.2.2.2.2.2.2.1).trans ((keep6 (after s5 (after s4 (after s3 (after s2 (after s1 V))))) h.2.2.2.2.2.1).trans ((keep5 (after s4 (after s3 (after s2 (after s1 V)))) h.2.2.2.2.1).trans ((keep4 (after s3 (after s2 (after s1 V))) h.2.2.2.1).trans ((keep3 (after s2 (after s1 V)) h.2.2.1).trans ((keep2 (after s1 V) h.2.1).trans ((keep1 (V) h.1)))))))))))

/-- The reference's arguments are unchanged at the end. -/
theorem args_kept (m : (ℓ : Loc nD τ sig) → Buf (Elt Ideal) ℓ) (c : Dev nD) (M : (ℓ : Loc nD τ sig) → Buf (Elt Ideal) ℓ)
    (h : ∀ b : Ref sig .tc, M ((c.tc : Thread nD τ).loc b) = after s11 (after s10 (after s9 (after s8 (after s7 (after s6 (after s5 (after s4 (after s3 (after s2 (after s1 (launchContents m c))))))))))) (Proc.devRef .tc b)) :
    M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10)
    ∧ M ((c.tc : Thread nD τ).loc main_arg11) = m ((c.tc : Thread nD τ).loc main_arg11)
    ∧ M ((c.tc : Thread nD τ).loc main_arg12) = m ((c.tc : Thread nD τ).loc main_arg12)
    ∧ M ((c.tc : Thread nD τ).loc main_arg13) = m ((c.tc : Thread nD τ).loc main_arg13)
    ∧ M ((c.tc : Thread nD τ).loc main_arg14) = m ((c.tc : Thread nD τ).loc main_arg14)
    ∧ M ((c.tc : Thread nD τ).loc main_arg15) = m ((c.tc : Thread nD τ).loc main_arg15)
    ∧ M ((c.tc : Thread nD τ).loc main_arg16) = m ((c.tc : Thread nD τ).loc main_arg16)
    ∧ M ((c.tc : Thread nD τ).loc main_arg17) = m ((c.tc : Thread nD τ).loc main_arg17)
    ∧ M ((c.tc : Thread nD τ).loc main_arg18) = m ((c.tc : Thread nD τ).loc main_arg18)
    ∧ M ((c.tc : Thread nD τ).loc main_arg19) = m ((c.tc : Thread nD τ).loc main_arg19)
    ∧ M ((c.tc : Thread nD τ).loc main_arg20) = m ((c.tc : Thread nD τ).loc main_arg20)
    ∧ M ((c.tc : Thread nD τ).loc main_arg21) = m ((c.tc : Thread nD τ).loc main_arg21) :=
  ⟨(h main_arg0).trans (keep _ (by decide)),
    (h main_arg1).trans (keep _ (by decide)),
    (h main_arg2).trans (keep _ (by decide)),
    (h main_arg3).trans (keep _ (by decide)),
    (h main_arg4).trans (keep _ (by decide)),
    (h main_arg5).trans (keep _ (by decide)),
    (h main_arg6).trans (keep _ (by decide)),
    (h main_arg7).trans (keep _ (by decide)),
    (h main_arg8).trans (keep _ (by decide)),
    (h main_arg9).trans (keep _ (by decide)),
    (h main_arg10).trans (keep _ (by decide)),
    (h main_arg11).trans (keep _ (by decide)),
    (h main_arg12).trans (keep _ (by decide)),
    (h main_arg13).trans (keep _ (by decide)),
    (h main_arg14).trans (keep _ (by decide)),
    (h main_arg15).trans (keep _ (by decide)),
    (h main_arg16).trans (keep _ (by decide)),
    (h main_arg17).trans (keep _ (by decide)),
    (h main_arg18).trans (keep _ (by decide)),
    (h main_arg19).trans (keep _ (by decide)),
    (h main_arg20).trans (keep _ (by decide)),
    (h main_arg21).trans (keep _ (by decide))⟩

/-- A rank-3 index from its coordinates. -/
theorem ix3_of (i : (⟨3, ![4, 8192, 1024]⟩ : Shape).Idx) : i = ix3 (i 0) (i 1) (i 2) := funext fun a => by
  match a with
  | ⟨0, _⟩ => rfl
  | ⟨1, _⟩ => rfl
  | ⟨2, _⟩ => rfl

/-- The side conditions of the precondition's operations. -/
theorem pre_facts : Cert.Pre_merge_finite.Facts := ⟨by decide⟩

/-- A comparison that came out true. -/
theorem of_olt {x y : EReal} (h : FloatOps.cmpf (F := Ideal) (φ := .f32) .olt x y = 1#1) : x < y := by
  by_contra hn
  have e : FloatOps.cmpf (F := Ideal) (φ := .f32) .olt x y = BitVec.ofBool (decide (x < y)) := rfl
  rw [e, decide_eq_false hn] at h
  exact absurd h (by decide)

/-- The greatest pattern is the greatest number. -/
theorem pos_inf : Ideal.ofBits .f32 0x7F800000#32 = (⊤ : EReal) := rfl

/-- A number whose magnitude is less than infinity is real. -/
theorem real_of_abs {x : EReal} (h : FloatOps.absf (F := Ideal) (φ := .f32) x < (⊤ : EReal)) : ∃ r : ℝ, x = (r : EReal) := by
  induction x with
  | bot => exact absurd h (by simp [FloatOps.absf])
  | top => exact absurd h (by simp [FloatOps.absf])
  | coe r => exact ⟨r, rfl⟩

/-- What the precondition says of the first pair of heads. -/
theorem pre_a (m : (ℓ : Loc Cert.TailEvenIdeal.nD Cert.TailEvenIdeal.τ Cert.TailEvenIdeal.sig) → Buf (Elt Ideal) ℓ) [Cert.Pre_merge_finite.Facts]
    (h : Cert.Pre_TailEvenIdeal_merge_finite m) (c : Dev Cert.TailEvenIdeal.nD) (b : Fin 4) (t : Fin 8192) (k : Fin 128) :
    ∃ r : ℝ, max (max (Cert.TailEvenBlk.a9 m c (ix3 b t k)) (Cert.TailEvenBlk.a11 m c (ix3 b t k))) (Cert.TailEvenBlk.a13 m c (ix3 b t k)) = (r : EReal) :=
  real_of_abs (of_olt (congrFun (h c).1 (ix3 b t k)))

/-- What the precondition says of the second pair of heads. -/
theorem pre_b (m : (ℓ : Loc Cert.TailEvenIdeal.nD Cert.TailEvenIdeal.τ Cert.TailEvenIdeal.sig) → Buf (Elt Ideal) ℓ) [Cert.Pre_merge_finite.Facts]
    (h : Cert.Pre_TailEvenIdeal_merge_finite m) (c : Dev Cert.TailEvenIdeal.nD) (b : Fin 4) (t : Fin 8192) (k : Fin 128) :
    ∃ r : ℝ, max (max (Cert.TailEvenBlk.a10 m c (ix3 b t k)) (Cert.TailEvenBlk.a12 m c (ix3 b t k))) (Cert.TailEvenBlk.a14 m c (ix3 b t k)) = (r : EReal) :=
  real_of_abs (of_olt (congrFun (h c).2 (ix3 b t k)))

open Cert.TailSpec Cert.TailMerge Cert.TailEvenBlk in
/-- The kernel's row, its merge written as a sum of weighted outputs. -/
theorem res_pre (m : (ℓ : Loc Cert.TailEvenIdeal.nD Cert.TailEvenIdeal.τ Cert.TailEvenIdeal.sig) → Buf (Elt Ideal) ℓ) [Cert.Pre_merge_finite.Facts]
    (h : Cert.Pre_TailEvenIdeal_merge_finite m) (c : Dev Cert.TailEvenIdeal.nD) (b : Fin 4) (t : Fin 8192) :
    Cert.TailEvenFinal.res m c b t =
  tail (fun k => a0 m c (ix3 b t k)) (fun k => a1 m c (ix3 b 0 ⟨2048 + k.val, by omega⟩))
    (proj (fun k => a2 m c (ix3 b t k)) (fun k => wsum (a9 m c (ix3 b t k)) (a11 m c (ix3 b t k)) (a13 m c (ix3 b t k)) (a3 m c (ix3 b t k)) (a5 m c (ix3 b t k)) (a7 m c (ix3 b t k)))
      (fun k => wsum (a10 m c (ix3 b t k)) (a12 m c (ix3 b t k)) (a14 m c (ix3 b t k)) (a4 m c (ix3 b t k)) (a6 m c (ix3 b t k)) (a8 m c (ix3 b t k))) (fun k j => a16 m c (ix2 k j)))
    (fun k => a15 m c (ix2 0 k)) (fun k => a17 m c (ix2 0 k)) (fun k => a1 m c (ix3 b 0 ⟨4096 + k.val, by omega⟩)) (fun k => a1 m c (ix3 b 0 ⟨3072 + k.val, by omega⟩))
    (fun k => a1 m c (ix3 b 0 ⟨5120 + k.val, by omega⟩)) (fun k => a18 m c (ix2 0 k))
    (fun k f => a19 m c (ix3 0 k f)) (fun k f => a20 m c (ix3 0 k f)) (fun f k => a21 m c (ix3 0 f k)) := by
  exact congrArg₂ (fun p q : Fin 128 → EReal =>
  tail (fun k => a0 m c (ix3 b t k)) (fun k => a1 m c (ix3 b 0 ⟨2048 + k.val, by omega⟩))
      (proj (fun k => a2 m c (ix3 b t k)) p
        q (fun k j => a16 m c (ix2 k j)))
      (fun k => a15 m c (ix2 0 k)) (fun k => a17 m c (ix2 0 k)) (fun k => a1 m c (ix3 b 0 ⟨4096 + k.val, by omega⟩)) (fun k => a1 m c (ix3 b 0 ⟨3072 + k.val, by omega⟩))
      (fun k => a1 m c (ix3 b 0 ⟨5120 + k.val, by omega⟩)) (fun k => a18 m c (ix2 0 k))
      (fun k f => a19 m c (ix3 0 k f)) (fun k f => a20 m c (ix3 0 k f)) (fun f k => a21 m c (ix3 0 f k)))
    (funext fun k => merge_eq _ _ _ _ _ _ (pre_a m h c b t k)) (funext fun k => merge_eq _ _ _ _ _ _ (pre_b m h c b t k))

/-- From equal arguments the two programs run and end with equal results. -/
theorem equal [hP : Cert.TailEvenIdeal.Facts] [hR : Cert.TailEvenRefIdeal.Facts] [hQ : Cert.Pre_merge_finite.Facts] :
    Cert.algebraic_TailEvenIdeal_TailEvenRefIdeal_pre_merge_finite := by
  obtain rfl : hP = Cert.TailEvenIdeal.Gen.facts := Subsingleton.elim _ _
  obtain rfl : hR = Cert.TailEvenRefIdeal.Gen.facts := Subsingleton.elim _ _
  intro m g m' g' hpre hag
  refine ⟨fun c => (Cert.TailEvenIdeal.Gen.dats m 0 c).arrAt 25 Cert.TailEvenIdeal.cfg0.N, Cert.TailEvenIdeal.Value.run_blocks m g,
    (θ_run _ _ _).mono (fun r h c => ?_) (Cert.TailEvenRefRun.run (F := Ideal) m' g')⟩
  refine ⟨(h c main_v103).trans ?_, args_kept m' c r.2.mem (h c)⟩
  refine Eq.trans ?_ (Cert.TailEvenFinal.arr25 m c).symm
  obtain ⟨e0, e1, e2, e3, e4, e5, e6, e7, e8, e9, e10, e11, e12, e13, e14, e15, e16, e17, e18, e19, e20, e21⟩ := hag c
  refine funext fun i => (congrArg _ (ix3_of i)).trans ((Cert.TailEvenRefStage.all (launchContents m' c) (i 0) (i 1) (i 2)).trans ?_)
  have f0 : launchContents m' c (Proc.devRef .tc main_arg0) = Cert.TailEvenBlk.a0 m c := e0
  have f1 : launchContents m' c (Proc.devRef .tc main_arg1) = Cert.TailEvenBlk.a1 m c := e1
  have f2 : launchContents m' c (Proc.devRef .tc main_arg2) = Cert.TailEvenBlk.a2 m c := e2
  have f3 : launchContents m' c (Proc.devRef .tc main_arg3) = Cert.TailEvenBlk.a3 m c := e3
  have f4 : launchContents m' c (Proc.devRef .tc main_arg4) = Cert.TailEvenBlk.a4 m c := e4
  have f5 : launchContents m' c (Proc.devRef .tc main_arg5) = Cert.TailEvenBlk.a5 m c := e5
  have f6 : launchContents m' c (Proc.devRef .tc main_arg6) = Cert.TailEvenBlk.a6 m c := e6
  have f7 : launchContents m' c (Proc.devRef .tc main_arg7) = Cert.TailEvenBlk.a7 m c := e7
  have f8 : launchContents m' c (Proc.devRef .tc main_arg8) = Cert.TailEvenBlk.a8 m c := e8
  have f9 : launchContents m' c (Proc.devRef .tc main_arg9) = Cert.TailEvenBlk.a9 m c := e9
  have f10 : launchContents m' c (Proc.devRef .tc main_arg10) = Cert.TailEvenBlk.a10 m c := e10
  have f11 : launchContents m' c (Proc.devRef .tc main_arg11) = Cert.TailEvenBlk.a11 m c := e11
  have f12 : launchContents m' c (Proc.devRef .tc main_arg12) = Cert.TailEvenBlk.a12 m c := e12
  have f13 : launchContents m' c (Proc.devRef .tc main_arg13) = Cert.TailEvenBlk.a13 m c := e13
  have f14 : launchContents m' c (Proc.devRef .tc main_arg14) = Cert.TailEvenBlk.a14 m c := e14
  have f15 : launchContents m' c (Proc.devRef .tc main_arg15) = Cert.TailEvenBlk.a15 m c := e15
  have f16 : launchContents m' c (Proc.devRef .tc main_arg16) = Cert.TailEvenBlk.a16 m c := e16
  have f17 : launchContents m' c (Proc.devRef .tc main_arg17) = Cert.TailEvenBlk.a17 m c := e17
  have f18 : launchContents m' c (Proc.devRef .tc main_arg18) = Cert.TailEvenBlk.a18 m c := e18
  have f19 : launchContents m' c (Proc.devRef .tc main_arg19) = Cert.TailEvenBlk.a19 m c := e19
  have f20 : launchContents m' c (Proc.devRef .tc main_arg20) = Cert.TailEvenBlk.a20 m c := e20
  have f21 : launchContents m' c (Proc.devRef .tc main_arg21) = Cert.TailEvenBlk.a21 m c := e21
  rw [f0, f1, f2, f3, f4, f5, f6, f7, f8, f9, f10, f11, f12, f13, f14, f15, f16, f17, f18, f19, f20, f21]
  exact (congrFun (res_pre m hpre c (i 0) (i 1)) (i 2)).symm

/-- The reference runs to its end, its arguments unchanged; it declares no semaphore. -/
theorem frame_ref [hR : Cert.TailEvenRefIdeal.Facts] : Cert.quiescent_TailEvenRefIdeal := by
  obtain rfl : hR = Cert.TailEvenRefIdeal.Gen.facts := Subsingleton.elim _ _
  exact fun m ρ _ => (θ_run defs _ _).mono (fun r h => ⟨fun c => args_kept m c r.2.mem (h c), sem_eq_zero_of_no_sems (by decide) r.2⟩)
    (Cert.TailEvenRefRun.run (F := Ideal) m ρ)

end Cert.TailEvenEq

end
-- ==== Proof.lean ====
module

public import proofs.«01_k».proof.Defs
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.SwaEq
public import proofs.«01_k».proof.Proof.Gen.TailOdd
public import proofs.«01_k».proof.Proof.Gen.TailOdd.Frame
public import proofs.«01_k».proof.Proof.Gen.TailOddIdeal
public import proofs.«01_k».proof.Proof.Gen.TailOddIdeal.Frame
public import proofs.«01_k».proof.Proof.Gen.TailOddIdeal.Value
public import proofs.«01_k».proof.Proof.Gen.TailOddRefIdeal
public import proofs.«01_k».proof.Proof.TailOddEq
public import proofs.«01_k».proof.Proof.Gen.TailEven
public import proofs.«01_k».proof.Proof.Gen.TailEvenIdeal
public import proofs.«01_k».proof.Proof.Gen.TailEvenRefIdeal
public import proofs.«01_k».proof.Proof.TailEvenFrame
public import proofs.«01_k».proof.Proof.TailEvenSame
public import proofs.«01_k».proof.Proof.TailEvenEq
public import Idealize.ShloMosaic.Adequacy
public import Idealize.ShloMosaic.Init

@[expose] public section

noncomputable section

namespace Cert.Proof

open Idealize.ShloMosaic Idealize.SL.Sem Cert.Swa

/-- Every claim of the certificate. -/
theorem claim : Cert.Claim := ⟨Cert.Swa.Gen.facts, Cert.SwaIdeal.Gen.facts, Cert.SwaRefIdeal.Gen.facts,
  Cert.TailOdd.Gen.facts, Cert.TailOddIdeal.Gen.facts, Cert.TailOddRefIdeal.Gen.facts,
  Cert.TailEven.Gen.facts, Cert.TailEvenIdeal.Gen.facts, Cert.TailEvenRefIdeal.Gen.facts, Cert.TailEvenEq.pre_facts,
  fun m ρ _ => Cert.Swa.Gen.frame m ρ,
  fun m ρ _ => Cert.SwaIdeal.Gen.frame m ρ,
  Cert.SwaEq.frame_ref,
  fun m ρ _ => Cert.TailOdd.Gen.frame m ρ,
  fun m ρ _ => Cert.TailOddIdeal.Gen.frame m ρ,
  Cert.TailOddEq.frame_ref,
  Cert.TailEvenSame.frame_kernel,
  fun m ρ _ => Cert.TailEvenIdeal.Gen.frame m ρ,
  fun m ρ _ => Cert.TailEvenIdeal.Gen.frame m ρ,
  Cert.TailEvenEq.frame_ref,
  fun m ρ _ => Cert.TailEvenEq.frame_ref m ρ trivial,
  IdealRules.named_const.statement Cert.SwaIdeal.κ "neg" .f32 0xF149F2CA#32 ⊥ rfl,
  Cert.SwaEq.equal,
  trivial,
  Cert.TailOddEq.equal,
  trivial,
  Cert.TailEvenEq.equal (hQ := Cert.TailEvenEq.pre_facts)⟩

end Cert.Proof

end
